-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)) (v4 : (c : Dev Cert.KernelIdeal.nD) → Buf (Elt Ideal) ((c.tc : Thread Cert.KernelIdeal.nD Cert.KernelIdeal.τ).loc Cert.KernelIdeal.main_v29_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v29_3) = v3 c
          ∧ r.2.mem ((c.tc : Thread Cert.KernelIdeal.nD Cert.KernelIdeal.τ).loc Cert.KernelIdeal.main_v29_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_v35) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v35) = v1 c
          ∧ r.2.mem ((c.tc : Thread Cert.Reference14Ideal.nD Cert.Reference14Ideal.τ).loc Cert.Reference14Ideal.main_v36) = v2 c
          ∧ r.2.mem ((c.tc : Thread Cert.Reference14Ideal.nD Cert.Reference14Ideal.τ).loc Cert.Reference14Ideal.main_v38) = v3 c
          ∧ r.2.mem ((c.tc : Thread Cert.Reference14Ideal.nD Cert.Reference14Ideal.τ).loc Cert.Reference14Ideal.main_v40) = v4 c
          ∧ r.2.mem ((c.tc : Thread Cert.Reference14Ideal.nD Cert.Reference14Ideal.τ).loc Cert.Reference14Ideal.main_v33) = v5 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4x2064x512 : Shape := ⟨3, ![4, 2064, 512]⟩
abbrev S4x8x2064 : Shape := ⟨3, ![4, 8, 2064]⟩
abbrev S_ : Shape := ⟨0, ![]⟩

class Facts : Prop where
  bitsLt_bf16_f32 : FTy.bits .bf16 < FTy.bits .f32
  bcast_S_S4x2064x512 : S_.BroadcastsInDim S4x2064x512 (![] : Fin 0 → Fin S4x2064x512.rank)
  bcast_S_S4x8x2064 : S_.BroadcastsInDim S4x8x2064 (![] : Fin 0 → Fin S4x8x2064.rank)

variable [Facts]

def fn {F : FTy → Type} [FloatOps F] (main_arg0 : FVec F S4x2064x512 .bf16) (main_arg1 : FVec F S4x2064x512 .bf16) (main_arg2 : FVec F S4x2064x512 .bf16) (main_arg3 : FVec F S4x8x2064 .f32) (main_arg4 : FVec F S4x2064x512 .bf16) : IVec S4x2064x512 1 × IVec S4x2064x512 1 × IVec S4x2064x512 1 × IVec S4x8x2064 1 × IVec S4x2064x512 1 :=
  let main_v0 : FVec F S4x2064x512 .f32 := (extf .f32 · bitsLt_bf16_f32) main_arg0
  let main_v1 : FVec F S4x2064x512 .f32 := Host.absf main_v0
  let main_cst : FVec F S_ .f32 := constant S_ .f32 0x7F800000#32
  let main_v2 : FVec F S4x2064x512 .f32 := broadcastInDim S4x2064x512 ![] bcast_S_S4x2064x512 main_cst
  let main_v3 : IVec S4x2064x512 1 := cmpf .olt main_v1 main_v2
  let main_v4 : FVec F S4x2064x512 .f32 := (extf .f32 · bitsLt_bf16_f32) main_arg1
  let main_v5 : FVec F S4x2064x512 .f32 := Host.absf main_v4
  let main_cst_0 : FVec F S_ .f32 := constant S_ .f32 0x7F800000#32
  let main_v6 : FVec F S4x2064x512 .f32 := broadcastInDim S4x2064x512 ![] bcast_S_S4x2064x512 main_cst_0
  let main_v7 : IVec S4x2064x512 1 := cmpf .olt main_v5 main_v6
  let main_v8 : FVec F S4x2064x512 .f32 := (extf .f32 · bitsLt_bf16_f32) main_arg2
  let main_v9 : FVec F S4x2064x512 .f32 := Host.absf main_v8
  let main_cst_1 : FVec F S_ .f32 := constant S_ .f32 0x7F800000#32
  let main_v10 : FVec F S4x2064x512 .f32 := broadcastInDim S4x2064x512 ![] bcast_S_S4x2064x512 main_cst_1
  let main_v11 : IVec S4x2064x512 1 := cmpf .olt main_v9 main_v10
  let main_v12 : FVec F S4x8x2064 .f32 := Host.absf main_arg3
  let main_cst_2 : FVec F S_ .f32 := constant S_ .f32 0x7F800000#32
  let main_v13 : FVec F S4x8x2064 .f32 := broadcastInDim S4x8x2064 ![] bcast_S_S4x8x2064 main_cst_2
  let main_v14 : IVec S4x8x2064 1 := cmpf .olt main_v12 main_v13
  let main_v15 : FVec F S4x2064x512 .f32 := (extf .f32 · bitsLt_bf16_f32) main_arg4
  let main_v16 : FVec F S4x2064x512 .f32 := Host.absf main_v15
  let main_cst_3 : FVec F S_ .f32 := constant S_ .f32 0x7F800000#32
  let main_v17 : FVec F S4x2064x512 .f32 := broadcastInDim S4x2064x512 ![] bcast_S_S4x2064x512 main_cst_3
  let main_v18 : IVec S4x2064x512 1 := cmpf .olt main_v16 main_v17
  (main_v3, main_v7, main_v11, main_v14, main_v18)
-- ==== Pre_finite2.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8704x1024 : S_.BroadcastsInDim S8704x1024 (![] : Fin 0 → Fin S8704x1024.rank)
  bcast_S_S1x1024 : S_.BroadcastsInDim S1x1024 (![] : Fin 0 → Fin S1x1024.rank)
  bitsLt_bf16_f32 : FTy.bits .bf16 < FTy.bits .f32
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8704x1024 .f32) (main_arg1 : FVec F S8704x1024 .f32) (main_arg2 : FVec F S1x1024 .f32) (main_arg3 : FVec F S1024x5632 .bf16) (main_arg4 : FVec F S2816x1024 .bf16) : IVec S8704x1024 1 × IVec S8704x1024 1 × IVec S1x1024 1 × IVec S1024x5632 1 × IVec S2816x1024 1 :=
  let main_v0 : FVec F S8704x1024 .f32 := Host.absf main_arg0
  let main_cst : FVec F S_ .f32 := constant S_ .f32 0x7F800000#32
  let main_v1 : FVec F S8704x1024 .f32 := broadcastInDim S8704x1024 ![] bcast_S_S8704x1024 main_cst
  let main_v2 : IVec S8704x1024 1 := cmpf .olt main_v0 main_v1
  let main_v3 : FVec F S8704x1024 .f32 := Host.absf main_arg1
  let main_cst_0 : FVec F S_ .f32 := constant S_ .f32 0x7F800000#32
  let main_v4 : FVec F S8704x1024 .f32 := broadcastInDim S8704x1024 ![] bcast_S_S8704x1024 main_cst_0
  let main_v5 : IVec S8704x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := (extf .f32 · bitsLt_bf16_f32) main_arg3
  let main_v10 : FVec F S1024x5632 .f32 := Host.absf main_v9
  let main_cst_2 : FVec F S_ .f32 := constant S_ .f32 0x7F800000#32
  let main_v11 : FVec F S1024x5632 .f32 := broadcastInDim S1024x5632 ![] bcast_S_S1024x5632 main_cst_2
  let main_v12 : IVec S1024x5632 1 := cmpf .olt main_v10 main_v11
  let main_v13 : FVec F S2816x1024 .f32 := (extf .f32 · bitsLt_bf16_f32) main_arg4
  let main_v14 : FVec F S2816x1024 .f32 := Host.absf main_v13
  let main_cst_3 : FVec F S_ .f32 := constant S_ .f32 0x7F800000#32
  let main_v15 : FVec F S2816x1024 .f32 := broadcastInDim S2816x1024 ![] bcast_S_S2816x1024 main_cst_3
  let main_v16 : IVec S2816x1024 1 := cmpf .olt main_v14 main_v15
  (main_v2, main_v5, main_v8, main_v12, main_v16)
-- ==== Kernel.lean ====
abbrev S4x2064x512 : Shape := ⟨3, ![4, 2064, 512]⟩
abbrev S4x8x2064 : Shape := ⟨3, ![4, 8, 2064]⟩
abbrev S_ : Shape := ⟨0, ![]⟩
abbrev S4x112x512 : Shape := ⟨3, ![4, 112, 512]⟩
abbrev S4x16x512 : Shape := ⟨3, ![4, 16, 512]⟩
abbrev S4x2048x512 : Shape := ⟨3, ![4, 2048, 512]⟩
abbrev S4x2176x512 : Shape := ⟨3, ![4, 2176, 512]⟩
abbrev S8704x512 : Shape := ⟨2, ![8704, 512]⟩
abbrev S4x8x16 : Shape := ⟨3, ![4, 8, 16]⟩
abbrev S4x8x112 : Shape := ⟨3, ![4, 8, 112]⟩
abbrev S4x8x2048 : Shape := ⟨3, ![4, 8, 2048]⟩
abbrev S4x8x2176 : Shape := ⟨3, ![4, 8, 2176]⟩
abbrev S32x2176 : Shape := ⟨2, ![32, 2176]⟩
abbrev S4x4x2x2176 : Shape := ⟨4, ![4, 4, 2, 2176]⟩
abbrev S4x4x2176x2 : Shape := ⟨4, ![4, 4, 2176, 2]⟩
abbrev S16x2176x2 : Shape := ⟨3, ![16, 2176, 2]⟩
abbrev S32x1x2176 : Shape := ⟨3, ![32, 1, 2176]⟩
abbrev S16x1x2176 : Shape := ⟨3, ![16, 1, 2176]⟩
abbrev S2176x128 : Shape := ⟨2, ![2176, 128]⟩
abbrev S1x2176x2 : Shape := ⟨3, ![1, 2176, 2]⟩
abbrev S1x1x2176 : Shape := ⟨3, ![1, 1, 2176]⟩
abbrev S128x128 : Shape := ⟨2, ![128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S128 : Shape := ⟨1, ![128]⟩
abbrev S256x128 : Shape := ⟨2, ![256, 128]⟩
abbrev S384x128 : Shape := ⟨2, ![384, 128]⟩
abbrev S256x384 : Shape := ⟨2, ![256, 384]⟩
abbrev S1x256x1 : Shape := ⟨3, ![1, 256, 1]⟩
abbrev S256x1 : Shape := ⟨2, ![256, 1]⟩
abbrev S1x1x384 : Shape := ⟨3, ![1, 1, 384]⟩
abbrev S1x384 : Shape := ⟨2, ![1, 384]⟩
abbrev S256x256 : Shape := ⟨2, ![256, 256]⟩
abbrev S256 : Shape := ⟨1, ![256]⟩
abbrev S384 : Shape := ⟨1, ![384]⟩
abbrev S640x128 : Shape := ⟨2, ![640, 128]⟩
abbrev S256x640 : Shape := ⟨2, ![256, 640]⟩
abbrev S1x1x640 : Shape := ⟨3, ![1, 1, 640]⟩
abbrev S1x640 : Shape := ⟨2, ![1, 640]⟩
abbrev S640 : Shape := ⟨1, ![640]⟩
abbrev S896x128 : Shape := ⟨2, ![896, 128]⟩
abbrev S256x896 : Shape := ⟨2, ![256, 896]⟩
abbrev S1x1x896 : Shape := ⟨3, ![1, 1, 896]⟩
abbrev S1x896 : Shape := ⟨2, ![1, 896]⟩
abbrev S256x512 : Shape := ⟨2, ![256, 512]⟩
abbrev S896 : Shape := ⟨1, ![896]⟩
abbrev S1152x128 : Shape := ⟨2, ![1152, 128]⟩
abbrev S256x1152 : Shape := ⟨2, ![256, 1152]⟩
abbrev S1x1x1152 : Shape := ⟨3, ![1, 1, 1152]⟩
abbrev S1x1152 : Shape := ⟨2, ![1, 1152]⟩
abbrev S256x768 : Shape := ⟨2, ![256, 768]⟩
abbrev S1152 : Shape := ⟨1, ![1152]⟩
abbrev S1408x128 : Shape := ⟨2, ![1408, 128]⟩
abbrev S256x1408 : Shape := ⟨2, ![256, 1408]⟩
abbrev S1x1x1408 : Shape := ⟨3, ![1, 1, 1408]⟩
abbrev S1x1408 : Shape := ⟨2, ![1, 1408]⟩
abbrev S256x1024 : Shape := ⟨2, ![256, 1024]⟩
abbrev S1408 : Shape := ⟨1, ![1408]⟩
abbrev S1664x128 : Shape := ⟨2, ![1664, 128]⟩
abbrev S256x1664 : Shape := ⟨2, ![256, 1664]⟩
abbrev S1x1x1664 : Shape := ⟨3, ![1, 1, 1664]⟩
abbrev S1x1664 : Shape := ⟨2, ![1, 1664]⟩
abbrev S256x1280 : Shape := ⟨2, ![256, 1280]⟩
abbrev S1664 : Shape := ⟨1, ![1664]⟩
abbrev S1920x128 : Shape := ⟨2, ![1920, 128]⟩
abbrev S256x1920 : Shape := ⟨2, ![256, 1920]⟩
abbrev S1x1x1920 : Shape := ⟨3, ![1, 1, 1920]⟩
abbrev S1x1920 : Shape := ⟨2, ![1, 1920]⟩
abbrev S256x1536 : Shape := ⟨2, ![256, 1536]⟩
abbrev S1920 : Shape := ⟨1, ![1920]⟩
abbrev S256x2176 : Shape := ⟨2, ![256, 2176]⟩
abbrev S1x2176 : Shape := ⟨2, ![1, 2176]⟩
abbrev S256x1792 : Shape := ⟨2, ![256, 1792]⟩
abbrev S2176 : Shape := ⟨1, ![2176]⟩

abbrev nBuf : Space → Nat
  | .hbm => 44
  | .vmem => 24
  | .smem => 0
  | _ => 0

abbrev bufTy : (tb : Table) → Fin (tcTables nBuf tb) → BufTy
  | .hbm, ⟨0, _⟩ => ⟨S4x2064x512, .bf16⟩
  | .hbm, ⟨1, _⟩ => ⟨S4x2064x512, .bf16⟩
  | .hbm, ⟨2, _⟩ => ⟨S4x2064x512, .bf16⟩
  | .hbm, ⟨3, _⟩ => ⟨S4x8x2064, .f32⟩
  | .hbm, ⟨4, _⟩ => ⟨S4x2064x512, .bf16⟩
  | .hbm, ⟨5, _⟩ => ⟨S_, .bf16⟩
  | .hbm, ⟨6, _⟩ => ⟨S4x112x512, .bf16⟩
  | .hbm, ⟨7, _⟩ => ⟨S4x16x512, .bf16⟩
  | .hbm, ⟨8, _⟩ => ⟨S4x2048x512, .bf16⟩
  | .hbm, ⟨9, _⟩ => ⟨S4x2176x512, .bf16⟩
  | .hbm, ⟨10, _⟩ => ⟨S8704x512, .bf16⟩
  | .hbm, ⟨11, _⟩ => ⟨S_, .bf16⟩
  | .hbm, ⟨12, _⟩ => ⟨S4x112x512, .bf16⟩
  | .hbm, ⟨13, _⟩ => ⟨S4x16x512, .bf16⟩
  | .hbm, ⟨14, _⟩ => ⟨S4x2048x512, .bf16⟩
  | .hbm, ⟨15, _⟩ => ⟨S4x2176x512, .bf16⟩
  | .hbm, ⟨16, _⟩ => ⟨S8704x512, .bf16⟩
  | .hbm, ⟨17, _⟩ => ⟨S_, .bf16⟩
  | .hbm, ⟨18, _⟩ => ⟨S4x112x512, .bf16⟩
  | .hbm, ⟨19, _⟩ => ⟨S4x16x512, .bf16⟩
  | .hbm, ⟨20, _⟩ => ⟨S4x2048x512, .bf16⟩
  | .hbm, ⟨21, _⟩ => ⟨S4x2176x512, .bf16⟩
  | .hbm, ⟨22, _⟩ => ⟨S8704x512, .bf16⟩
  | .hbm, ⟨23, _⟩ => ⟨S_, .bf16⟩
  | .hbm, ⟨24, _⟩ => ⟨S4x112x512, .bf16⟩
  | .hbm, ⟨25, _⟩ => ⟨S4x16x512, .bf16⟩
  | .hbm, ⟨26, _⟩ => ⟨S4x2048x512, .bf16⟩
  | .hbm, ⟨27, _⟩ => ⟨S4x2176x512, .bf16⟩
  | .hbm, ⟨28, _⟩ => ⟨S8704x512, .bf16⟩
  | .hbm, ⟨29, _⟩ => ⟨S4x8x16, .f32⟩
  | .hbm, ⟨30, _⟩ => ⟨S_, .f32⟩
  | .hbm, ⟨31, _⟩ => ⟨S4x8x112, .f32⟩
  | .hbm, ⟨32, _⟩ => ⟨S4x8x2048, .f32⟩
  | .hbm, ⟨33, _⟩ => ⟨S4x8x2176, .f32⟩
  | .hbm, ⟨34, _⟩ => ⟨S32x2176, .f32⟩
  | .hbm, ⟨35, _⟩ => ⟨S4x4x2x2176, .f32⟩
  | .hbm, ⟨36, _⟩ => ⟨S4x4x2176x2, .f32⟩
  | .hbm, ⟨37, _⟩ => ⟨S16x2176x2, .f32⟩
  | .hbm, ⟨38, _⟩ => ⟨S32x1x2176, .f32⟩
  | .hbm, ⟨39, _⟩ => ⟨S8704x512, .f32⟩
  | .hbm, ⟨40, _⟩ => ⟨S8704x512, .f32⟩
  | .hbm, ⟨41, _⟩ => ⟨S8704x512, .f32⟩
  | .hbm, ⟨42, _⟩ => ⟨S16x1x2176, .f32⟩
  | .hbm, ⟨43, _⟩ => ⟨S16x1x2176, .f32⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S2176x128, .bf16⟩
  | .local _ .vmem, ⟨8, _⟩ => ⟨S1x2176x2, .f32⟩
  | .local _ .vmem, ⟨9, _⟩ => ⟨S1x2176x2, .f32⟩
  | .local _ .vmem, ⟨10, _⟩ => ⟨S1x1x2176, .f32⟩
  | .local _ .vmem, ⟨11, _⟩ => ⟨S1x1x2176, .f32⟩
  | .local _ .vmem, ⟨12, _⟩ => ⟨S1x1x2176, .f32⟩
  | .local _ .vmem, ⟨13, _⟩ => ⟨S1x1x2176, .f32⟩
  | .local _ .vmem, ⟨14, _⟩ => ⟨S2176x128, .f32⟩
  | .local _ .vmem, ⟨15, _⟩ => ⟨S2176x128, .f32⟩
  | .local _ .vmem, ⟨16, _⟩ => ⟨S2176x128, .f32⟩
  | .local _ .vmem, ⟨17, _⟩ => ⟨S2176x128, .f32⟩
  | .local _ .vmem, ⟨18, _⟩ => ⟨S2176x128, .f32⟩
  | .local _ .vmem, ⟨19, _⟩ => ⟨S2176x128, .f32⟩
  | .local _ .vmem, ⟨20, _⟩ => ⟨S1x1x2176, .f32⟩
  | .local _ .vmem, ⟨21, _⟩ => ⟨S1x1x2176, .f32⟩
  | .local _ .vmem, ⟨22, _⟩ => ⟨S1x1x2176, .f32⟩
  | .local _ .vmem, ⟨23, _⟩ => ⟨S1x1x2176, .f32⟩
  | _, _ => ⟨S4x2064x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.muli c2_i32 arg1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.muli c2_i32 arg1
  let v2 : BitVec 32 := Scalar.addi v0 v1
  let c1_i32 : BitVec 32 := 1#32
  let v3 : BitVec 32 := Scalar.addi v2 c1_i32
  let c0_i32 : BitVec 32 := 0#32
  let c0_i32_0 : BitVec 32 := 0#32
  let c0_i32_1 : BitVec 32 := 0#32
  ![v3.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2176x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2176x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2176 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2176 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x2064x512 : Shape := ⟨3, ![4, 2064, 512]⟩
abbrev S4x8x2064 : Shape := ⟨3, ![4, 8, 2064]⟩
abbrev S4x2064x8x64 : Shape := ⟨4, ![4, 2064, 8, 64]⟩
abbrev S4x8x2064x64 : Shape := ⟨4, ![4, 8, 2064, 64]⟩
abbrev S4x8x2064x2064 : Shape := ⟨4, ![4, 8, 2064, 2064]⟩
abbrev S_ : Shape := ⟨0, ![]⟩
abbrev S4x8x2064x1 : Shape := ⟨4, ![4, 8, 2064, 1]⟩
abbrev S4x8x1x2064 : Shape := ⟨4, ![4, 8, 1, 2064]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S4x8x64x2064 : Shape := ⟨4, ![4, 8, 64, 2064]⟩
abbrev S4x8x112 : Shape := ⟨3, ![4, 8, 112]⟩
abbrev S4x8x16 : Shape := ⟨3, ![4, 8, 16]⟩
abbrev S4x8x2048 : Shape := ⟨3, ![4, 8, 2048]⟩
abbrev S4x8x2176 : Shape := ⟨3, ![4, 8, 2176]⟩
abbrev S16x2x2176 : Shape := ⟨3, ![16, 2, 2176]⟩
abbrev S4x112x512 : Shape := ⟨3, ![4, 112, 512]⟩
abbrev S4x16x512 : Shape := ⟨3, ![4, 16, 512]⟩
abbrev S4x2048x512 : Shape := ⟨3, ![4, 2048, 512]⟩
abbrev S4x2176x512 : Shape := ⟨3, ![4, 2176, 512]⟩
abbrev S8704x512 : Shape := ⟨2, ![8704, 512]⟩
abbrev S16x1x2176 : Shape := ⟨3, ![16, 1, 2176]⟩

abbrev nBuf : Space → Nat
  | .hbm => 151
  | .vmem => 0
  | .smem => 0
  | _ => 0

abbrev hbmTy0_0 (i : Nat) : BufTy := match i % 128 with
  | 0 => ⟨S4x2064x512, .bf16⟩
  | 1 => ⟨S4x2064x512, .bf16⟩
  | 2 => ⟨S4x2064x512, .bf16⟩
  | 3 => ⟨S4x8x2064, .f32⟩
  | 4 => ⟨S4x2064x512, .bf16⟩
  | 5 => ⟨S4x2064x512, .f32⟩
  | 6 => ⟨S4x2064x512, .f32⟩
  | 7 => ⟨S4x2064x512, .f32⟩
  | 8 => ⟨S4x2064x8x64, .f32⟩
  | 9 => ⟨S4x8x2064x64, .f32⟩
  | 10 => ⟨S4x2064x8x64, .f32⟩
  | 11 => ⟨S4x8x2064x64, .f32⟩
  | 12 => ⟨S4x2064x8x64, .f32⟩
  | 13 => ⟨S4x8x2064x64, .f32⟩
  | 14 => ⟨S4x8x2064x2064, .f32⟩
  | 15 => ⟨S_, .f32⟩
  | 16 => ⟨S4x8x2064x2064, .f32⟩
  | 17 => ⟨S4x8x2064x2064, .f32⟩
  | 18 => ⟨S4x8x2064x1, .f32⟩
  | 19 => ⟨S4x8x2064x2064, .f32⟩
  | 20 => ⟨S4x8x2064x2064, .f32⟩
  | 21 => ⟨S4x8x1x2064, .f32⟩
  | 22 => ⟨S4x8x2064x2064, .f32⟩
  | 23 => ⟨S4x8x2064x2064, .f32⟩
  | 24 => ⟨S2064, .i32⟩
  | 25 => ⟨S2064x1, .i32⟩
  | 26 => ⟨S2064, .i32⟩
  | 27 => ⟨S1x2064, .i32⟩
  | 28 => ⟨S2064x2064, .i32⟩
  | 29 => ⟨S2064x2064, .i32⟩
  | 30 => ⟨S2064x2064, .i1⟩
  | 31 => ⟨S_, .f32⟩
  | 32 => ⟨S_, .f32⟩
  | 33 => ⟨S4x8x2064x2064, .i1⟩
  | 34 => ⟨S4x8x2064x2064, .f32⟩
  | 35 => ⟨S4x8x2064x2064, .f32⟩
  | 36 => ⟨S_, .f32⟩
  | 37 => ⟨S4x8x2064x2064, .f32⟩
  | 38 => ⟨S_, .f32⟩
  | 39 => ⟨S4x8x2064, .f32⟩
  | 40 => ⟨S4x8x2064x1, .f32⟩
  | 41 => ⟨S4x8x2064x2064, .f32⟩
  | 42 => ⟨S4x8x2064x2064, .i1⟩
  | 43 => ⟨S4x8x2064x2064, .f32⟩
  | 44 => ⟨S_, .f32⟩
  | 45 => ⟨S4x8x2064, .f32⟩
  | 46 => ⟨S_, .f32⟩
  | 47 => ⟨S4x8x2064, .f32⟩
  | 48 => ⟨S4x8x2064, .f32⟩
  | 49 => ⟨S_, .f32⟩
  | 50 => ⟨S4x8x2064, .f32⟩
  | 51 => ⟨S4x8x2064, .i1⟩
  | 52 => ⟨S_, .f32⟩
  | 53 => ⟨S4x8x2064, .f32⟩
  | 54 => ⟨S4x8x2064, .i1⟩
  | 55 => ⟨S_, .f32⟩
  | 56 => ⟨S4x8x2064, .f32⟩
  | 57 => ⟨S_, .f32⟩
  | 58 => ⟨S4x8x2064, .f32⟩
  | 59 => ⟨S_, .f32⟩
  | 60 => ⟨S4x8x2064, .f32⟩
  | 61 => ⟨S4x8x2064, .f32⟩
  | 62 => ⟨S4x8x2064, .f32⟩
  | 63 => ⟨S4x8x2064x1, .f32⟩
  | 64 => ⟨S4x8x2064x2064, .f32⟩
  | 65 => ⟨S4x8x2064x2064, .f32⟩
  | 66 => ⟨S4x8x2064x2064, .f32⟩
  | 67 => ⟨S_, .f32⟩
  | 68 => ⟨S4x8x2064, .f32⟩
  | 69 => ⟨S4x8x2064x1, .f32⟩
  | 70 => ⟨S4x8x2064x2064, .f32⟩
  | 71 => ⟨S4x8x2064x2064, .f32⟩
  | 72 => ⟨S4x8x2064x1, .f32⟩
  | 73 => ⟨S_, .f32⟩
  | 74 => ⟨S4x8x2064x1, .f32⟩
  | 75 => ⟨S4x8x2064x1, .f32⟩
  | 76 => ⟨S4x8x2064x64, .f32⟩
  | 77 => ⟨S4x2064x8x64, .f32⟩
  | 78 => ⟨S4x2064x512, .f32⟩
  | 79 => ⟨S4x2064x512, .f32⟩
  | 80 => ⟨S4x2064x8x64, .f32⟩
  | 81 => ⟨S4x8x2064x64, .f32⟩
  | 82 => ⟨S4x8x64x2064, .f32⟩
  | 83 => ⟨S4x8x2064x64, .f32⟩
  | 84 => ⟨S4x8x2064x2064, .f32⟩
  | 85 => ⟨S4x8x2064x2064, .f32⟩
  | 86 => ⟨S4x8x2064x2064, .f32⟩
  | 87 => ⟨S4x8x2064x2064, .f32⟩
  | 88 => ⟨S_, .f32⟩
  | 89 => ⟨S4x8x2064, .f32⟩
  | 90 => ⟨S4x8x2064x1, .f32⟩
  | 91 => ⟨S4x8x2064x1, .f32⟩
  | 92 => ⟨S4x8x2064x2064, .f32⟩
  | 93 => ⟨S4x8x2064x2064, .f32⟩
  | 94 => ⟨S_, .f32⟩
  | 95 => ⟨S4x8x2064, .f32⟩
  | 96 => ⟨S4x8x2064x2064, .f32⟩
  | 97 => ⟨S4x8x2064x2064, .f32⟩
  | 98 => ⟨S4x8x2064x2064, .f32⟩
  | 99 => ⟨S_, .f32⟩
  | 100 => ⟨S4x8x2064x2064, .f32⟩
  | 101 => ⟨S4x8x2064x2064, .f32⟩
  | 102 => ⟨S4x8x2064x2064, .f32⟩
  | 103 => ⟨S_, .f32⟩
  | 104 => ⟨S4x8x2064, .f32⟩
  | 105 => ⟨S4x8x1x2064, .f32⟩
  | 106 => ⟨S_, .f32⟩
  | 107 => ⟨S4x8x2064, .f32⟩
  | 108 => ⟨S_, .f32⟩
  | 109 => ⟨S4x8x2064, .f32⟩
  | 110 => ⟨S4x8x2064x1, .f32⟩
  | 111 => ⟨S_, .f32⟩
  | 112 => ⟨S4x8x2064, .f32⟩
  | 113 => ⟨S4x8x2064, .f32⟩
  | 114 => ⟨S_, .f32⟩
  | 115 => ⟨S4x8x2064x2064, .f32⟩
  | 116 => ⟨S4x8x2064x2064, .f32⟩
  | 117 => ⟨S4x8x2064x64, .f32⟩
  | 118 => ⟨S4x8x2064x64, .f32⟩
  | 119 => ⟨S4x2064x8x64, .f32⟩
  | 120 => ⟨S4x2064x512, .f32⟩
  | 121 => ⟨S4x2064x8x64, .f32⟩
  | 122 => ⟨S4x2064x512, .f32⟩
  | 123 => ⟨S4x2064x8x64, .f32⟩
  | 124 => ⟨S4x2064x512, .f32⟩
  | 125 => ⟨S_, .f32⟩
  | 126 => ⟨S4x8x112, .f32⟩
  | 127 => ⟨S4x8x16, .f32⟩
  | _ => ⟨S4x2064x512, .bf16⟩

abbrev hbmTy0_1 (i : Nat) : BufTy := match i % 128 with
  | 0 => ⟨S4x8x2048, .f32⟩
  | 1 => ⟨S4x8x2176, .f32⟩
  | 2 => ⟨S16x2x2176, .f32⟩
  | 3 => ⟨S_, .f32⟩
  | 4 => ⟨S4x112x512, .f32⟩
  | 5 => ⟨S4x16x512, .f32⟩
  | 6 => ⟨S4x2048x512, .f32⟩
  | 7 => ⟨S4x2176x512, .f32⟩
  | 8 => ⟨S8704x512, .f32⟩
  | 9 => ⟨S_, .f32⟩
  | 10 => ⟨S4x112x512, .f32⟩
  | 11 => ⟨S4x16x512, .f32⟩
  | 12 => ⟨S4x2048x512, .f32⟩
  | 13 => ⟨S4x2176x512, .f32⟩
  | 14 => ⟨S8704x512, .f32⟩
  | 15 => ⟨S_, .f32⟩
  | 16 => ⟨S4x112x512, .f32⟩
  | 17 => ⟨S4x16x512, .f32⟩
  | 18 => ⟨S4x2048x512, .f32⟩
  | 19 => ⟨S4x2176x512, .f32⟩
  | 20 => ⟨S8704x512, .f32⟩
  | 21 => ⟨S16x1x2176, .f32⟩
  | 22 => ⟨S16x1x2176, .f32⟩
  | _ => ⟨S4x2064x512, .bf16⟩

abbrev hbmTy (i : Nat) : BufTy := match i / 128 with
  | 0 => hbmTy0_0 i
  | 1 => hbmTy0_1 i
  | _ => ⟨S4x2064x512, .bf16⟩

abbrev bufTy : (tb : Table) → Fin (tcTables nBuf tb) → BufTy
  | .hbm, ⟨i, _⟩ => hbmTy i
  | _, _ => ⟨S4x2064x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_v25_1 : Ref sig .tc := ⟨.hbm, 33, rfl⟩
abbrev main_call0_v2 : Ref sig .tc := ⟨.hbm, 34, rfl⟩
abbrev main_v25_0 : Ref sig .tc := ⟨.hbm, 35, rfl⟩
abbrev main_call0_cst : Ref sig .tc := ⟨.hbm, 36, rfl⟩
abbrev main_v25_2 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call1_cst : Ref sig .tc := ⟨.hbm, 99, rfl⟩
abbrev main_call1_v0 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_19 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_20 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_21 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩

abbrev nD : Nat := 1
abbrev τ : Topo := Topo.v7x

variable {F : FTy → Type} [FloatOps F]
-- ==== Kernel2.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S8704x2816 : Shape := ⟨2, ![8704, 2816]⟩
abbrev S8704x5632 : Shape := ⟨2, ![8704, 5632]⟩
abbrev S256x1024 : Shape := ⟨2, ![256, 1024]⟩
abbrev S1024x2816 : Shape := ⟨2, ![1024, 2816]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S8704x1024, .f32⟩
  | .hbm, ⟨6, _⟩ => ⟨S8704x1024, .bf16⟩
  | .hbm, ⟨7, _⟩ => ⟨S8704x2816, .bf16⟩
  | .hbm, ⟨8, _⟩ => ⟨S8704x5632, .bf16⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x5632, .bf16⟩
  | .local _ .vmem, ⟨15, _⟩ => ⟨S256x5632, .bf16⟩
  | .local _ .vmem, ⟨16, _⟩ => ⟨S1x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8704 : Shape := ⟨1, ![8704]⟩
abbrev S8704x1 : Shape := ⟨2, ![8704, 1]⟩
abbrev S8704x5632 : Shape := ⟨2, ![8704, 5632]⟩
abbrev S8704x2816 : Shape := ⟨2, ![8704, 2816]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S1024x5632, .f32⟩
  | .hbm, ⟨6, _⟩ => ⟨S2816x1024, .f32⟩
  | .hbm, ⟨7, _⟩ => ⟨S8704x1024, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x1, .f32⟩
  | .hbm, ⟨19, _⟩ => ⟨S_, .f32⟩
  | .hbm, ⟨20, _⟩ => ⟨S8704x1, .f32⟩
  | .hbm, ⟨21, _⟩ => ⟨S8704x1, .f32⟩
  | .hbm, ⟨22, _⟩ => ⟨S8704x1024, .f32⟩
  | .hbm, ⟨23, _⟩ => ⟨S8704x1024, .f32⟩
  | .hbm, ⟨24, _⟩ => ⟨S8704x1024, .f32⟩
  | .hbm, ⟨25, _⟩ => ⟨S8704x1024, .f32⟩
  | .hbm, ⟨26, _⟩ => ⟨S8704x5632, .f32⟩
  | .hbm, ⟨27, _⟩ => ⟨S8704x2816, .f32⟩
  | .hbm, ⟨28, _⟩ => ⟨S8704x2816, .f32⟩
  | .hbm, ⟨29, _⟩ => ⟨S8704x2816, .f32⟩
  | .hbm, ⟨30, _⟩ => ⟨S8704x2816, .f32⟩
  | .hbm, ⟨31, _⟩ => ⟨S_, .f32⟩
  | .hbm, ⟨32, _⟩ => ⟨S8704x2816, .f32⟩
  | .hbm, ⟨33, _⟩ => ⟨S8704x2816, .f32⟩
  | .hbm, ⟨34, _⟩ => ⟨S_, .f32⟩
  | .hbm, ⟨35, _⟩ => ⟨S8704x2816, .f32⟩
  | .hbm, ⟨36, _⟩ => ⟨S8704x2816, .f32⟩
  | .hbm, ⟨37, _⟩ => ⟨S_, .f32⟩
  | .hbm, ⟨38, _⟩ => ⟨S8704x2816, .f32⟩
  | .hbm, ⟨39, _⟩ => ⟨S8704x2816, .f32⟩
  | .hbm, ⟨40, _⟩ => ⟨S8704x2816, .f32⟩
  | .hbm, ⟨41, _⟩ => ⟨S8704x2816, .f32⟩
  | .hbm, ⟨42, _⟩ => ⟨S8704x2816, .f32⟩
  | .hbm, ⟨43, _⟩ => ⟨S8704x1024, .f32⟩
  | .hbm, ⟨44, _⟩ => ⟨S_, .f32⟩
  | .hbm, ⟨45, _⟩ => ⟨S8704x1024, .f32⟩
  | .hbm, ⟨46, _⟩ => ⟨S8704x1024, .f32⟩
  | .hbm, ⟨47, _⟩ => ⟨S_, .f32⟩
  | .hbm, ⟨48, _⟩ => ⟨S8704x1024, .f32⟩
  | .hbm, ⟨49, _⟩ => ⟨S8704x1024, .f32⟩
  | .hbm, ⟨50, _⟩ => ⟨S8704x2816, .f32⟩
  | .hbm, ⟨51, _⟩ => ⟨S8704x2816, .f32⟩
  | .hbm, ⟨52, _⟩ => ⟨S8704x2816, .f32⟩
  | .hbm, ⟨53, _⟩ => ⟨S8704x2816, .f32⟩
  | .hbm, ⟨54, _⟩ => ⟨S8704x2816, .f32⟩
  | .hbm, ⟨55, _⟩ => ⟨S8704x2816, .f32⟩
  | .hbm, ⟨56, _⟩ => ⟨S8704x2816, .f32⟩
  | .hbm, ⟨57, _⟩ => ⟨S8704x5632, .f32⟩
  | .hbm, ⟨58, _⟩ => ⟨S8704x1024, .f32⟩
  | .hbm, ⟨59, _⟩ => ⟨S8704x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8704x1024, .f32⟩
  | .hbm, ⟨64, _⟩ => ⟨S8704x1024, .f32⟩
  | .hbm, ⟨65, _⟩ => ⟨S8704x1024, .f32⟩
  | .hbm, ⟨66, _⟩ => ⟨S_, .f32⟩
  | .hbm, ⟨67, _⟩ => ⟨S8704, .f32⟩
  | .hbm, ⟨68, _⟩ => ⟨S8704x1, .f32⟩
  | .hbm, ⟨69, _⟩ => ⟨S8704x1024, .f32⟩
  | .hbm, ⟨70, _⟩ => ⟨S8704x1024, .f32⟩
  | .hbm, ⟨71, _⟩ => ⟨S8704x1, .f32⟩
  | .hbm, ⟨72, _⟩ => ⟨S_, .f32⟩
  | .hbm, ⟨73, _⟩ => ⟨S8704x1, .f32⟩
  | .hbm, ⟨74, _⟩ => ⟨S8704x1, .f32⟩
  | .hbm, ⟨75, _⟩ => ⟨S_, .f32⟩
  | .hbm, ⟨76, _⟩ => ⟨S8704, .f32⟩
  | .hbm, ⟨77, _⟩ => ⟨S8704x1024, .f32⟩
  | .hbm, ⟨78, _⟩ => ⟨S8704x1024, .f32⟩
  | .hbm, ⟨79, _⟩ => ⟨S8704x1024, .f32⟩
  | .hbm, ⟨80, _⟩ => ⟨S8704x1024, .f32⟩
  | .hbm, ⟨81, _⟩ => ⟨S8704x1024, .f32⟩
  | .hbm, ⟨82, _⟩ => ⟨S8704x1024, .f32⟩
  | .hbm, ⟨83, _⟩ => ⟨S8704x1024, .bf16⟩
  | .hbm, ⟨84, _⟩ => ⟨S8704x2816, .bf16⟩
  | .hbm, ⟨85, _⟩ => ⟨S8704x5632, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]
-- ==== Kernel3.lean ====
abbrev S8704x1024 : Shape := ⟨2, ![8704, 1024]⟩
abbrev S8704x5632 : Shape := ⟨2, ![8704, 5632]⟩
abbrev S4x1024x1408 : Shape := ⟨3, ![4, 1024, 1408]⟩
abbrev S512x1024 : Shape := ⟨2, ![512, 1024]⟩
abbrev S512x2816 : Shape := ⟨2, ![512, 2816]⟩
abbrev S2x1024x1408 : Shape := ⟨3, ![2, 1024, 1408]⟩
abbrev S1024x2816 : Shape := ⟨2, ![1024, 2816]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S4x1024x1408, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S1024x2816, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 17], ![false, false, false]⟩

def k0_cond2 (i : grid0.Coords) : BitVec 1 :=
  let arg2 : BitVec 32 := BitVec.ofNat 32 (i 2).val
  let c16_i32 : BitVec 32 := 16#32
  let v11 : BitVec 1 := Scalar.cmpi .eq arg2 c16_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8704x1024 : Shape := ⟨2, ![8704, 1024]⟩
abbrev S8704x5632 : Shape := ⟨2, ![8704, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S8704x1024, .f32⟩
  | .hbm, ⟨3, _⟩ => ⟨S_, .f32⟩
  | .hbm, ⟨4, _⟩ => ⟨S1024x5632, .f32⟩
  | .hbm, ⟨5, _⟩ => ⟨S8704x5632, .f32⟩
  | .hbm, ⟨6, _⟩ => ⟨S8704x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8704x2816 : Shape := ⟨2, ![8704, 2816]⟩
abbrev S8704x1024 : Shape := ⟨2, ![8704, 1024]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2816, .bf16⟩
  | .hbm, ⟨1, _⟩ => ⟨S8704x1024, .f32⟩
  | .hbm, ⟨2, _⟩ => ⟨S2816x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .f32⟩
  | .local _ .vmem, ⟨3, _⟩ => ⟨S2176x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8704x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8704x2816 : Shape := ⟨2, ![8704, 2816]⟩
abbrev S8704x1024 : Shape := ⟨2, ![8704, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8704x2816, .bf16⟩
  | .hbm, ⟨1, _⟩ => ⟨S8704x1024, .f32⟩
  | .hbm, ⟨2, _⟩ => ⟨S8704x2816, .f32⟩
  | .hbm, ⟨3, _⟩ => ⟨S_, .f32⟩
  | .hbm, ⟨4, _⟩ => ⟨S2816x1024, .f32⟩
  | .hbm, ⟨5, _⟩ => ⟨S8704x1024, .f32⟩
  | .hbm, ⟨6, _⟩ => ⟨S_, .f32⟩
  | .hbm, ⟨7, _⟩ => ⟨S8704x1024, .f32⟩
  | .hbm, ⟨8, _⟩ => ⟨S8704x1024, .f32⟩
  | .hbm, ⟨9, _⟩ => ⟨S_, .f32⟩
  | .hbm, ⟨10, _⟩ => ⟨S8704x1024, .f32⟩
  | .hbm, ⟨11, _⟩ => ⟨S8704x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8704x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 5
  | .vmem => 8
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8704x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8704x1024 : Shape := ⟨2, ![8704, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8704 : Shape := ⟨1, ![8704]⟩
abbrev S8704x1 : Shape := ⟨2, ![8704, 1]⟩
abbrev S8704x5632 : Shape := ⟨2, ![8704, 5632]⟩
abbrev S8704x2816 : Shape := ⟨2, ![8704, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S8704x1024, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x1, .f32⟩
  | .hbm, ⟨15, _⟩ => ⟨S8704x1024, .f32⟩
  | .hbm, ⟨16, _⟩ => ⟨S8704x1024, .f32⟩
  | .hbm, ⟨17, _⟩ => ⟨S8704x1024, .f32⟩
  | .hbm, ⟨18, _⟩ => ⟨S8704x1024, .f32⟩
  | .hbm, ⟨19, _⟩ => ⟨S1024x5632, .f32⟩
  | .hbm, ⟨20, _⟩ => ⟨S8704x5632, .f32⟩
  | .hbm, ⟨21, _⟩ => ⟨S8704x2816, .f32⟩
  | .hbm, ⟨22, _⟩ => ⟨S8704x2816, .f32⟩
  | .hbm, ⟨23, _⟩ => ⟨S8704x2816, .f32⟩
  | .hbm, ⟨24, _⟩ => ⟨S8704x2816, .f32⟩
  | .hbm, ⟨25, _⟩ => ⟨S_, .f32⟩
  | .hbm, ⟨26, _⟩ => ⟨S8704x2816, .f32⟩
  | .hbm, ⟨27, _⟩ => ⟨S8704x2816, .f32⟩
  | .hbm, ⟨28, _⟩ => ⟨S_, .f32⟩
  | .hbm, ⟨29, _⟩ => ⟨S8704x2816, .f32⟩
  | .hbm, ⟨30, _⟩ => ⟨S8704x2816, .f32⟩
  | .hbm, ⟨31, _⟩ => ⟨S8704x2816, .f32⟩
  | .hbm, ⟨32, _⟩ => ⟨S8704x2816, .f32⟩
  | .hbm, ⟨33, _⟩ => ⟨S2816x1024, .f32⟩
  | .hbm, ⟨34, _⟩ => ⟨S8704x1024, .f32⟩
  | .hbm, ⟨35, _⟩ => ⟨S_, .f32⟩
  | .hbm, ⟨36, _⟩ => ⟨S8704x1024, .f32⟩
  | .hbm, ⟨37, _⟩ => ⟨S8704x1024, .f32⟩
  | .hbm, ⟨38, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel6.lean ====
abbrev S8704x1024 : Shape := ⟨2, ![8704, 1024]⟩
abbrev S8704x5632 : Shape := ⟨2, ![8704, 5632]⟩
abbrev S4x512x1408 : Shape := ⟨3, ![4, 512, 1408]⟩
abbrev S512x512 : Shape := ⟨2, ![512, 512]⟩
abbrev S512x2816 : Shape := ⟨2, ![512, 2816]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S4x512x1408, .bf16⟩
  | .local _ .vmem, ⟨0, _⟩ => ⟨S512x512, .bf16⟩
  | .local _ .vmem, ⟨1, _⟩ => ⟨S512x512, .bf16⟩
  | .local _ .vmem, ⟨2, _⟩ => ⟨S512x2816, .bf16⟩
  | .local _ .vmem, ⟨3, _⟩ => ⟨S512x2816, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x2816, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 17], ![false, false, false]⟩

def k0_cond2 (i : grid0.Coords) : BitVec 1 :=
  let arg2 : BitVec 32 := BitVec.ofNat 32 (i 2).val
  let c16_i32 : BitVec 32 := 16#32
  let v11 : BitVec 1 := Scalar.cmpi .eq arg2 c16_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8704x1024 : Shape := ⟨2, ![8704, 1024]⟩
abbrev S8704x5632 : Shape := ⟨2, ![8704, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S4x512x1408 : Shape := ⟨3, ![4, 512, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S8704x1024, .f32⟩
  | .hbm, ⟨3, _⟩ => ⟨S_, .f32⟩
  | .hbm, ⟨4, _⟩ => ⟨S1024x5632, .f32⟩
  | .hbm, ⟨5, _⟩ => ⟨S8704x5632, .f32⟩
  | .hbm, ⟨6, _⟩ => ⟨S8704x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S4x512x1408, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S8704x1024 : Shape := ⟨2, ![8704, 1024]⟩
abbrev S8704x5632 : Shape := ⟨2, ![8704, 5632]⟩
abbrev S4x512x1408 : Shape := ⟨3, ![4, 512, 1408]⟩
abbrev S512x512 : Shape := ⟨2, ![512, 512]⟩
abbrev S512x2816 : Shape := ⟨2, ![512, 2816]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S4x512x1408, .bf16⟩
  | .local _ .vmem, ⟨0, _⟩ => ⟨S512x512, .bf16⟩
  | .local _ .vmem, ⟨1, _⟩ => ⟨S512x512, .bf16⟩
  | .local _ .vmem, ⟨2, _⟩ => ⟨S512x2816, .bf16⟩
  | .local _ .vmem, ⟨3, _⟩ => ⟨S512x2816, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x2816, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 17], ![false, false, false]⟩

def k0_cond2 (i : grid0.Coords) : BitVec 1 :=
  let arg2 : BitVec 32 := BitVec.ofNat 32 (i 2).val
  let c16_i32 : BitVec 32 := 16#32
  let v11 : BitVec 1 := Scalar.cmpi .eq arg2 c16_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8704x1024 : Shape := ⟨2, ![8704, 1024]⟩
abbrev S8704x5632 : Shape := ⟨2, ![8704, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S4x512x1408 : Shape := ⟨3, ![4, 512, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S8704x1024, .f32⟩
  | .hbm, ⟨3, _⟩ => ⟨S_, .f32⟩
  | .hbm, ⟨4, _⟩ => ⟨S1024x5632, .f32⟩
  | .hbm, ⟨5, _⟩ => ⟨S8704x5632, .f32⟩
  | .hbm, ⟨6, _⟩ => ⟨S8704x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S4x512x1408, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S8704x1024 : Shape := ⟨2, ![8704, 1024]⟩
abbrev S8704x2048 : Shape := ⟨2, ![8704, 2048]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x2048, .bf16⟩
  | .hbm, ⟨2, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 17], ![false, false, false]⟩

def k0_cond2 (i : grid0.Coords) : BitVec 1 :=
  let arg2 : BitVec 32 := BitVec.ofNat 32 (i 2).val
  let c16_i32 : BitVec 32 := 16#32
  let v11 : BitVec 1 := Scalar.cmpi .eq arg2 c16_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8704x1024 : Shape := ⟨2, ![8704, 1024]⟩
abbrev S8704x2048 : Shape := ⟨2, ![8704, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x2048, .bf16⟩
  | .hbm, ⟨2, _⟩ => ⟨S8704x1024, .f32⟩
  | .hbm, ⟨3, _⟩ => ⟨S_, .f32⟩
  | .hbm, ⟨4, _⟩ => ⟨S1024x2048, .f32⟩
  | .hbm, ⟨5, _⟩ => ⟨S8704x2048, .f32⟩
  | .hbm, ⟨6, _⟩ => ⟨S8704x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8704x1024 : Shape := ⟨2, ![8704, 1024]⟩
abbrev S8704x2048 : Shape := ⟨2, ![8704, 2048]⟩
abbrev S1x1024 : Shape := ⟨2, ![1, 1024]⟩
abbrev S1024x4096 : Shape := ⟨2, ![1024, 4096]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x2048, .bf16⟩
  | .hbm, ⟨3, _⟩ => ⟨S8704x2048, .bf16⟩
  | .hbm, ⟨4, _⟩ => ⟨S1x1024, .f32⟩
  | .hbm, ⟨5, _⟩ => ⟨S1024x4096, .bf16⟩
  | .hbm, ⟨6, _⟩ => ⟨S8704x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S8704x1024 : Shape := ⟨2, ![8704, 1024]⟩
abbrev S8704x2048 : Shape := ⟨2, ![8704, 2048]⟩
abbrev S1x1024 : Shape := ⟨2, ![1, 1024]⟩
abbrev S1024x4096 : Shape := ⟨2, ![1024, 4096]⟩
abbrev S_ : Shape := ⟨0, ![]⟩
abbrev S8704 : Shape := ⟨1, ![8704]⟩
abbrev S8704x1 : Shape := ⟨2, ![8704, 1]⟩
abbrev S8704x4096 : Shape := ⟨2, ![8704, 4096]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x2048, .bf16⟩
  | .hbm, ⟨3, _⟩ => ⟨S8704x2048, .bf16⟩
  | .hbm, ⟨4, _⟩ => ⟨S1x1024, .f32⟩
  | .hbm, ⟨5, _⟩ => ⟨S1024x4096, .bf16⟩
  | .hbm, ⟨6, _⟩ => ⟨S1024x4096, .f32⟩
  | .hbm, ⟨7, _⟩ => ⟨S8704x1024, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x1, .f32⟩
  | .hbm, ⟨19, _⟩ => ⟨S_, .f32⟩
  | .hbm, ⟨20, _⟩ => ⟨S8704x1, .f32⟩
  | .hbm, ⟨21, _⟩ => ⟨S8704x1, .f32⟩
  | .hbm, ⟨22, _⟩ => ⟨S8704x1024, .f32⟩
  | .hbm, ⟨23, _⟩ => ⟨S8704x1024, .f32⟩
  | .hbm, ⟨24, _⟩ => ⟨S8704x1024, .f32⟩
  | .hbm, ⟨25, _⟩ => ⟨S8704x1024, .f32⟩
  | .hbm, ⟨26, _⟩ => ⟨S8704x4096, .bf16⟩
  | .hbm, ⟨27, _⟩ => ⟨S8704x4096, .f32⟩
  | .hbm, ⟨28, _⟩ => ⟨S8704x4096, .f32⟩
  | .hbm, ⟨29, _⟩ => ⟨S8704x1024, .f32⟩
  | .hbm, ⟨30, _⟩ => ⟨S8704x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8704x1024, .f32⟩
  | .hbm, ⟨35, _⟩ => ⟨S8704x1024, .f32⟩
  | .hbm, ⟨36, _⟩ => ⟨S8704x1024, .f32⟩
  | .hbm, ⟨37, _⟩ => ⟨S_, .f32⟩
  | .hbm, ⟨38, _⟩ => ⟨S8704, .f32⟩
  | .hbm, ⟨39, _⟩ => ⟨S8704x1, .f32⟩
  | .hbm, ⟨40, _⟩ => ⟨S8704x1024, .f32⟩
  | .hbm, ⟨41, _⟩ => ⟨S8704x1024, .f32⟩
  | .hbm, ⟨42, _⟩ => ⟨S8704x1, .f32⟩
  | .hbm, ⟨43, _⟩ => ⟨S_, .f32⟩
  | .hbm, ⟨44, _⟩ => ⟨S8704x1, .f32⟩
  | .hbm, ⟨45, _⟩ => ⟨S8704x1, .f32⟩
  | .hbm, ⟨46, _⟩ => ⟨S_, .f32⟩
  | .hbm, ⟨47, _⟩ => ⟨S8704, .f32⟩
  | .hbm, ⟨48, _⟩ => ⟨S8704x1024, .f32⟩
  | .hbm, ⟨49, _⟩ => ⟨S8704x1024, .f32⟩
  | .hbm, ⟨50, _⟩ => ⟨S8704x1024, .f32⟩
  | .hbm, ⟨51, _⟩ => ⟨S8704x1024, .f32⟩
  | .hbm, ⟨52, _⟩ => ⟨S8704x1024, .f32⟩
  | .hbm, ⟨53, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel10.lean ====
abbrev S8704x1024 : Shape := ⟨2, ![8704, 1024]⟩
abbrev S1x1024 : Shape := ⟨2, ![1, 1024]⟩
abbrev S1024x4096 : Shape := ⟨2, ![1024, 4096]⟩
abbrev S8704x4096 : Shape := ⟨2, ![8704, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S1024x4096, .bf16⟩
  | .hbm, ⟨3, _⟩ => ⟨S8704x4096, .f32⟩
  | .hbm, ⟨4, _⟩ => ⟨S8704x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | .local _ .vmem, ⟨6, _⟩ => ⟨S512x1024, .bf16⟩
  | .local _ .vmem, ⟨7, _⟩ => ⟨S512x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8704x1024 : Shape := ⟨2, ![8704, 1024]⟩
abbrev S1x1024 : Shape := ⟨2, ![1, 1024]⟩
abbrev S1024x4096 : Shape := ⟨2, ![1024, 4096]⟩
abbrev S_ : Shape := ⟨0, ![]⟩
abbrev S8704 : Shape := ⟨1, ![8704]⟩
abbrev S8704x1 : Shape := ⟨2, ![8704, 1]⟩
abbrev S8704x4096 : Shape := ⟨2, ![8704, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S1024x4096, .bf16⟩
  | .hbm, ⟨3, _⟩ => ⟨S8704x1024, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x1024, .f32⟩
  | .hbm, ⟨15, _⟩ => ⟨S8704x1024, .f32⟩
  | .hbm, ⟨16, _⟩ => ⟨S8704x1024, .f32⟩
  | .hbm, ⟨17, _⟩ => ⟨S8704x1024, .f32⟩
  | .hbm, ⟨18, _⟩ => ⟨S1024x4096, .f32⟩
  | .hbm, ⟨19, _⟩ => ⟨S8704x4096, .f32⟩
  | .hbm, ⟨20, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .f32⟩
  | .local _ .vmem, ⟨3, _⟩ => ⟨S2176x1024, .f32⟩
  | .local _ .vmem, ⟨4, _⟩ => ⟨S1024x1024, .bf16⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S8704x1024, .f32⟩
  | .hbm, ⟨3, _⟩ => ⟨S_, .f32⟩
  | .hbm, ⟨4, _⟩ => ⟨S1024x1024, .f32⟩
  | .hbm, ⟨5, _⟩ => ⟨S8704x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8704x512 : Shape := ⟨2, ![8704, 512]⟩
abbrev S8704x1024 : Shape := ⟨2, ![8704, 1024]⟩
abbrev S512x1024 : Shape := ⟨2, ![512, 1024]⟩
abbrev S2176x512 : Shape := ⟨2, ![2176, 512]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x512, .bf16⟩
  | .hbm, ⟨1, _⟩ => ⟨S8704x1024, .bf16⟩
  | .hbm, ⟨2, _⟩ => ⟨S512x1024, .bf16⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S2176x1024, .bf16⟩
  | .local _ .vmem, ⟨4, _⟩ => ⟨S512x1024, .bf16⟩
  | .local _ .vmem, ⟨5, _⟩ => ⟨S512x1024, .f32⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8704x512 : Shape := ⟨2, ![8704, 512]⟩
abbrev S8704x1024 : Shape := ⟨2, ![8704, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8704x512, .bf16⟩
  | .hbm, ⟨1, _⟩ => ⟨S8704x1024, .bf16⟩
  | .hbm, ⟨2, _⟩ => ⟨S8704x512, .f32⟩
  | .hbm, ⟨3, _⟩ => ⟨S_, .f32⟩
  | .hbm, ⟨4, _⟩ => ⟨S512x1024, .f32⟩
  | .hbm, ⟨5, _⟩ => ⟨S8704x1024, .f32⟩
  | .hbm, ⟨6, _⟩ => ⟨S8704x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8704x1024 : Shape := ⟨2, ![8704, 1024]⟩
abbrev S8704x512 : Shape := ⟨2, ![8704, 512]⟩
abbrev S8704x4096 : Shape := ⟨2, ![8704, 4096]⟩
abbrev S1x2048 : Shape := ⟨2, ![1, 2048]⟩
abbrev S512x1024 : Shape := ⟨2, ![512, 1024]⟩
abbrev S1024x1024 : Shape := ⟨2, ![1024, 1024]⟩
abbrev S512x512 : Shape := ⟨2, ![512, 512]⟩
abbrev S512x2048 : Shape := ⟨2, ![512, 2048]⟩

abbrev nBuf : Space → Nat
  | .hbm => 10
  | .vmem => 16
  | .smem => 0
  | _ => 0

abbrev bufTy : (tb : Table) → Fin (tcTables nBuf tb) → BufTy
  | .hbm, ⟨0, _⟩ => ⟨S8704x1024, .f32⟩
  | .hbm, ⟨1, _⟩ => ⟨S8704x512, .bf16⟩
  | .hbm, ⟨2, _⟩ => ⟨S8704x512, .bf16⟩
  | .hbm, ⟨3, _⟩ => ⟨S8704x4096, .f32⟩
  | .hbm, ⟨4, _⟩ => ⟨S1x2048, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8704x1024, .f32⟩
  | .hbm, ⟨9, _⟩ => ⟨S8704x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S8704x1024 : Shape := ⟨2, ![8704, 1024]⟩
abbrev S8704x512 : Shape := ⟨2, ![8704, 512]⟩
abbrev S8704x4096 : Shape := ⟨2, ![8704, 4096]⟩
abbrev S1x2048 : Shape := ⟨2, ![1, 2048]⟩
abbrev S512x1024 : Shape := ⟨2, ![512, 1024]⟩
abbrev S1024x1024 : Shape := ⟨2, ![1024, 1024]⟩
abbrev S8704x2048 : Shape := ⟨2, ![8704, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x512, .bf16⟩
  | .hbm, ⟨2, _⟩ => ⟨S8704x512, .bf16⟩
  | .hbm, ⟨3, _⟩ => ⟨S8704x4096, .f32⟩
  | .hbm, ⟨4, _⟩ => ⟨S1x2048, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S8704x2048, .f32⟩
  | .hbm, ⟨12, _⟩ => ⟨S8704x2048, .f32⟩
  | .hbm, ⟨13, _⟩ => ⟨S_, .f32⟩
  | .hbm, ⟨14, _⟩ => ⟨S8704x2048, .f32⟩
  | .hbm, ⟨15, _⟩ => ⟨S8704x2048, .f32⟩
  | .hbm, ⟨16, _⟩ => ⟨S_, .f32⟩
  | .hbm, ⟨17, _⟩ => ⟨S8704x2048, .f32⟩
  | .hbm, ⟨18, _⟩ => ⟨S8704x2048, .f32⟩
  | .hbm, ⟨19, _⟩ => ⟨S8704x512, .f32⟩
  | .hbm, ⟨20, _⟩ => ⟨S512x1024, .f32⟩
  | .hbm, ⟨21, _⟩ => ⟨S8704x1024, .f32⟩
  | .hbm, ⟨22, _⟩ => ⟨S8704x512, .f32⟩
  | .hbm, ⟨23, _⟩ => ⟨S512x1024, .f32⟩
  | .hbm, ⟨24, _⟩ => ⟨S8704x1024, .f32⟩
  | .hbm, ⟨25, _⟩ => ⟨S8704x1024, .f32⟩
  | .hbm, ⟨26, _⟩ => ⟨S8704x1024, .f32⟩
  | .hbm, ⟨27, _⟩ => ⟨S8704x1024, .f32⟩
  | .hbm, ⟨28, _⟩ => ⟨S8704x1024, .f32⟩
  | .hbm, ⟨29, _⟩ => ⟨S8704x1024, .f32⟩
  | .hbm, ⟨30, _⟩ => ⟨S1024x1024, .f32⟩
  | .hbm, ⟨31, _⟩ => ⟨S8704x1024, .f32⟩
  | .hbm, ⟨32, _⟩ => ⟨S8704x1024, .f32⟩
  | .hbm, ⟨33, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel14.lean ====
abbrev S8704x1024 : Shape := ⟨2, ![8704, 1024]⟩
abbrev S8704x512 : Shape := ⟨2, ![8704, 512]⟩
abbrev S8704x4096 : Shape := ⟨2, ![8704, 4096]⟩
abbrev S1x2048 : Shape := ⟨2, ![1, 2048]⟩
abbrev S512x1024 : Shape := ⟨2, ![512, 1024]⟩
abbrev S1024x1024 : Shape := ⟨2, ![1024, 1024]⟩
abbrev S8704x2048 : Shape := ⟨2, ![8704, 2048]⟩
abbrev S512x512 : Shape := ⟨2, ![512, 512]⟩
abbrev S512x2048 : Shape := ⟨2, ![512, 2048]⟩
abbrev S1x1024 : Shape := ⟨2, ![1, 1024]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S8704x1024, .f32⟩
  | .hbm, ⟨1, _⟩ => ⟨S8704x512, .bf16⟩
  | .hbm, ⟨2, _⟩ => ⟨S8704x512, .bf16⟩
  | .hbm, ⟨3, _⟩ => ⟨S8704x4096, .f32⟩
  | .hbm, ⟨4, _⟩ => ⟨S1x2048, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8704x2048, .bf16⟩
  | .hbm, ⟨9, _⟩ => ⟨S8704x1024, .bf16⟩
  | .hbm, ⟨10, _⟩ => ⟨S8704x1024, .bf16⟩
  | .hbm, ⟨11, _⟩ => ⟨S8704x512, .bf16⟩
  | .hbm, ⟨12, _⟩ => ⟨S8704x512, .bf16⟩
  | .hbm, ⟨13, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x2048, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference14Ideal.lean ====
abbrev S8704x1024 : Shape := ⟨2, ![8704, 1024]⟩
abbrev S8704x512 : Shape := ⟨2, ![8704, 512]⟩
abbrev S8704x4096 : Shape := ⟨2, ![8704, 4096]⟩
abbrev S1x2048 : Shape := ⟨2, ![1, 2048]⟩
abbrev S512x1024 : Shape := ⟨2, ![512, 1024]⟩
abbrev S1024x1024 : Shape := ⟨2, ![1024, 1024]⟩
abbrev S8704x2048 : Shape := ⟨2, ![8704, 2048]⟩
abbrev S_ : Shape := ⟨0, ![]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x512, .bf16⟩
  | .hbm, ⟨2, _⟩ => ⟨S8704x512, .bf16⟩
  | .hbm, ⟨3, _⟩ => ⟨S8704x4096, .f32⟩
  | .hbm, ⟨4, _⟩ => ⟨S1x2048, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8704x512, .f32⟩
  | .hbm, ⟨12, _⟩ => ⟨S8704x1024, .f32⟩
  | .hbm, ⟨13, _⟩ => ⟨S8704x512, .f32⟩
  | .hbm, ⟨14, _⟩ => ⟨S8704x1024, .f32⟩
  | .hbm, ⟨15, _⟩ => ⟨S8704x2048, .f32⟩
  | .hbm, ⟨16, _⟩ => ⟨S8704x2048, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704x2048, .f32⟩
  | .hbm, ⟨22, _⟩ => ⟨S8704x2048, .f32⟩
  | .hbm, ⟨23, _⟩ => ⟨S_, .f32⟩
  | .hbm, ⟨24, _⟩ => ⟨S8704x2048, .f32⟩
  | .hbm, ⟨25, _⟩ => ⟨S8704x2048, .f32⟩
  | .hbm, ⟨26, _⟩ => ⟨S_, .f32⟩
  | .hbm, ⟨27, _⟩ => ⟨S8704x2048, .f32⟩
  | .hbm, ⟨28, _⟩ => ⟨S8704x2048, .f32⟩
  | .hbm, ⟨29, _⟩ => ⟨S8704x2048, .f32⟩
  | .hbm, ⟨30, _⟩ => ⟨S8704x1024, .f32⟩
  | .hbm, ⟨31, _⟩ => ⟨S8704x1024, .f32⟩
  | .hbm, ⟨32, _⟩ => ⟨S8704x1024, .f32⟩
  | .hbm, ⟨33, _⟩ => ⟨S8704x1024, .f32⟩
  | .hbm, ⟨34, _⟩ => ⟨S8704x1024, .f32⟩
  | .hbm, ⟨35, _⟩ => ⟨S8704x1024, .f32⟩
  | .hbm, ⟨36, _⟩ => ⟨S8704x1024, .f32⟩
  | .hbm, ⟨37, _⟩ => ⟨S8704x1024, .f32⟩
  | .hbm, ⟨38, _⟩ => ⟨S8704x1024, .f32⟩
  | .hbm, ⟨39, _⟩ => ⟨S8704x1024, .f32⟩
  | .hbm, ⟨40, _⟩ => ⟨S8704x1024, .f32⟩
  | .hbm, ⟨41, _⟩ => ⟨S8704x2048, .f32⟩
  | .hbm, ⟨42, _⟩ => ⟨S8704x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8704x2048, .bf16⟩
  | .hbm, ⟨47, _⟩ => ⟨S8704x1024, .bf16⟩
  | .hbm, ⟨48, _⟩ => ⟨S8704x1024, .bf16⟩
  | .hbm, ⟨49, _⟩ => ⟨S8704x512, .f32⟩
  | .hbm, ⟨50, _⟩ => ⟨S8704x512, .bf16⟩
  | .hbm, ⟨51, _⟩ => ⟨S8704x512, .f32⟩
  | .hbm, ⟨52, _⟩ => ⟨S8704x512, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proof.Step.lean ====
module

public import Idealize.ShloMosaic.Lib.MatmulPlain
public import Idealize.ShloMosaic.Lib.ValueIdx
public import Idealize.ShloMosaic.Lib.Pipeline.Value
public import Idealize.ShloMosaic.Lib.Pipeline.FrameBody
public import Mathlib.Analysis.SpecialFunctions.Exp

/-!
  One step of the attention backward kernel over rank-2 blocks of any extents: `R` query rows against `N` key columns,
  at the extended reals.
-/

@[expose] public section

noncomputable section

namespace Fox

open Idealize.ShloMosaic Idealize.ShloMosaic.ValueIdx
open scoped BigOperators

/-- The shape of an `a` by `b` block. -/
abbrev S2 (a b : ℕ) : Shape := ⟨2, ![a, b]⟩
/-- The shape of a row of `a` entries. -/
abbrev S1 (a : ℕ) : Shape := ⟨1, ![a]⟩
/-- An `a` by `b` block of extended reals. -/
abbrev V (a b : ℕ) (φ : FTy) := FVec Ideal (S2 a b) φ

/-! ## Shape facts that hold at every extent -/

theorem bcCol (R N : ℕ) : (S2 R 1).Broadcasts (S2 R N) :=
  ⟨Nat.le_refl 2, fun a => match a with
    | ⟨0, _⟩ => Or.inr fun _ => rfl
    | ⟨1, _⟩ => Or.inl rfl⟩

theorem bcRow (R N : ℕ) : (S2 1 N).Broadcasts (S2 R N) :=
  ⟨Nat.le_refl 2, fun a => match a with
    | ⟨0, _⟩ => Or.inl rfl
    | ⟨1, _⟩ => Or.inr fun _ => rfl⟩

theorem redRow (R N : ℕ) : (S2 R N).Reduces [1] (S1 R) :=
  ⟨rfl, Nat.one_pos, fun b => match b with | ⟨0, _⟩ => rfl⟩

theorem redCol (R N : ℕ) : (S2 R N).Reduces [0] (S1 N) :=
  ⟨rfl, Nat.one_pos, fun b => match b with | ⟨0, _⟩ => rfl⟩

theorem scCol (R : ℕ) : (S1 R).ShapeCasts (S2 R 1) := by
  simp [Shape.ShapeCasts, Shape.numel, Fin.prod_univ_succ]

theorem scRow (N : ℕ) : (S1 N).ShapeCasts (S2 1 N) := by
  simp [Shape.ShapeCasts, Shape.numel, Fin.prod_univ_succ]

theorem sc1 (R N : ℕ) : (⟨3, ![1, R, N]⟩ : Shape).ShapeCasts (S2 R N) := by
  simp [Shape.ShapeCasts, Shape.numel, Fin.prod_univ_succ]

theorem sc1' (R N : ℕ) : (S2 R N).ShapeCasts (⟨3, ![1, R, N]⟩ : Shape) := by
  simp [Shape.ShapeCasts, Shape.numel, Fin.prod_univ_succ]

theorem scSelf (s : Shape) : s.ShapeCasts s := rfl

theorem iotas (s : Shape) (h : 2 ≤ s.rank) (d : Fin s.rank) : s.Iotas .tc 32 [d] :=
  ⟨by simp, fun _ => ⟨Or.inr rfl, h⟩, fun h => absurd rfl h⟩

theorem fmtF : FKind.Formats .f32 := .inl rfl
theorem accAdd : (0x00000000#32 : BitVec FTy.f32.bits) = FKind.add.neutral .f32 fmtF := rfl
theorem accMax : (0xFF800000#32 : BitVec FTy.f32.bits) = FKind.maximumf.neutral .f32 fmtF := rfl

theorem bits_lt : FTy.bf16.bits < FTy.f32.bits := by decide

theorem inb2 {a b r c : ℕ} (r0 : ℕ) (h : r0 + r ≤ a) (c0 : ℕ) (h' : c0 + c ≤ b) :
    ∀ x : Fin 2, (![r0, c0] : Fin 2 → ℕ) x + (![r, c] : Fin 2 → ℕ) x ≤ (![a, b] : Fin 2 → ℕ) x :=
  fun x => match x with | ⟨0, _⟩ => h | ⟨1, _⟩ => h'

theorem slices2 {a b r c : ℕ} (r0 : ℕ) (h : r0 + r ≤ a) (c0 : ℕ) (h' : c0 + c ≤ b) :
    (S2 a b).Slices ![r0, c0] (S2 r c) :=
  ⟨rfl, fun x => match x with | ⟨0, _⟩ => h | ⟨1, _⟩ => h'⟩

/-- `<[0], [0], [1], [1]>`: the left operand's rows against the right operand's rows. -/
def tn (R N D : ℕ) : DotDims (S2 R N) (S2 R D) (S2 N D) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- That product read at an entry: the sum over the common row index. -/
theorem matmul_tn_apply {R N D : ℕ} {φ₁ φ₂ : FTy} (prec : Option ContractPrecision) (l : V R N φ₁) (r : V R D φ₂)
    (acc : V N D .f32) (j : Fin N) (d : Fin D) :
    FloatOps.matmul (tn R N D) prec l r acc (ix2 j d) = acc (ix2 j d) + ∑ i : Fin R, l (ix2 i j) * r (ix2 i d) := by
  have hr : (tn R N D).contr.rank = 1 := rfl
  have hs : (tn R N D).contr.size ⟨0, by rw [hr]; exact Nat.one_pos⟩ = R := rfl
  rw [Ideal.matmul_apply, ← Equiv.sum_comp (contrEquiv1 _ R hr hs).symm]
  refine congrArg (acc (ix2 j d) + ·) (Finset.sum_congr rfl fun k _ => ?_)
  have hk := contrEquiv1_symm_val _ R hr hs k
  have el : (tn R N D).lhsIdx (ix2 j d) ((contrEquiv1 _ R hr hs).symm k) = ix2 k j := by
    funext a; apply Fin.ext
    match a with
    | ⟨0, _⟩ => exact hk
    | ⟨1, _⟩ => rfl
  have er : (tn R N D).rhsIdx (ix2 j d) ((contrEquiv1 _ R hr hs).symm k) = ix2 k d := by
    funext a; apply Fin.ext
    match a with
    | ⟨0, _⟩ => exact hk
    | ⟨1, _⟩ => rfl
  rw [el, er]

/-! ## Reductions and casts read at an entry -/

theorem lift_row {R N : ℕ} (i : Fin R) (k : Fin N) : (redRow R N).lift (ix1 i) k = ix2 i k := by
  funext a; apply Fin.ext
  match a with
  | ⟨0, _⟩ => rfl
  | ⟨1, _⟩ => rfl

theorem lift_col {R N : ℕ} (j : Fin N) (k : Fin R) : (redCol R N).lift (ix1 j) k = ix2 k j := by
  funext a; apply Fin.ext
  match a with
  | ⟨0, _⟩ => rfl
  | ⟨1, _⟩ => rfl

theorem rowAdd_apply {R N : ℕ} (x : V R N .f32) (i : Fin R) :
    multiReduction .add [1] (S1 R) x 0x00000000#32 (redRow R N) fmtF accAdd (ix1 i) = ∑ k : Fin N, x (ix2 i k) :=
  (Ideal.multiReduction_add_single x _ (redRow R N) fmtF accAdd (ix1 i)).trans
    (Finset.sum_congr rfl fun k _ => congrArg x (lift_row i k))

theorem colAdd_apply {R N : ℕ} (x : V R N .f32) (j : Fin N) :
    multiReduction .add [0] (S1 N) x 0x00000000#32 (redCol R N) fmtF accAdd (ix1 j) = ∑ k : Fin R, x (ix2 k j) :=
  (Ideal.multiReduction_add_single x _ (redCol R N) fmtF accAdd (ix1 j)).trans
    (Finset.sum_congr rfl fun k _ => congrArg x (lift_col j k))

theorem negInfF : (FloatOps.ofBits .f32 0xFF800000#32 : Ideal .f32) = (⊥ : EReal) := by
  show Ideal.ofBits .f32 _ = _; simp [Ideal.ofBits, Ideal.ieee]

theorem rowMax_apply {R N : ℕ} (x : V R N .f32) (i : Fin R) :
    multiReduction .maximumf [1] (S1 R) x 0xFF800000#32 (redRow R N) fmtF accMax (ix1 i)
      = (Finset.univ : Finset (Fin N)).fold max ⊥ (fun k => x (ix2 i k)) := by
  refine (Ideal.multiReduction_maximumf_single x _ (redRow R N) fmtF accMax (ix1 i)).trans ?_
  rw [negInfF]
  exact congrArg (Finset.fold max ⊥ · Finset.univ) (funext fun k => congrArg x (lift_row i k))

theorem col_apply {α : Type} {R : ℕ} (x : (S1 R).Idx → α) (i : Fin R) (z : Fin 1) :
    shapeCast (S2 R 1) x (scCol R) (ix2 i z) = x (ix1 i) := by
  refine shapeCast_apply x _ _ _ ?_
  show Shape.rankPi ![R] (ix1 i) = Shape.rankPi ![R, 1] (ix2 i z)
  simp [Shape.rankPi, Shape.prodPi]

theorem row_apply {α : Type} {N : ℕ} (x : (S1 N).Idx → α) (z : Fin 1) (j : Fin N) :
    shapeCast (S2 1 N) x (scRow N) (ix2 z j) = x (ix1 j) := by
  refine shapeCast_apply x _ _ _ ?_
  show Shape.rankPi ![N] (ix1 j) = Shape.rankPi ![1, N] (ix2 z j)
  simp [Shape.rankPi, Shape.prodPi]

theorem bcCol_apply {α : Type} {R N : ℕ} (x : (S2 R 1).Idx → α) (i : Fin R) (j : Fin N) :
    broadcastTo (S2 R N) x (bcCol R N) (ix2 i j) = x (ix2 i 0) := by
  refine broadcastTo_apply x _ _ _ fun a => ?_
  match a with
  | ⟨0, _⟩ => by_cases h : R = 1 <;> simp [h] <;> omega
  | ⟨1, _⟩ => rfl

theorem bcRow_apply {α : Type} {R N : ℕ} (x : (S2 1 N).Idx → α) (i : Fin R) (j : Fin N) :
    broadcastTo (S2 R N) x (bcRow R N) (ix2 i j) = x (ix2 0 j) := by
  refine broadcastTo_apply x _ _ _ fun a => ?_
  match a with
  | ⟨0, _⟩ => rfl
  | ⟨1, _⟩ => by_cases h : N = 1 <;> simp [h] <;> omega

/-- A sum of real numbers is a real number. -/
theorem coe_sum {ι : Type*} (s : Finset ι) (f : ι → ℝ) : (∑ i ∈ s, (f i : EReal)) = ((∑ i ∈ s, f i : ℝ) : EReal) := by
  classical
  induction s using Finset.induction with
  | empty => simp
  | insert a s ha ih => rw [Finset.sum_insert ha, Finset.sum_insert ha, ih, EReal.coe_add]

/-! ## The block operations -/

/-- The lane comparison of a head: below 64 for head 0, from 64 on for head 1. -/
abbrev lp (e : ℕ) : CmpIPredicate := match e with | 0 => .slt | _ => .sge

/-- A block with the lanes of the other head set to zero. -/
def laneV {R : ℕ} (e : ℕ) (x : V R 128 .bf16) : V R 128 .bf16 :=
  select (cmpi (lp e) (iota .tc (S2 R 128) 32 [1] (iotas _ (Nat.le_refl 2) _)) (broadcast (S2 R 128) 64#32)) x
    (broadcast (S2 R 128) (Scalar.ofBits .bf16 0x0000#16))

/-- The scores before masking: products of rows scaled by an eighth, plus a bias per query, minus one per key. -/
def scoreV {R N : ℕ} (q : V R 128 .bf16) (k : V N 128 .bf16) (ct : V R 1 .f32) (cr : V 1 N .f32) : V R N .f32 :=
  subf (addf (mulf (FloatOps.matmul (DotDims.transposedRhs R 128 N) none q k (constant (S2 R N) .f32 0x00000000#32))
    (broadcast (S2 R N) (Scalar.ofBits .f32 0x3E000000#32))) (broadcastTo (S2 R N) ct (bcCol R N)))
    (broadcastTo (S2 R N) cr (bcRow R N))

/-- The weights of a block of masked scores: exponentials of the scores less the row's maximum, over their sum. -/
def probV {R N : ℕ} (W : V R N .f32) : V R N .f32 :=
  mulf (exp (subf W (broadcastTo (S2 R N) (shapeCast (S2 R 1)
      (multiReduction .maximumf [1] (S1 R) W 0xFF800000#32 (redRow R N) fmtF accMax) (scCol R)) (bcCol R N))))
    (broadcastTo (S2 R N) (divf (broadcast (S2 R 1) (Scalar.ofBits .f32 0x3F800000#32))
      (shapeCast (S2 R 1) (multiReduction .add [1] (S1 R)
        (exp (subf W (broadcastTo (S2 R N) (shapeCast (S2 R 1)
          (multiReduction .maximumf [1] (S1 R) W 0xFF800000#32 (redRow R N) fmtF accMax) (scCol R)) (bcCol R N))))
        0x00000000#32 (redRow R N) fmtF accAdd) (scCol R))) (bcCol R N))

/-- The weights' gradient. -/
def dpV {R N : ℕ} (o : V R 128 .bf16) (v : V N 128 .bf16) : V R N .f32 :=
  FloatOps.matmul (DotDims.transposedRhs R 128 N) none o v (constant (S2 R N) .f32 0x00000000#32)

/-- The scores' gradient. -/
def dsV {R N : ℕ} (pn dp : V R N .f32) : V R N .f32 :=
  mulf pn (subf dp (broadcastTo (S2 R N) (shapeCast (S2 R 1)
    (multiReduction .add [1] (S1 R) (mulf pn dp) 0x00000000#32 (redRow R N) fmtF accAdd) (scCol R)) (bcCol R N)))

/-- A step's share of the query gradient. -/
def dqV {R N : ℕ} (ds : V R N .f32) (k : V N 128 .bf16) : V R 128 .f32 :=
  mulf (FloatOps.matmul (DotDims.plain R N 128) none (truncf .bf16 ds bits_lt) k (constant (S2 R 128) .f32 0x00000000#32))
    (broadcast (S2 R 128) (Scalar.ofBits .f32 0x3E000000#32))

/-- A step's share of the key gradient. -/
def dkV {R N : ℕ} (ds : V R N .f32) (q : V R 128 .bf16) : V N 128 .f32 :=
  mulf (FloatOps.matmul (tn R N 128) none (truncf .bf16 ds bits_lt) q (constant (S2 N 128) .f32 0x00000000#32))
    (broadcast (S2 N 128) (Scalar.ofBits .f32 0x3E000000#32))

/-- A step's share of the value gradient. -/
def dvV {R N : ℕ} (pn : V R N .f32) (o : V R 128 .bf16) : V N 128 .f32 :=
  FloatOps.matmul (tn R N 128) none (truncf .bf16 pn bits_lt) o (constant (S2 N 128) .f32 0x00000000#32)

/-- A step's column sums. -/
def dcV {R N : ℕ} (ds : V R N .f32) : V 1 N .f32 :=
  shapeCast (S2 1 N) (multiReduction .add [0] (S1 N) ds 0x00000000#32 (redCol R N) fmtF accAdd) (scRow N)

/-! ## Their values at real arguments -/

theorem zeroF : (FloatOps.ofBits .f32 0x00000000#32 : Ideal .f32) = (0 : EReal) := by
  show Ideal.ofBits .f32 _ = _; simp [Ideal.ofBits, Ideal.ieee]
theorem zeroB : (FloatOps.ofBits .bf16 0x0000#16 : Ideal .bf16) = (0 : EReal) := by
  show Ideal.ofBits .bf16 _ = _; simp [Ideal.ofBits, Ideal.ieee]
theorem oneF : (FloatOps.ofBits .f32 0x3F800000#32 : Ideal .f32) = (1 : EReal) := by
  show Ideal.ofBits .f32 _ = _; simp [Ideal.ofBits, Ideal.ieee, -EReal.coe_mul]; norm_num
theorem eighthF : (FloatOps.ofBits .f32 0x3E000000#32 : Ideal .f32) = ((1 / 8 : ℝ) : EReal) := by
  show Ideal.ofBits .f32 _ = _; simp [Ideal.ofBits, Ideal.ieee, -EReal.coe_mul]; norm_num
/-- Small words compare as the numbers they hold. -/
theorem slt_ofNat {a b : ℕ} (ha : a < 2 ^ 31) (hb : b < 2 ^ 31) :
    (BitVec.ofNat 32 a).slt (BitVec.ofNat 32 b) = decide (a < b) := by
  have h1 : (BitVec.ofNat 32 a).toInt = a := by
    rw [BitVec.toInt_eq_toNat_cond, BitVec.toNat_ofNat, Nat.mod_eq_of_lt (by omega), if_pos (by omega)]
  have h2 : (BitVec.ofNat 32 b).toInt = b := by
    rw [BitVec.toInt_eq_toNat_cond, BitVec.toNat_ofNat, Nat.mod_eq_of_lt (by omega), if_pos (by omega)]
  simp [BitVec.slt, h1, h2]
theorem sle_ofNat {a b : ℕ} (ha : a < 2 ^ 31) (hb : b < 2 ^ 31) :
    (BitVec.ofNat 32 a).sle (BitVec.ofNat 32 b) = decide (a ≤ b) := by
  have h1 : (BitVec.ofNat 32 a).toInt = a := by
    rw [BitVec.toInt_eq_toNat_cond, BitVec.toNat_ofNat, Nat.mod_eq_of_lt (by omega), if_pos (by omega)]
  have h2 : (BitVec.ofNat 32 b).toInt = b := by
    rw [BitVec.toInt_eq_toNat_cond, BitVec.toNat_ofNat, Nat.mod_eq_of_lt (by omega), if_pos (by omega)]
  simp [BitVec.sle, h1, h2]

theorem sel_ofBool {α : Type} (p : Prop) [Decidable p] (x y : α) :
    Scalar.select (BitVec.ofBool (decide p)) x y = if p then x else y := by
  by_cases h : p <;> simp [h, Scalar.select]

/-- The lane `d` belongs to head `e`. -/
def lane (e d : ℕ) : Prop := d < 64 ↔ e = 0
instance (e d : ℕ) : Decidable (lane e d) := by unfold lane; infer_instance

theorem laneV_val {R e : ℕ} {x : V R 128 .bf16} {X : ℕ → ℕ → ℝ} (hx : ∀ (i : Fin R) (d : Fin 128), x (ix2 i d) = (X i d : EReal))
    (i : Fin R) (d : Fin 128) : laneV e x (ix2 i d) = ((if lane e d then X i d else 0 : ℝ) : EReal) := by
  have hd := d.isLt
  unfold laneV
  rw [select_apply, broadcast_apply, hx]
  have hc : cmpi (lp e) (iota .tc (S2 R 128) 32 [1] (iotas _ (Nat.le_refl 2) _)) (broadcast (S2 R 128) 64#32) (ix2 i d)
      = BitVec.ofBool (decide (lane e d)) := by
    show IntOp.cmpi (lp e) (iota .tc (S2 R 128) 32 [1] _ (ix2 i d)) 64#32 = _
    rw [iota_single_apply]
    show IntOp.cmpi (lp e) (BitVec.ofNat 32 d.val) (BitVec.ofNat 32 64) = _
    unfold IntOp.cmpi
    refine congrArg BitVec.ofBool ?_
    match e with
    | 0 => simp only [lp]; rw [slt_ofNat (by omega) (by omega)]; simp [lane]
    | e + 1 => simp only [lp]; rw [sle_ofNat (by omega) (by omega)]; simp [lane]
  rw [hc, sel_ofBool]
  by_cases h : lane e d
  · simp [h]
  · simp only [h, if_false]; exact zeroB

theorem scoreV_val {R N : ℕ} {q : V R 128 .bf16} {k : V N 128 .bf16} {ct : V R 1 .f32} {cr : V 1 N .f32}
    {Q K : ℕ → ℕ → ℝ} {c r : ℕ → ℝ} (hq : ∀ (i : Fin R) (d : Fin 128), q (ix2 i d) = (Q i d : EReal))
    (hk : ∀ (i : Fin N) (d : Fin 128), k (ix2 i d) = (K i d : EReal)) (hc : ∀ i : Fin R, ct (ix2 i 0) = (c i : EReal))
    (hr : ∀ j : Fin N, cr (ix2 0 j) = (r j : EReal)) (i : Fin R) (j : Fin N) :
    scoreV q k ct cr (ix2 i j) = (((∑ d ∈ Finset.range 128, Q i d * K j d) * (1 / 8) + c i - r j : ℝ) : EReal) := by
  unfold scoreV
  rw [subf_apply, addf_apply, mulf_apply, bcCol_apply, bcRow_apply, broadcast_apply, hc, hr]
  rw [Ideal.matmul_transposedRhs_apply]
  rw [show constant (F := Ideal) (S2 R N) .f32 0x00000000#32 (ix2 i j) = (0 : EReal) from zeroF,
    show (Scalar.ofBits .f32 0x3E000000#32 : Ideal .f32) = ((1 / 8 : ℝ) : EReal) from eighthF, zero_add]
  simp only [hq, hk, ← EReal.coe_mul, coe_sum]
  rw [Finset.sum_range (fun d => Q i d * K j d), EReal.coe_sub, EReal.coe_add]

theorem dpV_val {R N : ℕ} {o : V R 128 .bf16} {v : V N 128 .bf16}
    {O W : ℕ → ℕ → ℝ} (ho : ∀ (i : Fin R) (d : Fin 128), o (ix2 i d) = (O i d : EReal))
    (hv : ∀ (i : Fin N) (d : Fin 128), v (ix2 i d) = (W i d : EReal)) (i : Fin R) (j : Fin N) :
    dpV o v (ix2 i j) = ((∑ d ∈ Finset.range 128, O i d * W j d : ℝ) : EReal) := by
  unfold dpV
  rw [Ideal.matmul_transposedRhs_apply]
  rw [show constant (F := Ideal) (S2 R N) .f32 0x00000000#32 (ix2 i j) = (0 : EReal) from zeroF, zero_add]
  simp only [ho, hv, ← EReal.coe_mul, coe_sum]
  rw [Finset.sum_range (fun d => O i d * W j d)]

/-- A row sum of reals. -/
theorem rowSum_val {R N : ℕ} {x : V R N .f32} {X : ℕ → ℕ → ℝ} (hx : ∀ (i : Fin R) (j : Fin N), x (ix2 i j) = (X i j : EReal))
    (i : Fin R) (j : Fin N) : broadcastTo (S2 R N) (shapeCast (S2 R 1)
      (multiReduction .add [1] (S1 R) x 0x00000000#32 (redRow R N) fmtF accAdd) (scCol R)) (bcCol R N) (ix2 i j)
      = ((∑ j ∈ Finset.range N, X i j : ℝ) : EReal) := by
  rw [bcCol_apply, col_apply, rowAdd_apply, Finset.sum_range (fun j => X i j), ← coe_sum]
  exact Finset.sum_congr rfl fun k _ => hx i k

theorem dsV_val {R N : ℕ} {pn dp : V R N .f32} {P D : ℕ → ℕ → ℝ}
    (hp : ∀ (i : Fin R) (j : Fin N), pn (ix2 i j) = (P i j : EReal))
    (hd : ∀ (i : Fin R) (j : Fin N), dp (ix2 i j) = (D i j : EReal)) (i : Fin R) (j : Fin N) :
    dsV pn dp (ix2 i j) = ((P i j * (D i j - ∑ j ∈ Finset.range N, P i j * D i j) : ℝ) : EReal) := by
  unfold dsV
  rw [mulf_apply, subf_apply, rowSum_val (X := fun i j => P i j * D i j), hp, hd, EReal.coe_mul, EReal.coe_sub]
  intro i j; rw [mulf_apply, hp, hd, EReal.coe_mul]

theorem dqV_val {R N : ℕ} {ds : V R N .f32} {k : V N 128 .bf16} {D K : ℕ → ℕ → ℝ}
    (hd : ∀ (i : Fin R) (j : Fin N), ds (ix2 i j) = (D i j : EReal))
    (hk : ∀ (i : Fin N) (d : Fin 128), k (ix2 i d) = (K i d : EReal)) (i : Fin R) (d : Fin 128) :
    dqV ds k (ix2 i d) = (((∑ j ∈ Finset.range N, D i j * K j d) * (1 / 8) : ℝ) : EReal) := by
  unfold dqV
  rw [mulf_apply, broadcast_apply]
  rw [Ideal.matmul_plain_apply]
  rw [show constant (F := Ideal) (S2 R 128) .f32 0x00000000#32 (ix2 i d) = (0 : EReal) from zeroF,
    show (Scalar.ofBits .f32 0x3E000000#32 : Ideal .f32) = ((1 / 8 : ℝ) : EReal) from eighthF, zero_add]
  simp only [truncf_apply, hd, hk, ← EReal.coe_mul, coe_sum]
  rw [Finset.sum_range (fun j => D i j * K j d)]

theorem dkV_val {R N : ℕ} {ds : V R N .f32} {q : V R 128 .bf16} {D Q : ℕ → ℕ → ℝ}
    (hd : ∀ (i : Fin R) (j : Fin N), ds (ix2 i j) = (D i j : EReal))
    (hq : ∀ (i : Fin R) (d : Fin 128), q (ix2 i d) = (Q i d : EReal)) (j : Fin N) (d : Fin 128) :
    dkV ds q (ix2 j d) = (((∑ i ∈ Finset.range R, D i j * Q i d) * (1 / 8) : ℝ) : EReal) := by
  unfold dkV
  rw [mulf_apply, broadcast_apply]
  rw [matmul_tn_apply]
  rw [show constant (F := Ideal) (S2 N 128) .f32 0x00000000#32 (ix2 j d) = (0 : EReal) from zeroF,
    show (Scalar.ofBits .f32 0x3E000000#32 : Ideal .f32) = ((1 / 8 : ℝ) : EReal) from eighthF, zero_add]
  simp only [truncf_apply, hd, hq, ← EReal.coe_mul, coe_sum]
  rw [Finset.sum_range (fun i => D i j * Q i d)]

theorem dvV_val {R N : ℕ} {pn : V R N .f32} {o : V R 128 .bf16} {P O : ℕ → ℕ → ℝ}
    (hp : ∀ (i : Fin R) (j : Fin N), pn (ix2 i j) = (P i j : EReal))
    (ho : ∀ (i : Fin R) (d : Fin 128), o (ix2 i d) = (O i d : EReal)) (j : Fin N) (d : Fin 128) :
    dvV pn o (ix2 j d) = ((∑ i ∈ Finset.range R, P i j * O i d : ℝ) : EReal) := by
  unfold dvV
  rw [matmul_tn_apply]
  rw [show constant (F := Ideal) (S2 N 128) .f32 0x00000000#32 (ix2 j d) = (0 : EReal) from zeroF, zero_add]
  simp only [truncf_apply, hp, ho, ← EReal.coe_mul, coe_sum]
  rw [Finset.sum_range (fun i => P i j * O i d)]

theorem dcV_val {R N : ℕ} {ds : V R N .f32} {D : ℕ → ℕ → ℝ}
    (hd : ∀ (i : Fin R) (j : Fin N), ds (ix2 i j) = (D i j : EReal)) (j : Fin N) :
    dcV ds (ix2 0 j) = ((∑ i ∈ Finset.range R, D i j : ℝ) : EReal) := by
  unfold dcV
  rw [row_apply, colAdd_apply, Finset.sum_range (fun i => D i j), ← coe_sum]
  exact Finset.sum_congr rfl fun k _ => hd k j

/-- The maximum of a row with a real entry and none at plus infinity is real. -/
theorem fold_max_real {n : ℕ} (f : Fin n → EReal) (ht : ∀ j, f j ≠ ⊤) (j₀ : Fin n) (h₀ : f j₀ ≠ ⊥) :
    ∃ M : ℝ, (Finset.univ : Finset (Fin n)).fold max ⊥ f = (M : EReal) := by
  have h1 : (Finset.univ : Finset (Fin n)).fold max ⊥ f < ⊤ :=
    (Finset.fold_max_lt _).mpr ⟨bot_lt_top, fun x _ => lt_top_iff_ne_top.mpr (ht x)⟩
  have h2 : f j₀ ≤ (Finset.univ : Finset (Fin n)).fold max ⊥ f :=
    (Finset.le_fold_max _).mpr (Or.inr ⟨j₀, Finset.mem_univ _, le_refl _⟩)
  refine ⟨_, (EReal.coe_toReal h1.ne ?_).symm⟩
  intro h; rw [h] at h2; exact h₀ (le_bot_iff.mp h2)

theorem one_div_real {x : ℝ} (hx : x ≠ 0) : Ideal.div 1 (x : EReal) = ((x⁻¹ : ℝ) : EReal) := by
  rw [Ideal.div, if_neg (by exact_mod_cast hx), one_mul, EReal.coe_inv]

/-- The weights of masked real scores: the maximum cancels. -/
theorem probV_val {R N : ℕ} {W : V R N .f32} {μ : ℕ → ℕ → Prop} [∀ i j, Decidable (μ i j)] {s : ℕ → ℕ → ℝ}
    (hW : ∀ (i : Fin R) (j : Fin N), W (ix2 i j) = if μ i j then (s i j : EReal) else ⊥)
    (h0 : ∀ i : Fin R, ∃ j : Fin N, μ i j) (i : Fin R) (j : Fin N) :
    probV W (ix2 i j) = ((if μ i j then Real.exp (s i j) / ∑ j ∈ Finset.range N, (if μ i j then Real.exp (s i j) else 0) else 0 : ℝ) : EReal) := by
  obtain ⟨j₀, hj₀⟩ := h0 i
  obtain ⟨M, hM⟩ := fold_max_real (fun j => W (ix2 i j)) (fun j => by
    show W (ix2 i j) ≠ ⊤
    rw [hW]; split
    · exact EReal.coe_ne_top _
    · exact bot_ne_top) j₀ (by show W (ix2 i j₀) ≠ ⊥; rw [hW, if_pos hj₀]; exact EReal.coe_ne_bot _)
  have hmax : ∀ j : Fin N, broadcastTo (S2 R N) (shapeCast (S2 R 1)
      (multiReduction .maximumf [1] (S1 R) W 0xFF800000#32 (redRow R N) fmtF accMax) (scCol R)) (bcCol R N) (ix2 i j) = (M : EReal) := by
    intro j
    rw [bcCol_apply, col_apply, rowMax_apply, hM]
  have hexp : ∀ j : Fin N, exp (subf W (broadcastTo (S2 R N) (shapeCast (S2 R 1)
      (multiReduction .maximumf [1] (S1 R) W 0xFF800000#32 (redRow R N) fmtF accMax) (scCol R)) (bcCol R N))) (ix2 i j)
      = ((if μ i j then Real.exp (s i j - M) else 0 : ℝ) : EReal) := by
    intro j
    show Ideal.exp (subf W _ (ix2 i j)) = _
    rw [subf_apply, hmax, hW]
    split
    · rw [← EReal.coe_sub]; rfl
    · rfl
  unfold probV
  rw [mulf_apply, hexp, bcCol_apply, divf_apply, broadcast_apply, col_apply, rowAdd_apply]
  rw [Finset.sum_congr rfl (fun k _ => hexp k)]
  rw [coe_sum, show (Scalar.ofBits .f32 0x3F800000#32 : Ideal .f32) = (1 : EReal) from oneF]
  have hpos : 0 < ∑ j ∈ Finset.range N, (if μ i j then Real.exp (s i j) else 0) := by
    refine Finset.sum_pos' (fun k _ => by split <;> positivity) ⟨j₀, Finset.mem_range.mpr j₀.isLt, ?_⟩
    rw [if_pos hj₀]; positivity
  have hsum : ∑ k : Fin N, (if μ i k then Real.exp (s i k - M) else 0)
      = (∑ j ∈ Finset.range N, (if μ i j then Real.exp (s i j) else 0)) * Real.exp (-M) := by
    rw [Finset.sum_range (fun j => if μ i j then Real.exp (s i j) else 0), Finset.sum_mul]
    refine Finset.sum_congr rfl fun k _ => ?_
    split
    · rw [sub_eq_add_neg, Real.exp_add]
    · simp
  erw [hsum]
  have hne : (∑ j ∈ Finset.range N, (if μ i j then Real.exp (s i j) else 0)) * Real.exp (-M) ≠ 0 :=
    mul_ne_zero hpos.ne' (Real.exp_ne_zero _)
  rw [one_div_real hne, ← EReal.coe_mul]
  refine congrArg _ ?_
  split
  · rw [sub_eq_add_neg, Real.exp_add]
    have := Real.exp_ne_zero (-M)
    field_simp
  · simp

end Fox
-- ==== Proof.Block.lean ====
module

public import proofs.«01_k».proof.Proof.Step
public import proofs.«01_k».proof.KernelIdeal

/-!
  The masks of a block of query rows, and one step of the kernel as a function of the arrays it reads: its values when
  every entry of those arrays is a real number.
-/

@[expose] public section

noncomputable section

namespace Fox

open Idealize.ShloMosaic Idealize.ShloMosaic.ValueIdx
open scoped BigOperators

/-! ## Masks -/

theorem cc2 {R N : ℕ} (h : 128 + R = N) : Shape.Concatenates [S2 R 128, S2 R R] (S2 R N) 1 := by
  refine ⟨Nat.le_refl 2, ?_, ?_⟩
  · intro s hs
    have : s = S2 R 128 ∨ s = S2 R R := by simpa using hs
    rcases this with rfl | rfl
    all_goals exact ⟨rfl, fun b hb => match b with | ⟨0, _⟩ => rfl | ⟨1, _⟩ => absurd rfl hb⟩
  · show 128 + (R + 0) = N
    omega

theorem cc3 {R M N : ℕ} (h : 128 + M + R = N) : Shape.Concatenates [S2 R 128, S2 R M, S2 R R] (S2 R N) 1 := by
  refine ⟨by simp, ?_, ?_⟩
  · intro s hs
    have : s = S2 R 128 ∨ s = S2 R M ∨ s = S2 R R := by simpa using hs
    rcases this with rfl | rfl | rfl
    all_goals exact ⟨rfl, fun b hb => match b with | ⟨0, _⟩ => rfl | ⟨1, _⟩ => absurd rfl hb⟩
  · show 128 + (M + (R + 0)) = N
    omega

/-- The first block's mask: real keys up to the query. -/
def mask0 (m : Ideal .f32) (R N : ℕ) (S : V R N .f32) : V R N .f32 :=
  select (andi (cmpi .sle (iota .tc (S2 R N) 32 [1] (iotas _ (Nat.le_refl 2) _)) (iota .tc (S2 R N) 32 [0] (iotas _ (Nat.le_refl 2) _)))
    (cmpi .slt (iota .tc (S2 R N) 32 [1] (iotas _ (Nat.le_refl 2) _)) (broadcast (S2 R N) 16#32))) S (broadcast (S2 R N) m)

/-- The mask of the first 128 columns: real keys. -/
def maskH (m : Ideal .f32) (R : ℕ) (S : V R 128 .f32) : V R 128 .f32 :=
  select (cmpi .slt (iota .tc (S2 R 128) 32 [1] (iotas _ (Nat.le_refl 2) _)) (broadcast (S2 R 128) 16#32)) S (broadcast (S2 R 128) m)

/-- The mask of the diagonal square. -/
def maskD (m : Ideal .f32) (R : ℕ) (S : V R R .f32) : V R R .f32 :=
  select (cmpi .sle (iota .tc (S2 R R) 32 [1] (iotas _ (Nat.le_refl 2) _)) (iota .tc (S2 R R) 32 [0] (iotas _ (Nat.le_refl 2) _))) S
    (broadcast (S2 R R) m)

/-- The second block's mask: head and diagonal. -/
def mask1 (m : Ideal .f32) (R N : ℕ) (h : 128 + R = N) (S : V R N .f32) : V R N .f32 :=
  concatenate (S2 R N) 1
    [⟨S2 R 128, maskH m R (extractStridedSlice (S2 R 128) ![0, 0] S (slices2 0 (by omega) 0 (by omega)))⟩,
     ⟨S2 R R, maskD m R (extractStridedSlice (S2 R R) ![0, 128] S (slices2 0 (by omega) 128 (by omega)))⟩] (cc2 h)

/-- The later blocks' mask: head, middle and diagonal. -/
def maskG (m : Ideal .f32) (R M N : ℕ) (h : 128 + M + R = N) (S : V R N .f32) : V R N .f32 :=
  concatenate (S2 R N) 1
    [⟨S2 R 128, maskH m R (extractStridedSlice (S2 R 128) ![0, 0] S (slices2 0 (by omega) 0 (by omega)))⟩,
     ⟨S2 R M, extractStridedSlice (S2 R M) ![0, 128] S (slices2 0 (by omega) 128 (by omega))⟩,
     ⟨S2 R R, maskD m R (extractStridedSlice (S2 R R) ![0, 128 + M] S (slices2 0 (by omega) (128 + M) (by omega)))⟩] (cc3 h)

/-- Key `j` is seen by query `i`: it is no padding row and not after the query. -/
def seen (i j : ℕ) : Prop := (j < 16 ∨ 128 ≤ j) ∧ j ≤ i
instance (i j : ℕ) : Decidable (seen i j) := by unfold seen; infer_instance

/-- What a mask does to a block of scores whose first row is row `r0`. -/
def Masks {R N : ℕ} (r0 : ℕ) (Mk : V R N .f32 → V R N .f32) : Prop :=
  ∀ (S : V R N .f32) (s : ℕ → ℕ → ℝ), (∀ (i : Fin R) (j : Fin N), S (ix2 i j) = (s i j : EReal)) →
    ∀ (i : Fin R) (j : Fin N), Mk S (ix2 i j) = if seen (r0 + i) j then (s i j : EReal) else ⊥

theorem mask0_val {m : Ideal .f32} (hm : m = (⊥ : EReal)) : Masks 0 (mask0 m 128 128) := by
  intro S s hS i j
  have hi := i.isLt; have hj := j.isLt
  unfold mask0
  rw [select_apply, broadcast_apply, hS, hm]
  have hc : andi (cmpi .sle (iota .tc (S2 128 128) 32 [1] (iotas _ (Nat.le_refl 2) _)) (iota .tc (S2 128 128) 32 [0] (iotas _ (Nat.le_refl 2) _)))
      (cmpi .slt (iota .tc (S2 128 128) 32 [1] (iotas _ (Nat.le_refl 2) _)) (broadcast (S2 128 128) 16#32)) (ix2 i j)
      = BitVec.ofBool (decide (seen (0 + i) j)) := by
    show IntOp.andi (IntOp.cmpi .sle (iota .tc (S2 128 128) 32 [1] _ (ix2 i j)) (iota .tc (S2 128 128) 32 [0] _ (ix2 i j)))
      (IntOp.cmpi .slt (iota .tc (S2 128 128) 32 [1] _ (ix2 i j)) 16#32) = _
    rw [iota_single_apply, iota_single_apply]
    show BitVec.ofBool (BitVec.sle (BitVec.ofNat 32 j.val) (BitVec.ofNat 32 i.val)) &&&
      BitVec.ofBool (BitVec.slt (BitVec.ofNat 32 j.val) (BitVec.ofNat 32 16)) = _
    rw [sle_ofNat (by omega) (by omega), slt_ofNat (by omega) (by omega)]
    have : seen (0 + i) j ↔ (j.val ≤ i.val ∧ j.val < 16) := by unfold seen; omega
    rw [show decide (seen (0 + i) j) = decide (j.val ≤ i.val ∧ j.val < 16) from decide_eq_decide.mpr this]
    by_cases h1 : j.val ≤ i.val <;> by_cases h2 : j.val < 16 <;> simp [h1, h2]
  rw [hc, sel_ofBool]

theorem maskH_val {R : ℕ} {m : Ideal .f32} (hm : m = (⊥ : EReal)) (S : V R 128 .f32) (i : Fin R) (j : Fin 128) :
    maskH m R S (ix2 i j) = if j.val < 16 then S (ix2 i j) else ⊥ := by
  have hj := j.isLt
  unfold maskH
  rw [select_apply, broadcast_apply, hm, ← sel_ofBool]
  congr 1
  show IntOp.cmpi .slt (iota .tc (S2 R 128) 32 [1] _ (ix2 i j)) 16#32 = _
  rw [iota_single_apply]
  show BitVec.ofBool (BitVec.slt (BitVec.ofNat 32 j.val) (BitVec.ofNat 32 16)) = _
  rw [slt_ofNat (by omega) (by omega)]

theorem maskD_val {R : ℕ} (hR : R ≤ 256) {m : Ideal .f32} (hm : m = (⊥ : EReal)) (S : V R R .f32) (i j : Fin R) :
    maskD m R S (ix2 i j) = if j.val ≤ i.val then S (ix2 i j) else ⊥ := by
  have hi := i.isLt; have hj := j.isLt
  unfold maskD
  rw [select_apply, broadcast_apply, hm, ← sel_ofBool]
  congr 1
  show IntOp.cmpi .sle (iota .tc (S2 R R) 32 [1] _ (ix2 i j)) (iota .tc (S2 R R) 32 [0] _ (ix2 i j)) = _
  rw [iota_single_apply, iota_single_apply]
  show BitVec.ofBool (BitVec.sle (BitVec.ofNat 32 j.val) (BitVec.ofNat 32 i.val)) = _
  rw [sle_ofNat (by omega) (by omega)]

theorem slice_apply {α : Type} {R N W c0 : ℕ} (S : (S2 R N).Idx → α) (h : (S2 R N).Slices ![0, c0] (S2 R W)) (i : Fin R) (j : Fin W)
    (k : Fin N) (hk : k.val = c0 + j.val) : extractStridedSlice (S2 R W) ![0, c0] S h (ix2 i j) = S (ix2 i k) := by
  refine extractStridedSlice_apply _ _ _ _ _ fun a => ?_
  match a with
  | ⟨0, _⟩ => exact (Nat.zero_add _).symm
  | ⟨1, _⟩ => exact hk

theorem cat2_apply {R N : ℕ} (h : 128 + R = N) (A : V R 128 .f32) (C : V R R .f32) (i : Fin R) (j : Fin N) :
    concatenate (S2 R N) 1 [⟨S2 R 128, A⟩, ⟨S2 R R, C⟩] (cc2 h) (ix2 i j)
      = if h1 : j.val < 128 then A (ix2 i ⟨j.val, h1⟩) else C (ix2 i ⟨j.val - 128, by omega⟩) := by
  split
  next h1 =>
    exact concatenate_apply_piece (t := S2 R N) (1 : Fin 2) ([⟨S2 R 128, A⟩, ⟨S2 R R, C⟩] : List ((s : Shape) × (s.Idx → Ideal .f32))) (cc2 h) (ix2 i j) 0 (by simp) (S2 R 128) A rfl rfl 0 rfl
      (ix2 i ⟨j.val, h1⟩) (fun b hb => match b with | ⟨0, _⟩ => rfl | ⟨1, _⟩ => absurd rfl hb) (Nat.zero_add _)
  next h1 =>
    exact concatenate_apply_piece (t := S2 R N) (1 : Fin 2) ([⟨S2 R 128, A⟩, ⟨S2 R R, C⟩] : List ((s : Shape) × (s.Idx → Ideal .f32))) (cc2 h) (ix2 i j) 1 (by simp) (S2 R R) C rfl rfl 128 rfl
      (ix2 i ⟨j.val - 128, by omega⟩) (fun b hb => match b with | ⟨0, _⟩ => rfl | ⟨1, _⟩ => absurd rfl hb)
      (by show 128 + (j.val - 128) = j.val; omega)

theorem cat3_apply {R M N : ℕ} (h : 128 + M + R = N) (A : V R 128 .f32) (B : V R M .f32) (C : V R R .f32) (i : Fin R) (j : Fin N) :
    concatenate (S2 R N) 1 [⟨S2 R 128, A⟩, ⟨S2 R M, B⟩, ⟨S2 R R, C⟩] (cc3 h) (ix2 i j)
      = if h1 : j.val < 128 then A (ix2 i ⟨j.val, h1⟩) else
        if h2 : j.val < 128 + M then B (ix2 i ⟨j.val - 128, by omega⟩) else C (ix2 i ⟨j.val - (128 + M), by omega⟩) := by
  split
  next h1 =>
    exact concatenate_apply_piece (t := S2 R N) (1 : Fin 2) ([⟨S2 R 128, A⟩, ⟨S2 R M, B⟩, ⟨S2 R R, C⟩] : List ((s : Shape) × (s.Idx → Ideal .f32))) (cc3 h) (ix2 i j) 0 (by simp) (S2 R 128) A rfl rfl 0 rfl
      (ix2 i ⟨j.val, h1⟩) (fun b hb => match b with | ⟨0, _⟩ => rfl | ⟨1, _⟩ => absurd rfl hb) (Nat.zero_add _)
  next h1 =>
    split
    next h2 =>
      exact concatenate_apply_piece (t := S2 R N) (1 : Fin 2) ([⟨S2 R 128, A⟩, ⟨S2 R M, B⟩, ⟨S2 R R, C⟩] : List ((s : Shape) × (s.Idx → Ideal .f32))) (cc3 h) (ix2 i j) 1 (by simp) (S2 R M) B rfl rfl 128 rfl
        (ix2 i ⟨j.val - 128, by omega⟩) (fun b hb => match b with | ⟨0, _⟩ => rfl | ⟨1, _⟩ => absurd rfl hb)
        (by show 128 + (j.val - 128) = j.val; omega)
    next h2 =>
      exact concatenate_apply_piece (t := S2 R N) (1 : Fin 2) ([⟨S2 R 128, A⟩, ⟨S2 R M, B⟩, ⟨S2 R R, C⟩] : List ((s : Shape) × (s.Idx → Ideal .f32))) (cc3 h) (ix2 i j) 2 (by simp) (S2 R R) C rfl rfl (128 + (M + 0)) rfl
        (ix2 i ⟨j.val - (128 + M), by omega⟩) (fun b hb => match b with | ⟨0, _⟩ => rfl | ⟨1, _⟩ => absurd rfl hb)
        (by show 128 + (M + 0) + (j.val - (128 + M)) = j.val; omega)

theorem mask1_val {m : Ideal .f32} (hm : m = (⊥ : EReal)) {R N : ℕ} (hR : R ≤ 256) (h : 128 + R = N) :
    Masks 128 (mask1 m R N h) := by
  intro S s hS i j
  have hi := i.isLt; have hj := j.isLt
  unfold mask1
  rw [cat2_apply h]
  split
  next h1 =>
    rw [maskH_val hm, slice_apply S _ i ⟨j.val, h1⟩ j (by simp), hS]
    refine if_congr ?_ rfl rfl
    unfold seen; simp only; omega
  next h1 =>
    rw [maskD_val hR hm, slice_apply S _ i ⟨j.val - 128, by omega⟩ j (by simp only; omega), hS]
    refine if_congr ?_ rfl rfl
    unfold seen; simp only; omega

theorem maskG_val {m : Ideal .f32} (hm : m = (⊥ : EReal)) {R M N r0 : ℕ} (hR : R ≤ 256) (h : 128 + M + R = N) (hr : r0 = 128 + M) :
    Masks r0 (maskG m R M N h) := by
  intro S s hS i j
  have hi := i.isLt; have hj := j.isLt
  unfold maskG
  rw [cat3_apply h]
  split
  next h1 =>
    rw [maskH_val hm, slice_apply S _ i ⟨j.val, h1⟩ j (by simp), hS]
    refine if_congr ?_ rfl rfl
    unfold seen; simp only; omega
  next h1 =>
    split
    next h2 =>
      rw [slice_apply S _ i ⟨j.val - 128, by omega⟩ j (by simp only; omega), hS, if_pos]
      unfold seen; omega
    next h2 =>
      rw [maskD_val hR hm, slice_apply S _ i ⟨j.val - (128 + M), by omega⟩ j (by simp only; omega), hS]
      refine if_congr ?_ rfl rfl
      unfold seen; simp only; omega

/-! ## The arrays of a step -/

/-- The arrays one grid step reads: queries, keys, values, output gradients, the query bias of both heads side by side, and the
    key bias of each head. -/
structure Ins where
  q : V 2176 128 .bf16
  k : V 2176 128 .bf16
  v : V 2176 128 .bf16
  o : V 2176 128 .bf16
  t : FVec Ideal ⟨3, ![1, 2176, 2]⟩ .f32
  c0 : FVec Ideal ⟨3, ![1, 1, 2176]⟩ .f32
  c1 : FVec Ideal ⟨3, ![1, 1, 2176]⟩ .f32

theorem inb3 {a b r c : ℕ} (r0 : ℕ) (h : r0 + r ≤ a) (c0 : ℕ) (h' : c0 + c ≤ b) :
    ∀ x : Fin 3, (![0, r0, c0] : Fin 3 → ℕ) x + (![1, r, c] : Fin 3 → ℕ) x ≤ (![1, a, b] : Fin 3 → ℕ) x :=
  fun x => match x with | ⟨0, _⟩ => Nat.le_refl 1 | ⟨1, _⟩ => h | ⟨2, _⟩ => h'

/-- Rows `r0 …` of an array of 2176 rows. -/
def rows (x : V 2176 128 .bf16) (r0 R : ℕ) (h : r0 + R ≤ 2176) : V R 128 .bf16 :=
  shapeCast (S2 R 128) (View.ld (Val := Elt Ideal) (e' := .bf16) x
    (Rect.unit (s := S2 2176 128) ![r0, 0] ![R, 128] (inb2 r0 h 0 (Nat.le_refl 128)))) (scSelf _)

/-- Head `e`'s query bias on those rows. -/
def colB (x : FVec Ideal ⟨3, ![1, 2176, 2]⟩ .f32) (e r0 R : ℕ) (h : r0 + R ≤ 2176) (he : e + 1 ≤ 2) : V R 1 .f32 :=
  shapeCast (S2 R 1) (View.ld (Val := Elt Ideal) (e' := .f32) x
    (Rect.unit (s := ⟨3, ![1, 2176, 2]⟩) ![0, r0, e] ![1, R, 1] (inb3 r0 h e he))) (sc1 R 1)

/-- The first `N` key biases. -/
def rowB (x : FVec Ideal ⟨3, ![1, 1, 2176]⟩ .f32) (N : ℕ) (h : N ≤ 2176) : V 1 N .f32 :=
  shapeCast (S2 1 N) (View.ld (Val := Elt Ideal) (e' := .f32) x
    (Rect.unit (s := ⟨3, ![1, 1, 2176]⟩) ![0, 0, 0] ![1, 1, N] (inb3 0 (Nat.le_refl 1) 0 (by omega)))) (sc1 1 N)

/-- The key bias of head `e`. -/
abbrev Ins.cr (I : Ins) (e : ℕ) : FVec Ideal ⟨3, ![1, 1, 2176]⟩ .f32 := match e with | 0 => I.c0 | _ => I.c1

section Step
variable (I : Ins) (e r0 R N : ℕ) (h : r0 + R ≤ 2176) (hN : N ≤ 2176) (he : e + 1 ≤ 2) (Mk : V R N .f32 → V R N .f32)

/-- The weights of head `e` for the block's rows. -/
def pS : V R N .f32 :=
  probV (Mk (scoreV (laneV e (rows I.q r0 R h)) (rows I.k 0 N (by omega)) (colB I.t e r0 R h he) (rowB (I.cr e) N hN)))
/-- The scores' gradient. -/
def dsS : V R N .f32 :=
  dsV (pS I e r0 R N h hN he Mk) (dpV (laneV e (rows I.o r0 R h)) (rows I.v 0 N (by omega)))
def dqS : V R 128 .f32 := dqV (dsS I e r0 R N h hN he Mk) (rows I.k 0 N (by omega))
def dkS : V N 128 .f32 := dkV (dsS I e r0 R N h hN he Mk) (laneV e (rows I.q r0 R h))
def dvS : V N 128 .f32 := dvV (pS I e r0 R N h hN he Mk) (laneV e (rows I.o r0 R h))
def dcS : V 1 N .f32 := dcV (dsS I e r0 R N h hN he Mk)
end Step

/-! ## The real arrays and the gradients in closed form -/

/-- The same arrays as real numbers, by row and column; the biases by head and position. -/
structure Dat where
  Q : ℕ → ℕ → ℝ
  K : ℕ → ℕ → ℝ
  W : ℕ → ℕ → ℝ
  O : ℕ → ℕ → ℝ
  ct : ℕ → ℕ → ℝ
  cr : ℕ → ℕ → ℝ

namespace Dat
variable (D : Dat)

def ln (X : ℕ → ℕ → ℝ) (e i d : ℕ) : ℝ := if lane e d then X i d else 0
def s (e i j : ℕ) : ℝ := (∑ d ∈ Finset.range 128, ln D.Q e i d * D.K j d) * (1 / 8) + D.ct e i - D.cr e j
def den (e i : ℕ) : ℝ := ∑ j ∈ Finset.range 2176, if seen i j then Real.exp (D.s e i j) else 0
def P (e i j : ℕ) : ℝ := if seen i j then Real.exp (D.s e i j) / D.den e i else 0
def dp (e i j : ℕ) : ℝ := ∑ d ∈ Finset.range 128, ln D.O e i d * D.W j d
def dl (e i : ℕ) : ℝ := ∑ j ∈ Finset.range 2176, D.P e i j * D.dp e i j
def ds (e i j : ℕ) : ℝ := D.P e i j * (D.dp e i j - D.dl e i)
def dq (e i d : ℕ) : ℝ := (∑ j ∈ Finset.range 2176, D.ds e i j * D.K j d) * (1 / 8)
def dk (e j d r0 R : ℕ) : ℝ := (∑ i ∈ Finset.range R, D.ds e (r0 + i) j * ln D.Q e (r0 + i) d) * (1 / 8)
def dv (e j d r0 R : ℕ) : ℝ := ∑ i ∈ Finset.range R, D.P e (r0 + i) j * ln D.O e (r0 + i) d
def dc (e j r0 R : ℕ) : ℝ := ∑ i ∈ Finset.range R, D.ds e (r0 + i) j
end Dat

namespace Dat
variable (D : Dat)
theorem P_zero {e i j : ℕ} (h : i < j) : D.P e i j = 0 := by
  unfold P; rw [if_neg]; unfold seen; omega
theorem ds_zero {e i j : ℕ} (h : i < j) : D.ds e i j = 0 := by
  unfold ds; rw [P_zero D h, zero_mul]
theorem dk_zero {e j d r0 R N : ℕ} (hr : r0 + R = N) (h : N ≤ j) : D.dk e j d r0 R = 0 := by
  unfold dk
  rw [Finset.sum_eq_zero, zero_mul]
  intro i hi
  rw [ds_zero D (by have := Finset.mem_range.mp hi; omega), zero_mul]
theorem dv_zero {e j d r0 R N : ℕ} (hr : r0 + R = N) (h : N ≤ j) : D.dv e j d r0 R = 0 := by
  unfold dv
  refine Finset.sum_eq_zero fun i hi => ?_
  rw [P_zero D (by have := Finset.mem_range.mp hi; omega), zero_mul]
theorem dc_zero {e j r0 R N : ℕ} (hr : r0 + R = N) (h : N ≤ j) : D.dc e j r0 R = 0 := by
  unfold dc
  exact Finset.sum_eq_zero fun i hi => ds_zero D (by have := Finset.mem_range.mp hi; omega)

/-- First row and number of rows of block `b`. -/
def b0 (b : ℕ) : ℕ := match b with | 0 => 0 | b + 1 => 128 + 256 * b
def bR (b : ℕ) : ℕ := match b with | 0 => 128 | _ => 256
/-- The first `n` steps' shares, two heads to a block. -/
def sumK (n j d : ℕ) : ℝ := ∑ m ∈ Finset.range n, D.dk (m % 2) j d (b0 (m / 2)) (bR (m / 2))
def sumV (n j d : ℕ) : ℝ := ∑ m ∈ Finset.range n, D.dv (m % 2) j d (b0 (m / 2)) (bR (m / 2))
def sumC (e n j : ℕ) : ℝ := ∑ m ∈ Finset.range n, D.dc e j (b0 m) (bR m)

/-- A sum over the rows, block by block. -/
theorem sum_blocks (f : ℕ → ℝ) :
    ∑ b ∈ Finset.range 9, ∑ i ∈ Finset.range (bR b), f (b0 b + i) = ∑ i ∈ Finset.range 2176, f i := by
  have key : ∀ n, ∑ b ∈ Finset.range (n + 1), ∑ i ∈ Finset.range (bR b), f (b0 b + i) = ∑ i ∈ Finset.range (128 + 256 * n), f i := by
    intro n
    induction n with
    | zero => simp [bR, b0]
    | succ n ih =>
      rw [Finset.sum_range_succ, ih, show 128 + 256 * (n + 1) = (128 + 256 * n) + 256 by ring,
        Finset.sum_range_add f (128 + 256 * n) 256]
      rfl
  exact key 8

theorem sum_pairs (g : ℕ → ℕ → ℝ) (n : ℕ) :
    ∑ m ∈ Finset.range (2 * n), g (m % 2) (m / 2) = ∑ b ∈ Finset.range n, (g 0 b + g 1 b) := by
  induction n with
  | zero => simp
  | succ n ih =>
    rw [show 2 * (n + 1) = 2 * n + 1 + 1 by ring, Finset.sum_range_succ, Finset.sum_range_succ, ih, Finset.sum_range_succ,
      show (2 * n) % 2 = 0 by omega, show (2 * n) / 2 = n by omega, show (2 * n + 1) % 2 = 1 by omega,
      show (2 * n + 1) / 2 = n by omega, add_assoc]

/-- All 18 steps: the key gradient. -/
theorem sumK_eq (j d : ℕ) : D.sumK 18 j d
    = (∑ i ∈ Finset.range 2176, (D.ds 0 i j * ln D.Q 0 i d + D.ds 1 i j * ln D.Q 1 i d)) * (1 / 8) := by
  unfold sumK
  rw [show 18 = 2 * 9 from rfl, sum_pairs (fun e b => D.dk e j d (b0 b) (bR b)), ← sum_blocks, Finset.sum_mul]
  refine Finset.sum_congr rfl fun b _ => ?_
  unfold dk
  rw [Finset.sum_add_distrib, add_mul]
theorem sumV_eq (j d : ℕ) : D.sumV 18 j d
    = ∑ i ∈ Finset.range 2176, (D.P 0 i j * ln D.O 0 i d + D.P 1 i j * ln D.O 1 i d) := by
  unfold sumV
  rw [show 18 = 2 * 9 from rfl, sum_pairs (fun e b => D.dv e j d (b0 b) (bR b)), ← sum_blocks]
  refine Finset.sum_congr rfl fun b _ => ?_
  unfold dv
  rw [Finset.sum_add_distrib]
theorem sumC_eq (e j : ℕ) : D.sumC e 9 j = ∑ i ∈ Finset.range 2176, D.ds e i j :=
  sum_blocks (fun i => D.ds e i j)
end Dat

/-- The arrays hold the real numbers of `D`. -/
structure Rep (I : Ins) (D : Dat) : Prop where
  q : ∀ (i : Fin 2176) (d : Fin 128), I.q (ix2 i d) = (D.Q i d : EReal)
  k : ∀ (i : Fin 2176) (d : Fin 128), I.k (ix2 i d) = (D.K i d : EReal)
  v : ∀ (i : Fin 2176) (d : Fin 128), I.v (ix2 i d) = (D.W i d : EReal)
  o : ∀ (i : Fin 2176) (d : Fin 128), I.o (ix2 i d) = (D.O i d : EReal)
  t : ∀ (i : Fin 2176) (e : Fin 2), I.t (ix3 0 i e) = (D.ct e i : EReal)
  c : ∀ (e : ℕ) (j : Fin 2176), I.cr e (ix3 0 0 j) = (D.cr e j : EReal)

theorem rows_apply (x : V 2176 128 .bf16) (r0 R : ℕ) (h : r0 + R ≤ 2176) (i : Fin R) (d : Fin 128) :
    rows x r0 R h (ix2 i d) = x (ix2 ⟨r0 + i, by omega⟩ d) := by
  unfold rows
  refine (congrFun (shapeCast_self (s := S2 R 128) _ _) (ix2 i d)).trans ?_
  show x _ = x _
  congr 1
  funext a; apply Fin.ext
  match a with
  | ⟨0, _⟩ => show r0 + 1 * i.val = r0 + i.val; omega
  | ⟨1, _⟩ => show 0 + 1 * d.val = d.val; omega

theorem drop1 {α : Type} {R N : ℕ} (x : (⟨3, ![1, R, N]⟩ : Shape).Idx → α) (i : Fin R) (j : Fin N) :
    shapeCast (S2 R N) x (sc1 R N) (ix2 i j) = x (ix3 0 i j) := by
  refine (shapeCast_dropUnit_apply ![R, N] x (sc1 R N) (ix2 i j)).trans (congrArg x ?_)
  funext a
  match a with
  | ⟨0, _⟩ => rfl
  | ⟨1, _⟩ => rfl
  | ⟨2, _⟩ => rfl

theorem colB_apply (x : FVec Ideal ⟨3, ![1, 2176, 2]⟩ .f32) (e r0 R : ℕ) (h : r0 + R ≤ 2176) (he : e + 1 ≤ 2) (i : Fin R) :
    colB x e r0 R h he (ix2 i 0) = x (ix3 0 ⟨r0 + i, by omega⟩ ⟨e, by omega⟩) := by
  unfold colB
  rw [drop1]
  show x _ = x _
  congr 1
  funext a; apply Fin.ext
  match a with
  | ⟨0, _⟩ => rfl
  | ⟨1, _⟩ => show r0 + 1 * i.val = r0 + i.val; omega
  | ⟨2, _⟩ => rfl

theorem rowB_apply (x : FVec Ideal ⟨3, ![1, 1, 2176]⟩ .f32) (N : ℕ) (h : N ≤ 2176) (j : Fin N) :
    rowB x N h (ix2 0 j) = x (ix3 0 0 ⟨j, by omega⟩) := by
  unfold rowB
  rw [drop1]
  show x _ = x _
  congr 1
  funext a; apply Fin.ext
  match a with
  | ⟨0, _⟩ => rfl
  | ⟨1, _⟩ => rfl
  | ⟨2, _⟩ => show 0 + 1 * j.val = j.val; omega

/-- A sum whose terms vanish from `N` on. -/
theorem sum_ext0 {N M : ℕ} (h : N ≤ M) (f : ℕ → ℝ) (hf : ∀ j, N ≤ j → f j = 0) :
    ∑ j ∈ Finset.range N, f j = ∑ j ∈ Finset.range M, f j := by
  refine Finset.sum_subset (Finset.range_mono h) fun j _ hj => hf j ?_
  simpa using hj

theorem dpS_val {I : Ins} {D : Dat} (H : Rep I D) {e r0 R N : ℕ} (h : r0 + R ≤ 2176) (hN : N ≤ 2176) (i : Fin R) (j : Fin N) : dpV (laneV e (rows I.o r0 R h)) (rows I.v 0 N (by omega)) (ix2 i j) = (D.dp e (r0 + i) j : EReal) :=
  dpV_val (O := fun i d => Dat.ln D.O e (r0 + i) d) (W := D.W)
    (laneV_val (X := fun i d => D.O (r0 + i) d) fun i d => by rw [rows_apply, H.o]) (fun i d => by rw [rows_apply, H.v]; simp) i j

section Val
variable {I : Ins} {D : Dat} (H : Rep I D) {e r0 R N : ℕ} (h : r0 + R ≤ 2176) (hN : N ≤ 2176) (he : e + 1 ≤ 2)
  {Mk : V R N .f32 → V R N .f32} (hM : Masks r0 Mk) (hr : r0 + R = N)
include H hM hr

theorem pS_val (i : Fin R) (j : Fin N) : pS I e r0 R N h hN he Mk (ix2 i j) = (D.P e (r0 + i) j : EReal) := by
  have hi := i.isLt
  have hs := scoreV_val (q := laneV e (rows I.q r0 R h)) (k := rows I.k 0 N (by omega)) (ct := colB I.t e r0 R h he)
    (cr := rowB (I.cr e) N hN) (Q := fun i d => Dat.ln D.Q e (r0 + i) d) (K := D.K) (c := fun i => D.ct e (r0 + i)) (r := D.cr e)
    (laneV_val (X := fun i d => D.Q (r0 + i) d) fun i d => by rw [rows_apply, H.q])
    (fun i d => by rw [rows_apply, H.k]; simp) (fun i => by rw [colB_apply, H.t]) (fun j => by rw [rowB_apply, H.c])
  have hw := probV_val (μ := fun i j => seen (r0 + i) j) (s := fun i j => D.s e (r0 + i) j) (hM _ (fun i j => D.s e (r0 + i) j) hs)
    (fun i => ⟨⟨0, by omega⟩, by unfold seen; simp⟩) i j
  unfold pS
  rw [hw]
  unfold Dat.P Dat.den
  rw [sum_ext0 hN _ (fun j hj => if_neg (by unfold seen; omega))]

theorem dsS_val (i : Fin R) (j : Fin N) : dsS I e r0 R N h hN he Mk (ix2 i j) = (D.ds e (r0 + i) j : EReal) := by
  have hi := i.isLt
  unfold dsS
  rw [dsV_val (P := fun i j => D.P e (r0 + i) j) (D := fun i j => D.dp e (r0 + i) j) (pS_val H h hN he hM hr) (dpS_val H h hN)]
  unfold Dat.ds Dat.dl
  rw [sum_ext0 hN _ (fun j hj => by unfold Dat.P; rw [if_neg (by unfold seen; omega), zero_mul])]

theorem dqS_val (i : Fin R) (d : Fin 128) : dqS I e r0 R N h hN he Mk (ix2 i d) = (D.dq e (r0 + i) d : EReal) := by
  have hi := i.isLt
  unfold dqS
  rw [dqV_val (D := fun i j => D.ds e (r0 + i) j) (K := D.K) (dsS_val H h hN he hM hr) (fun i d => by rw [rows_apply, H.k]; simp)]
  unfold Dat.dq
  rw [sum_ext0 hN _ (fun j hj => by unfold Dat.ds Dat.P; rw [if_neg (by unfold seen; omega), zero_mul, zero_mul])]

theorem dkS_val (j : Fin N) (d : Fin 128) : dkS I e r0 R N h hN he Mk (ix2 j d) = (D.dk e j d r0 R : EReal) :=
  dkV_val (D := fun i j => D.ds e (r0 + i) j) (Q := fun i d => Dat.ln D.Q e (r0 + i) d) (dsS_val H h hN he hM hr)
    (laneV_val (X := fun i d => D.Q (r0 + i) d) fun i d => by rw [rows_apply, H.q]) j d

theorem dvS_val (j : Fin N) (d : Fin 128) : dvS I e r0 R N h hN he Mk (ix2 j d) = (D.dv e j d r0 R : EReal) :=
  dvV_val (P := fun i j => D.P e (r0 + i) j) (O := fun i d => Dat.ln D.O e (r0 + i) d) (pS_val H h hN he hM hr)
    (laneV_val (X := fun i d => D.O (r0 + i) d) fun i d => by rw [rows_apply, H.o]) j d

theorem dcS_val (j : Fin N) : dcS I e r0 R N h hN he Mk (ix2 0 j) = (D.dc e j r0 R : EReal) :=
  dcV_val (D := fun i j => D.ds e (r0 + i) j) (dsS_val H h hN he hM hr) j
end Val

/-! ## Accumulating into an output, a row prefix at a time -/

/-- One addition to the first `N` rows of a 2176-row accumulator. -/
theorem acc2 {sig : RefSig} {κ : Kind} {sp : Space} (v : View sig κ sp (S2 2176 128) .f32) {N : ℕ} (hN : N ≤ 2176)
    {L : List (View.Piece (Elt Ideal) (S2 2176 128) .f32)} {f g : ℕ → ℕ → ℝ} {c : V N 128 .f32}
    (hL : ∀ (j : Fin 2176) (d : Fin 128), View.canon (Val := Elt Ideal) L (ix2 j d) = (f j d : EReal))
    (hc : ∀ (j : Fin N) (d : Fin 128), c (ix2 j d) = (g j d : EReal)) (hg : ∀ j d, N ≤ j → g j d = 0)
    (j : Fin 2176) (d : Fin 128) :
    View.canon (Val := Elt Ideal) ((⟨Rect.unit (s := S2 2176 128) ![0, 0] ![N, 128] (inb2 0 (by omega) 0 (Nat.le_refl 128)),
      addf (shapeCast (S2 N 128) (v.readCov L (Rect.unit (s := S2 2176 128) ![0, 0] ![N, 128] (inb2 0 (by omega) 0 (Nat.le_refl 128))).toLoadRect)
        (scSelf _)) c⟩ : View.Piece (Elt Ideal) (S2 2176 128) .f32) :: L) (ix2 j d) = ((f j d + g j d : ℝ) : EReal) := by
  by_cases hj : j.val < N
  · have e : (ix2 j d : (S2 2176 128).Idx) = (Rect.unit (s := S2 2176 128) ![0, 0] ![N, 128]
        (inb2 0 (by omega) 0 (Nat.le_refl 128))).emb (ix2 (⟨j.val, hj⟩ : Fin N) d) := by
      funext a; apply Fin.ext
      match a with
      | ⟨0, _⟩ => show j.val = 0 + 1 * j.val; omega
      | ⟨1, _⟩ => show d.val = 0 + 1 * d.val; omega
    have hread : shapeCast (S2 N 128) (v.readCov L (Rect.unit (s := S2 2176 128) ![0, 0] ![N, 128]
        (inb2 0 (by omega) 0 (Nat.le_refl 128))).toLoadRect) (scSelf _) (ix2 (⟨j.val, hj⟩ : Fin N) d) = (f j d : EReal) := by
      refine (congrFun (shapeCast_self (s := S2 N 128) _ _) (ix2 (⟨j.val, hj⟩ : Fin N) d)).trans ?_
      rw [View.readCov_eq_canon']
      refine Eq.trans ?_ (hL j d)
      exact congrArg (View.canon (Val := Elt Ideal) L) e.symm
    rw [e]
    refine (View.canon_cons_emb _ _ _ _).trans ?_
    rw [addf_apply, hread, hc, EReal.coe_add]
  · rw [View.canon_cons_of_not_mem, hL, hg j d (by omega), add_zero]
    intro hm
    obtain ⟨x, hx⟩ := (Rect.unit (s := S2 2176 128) ![0, 0] ![N, 128] (inb2 0 (by omega) 0 (Nat.le_refl 128))).exists_idx_of_mem hm
    have h0 := congrArg (fun y : (S2 2176 128).Idx => (y 0).val) hx
    have hx0 := (x 0).isLt
    have : 0 + 1 * (x 0).val = j.val := h0
    have hx1 : (x 0).val < N := hx0
    omega

theorem sc11 (N : ℕ) : (S2 1 N).ShapeCasts (⟨3, ![1, 1, N]⟩ : Shape) := sc1' 1 N

theorem add1 {α : Type} {N : ℕ} (x : (S2 1 N).Idx → α) (j : Fin N) :
    shapeCast (⟨3, ![1, 1, N]⟩ : Shape) x (sc11 N) (ix3 0 0 j) = x (ix2 0 j) := by
  refine (shapeCast_addUnit_apply ![1, N] x (sc11 N) (ix3 0 0 j)).trans (congrArg x ?_)
  funext a
  match a with
  | ⟨0, _⟩ => rfl
  | ⟨1, _⟩ => rfl

/-- One subtraction from the first `N` entries of a 2176-entry accumulator. -/
theorem acc3 {sig : RefSig} {κ : Kind} {sp : Space} (v : View sig κ sp ⟨3, ![1, 1, 2176]⟩ .f32) {N : ℕ} (hN : N ≤ 2176)
    {L : List (View.Piece (Elt Ideal) ⟨3, ![1, 1, 2176]⟩ .f32)} {f g : ℕ → ℝ} {c : V 1 N .f32}
    (hL : ∀ j : Fin 2176, View.canon (Val := Elt Ideal) L (ix3 0 0 j) = (f j : EReal))
    (hc : ∀ j : Fin N, c (ix2 0 j) = (g j : EReal)) (hg : ∀ j, N ≤ j → g j = 0) (j : Fin 2176) :
    View.canon (Val := Elt Ideal) ((⟨Rect.unit (s := ⟨3, ![1, 1, 2176]⟩) ![0, 0, 0] ![1, 1, N] (inb3 0 (Nat.le_refl 1) 0 (by omega)),
      shapeCast (⟨3, ![1, 1, N]⟩ : Shape) (subf (shapeCast (S2 1 N) (v.readCov L (Rect.unit (s := ⟨3, ![1, 1, 2176]⟩) ![0, 0, 0] ![1, 1, N]
        (inb3 0 (Nat.le_refl 1) 0 (by omega))).toLoadRect) (sc1 1 N)) c) (sc11 N)⟩ : View.Piece (Elt Ideal) ⟨3, ![1, 1, 2176]⟩ .f32) :: L)
      (ix3 0 0 j) = ((f j - g j : ℝ) : EReal) := by
  by_cases hj : j.val < N
  · have e : (ix3 0 0 j : (⟨3, ![1, 1, 2176]⟩ : Shape).Idx) = (Rect.unit (s := ⟨3, ![1, 1, 2176]⟩) ![0, 0, 0] ![1, 1, N]
        (inb3 0 (Nat.le_refl 1) 0 (by omega))).emb (ix3 0 0 (⟨j.val, hj⟩ : Fin N)) := by
      funext a; apply Fin.ext
      match a with
      | ⟨0, _⟩ => rfl
      | ⟨1, _⟩ => rfl
      | ⟨2, _⟩ => show j.val = 0 + 1 * j.val; omega
    have hread : shapeCast (S2 1 N) (v.readCov L (Rect.unit (s := ⟨3, ![1, 1, 2176]⟩) ![0, 0, 0] ![1, 1, N]
        (inb3 0 (Nat.le_refl 1) 0 (by omega))).toLoadRect) (sc1 1 N) (ix2 0 (⟨j.val, hj⟩ : Fin N)) = (f j : EReal) := by
      rw [View.readCov_eq_canon']
      refine (drop1 _ 0 (⟨j.val, hj⟩ : Fin N)).trans ?_
      refine Eq.trans ?_ (hL j)
      exact congrArg (View.canon (Val := Elt Ideal) L) e.symm
    rw [e]
    refine (View.canon_cons_emb _ _ _ _).trans ?_
    refine (add1 _ (⟨j.val, hj⟩ : Fin N)).trans ?_
    rw [subf_apply, hread, hc, EReal.coe_sub]
  · rw [View.canon_cons_of_not_mem, hL, hg j (by omega), sub_zero]
    intro hm
    obtain ⟨x, hx⟩ := (Rect.unit (s := ⟨3, ![1, 1, 2176]⟩) ![0, 0, 0] ![1, 1, N] (inb3 0 (Nat.le_refl 1) 0 (by omega))).exists_idx_of_mem hm
    have h0 := congrArg (fun y : (⟨3, ![1, 1, 2176]⟩ : Shape).Idx => (y 2).val) hx
    have : 0 + 1 * (x 2).val = j.val := h0
    have hx1 : (x 2).val < N := (x 2).isLt
    omega

/-- The two heads' halves of a block put together. -/
def selV {R : ℕ} (a b : V R 128 .f32) : V R 128 .f32 :=
  select (cmpi .slt (iota .tc (S2 R 128) 32 [1] (iotas _ (Nat.le_refl 2) _)) (broadcast (S2 R 128) 64#32)) a b

theorem selV_apply {R : ℕ} (a b : V R 128 .f32) (i : Fin R) (d : Fin 128) :
    selV a b (ix2 i d) = if d.val < 64 then a (ix2 i d) else b (ix2 i d) := by
  have hd := d.isLt
  unfold selV
  rw [select_apply, ← sel_ofBool]
  congr 1
  show IntOp.cmpi .slt (iota .tc (S2 R 128) 32 [1] _ (ix2 i d)) 64#32 = _
  rw [iota_single_apply]
  show BitVec.ofBool (BitVec.slt (BitVec.ofNat 32 d.val) (BitVec.ofNat 32 64)) = _
  rw [slt_ofNat (by omega) (by omega)]

/-- A write of rows `r0 …` extends the rows known to hold `f`. -/
theorem put2 {r0 R lo : ℕ} (h : r0 + R ≤ 2176) (hlo : r0 = lo)
    {L : List (View.Piece (Elt Ideal) (S2 2176 128) .f32)} {f : ℕ → ℕ → ℝ} {c : V R 128 .f32}
    (hL : ∀ (j : Fin 2176) (d : Fin 128), j.val < lo → View.canon (Val := Elt Ideal) L (ix2 j d) = (f j d : EReal))
    (hc : ∀ (j : Fin R) (d : Fin 128), c (ix2 j d) = (f (r0 + j) d : EReal))
    (j : Fin 2176) (d : Fin 128) (hj : j.val < r0 + R) :
    View.canon (Val := Elt Ideal) ((⟨Rect.unit (s := S2 2176 128) ![r0, 0] ![R, 128] (inb2 r0 h 0 (Nat.le_refl 128)), c⟩
      : View.Piece (Elt Ideal) (S2 2176 128) .f32) :: L) (ix2 j d) = (f j d : EReal) := by
  by_cases hj0 : j.val < lo
  · rw [View.canon_cons_of_not_mem, hL j d hj0]
    intro hm
    obtain ⟨x, hx⟩ := (Rect.unit (s := S2 2176 128) ![r0, 0] ![R, 128] (inb2 r0 h 0 (Nat.le_refl 128))).exists_idx_of_mem hm
    have h0 := congrArg (fun y : (S2 2176 128).Idx => (y 0).val) hx
    have : r0 + 1 * (x 0).val = j.val := h0
    omega
  · have e : (ix2 j d : (S2 2176 128).Idx) = (Rect.unit (s := S2 2176 128) ![r0, 0] ![R, 128]
        (inb2 r0 h 0 (Nat.le_refl 128))).emb (ix2 (⟨j.val - r0, by omega⟩ : Fin R) d) := by
      funext a; apply Fin.ext
      match a with
      | ⟨0, _⟩ => show j.val = r0 + 1 * (j.val - r0); omega
      | ⟨1, _⟩ => show d.val = 0 + 1 * d.val; omega
    rw [e]
    refine (View.canon_cons_emb _ _ _ _).trans ?_
    rw [hc]
    simp only
    rw [show r0 + (j.val - r0) = j.val by omega]

/-- A whole fill with zeros. -/
theorem zero2 (j : Fin 2176) (d : Fin 128) :
    View.canon (Val := Elt Ideal) [(⟨Rect.unit (s := S2 2176 128) ![0, 0] ![2176, 128] (inb2 0 (Nat.le_refl _) 0 (Nat.le_refl 128)),
      broadcast (S2 2176 128) (Scalar.ofBits .f32 0x00000000#32 : Ideal .f32)⟩ : View.Piece (Elt Ideal) (S2 2176 128) .f32)] (ix2 j d)
      = ((0 : ℝ) : EReal) := by
  rw [View.canon_unit_zero (S := S2 2176 128) (by funext a; match a with | ⟨0, _⟩ => rfl | ⟨1, _⟩ => rfl)]
  exact zeroF
theorem zero3 (j : Fin 2176) :
    View.canon (Val := Elt Ideal) [(⟨Rect.unit (s := ⟨3, ![1, 1, 2176]⟩) ![0, 0, 0] ![1, 1, 2176] (inb3 0 (Nat.le_refl 1) 0 (Nat.le_refl _)),
      broadcast (⟨3, ![1, 1, 2176]⟩ : Shape) (Scalar.ofBits .f32 0x00000000#32 : Ideal .f32)⟩ : View.Piece (Elt Ideal) ⟨3, ![1, 1, 2176]⟩ .f32)] (ix3 0 0 j)
      = ((0 : ℝ) : EReal) := by
  rw [View.canon_unit_zero (S := ⟨3, ![1, 1, 2176]⟩) (by funext a; match a with | ⟨0, _⟩ => rfl | ⟨1, _⟩ => rfl | ⟨2, _⟩ => rfl)]
  exact zeroF

/-- The mask constant of the program. -/
abbrev mk : Ideal .f32 := Named.named (F := Ideal) Cert.KernelIdeal.κ "mask" (φ := .f32) 0xF149F2CA#32
theorem hmk : mk = (⊥ : EReal) := rfl

end Fox
-- ==== Proof.Heads.lean ====
/- The gradients of one head over the 2064 rows that the arguments have, in plain real numbers, and why what a grid step
   computes on 2176 rows, of which 112 are padding, for two heads side by side, is the same. -/
module

public import proofs.«01_k».proof.Proof.Block

@[expose] public section

noncomputable section

namespace Fox

open BigOperators

/-- The arguments as real numbers: q, k, v, do at (example, row, column), and the gate at (example, head, row). -/
structure Args where
  q : ℕ → ℕ → ℕ → ℝ
  k : ℕ → ℕ → ℕ → ℝ
  v : ℕ → ℕ → ℕ → ℝ
  o : ℕ → ℕ → ℕ → ℝ
  c : ℕ → ℕ → ℕ → ℝ

namespace Args
variable (A : Args) (b n : ℕ)

def s (i j : ℕ) : ℝ := (∑ d ∈ Finset.range 64, A.q b i (64 * n + d) * A.k b j (64 * n + d)) * (1 / 8) + A.c b n i - A.c b n j
def den (i : ℕ) : ℝ := ∑ j ∈ Finset.range 2064, if j ≤ i then Real.exp (A.s b n i j) else 0
def P (i j : ℕ) : ℝ := if j ≤ i then Real.exp (A.s b n i j) / A.den b n i else 0
def dp (i j : ℕ) : ℝ := ∑ d ∈ Finset.range 64, A.o b i (64 * n + d) * A.v b j (64 * n + d)
def dl (i : ℕ) : ℝ := ∑ j ∈ Finset.range 2064, A.P b n i j * A.dp b n i j
def ds (i j : ℕ) : ℝ := A.P b n i j * (A.dp b n i j - A.dl b n i)
/-- The gradients at a row and a column of the head. -/
def dq (i d : ℕ) : ℝ := (∑ j ∈ Finset.range 2064, A.ds b n i j * A.k b j (64 * n + d)) * (1 / 8)
def dk (j d : ℕ) : ℝ := (∑ i ∈ Finset.range 2064, A.ds b n i j * A.q b i (64 * n + d)) * (1 / 8)
def dv (j d : ℕ) : ℝ := ∑ i ∈ Finset.range 2064, A.P b n i j * A.o b i (64 * n + d)
def dc (j : ℕ) : ℝ := -∑ i ∈ Finset.range 2064, A.ds b n i j

theorem den_pos (i : ℕ) (hi : i < 2064) : 0 < A.den b n i := by
  unfold den
  refine Finset.sum_pos' (fun k _ => by split <;> positivity) ⟨i, Finset.mem_range.mpr hi, ?_⟩
  rw [if_pos (le_refl i)]; positivity

/-- A row of weights sums to one, so a row of score gradients sums to zero. -/
theorem sum_ds (i : ℕ) (hi : i < 2064) : ∑ j ∈ Finset.range 2064, A.ds b n i j = 0 := by
  have hp : ∑ j ∈ Finset.range 2064, A.P b n i j = 1 := by
    have h := A.den_pos b n i hi
    have : ∀ j ∈ Finset.range 2064, A.P b n i j = (if j ≤ i then Real.exp (A.s b n i j) else 0) / A.den b n i := by
      intro j _; unfold P; split
      · rfl
      · simp
    rw [Finset.sum_congr rfl this, ← Finset.sum_div]
    exact div_self h.ne'
  unfold ds
  simp only [mul_sub, Finset.sum_sub_distrib]
  rw [← Finset.sum_mul, hp, one_mul]
  exact sub_self _
end Args

/-- Row `i` of the arguments among the padded rows. -/
def pd (i : ℕ) : ℕ := if i < 16 then i else i + 112
/-- Rows with the padding put in. -/
def pad (f : ℕ → ℝ) (i : ℕ) : ℝ := if i < 16 then f i else if i < 128 then 0 else f (i - 112)

theorem pad_pd (f : ℕ → ℝ) (i : ℕ) : pad f (pd i) = f i := by
  unfold pad pd
  by_cases h : i < 16
  · rw [if_pos h, if_pos h]
  · rw [if_neg h, if_neg (by omega), if_neg (by omega)]; exact congrArg f (by omega)

theorem pad_mid (f : ℕ → ℝ) (i : ℕ) (h : ¬ i < 16) (h' : i < 128) : pad f i = 0 := by
  unfold pad; rw [if_neg h, if_pos h']

theorem seen_pd (i j : ℕ) : seen (pd i) (pd j) ↔ j ≤ i := by
  unfold seen pd; split <;> split <;> omega

/-- A function that vanishes on the padding sums to its sum over the arguments' rows. -/
theorem sum_pad (f : ℕ → ℝ) (h : ∀ i, ¬ i < 16 → i < 128 → f i = 0) :
    ∑ i ∈ Finset.range 2176, f i = ∑ i ∈ Finset.range 2064, f (pd i) := by
  rw [show 2176 = 16 + 112 + 2048 from rfl, show 2064 = 16 + 2048 from rfl, Finset.sum_range_add, Finset.sum_range_add,
    Finset.sum_range_add (fun i => f (pd i))]
  have e1 : ∑ i ∈ Finset.range 112, f (16 + i) = 0 :=
    Finset.sum_eq_zero fun i hi => h _ (by omega) (by have := Finset.mem_range.mp hi; omega)
  rw [e1, add_zero]
  refine congrArg₂ (· + ·) ?_ ?_
  · refine Finset.sum_congr rfl fun i hi => ?_
    rw [pd, if_pos (Finset.mem_range.mp hi)]
  · refine Finset.sum_congr rfl fun i hi => ?_
    rw [pd, if_neg (by omega)]; exact congrArg f (by omega)

/-- A row is an argument's row or padding. -/
theorem pd_or (i : ℕ) (hi : i < 2176) : (∃ i', i' < 2064 ∧ i = pd i') ∨ (¬ i < 16 ∧ i < 128) := by
  by_cases h : i < 16
  · exact .inl ⟨i, by omega, by rw [pd, if_pos h]⟩
  · by_cases h' : i < 128
    · exact .inr ⟨h, h'⟩
    · exact .inl ⟨i - 112, by omega, by rw [pd, if_neg (by omega)]; omega⟩

/-- What a grid step of example `b` and head pair `h` reads. -/
def Args.step (A : Args) (b h : ℕ) : Dat where
  Q i d := pad (fun i => A.q b i (128 * h + d)) i
  K i d := pad (fun i => A.k b i (128 * h + d)) i
  W i d := pad (fun i => A.v b i (128 * h + d)) i
  O i d := pad (fun i => A.o b i (128 * h + d)) i
  ct e i := pad (A.c b (2 * h + e)) i
  cr e i := pad (A.c b (2 * h + min e 1)) i

section step
variable (A : Args) (b h e : ℕ) (he : e < 2)
include he

/-- A sum over the lanes of head `e`. -/
theorem sum_lane (X Y : ℕ → ℝ) : ∑ d ∈ Finset.range 128, (if lane e d then X d else 0) * Y d
    = ∑ d ∈ Finset.range 64, X (64 * e + d) * Y (64 * e + d) := by
  rw [show 128 = 64 + 64 from rfl, Finset.sum_range_add (fun d => (if lane e d then X d else 0) * Y d)]
  rcases (by omega : e = 0 ∨ e = 1) with rfl | rfl
  · rw [Finset.sum_eq_zero (s := Finset.range 64) (f := fun x => (if lane 0 (64 + x) then X (64 + x) else 0) * Y (64 + x))
      (fun d hd => by rw [if_neg (by unfold lane; omega), zero_mul]), add_zero]
    refine Finset.sum_congr rfl fun d hd => ?_
    rw [if_pos (by have := Finset.mem_range.mp hd; unfold lane; omega)]; simp
  · rw [Finset.sum_eq_zero (s := Finset.range 64) (f := fun x => (if lane 1 x then X x else 0) * Y x)
      (fun d hd => by rw [if_neg (by have := Finset.mem_range.mp hd; unfold lane; omega), zero_mul]), zero_add]
    refine Finset.sum_congr rfl fun d hd => ?_
    rw [if_pos (by unfold lane; omega)]

theorem col (d : ℕ) : 128 * h + (64 * e + d) = 64 * (2 * h + e) + d := by ring

theorem step_s (i j : ℕ) : (A.step b h).s e (pd i) (pd j) = A.s b (2 * h + e) i j := by
  unfold Dat.s Args.s Dat.ln
  rw [sum_lane e he]
  simp only [Args.step, pad_pd, col h e he, Nat.min_eq_left (Nat.le_of_lt_succ he)]

theorem step_den (i : ℕ) : (A.step b h).den e (pd i) = A.den b (2 * h + e) i := by
  unfold Dat.den Args.den
  rw [sum_pad _ (fun j h1 h2 => if_neg (by unfold seen; omega))]
  refine Finset.sum_congr rfl fun j _ => ?_
  rw [step_s A b h e he]
  exact if_congr (seen_pd i j) rfl rfl

theorem step_P (i j : ℕ) : (A.step b h).P e (pd i) (pd j) = A.P b (2 * h + e) i j := by
  unfold Dat.P Args.P
  rw [step_s A b h e he, step_den A b h e he]
  exact if_congr (seen_pd i j) rfl rfl

omit he in
theorem P_mid (D : Dat) (i j : ℕ) (h1 : ¬ j < 16) (h2 : j < 128) : D.P e i j = 0 := by
  unfold Dat.P; rw [if_neg]; unfold seen; omega

theorem step_dp (i j : ℕ) : (A.step b h).dp e (pd i) (pd j) = A.dp b (2 * h + e) i j := by
  unfold Dat.dp Args.dp Dat.ln
  rw [sum_lane e he]
  simp only [Args.step, pad_pd, col h e he]

theorem step_dl (i : ℕ) : (A.step b h).dl e (pd i) = A.dl b (2 * h + e) i := by
  unfold Dat.dl Args.dl
  rw [sum_pad _ (fun j h1 h2 => by rw [P_mid e _ _ _ h1 h2, zero_mul])]
  refine Finset.sum_congr rfl fun j _ => ?_
  rw [step_P A b h e he, step_dp A b h e he]

theorem step_ds (i j : ℕ) : (A.step b h).ds e (pd i) (pd j) = A.ds b (2 * h + e) i j := by
  unfold Dat.ds Args.ds
  rw [step_P A b h e he, step_dp A b h e he, step_dl A b h e he]

omit he in
theorem ds_mid (D : Dat) (i j : ℕ) (h1 : ¬ j < 16) (h2 : j < 128) : D.ds e i j = 0 := by
  unfold Dat.ds; rw [P_mid e D i j h1 h2, zero_mul]

omit he in
theorem o_mid (i d : ℕ) (h1 : ¬ i < 16) (h2 : i < 128) : Dat.ln (A.step b h).O e i d = 0 := by
  unfold Dat.ln; split
  · exact pad_mid (fun i => A.o b i (128 * h + d)) i h1 h2
  · rfl

omit he in
/-- The result gradient is zero on a padded query row, so its score gradients are. -/
theorem ds_row (i j : ℕ) (h1 : ¬ i < 16) (h2 : i < 128) : (A.step b h).ds e i j = 0 := by
  have hd : ∀ j, (A.step b h).dp e i j = 0 := fun j =>
    Finset.sum_eq_zero fun d _ => by rw [o_mid A b h e i d h1 h2, zero_mul]
  unfold Dat.ds Dat.dl
  simp only [hd, mul_zero, Finset.sum_const_zero, sub_zero]

/-- The query gradient of a grid step. -/
theorem step_dq (i d : ℕ) (hi : i < 2176) :
    (A.step b h).dq e i (64 * e + d) = pad (fun i => A.dq b (2 * h + e) i d) i := by
  rcases pd_or i hi with ⟨i', -, rfl⟩ | ⟨h1, h2⟩
  · rw [pad_pd]
    unfold Dat.dq Args.dq
    rw [sum_pad _ (fun j h1 h2 => by rw [ds_mid e _ _ _ h1 h2, zero_mul])]
    congr 1
    refine Finset.sum_congr rfl fun j _ => ?_
    rw [step_ds A b h e he]
    simp only [Args.step, pad_pd, col h e he]
  · rw [pad_mid _ _ h1 h2]
    unfold Dat.dq
    rw [Finset.sum_eq_zero fun j _ => by rw [ds_row A b h e i j h1 h2, zero_mul], zero_mul]

/-- The key bias gradient of a grid step. -/
theorem step_dc (j : ℕ) (hj : j < 2176) : -(A.step b h).sumC e 9 j = pad (A.dc b (2 * h + e)) j := by
  rw [Dat.sumC_eq]
  rcases pd_or j hj with ⟨j', -, rfl⟩ | ⟨h1, h2⟩
  · rw [pad_pd, sum_pad _ (fun i h1 h2 => ds_row A b h e i _ h1 h2)]
    unfold Args.dc
    simp only [step_ds A b h e he]
  · rw [pad_mid _ _ h1 h2, Finset.sum_eq_zero fun i _ => ds_mid e _ i j h1 h2, neg_zero]

omit he in
theorem ln_own (he : e < 2) (X : ℕ → ℕ → ℝ) (i d : ℕ) (hd : d < 64) : Dat.ln X e i (64 * e + d) = X i (64 * e + d) := by
  unfold Dat.ln; rw [if_pos]; unfold lane; omega
omit he in
theorem ln_other (he : e < 2) (X : ℕ → ℕ → ℝ) (i d : ℕ) (hd : d < 64) : Dat.ln X (1 - e) i (64 * e + d) = 0 := by
  unfold Dat.ln; rw [if_neg]; unfold lane; omega

omit he in
theorem both (he : e < 2) (f : ℕ → ℕ → ℝ) (X : ℕ → ℕ → ℝ) (i d : ℕ) (hd : d < 64) :
    f 0 i * Dat.ln X 0 i (64 * e + d) + f 1 i * Dat.ln X 1 i (64 * e + d) = f e i * X i (64 * e + d) := by
  have h1 := ln_own e he X i d hd
  have h2 := ln_other e he X i d hd
  rcases (by omega : e = 0 ∨ e = 1) with rfl | rfl
  · have h2' : Dat.ln X 1 i (64 * 0 + d) = 0 := h2
    rw [h1, h2', mul_zero (f 1 i), add_zero]
  · have h2' : Dat.ln X 0 i (64 * 1 + d) = 0 := h2
    rw [h1, h2', mul_zero (f 0 i), zero_add]

/-- The key gradient of a grid step. -/
theorem step_dk (j d : ℕ) (hj : j < 2176) (hd : d < 64) :
    (A.step b h).sumK 18 j (64 * e + d) = pad (fun j => A.dk b (2 * h + e) j d) j := by
  rw [Dat.sumK_eq]
  rw [Finset.sum_congr rfl fun i _ => both e he (fun e i => (A.step b h).ds e i j) (A.step b h).Q i d hd]
  rcases pd_or j hj with ⟨j', -, rfl⟩ | ⟨h1, h2⟩
  · rw [pad_pd, sum_pad _ (fun i h1 h2 => by rw [ds_row A b h e i _ h1 h2, zero_mul])]
    unfold Args.dk
    congr 1
    refine Finset.sum_congr rfl fun i _ => ?_
    rw [step_ds A b h e he]
    simp only [Args.step, pad_pd, col h e he]
  · rw [pad_mid _ _ h1 h2, Finset.sum_eq_zero fun i _ => by rw [ds_mid e _ i j h1 h2, zero_mul], zero_mul]

/-- The value gradient of a grid step. -/
theorem step_dv (j d : ℕ) (hj : j < 2176) (hd : d < 64) :
    (A.step b h).sumV 18 j (64 * e + d) = pad (fun j => A.dv b (2 * h + e) j d) j := by
  rw [Dat.sumV_eq]
  rw [Finset.sum_congr rfl fun i _ => both e he (fun e i => (A.step b h).P e i j) (A.step b h).O i d hd]
  rcases pd_or j hj with ⟨j', -, rfl⟩ | ⟨h1, h2⟩
  · rw [pad_pd, sum_pad _ (fun i h1 h2 => by
      rw [show (A.step b h).O i (64 * e + d) = 0 from pad_mid (fun i => A.o b i (128 * h + (64 * e + d))) i h1 h2, mul_zero])]
    unfold Args.dv
    refine Finset.sum_congr rfl fun i _ => ?_
    rw [step_P A b h e he]
    simp only [Args.step, pad_pd, col h e he]
  · rw [pad_mid _ _ h1 h2]
    exact Finset.sum_eq_zero fun i _ => by rw [P_mid e _ i j h1 h2, zero_mul]
end step

end Fox
-- ==== Proof.Rows.lean ====
/- The host's padding of rows and of gates read at an index: the arguments' rows with zero rows put in. -/
module

public import proofs.«01_k».proof.Proof.Heads
public import Idealize.ShloMosaic.Lib.Pipeline.Value

@[expose] public section

noncomputable section

namespace Fox

open Idealize.ShloMosaic Idealize.ShloMosaic.ValueIdx BigOperators

abbrev S3 (a b c : ℕ) : Shape := ⟨3, ![a, b, c]⟩

/-- Rows of zeros put in after the sixteenth row of each example, the examples then laid one below the other. -/
theorem padRows_apply {φ : FTy} (X : FVec Ideal (S3 4 2064 512) φ) (Z : FVec Ideal (S3 4 112 512) φ)
    (hZ : ∀ i, Z i = ((0 : ℝ) : EReal)) {f : ℕ → ℕ → ℕ → ℝ}
    (hX : ∀ (b : Fin 4) (i : Fin 2064) (d : Fin 512), X (ix3 b i d) = (f b i d : EReal))
    (h1 : (S3 4 2064 512).Slices ![0, 0, 0] (S3 4 16 512)) (h2 : (S3 4 2064 512).Slices ![0, 16, 0] (S3 4 2048 512))
    (hc : Shape.Concatenates [S3 4 16 512, S3 4 112 512, S3 4 2048 512] (S3 4 2176 512) 1)
    (hs : (S3 4 2176 512).ShapeCasts (S2 8704 512)) (r : Fin 8704) (x : Fin 512) :
    shapeCast (S2 8704 512) (concatenate (S3 4 2176 512) 1
      [⟨S3 4 16 512, extractStridedSlice (S3 4 16 512) ![0, 0, 0] X h1⟩, ⟨S3 4 112 512, Z⟩,
       ⟨S3 4 2048 512, extractStridedSlice (S3 4 2048 512) ![0, 16, 0] X h2⟩] hc) hs (ix2 r x)
      = ((pad (fun i => f (r.val / 2176) i x) (r.val % 2176) : ℝ) : EReal) := by
  have hr := r.isLt
  let b : Fin 4 := ⟨r.val / 2176, by omega⟩
  let i : Fin 2176 := ⟨r.val % 2176, Nat.mod_lt _ (by omega)⟩
  refine (shapeCast_apply _ hs (ix2 r x) (ix3 b i x) ?_).trans ?_
  · rw [Shape.rowMajor_val_three, Shape.rowMajor_val_two]
    show (r.val / 2176 * 2176 + r.val % 2176) * 512 + x.val = r.val * 512 + x.val
    omega
  let L : List ((s : Shape) × (s.Idx → Ideal φ)) :=
    [⟨S3 4 16 512, extractStridedSlice (S3 4 16 512) ![0, 0, 0] X h1⟩, ⟨S3 4 112 512, Z⟩,
       ⟨S3 4 2048 512, extractStridedSlice (S3 4 2048 512) ![0, 16, 0] X h2⟩]
  have hi : i.val < 2176 := i.isLt
  show concatenate (S3 4 2176 512) 1 L hc (ix3 b i x) = ((pad (fun i => f b.val i x) i.val : ℝ) : EReal)
  clear_value b i
  unfold pad
  by_cases c1 : i.val < 16
  · rw [if_pos c1]
    refine (concatenate_apply_piece (t := S3 4 2176 512) (1 : Fin 3) L hc (ix3 b i x) 0 (by simp [L]) (S3 4 16 512) _ rfl rfl 0 rfl
      (ix3 b ⟨i.val, c1⟩ x) (fun a ha => match a with | ⟨0, _⟩ => rfl | ⟨1, _⟩ => absurd rfl ha | ⟨2, _⟩ => rfl) (Nat.zero_add _)).trans ?_
    refine (extractStridedSlice_apply _ X h1 _ (ix3 b ⟨i.val, by omega⟩ x) (fun a => ?_)).trans (hX _ _ _)
    match a with
    | ⟨0, _⟩ => exact (Nat.zero_add _).symm
    | ⟨1, _⟩ => exact (Nat.zero_add _).symm
    | ⟨2, _⟩ => exact (Nat.zero_add _).symm
  · rw [if_neg c1]
    by_cases c2 : i.val < 128
    · rw [if_pos c2]
      exact (concatenate_apply_piece (t := S3 4 2176 512) (1 : Fin 3) L hc (ix3 b i x) 1 (by simp [L]) (S3 4 112 512) _ rfl rfl 16 rfl
        (ix3 b ⟨i.val - 16, by omega⟩ x) (fun a ha => match a with | ⟨0, _⟩ => rfl | ⟨1, _⟩ => absurd rfl ha | ⟨2, _⟩ => rfl)
        (by show 16 + (i.val - 16) = i.val; omega)).trans (hZ _)
    · rw [if_neg c2]
      refine (concatenate_apply_piece (t := S3 4 2176 512) (1 : Fin 3) L hc (ix3 b i x) 2 (by simp [L]) (S3 4 2048 512) _ rfl rfl (16 + (112 + 0)) rfl
        (ix3 b ⟨i.val - 128, by omega⟩ x) (fun a ha => match a with | ⟨0, _⟩ => rfl | ⟨1, _⟩ => absurd rfl ha | ⟨2, _⟩ => rfl)
        (by show 16 + (112 + 0) + (i.val - 128) = i.val; omega)).trans ?_
      refine (extractStridedSlice_apply _ X h2 _ (ix3 b ⟨i.val - 112, by omega⟩ x) (fun a => ?_)).trans (hX _ _ _)
      match a with
      | ⟨0, _⟩ => exact (Nat.zero_add _).symm
      | ⟨1, _⟩ => show i.val - 112 = 16 + (i.val - 128); omega
      | ⟨2, _⟩ => exact (Nat.zero_add _).symm

/-- Zeros put in after the sixteenth entry along the last axis. -/
theorem padLast_apply {φ : FTy} (X : FVec Ideal (S3 4 8 2064) φ) (Z : FVec Ideal (S3 4 8 112) φ)
    (hZ : ∀ i, Z i = ((0 : ℝ) : EReal)) {f : ℕ → ℕ → ℕ → ℝ}
    (hX : ∀ (b : Fin 4) (n : Fin 8) (i : Fin 2064), X (ix3 b n i) = (f b n i : EReal))
    (h1 : (S3 4 8 2064).Slices ![0, 0, 0] (S3 4 8 16)) (h2 : (S3 4 8 2064).Slices ![0, 0, 16] (S3 4 8 2048))
    (hc : Shape.Concatenates [S3 4 8 16, S3 4 8 112, S3 4 8 2048] (S3 4 8 2176) 2)
    (b : Fin 4) (n : Fin 8) (i : Fin 2176) :
    concatenate (S3 4 8 2176) 2
      [⟨S3 4 8 16, extractStridedSlice (S3 4 8 16) ![0, 0, 0] X h1⟩, ⟨S3 4 8 112, Z⟩,
       ⟨S3 4 8 2048, extractStridedSlice (S3 4 8 2048) ![0, 0, 16] X h2⟩] hc (ix3 b n i)
      = ((pad (f b n) i : ℝ) : EReal) := by
  have hi : i.val < 2176 := i.isLt
  let L : List ((s : Shape) × (s.Idx → Ideal φ)) :=
    [⟨S3 4 8 16, extractStridedSlice (S3 4 8 16) ![0, 0, 0] X h1⟩, ⟨S3 4 8 112, Z⟩,
       ⟨S3 4 8 2048, extractStridedSlice (S3 4 8 2048) ![0, 0, 16] X h2⟩]
  show concatenate (S3 4 8 2176) 2 L hc (ix3 b n i) = _
  unfold pad
  by_cases c1 : i.val < 16
  · rw [if_pos c1]
    refine (concatenate_apply_piece (t := S3 4 8 2176) (2 : Fin 3) L hc (ix3 b n i) 0 (by simp [L]) (S3 4 8 16) _ rfl rfl 0 rfl
      (ix3 b n ⟨i.val, c1⟩) (fun a ha => match a with | ⟨0, _⟩ => rfl | ⟨1, _⟩ => rfl | ⟨2, _⟩ => absurd rfl ha) (Nat.zero_add _)).trans ?_
    refine (extractStridedSlice_apply _ X h1 _ (ix3 b n ⟨i.val, by omega⟩) (fun a => ?_)).trans (hX _ _ _)
    match a with
    | ⟨0, _⟩ => exact (Nat.zero_add _).symm
    | ⟨1, _⟩ => exact (Nat.zero_add _).symm
    | ⟨2, _⟩ => exact (Nat.zero_add _).symm
  · rw [if_neg c1]
    by_cases c2 : i.val < 128
    · rw [if_pos c2]
      exact (concatenate_apply_piece (t := S3 4 8 2176) (2 : Fin 3) L hc (ix3 b n i) 1 (by simp [L]) (S3 4 8 112) _ rfl rfl 16 rfl
        (ix3 b n ⟨i.val - 16, by omega⟩) (fun a ha => match a with | ⟨0, _⟩ => rfl | ⟨1, _⟩ => rfl | ⟨2, _⟩ => absurd rfl ha)
        (by show 16 + (i.val - 16) = i.val; omega)).trans (hZ _)
    · rw [if_neg c2]
      refine (concatenate_apply_piece (t := S3 4 8 2176) (2 : Fin 3) L hc (ix3 b n i) 2 (by simp [L]) (S3 4 8 2048) _ rfl rfl (16 + (112 + 0)) rfl
        (ix3 b n ⟨i.val - 128, by omega⟩) (fun a ha => match a with | ⟨0, _⟩ => rfl | ⟨1, _⟩ => rfl | ⟨2, _⟩ => absurd rfl ha)
        (by show 16 + (112 + 0) + (i.val - 128) = i.val; omega)).trans ?_
      refine (extractStridedSlice_apply _ X h2 _ (ix3 b n ⟨i.val - 112, by omega⟩) (fun a => ?_)).trans (hX _ _ _)
      match a with
      | ⟨0, _⟩ => exact (Nat.zero_add _).symm
      | ⟨1, _⟩ => exact (Nat.zero_add _).symm
      | ⟨2, _⟩ => show i.val - 112 = 16 + (i.val - 128); omega

/-- The array of all rows, padded, of a quantity given by example, head, row and column of the head. -/
def rowsOf (f : ℕ → ℕ → ℕ → ℕ → ℝ) : FVec Ideal (S2 8704 512) .f32 := fun y =>
  ((pad (fun i => f ((y (0 : Fin 2)).val / 2176) ((y (1 : Fin 2)).val / 64) i ((y (1 : Fin 2)).val % 64)) ((y (0 : Fin 2)).val % 2176) : ℝ) : EReal)

/-- The array, padded, of head `e` of each pair, of a quantity given by example, head and row. -/
def gatesOf (f : ℕ → ℕ → ℕ → ℝ) (e : ℕ) : FVec Ideal (S3 16 1 2176) .f32 := fun y =>
  ((pad (f ((y (0 : Fin 3)).val / 4) (2 * ((y (0 : Fin 3)).val % 4) + e)) (y (2 : Fin 3)).val : ℝ) : EReal)

end Fox
-- ==== Proof.Plain.lean ====
/- The reference's results over real arguments: the gradients of the attention, in plain real numbers. -/
module

public import proofs.«01_k».proof.Proof.Rows
public import proofs.«01_k».proof.Proof.Gen.ReferenceIdeal.Read
public import Idealize.ShloMosaic.Lib.KernelVsHost

@[expose] public section

set_option maxRecDepth 16384
set_option maxHeartbeats 1000000

noncomputable section

namespace Fox.Plain

open Cert.ReferenceIdeal Cert.ReferenceIdeal.Read Idealize.ShloMosaic Idealize.ShloMosaic.ValueIdx
open scoped BigOperators

abbrev S4 (a b c d : ℕ) : Shape := ⟨4, ![a, b, c, d]⟩

theorem ext3 {a b c : ℕ} {x y : (S3 a b c).Idx} (h0 : x (0 : Fin 3) = y (0 : Fin 3)) (h1 : x (1 : Fin 3) = y (1 : Fin 3))
    (h2 : x (2 : Fin 3) = y (2 : Fin 3)) : x = y :=
  funext fun a => match a with | ⟨0, _⟩ => h0 | ⟨1, _⟩ => h1 | ⟨2, _⟩ => h2

theorem ext4 {a b c d : ℕ} {x y : (S4 a b c d).Idx} (h0 : x (0 : Fin 4) = y (0 : Fin 4)) (h1 : x (1 : Fin 4) = y (1 : Fin 4))
    (h2 : x (2 : Fin 4) = y (2 : Fin 4)) (h3 : x (3 : Fin 4) = y (3 : Fin 4)) : x = y :=
  funext fun a => match a with | ⟨0, _⟩ => h0 | ⟨1, _⟩ => h1 | ⟨2, _⟩ => h2 | ⟨3, _⟩ => h3

/-- Columns taken apart into heads. -/
theorem heads_apply {α : Type} (X : (S3 4 2064 512).Idx → α) (h : (S3 4 2064 512).ShapeCasts (S4 4 2064 8 64))
    (h' : (S4 4 2064 8 64).Transposes [0, 2, 1, 3] (S4 4 8 2064 64)) (b : Fin 4) (n : Fin 8) (i : Fin 2064) (d : Fin 64) :
    transpose (S4 4 8 2064 64) [0, 2, 1, 3] (shapeCast (S4 4 2064 8 64) X h) h' (ix4 b n i d)
      = X (ix3 b i ⟨64 * n.val + d.val, by omega⟩) := by
  refine (transpose_apply _ _ _ _ (ix4 b i n d) (fun a => ?_)).trans ?_
  · match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_three]
  show (b.val * 2064 + i.val) * 512 + (64 * n.val + d.val) = ((b.val * 2064 + i.val) * 8 + n.val) * 64 + d.val
  omega

/-- Heads put side by side. -/
theorem unheads_apply {α : Type} (Y : (S4 4 8 2064 64).Idx → α) (h : (S4 4 2064 8 64).ShapeCasts (S3 4 2064 512))
    (h' : (S4 4 8 2064 64).Transposes [0, 2, 1, 3] (S4 4 2064 8 64)) (b : Fin 4) (i : Fin 2064) (x : Fin 512) :
    shapeCast (S3 4 2064 512) (transpose (S4 4 2064 8 64) [0, 2, 1, 3] Y h') h (ix3 b i x)
      = Y (ix4 b ⟨x.val / 64, by omega⟩ i ⟨x.val % 64, Nat.mod_lt _ (by omega)⟩) := by
  refine (shapeCast_apply _ _ _ (ix4 b i ⟨x.val / 64, by omega⟩ ⟨x.val % 64, Nat.mod_lt _ (by omega)⟩) ?_).trans ?_
  · rw [Shape.rowMajor_val_four, Shape.rowMajor_val_three]
    show ((b.val * 2064 + i.val) * 8 + x.val / 64) * 64 + x.val % 64 = (b.val * 2064 + i.val) * 512 + x.val
    omega
  refine transpose_apply _ _ _ _ _ (fun a => ?_)
  match a with
  | ⟨0, _⟩ => rfl
  | ⟨1, _⟩ => rfl
  | ⟨2, _⟩ => rfl
  | ⟨3, _⟩ => rfl

/-- A unit axis put in last, and put in last but one. -/
theorem unitLast_apply {α : Type} (X : (S3 4 8 2064).Idx → α) (h : (S3 4 8 2064).ShapeCasts (S4 4 8 2064 1)) (b : Fin 4) (n : Fin 8)
    (i : Fin 2064) (z : Fin 1) : shapeCast (S4 4 8 2064 1) X h (ix4 b n i z) = X (ix3 b n i) := by
  refine shapeCast_apply _ _ _ _ ?_
  rw [Shape.rowMajor_val_four, Shape.rowMajor_val_three]
  show (b.val * 8 + n.val) * 2064 + i.val = ((b.val * 8 + n.val) * 2064 + i.val) * 1 + z.val
  omega
theorem unitMid_apply {α : Type} (X : (S3 4 8 2064).Idx → α) (h : (S3 4 8 2064).ShapeCasts (S4 4 8 1 2064)) (b : Fin 4) (n : Fin 8)
    (i : Fin 2064) (z : Fin 1) : shapeCast (S4 4 8 1 2064) X h (ix4 b n z i) = X (ix3 b n i) := by
  refine shapeCast_apply _ _ _ _ ?_
  rw [Shape.rowMajor_val_four, Shape.rowMajor_val_three]
  show (b.val * 8 + n.val) * 2064 + i.val = ((b.val * 8 + n.val) * 1 + z.val) * 2064 + i.val
  omega

/-- A finite sum of real numbers, over the numbers below `n`. -/
theorem sum_real {n : ℕ} (f : ℕ → ℝ) : (∑ k : Fin n, ((f k.val : ℝ) : EReal)) = ((∑ k ∈ Finset.range n, f k : ℝ) : EReal) := by
  rw [coe_sum, Fin.sum_univ_eq_sum_range f n]

theorem sum_of {n : ℕ} (g : Fin n → EReal) (f : ℕ → ℝ) (hg : ∀ k : Fin n, g k = (f k.val : EReal)) :
    ∑ k : Fin n, g k = ((∑ k ∈ Finset.range n, f k : ℝ) : EReal) := by
  rw [Finset.sum_congr rfl fun k _ => hg k, sum_real f]

theorem neg_real (x : ℝ) : -(x : EReal) = ((-x : ℝ) : EReal) := (EReal.coe_neg x).symm

theorem div_real (x : ℝ) {y : ℝ} (hy : y ≠ 0) : Ideal.div (x : EReal) (y : EReal) = ((x / y : ℝ) : EReal) := by
  rw [Ideal.div, if_neg (by exact_mod_cast hy), div_eq_mul_inv, EReal.coe_mul, EReal.coe_inv]

theorem red4 : (S4 4 8 2064 2064).Reduces [3] (S3 4 8 2064) := by decide

theorem lift4 (b : Fin 4) (n : Fin 8) (i k : Fin 2064) : red4.lift (ix3 b n i) k = ix4 b n i k := by
  funext a; apply Fin.ext
  match a with
  | ⟨0, _⟩ => rfl
  | ⟨1, _⟩ => rfl
  | ⟨2, _⟩ => rfl
  | ⟨3, _⟩ => rfl

/-- The host's maximum over the last axis, from minus infinity. -/
theorem rowMax4 {u : Shape} (x : FVec Ideal (S4 4 8 2064 2064) .f32) (h : (S4 4 8 2064 2064).ReducesTo [3] (S3 4 8 2064)) (hu : 0 < u.numel)
    (b : Fin 4) (n : Fin 8) (i : Fin 2064) :
    Host.reduce FloatOps.maximumf x (constant u .f32 0xFF800000#32) h hu (ix3 b n i)
      = (Finset.univ : Finset (Fin 2064)).fold max ⊥ (fun k => x (ix4 b n i k)) := by
  refine (congrFun (hostReduce_maximumf_eq_multiReduction x 0xFF800000#32 h hu red4 fmtF accMax) _).trans ?_
  refine (Ideal.multiReduction_maximumf_single x _ red4 fmtF accMax (ix3 b n i)).trans ?_
  rw [negInfF]
  exact congrArg (Finset.fold max ⊥ · Finset.univ) (funext fun k => congrArg x (lift4 b n i k))

/-- The five arguments hold the numbers of `A`. -/
structure Holds (A : Args) (X0 X1 X2 : FVec Ideal (S3 4 2064 512) .bf16) (X3 : FVec Ideal (S3 4 8 2064) .f32)
    (X4 : FVec Ideal (S3 4 2064 512) .bf16) : Prop where
  q : ∀ (b : Fin 4) (i : Fin 2064) (d : Fin 512), X0 (ix3 b i d) = (A.q b i d : EReal)
  k : ∀ (b : Fin 4) (i : Fin 2064) (d : Fin 512), X1 (ix3 b i d) = (A.k b i d : EReal)
  v : ∀ (b : Fin 4) (i : Fin 2064) (d : Fin 512), X2 (ix3 b i d) = (A.v b i d : EReal)
  c : ∀ (b : Fin 4) (n : Fin 8) (i : Fin 2064), X3 (ix3 b n i) = (A.c b n i : EReal)
  o : ∀ (b : Fin 4) (i : Fin 2064) (d : Fin 512), X4 (ix3 b i d) = (A.o b i d : EReal)

variable {A : Args} {x0 x1 x2 : FVec Ideal (S3 4 2064 512) .bf16} {x3 : FVec Ideal (S3 4 8 2064) .f32}
  {x4 : FVec Ideal (S3 4 2064 512) .bf16} (H : Holds A x0 x1 x2 x3 x4)
variable (b : Fin 4) (n : Fin 8) (i j : Fin 2064) (d : Fin 64)
include H

theorem r4 : val_main_v4 (F := Ideal) x0 (ix4 b n i d) = (A.q b i (64 * n.val + d.val) : EReal) := by
  unfold val_main_v4 val_main_v3 val_main_v0
  exact (heads_apply _ _ _ b n i d).trans (H.q _ _ _)
theorem r6 : val_main_v6 (F := Ideal) x1 (ix4 b n i d) = (A.k b i (64 * n.val + d.val) : EReal) := by
  unfold val_main_v6 val_main_v5 val_main_v1
  exact (heads_apply _ _ _ b n i d).trans (H.k _ _ _)
theorem r8 : val_main_v8 (F := Ideal) x2 (ix4 b n i d) = (A.v b i (64 * n.val + d.val) : EReal) := by
  unfold val_main_v8 val_main_v7 val_main_v2
  exact (heads_apply _ _ _ b n i d).trans (H.v _ _ _)
theorem r59 : val_main_v59 (F := Ideal) x4 (ix4 b n i d) = (A.o b i (64 * n.val + d.val) : EReal) := by
  unfold val_main_v59 val_main_v58 val_main_v57
  exact (heads_apply _ _ _ b n i d).trans (H.o _ _ _)

theorem r17 : val_main_v17 (F := Ideal) x0 x1 x3 (ix4 b n i j) = (A.s b n i j : EReal) := by
  have e9 : val_main_v9 (F := Ideal) x0 x1 (ix4 b n i j)
      = ((∑ d ∈ Finset.range 64, A.q b i (64 * n.val + d) * A.k b j (64 * n.val + d) : ℝ) : EReal) := by
    refine (val_main_v9_apply x0 x1 _).trans ?_
    show ∑ k : Fin 64, val_main_v4 (F := Ideal) x0 (ix4 b n i k) * val_main_v6 (F := Ideal) x1 (ix4 b n j k) = _
    simp only [r4 H, r6 H, ← EReal.coe_mul]
    exact sum_real fun d => A.q b i (64 * n.val + d) * A.k b j (64 * n.val + d)
  rw [val_main_v17_apply, val_main_v16_apply, val_main_v15_apply, val_main_v14_apply, val_main_v13_apply, val_main_v12_apply,
    val_main_v11_apply, val_main_v10_apply, val_main_cst_apply, e9]
  have e1 : idx_main_v12 (idx_main_v13 (ix4 b n i j)) = ix3 b n i := ext3 rfl rfl rfl
  have e2 : idx_main_v15 (idx_main_v16 (ix4 b n i j)) = ix3 b n j := ext3 rfl rfl rfl
  rw [e1, e2]
  show ((_ : EReal) * (FloatOps.ofBits .f32 0x3E000000#32 : Ideal .f32) + (x3 (ix3 b n i) : EReal)) - (x3 (ix3 b n j) : EReal) = _
  rw [eighthF, H.c, H.c, ← EReal.coe_mul, ← EReal.coe_add, ← EReal.coe_sub]
  rfl

omit H in
theorem r24 {α : Type} (x y : α) : Scalar.select (val_main_v25_1 (F := Ideal) (ix4 b n i j)) x y = if j.val ≤ i.val then x else y := by
  rw [val_main_v25_1_apply, val_main_v24_apply, val_main_v22_apply, val_main_v23_apply, val_main_v19_apply, val_main_v21_apply,
    val_main_v18_apply, val_main_v20_apply]
  show Scalar.select (BitVec.ofBool ((BitVec.ofNat 32 j.val).sle (BitVec.ofNat 32 i.val))) x y = _
  rw [sle_ofNat (by omega) (by omega)]
  exact sel_ofBool _ _ _

theorem r25 : val_main_v25_0 (F := Ideal) x0 x1 x3 (ix4 b n i j) = if j.val ≤ i.val then (A.s b n i j : EReal) else ⊥ := by
  rw [val_main_v25_0_apply, r24, r17 H, val_main_call0_v2_apply]
  show (if _ then _ else FloatOps.ofBits .f32 0xFF800000#32) = _
  rw [negInfF]

theorem r33 : ∃ M : ℝ, val_main_v33 (F := Ideal) x0 x1 x3 (ix3 b n i) = (M : EReal) := by
  obtain ⟨M, hM⟩ := fold_max_real (fun k : Fin 2064 => val_main_v25_0 (F := Ideal) x0 x1 x3 (ix4 b n i k)) (fun k => by
    show val_main_v25_0 (F := Ideal) x0 x1 x3 (ix4 b n i k) ≠ ⊤
    rw [r25 H]; split
    · exact EReal.coe_ne_top _
    · exact bot_ne_top) i (by
    show val_main_v25_0 (F := Ideal) x0 x1 x3 (ix4 b n i i) ≠ ⊥
    rw [r25 H, if_pos (le_refl _)]; exact EReal.coe_ne_bot _)
  refine ⟨M, ?_⟩
  have e26 : val_main_v26 (F := Ideal) x0 x1 x3 (ix3 b n i) = (M : EReal) := by
    unfold val_main_v26 val_main_cst_1
    exact (rowMax4 _ _ _ b n i).trans hM
  rw [val_main_v33_apply, val_main_v32_apply, val_main_cst_3_apply, e26]
  show max (FloatOps.ofBits .f32 0xFF800000#32 : Ideal .f32) (M : EReal) = _
  rw [negInfF]; exact max_eq_right bot_le

/-- The exponentials less the row's maximum. -/
theorem r46 : ∃ M : ℝ, ∀ j : Fin 2064, val_main_v46 (F := Ideal) x0 x1 x3 (ix4 b n i j)
    = ((if j.val ≤ i.val then Real.exp (A.s b n i j) * Real.exp (-M) else 0 : ℝ) : EReal) := by
  obtain ⟨M, hM⟩ := r33 H b n i
  refine ⟨M, fun j => ?_⟩
  rw [val_main_v46_apply, val_main_v45_apply, val_main_v44_apply, val_main_v43_apply, r25 H]
  have e : idx_main_v43 (idx_main_v44 (ix4 b n i j)) = ix3 b n i := ext3 rfl rfl rfl
  rw [e, hM]
  show Ideal.exp ((if _ then _ else _ : EReal) - (M : EReal)) = _
  by_cases h : j.val ≤ i.val
  · rw [if_pos h, if_pos h, ← EReal.coe_sub, ← Real.exp_add, ← sub_eq_add_neg]
    rfl
  · rw [if_neg h, if_neg h, EReal.bot_sub]
    rfl

omit H in
theorem zero_add_real {φ : FTy} (z : EReal) (hz : z = 0) {n : ℕ} (g : Fin n → EReal) (f : ℕ → ℝ) (hg : ∀ k : Fin n, g k = (f k.val : EReal)) :
    z + ∑ k : Fin n, g k = ((∑ k ∈ Finset.range n, f k : ℝ) : EReal) := by
  rw [hz, zero_add, Finset.sum_congr rfl fun k _ => hg k, sum_real f]

/-- The exponential at a place, less the row's maximum `M`, and the row's sum of them. -/
def E (A : Args) (M : ℝ) (b n i j : ℕ) : ℝ := if j ≤ i then Real.exp (A.s b n i j) * Real.exp (-M) else 0
def L (A : Args) (M : ℝ) (b n i : ℕ) : ℝ := A.den b n i * Real.exp (-M)

omit H in
theorem sum_E (M : ℝ) (b n i : ℕ) : ∑ j ∈ Finset.range 2064, E A M b n i j = L A M b n i := by
  unfold L Args.den
  rw [Finset.sum_mul]
  refine Finset.sum_congr rfl fun j _ => ?_
  unfold E; split
  · rfl
  · rw [zero_mul]

omit H in
theorem L_ne (M : ℝ) (b n i : ℕ) (hi : i < 2064) : L A M b n i ≠ 0 :=
  mul_ne_zero (A.den_pos b n i hi).ne' (Real.exp_ne_zero _)

omit H in
theorem E_div (M : ℝ) (b n i j : ℕ) : E A M b n i j / L A M b n i = A.P b n i j := by
  unfold E L Args.P; split
  · exact mul_div_mul_right _ _ (Real.exp_ne_zero _)
  · exact zero_div _

omit H in
theorem P_zero (b n i j : ℕ) (h : ¬ j ≤ i) : A.P b n i j = 0 := if_neg h

section Row
variable {M : ℝ} (hM : ∀ j : Fin 2064, val_main_v46 (F := Ideal) x0 x1 x3 (ix4 b n i j) = (E A M b n i j : EReal))
include hM

omit H in
theorem r47 : val_main_v47 (F := Ideal) x0 x1 x3 (ix3 b n i) = (L A M b n i : EReal) := by
  refine (val_main_v47_apply x0 x1 x3 _).trans ?_
  rw [← sum_E]
  refine zero_add_real (φ := .f32) _ zeroF _ (fun k => E A M b n i k) fun k => ?_
  have e : idx_main_v47 (ix3 b n i) k = ix4 b n i k := ext4 rfl rfl rfl rfl
  rw [e]; exact hM k

omit H in
theorem r48 (z : Fin 1) : val_main_v48 (F := Ideal) x0 x1 x3 (ix4 b n i z) = (L A M b n i : EReal) := by
  have e : idx_main_v48 (ix4 b n i z) = ix3 b n i := ext3 rfl rfl rfl
  rw [val_main_v48_apply, e]; exact r47 b n i hM

omit H in
theorem r50 : val_main_v50 (F := Ideal) x0 x1 x3 (ix4 b n i j) = (A.P b n i j : EReal) := by
  have e : idx_main_v49 (ix4 b n i j) = ix4 b n i 0 := ext4 rfl rfl rfl rfl
  rw [val_main_v50_apply, val_main_v49_apply, e, r48 b n i hM, hM j, ← E_div M]
  exact div_real _ (L_ne M b n i i.isLt)

theorem r62 : val_main_v62 (F := Ideal) x2 x4 (ix4 b n i j) = (A.dp b n i j : EReal) := by
  refine (val_main_v62_apply x2 x4 _).trans ?_
  show ∑ k : Fin 64, val_main_v59 (F := Ideal) x4 (ix4 b n i k) * val_main_v8 (F := Ideal) x2 (ix4 b n j k) = _
  simp only [r59 H, r8 H, ← EReal.coe_mul]
  exact sum_real fun d => A.o b i (64 * n.val + d) * A.v b j (64 * n.val + d)

theorem r65 : val_main_v65 (F := Ideal) x0 x1 x2 x3 x4 (ix4 b n i j) = (A.dp b n i j * (1 / (L A M b n i * L A M b n i)) * E A M b n i j : ℝ) := by
  have e : idx_main_v63 (ix4 b n i j) = ix4 b n i 0 := ext4 rfl rfl rfl rfl
  rw [val_main_v65_apply, val_main_v64_apply, val_main_v63_apply, e, val_main_v53_apply, val_main_v52_apply, val_main_v51_apply,
    r48 b n i hM, hM j, r62 H b n i j hM, val_main_cst_10_apply]
  show (_ : EReal) * Ideal.div (FloatOps.ofBits .f32 0x3F800000#32 : Ideal .f32) ((L A M b n i : EReal) * (L A M b n i : EReal)) * (_ : EReal) = _
  rw [oneF, ← EReal.coe_mul, ← EReal.coe_one, div_real _ (mul_ne_zero (L_ne M b n i i.isLt) (L_ne M b n i i.isLt)), ← EReal.coe_mul, ← EReal.coe_mul]

theorem r66 : val_main_v66 (F := Ideal) x0 x1 x2 x3 x4 (ix3 b n i) = (A.dl b n i / L A M b n i : ℝ) := by
  refine (val_main_v66_apply x0 x1 x2 x3 x4 _).trans ?_
  have h : A.dl b n i / L A M b n i = ∑ k ∈ Finset.range 2064, A.dp b n i k * (1 / (L A M b n i * L A M b n i)) * E A M b n i k := by
    unfold Args.dl
    rw [Finset.sum_div]
    refine Finset.sum_congr rfl fun k _ => ?_
    rw [← E_div M]
    have := L_ne (A := A) M b n i i.isLt
    field_simp
  rw [h]
  refine zero_add_real (φ := .f32) _ zeroF _ (fun k => A.dp b n i k * (1 / (L A M b n i * L A M b n i)) * E A M b n i k) fun k => ?_
  have e : idx_main_v66 (ix3 b n i) k = ix4 b n i k := ext4 rfl rfl rfl rfl
  rw [e]; exact r65 H b n i k hM

theorem r72 : val_main_v72 (F := Ideal) x0 x1 x2 x3 x4 (ix4 b n i j) = (-(A.dl b n i / L A M b n i) : ℝ) := by
  have e : idx_main_v72 (ix4 b n i j) = ix3 b n i := ext3 rfl rfl rfl
  rw [val_main_v72_apply, e]
  refine (val_main_v71_apply x0 x1 x2 x3 x4 _).trans ?_
  refine (zero_add_real (φ := .f32) _ zeroF _ (fun _ => -(A.dl b n i / L A M b n i)) fun k => ?_).trans ?_
  · have e1 : idx_main_v71 (ix3 b n i) k = ix4 b n i k := ext4 rfl rfl rfl rfl
    have e2 : val_main_v67 (F := Ideal) x0 x1 x2 x3 x4 (ix4 b n i k) = (A.dl b n i / L A M b n i : ℝ) := by
      unfold val_main_v67
      exact (unitLast_apply _ _ b n i k).trans (r66 H b n i hM)
    rw [e1, val_main_v68_apply, e2]
    exact neg_real _
  · rw [Finset.sum_range_one]

theorem r75' : val_main_v75 (F := Ideal) x0 x1 x2 x3 x4 (ix4 b n i j) = (A.ds b n i j : EReal) := by
  have e : idx_main_v69 (ix4 b n i j) = ix4 b n i 0 := ext4 rfl rfl rfl rfl
  rw [val_main_v75_apply, r24, val_main_v74_apply, val_main_v73_apply, val_main_v70_apply, val_main_v69_apply, e, r48 b n i hM, hM j,
    r62 H b n i j hM, r72 H b n i j hM, val_main_call1_v0_apply]
  by_cases h : j.val ≤ i.val
  · rw [if_pos h]
    show (Ideal.div (A.dp b n i j : EReal) (L A M b n i : EReal) + ((-(A.dl b n i / L A M b n i) : ℝ) : EReal)) * (E A M b n i j : EReal) = _
    rw [div_real _ (L_ne M b n i i.isLt), ← EReal.coe_add, ← EReal.coe_mul]
    unfold Args.ds
    rw [← E_div M]
    congr 1
    have := L_ne (A := A) M b n i i.isLt
    field_simp
    ring
  · rw [if_neg h]
    show (FloatOps.ofBits .f32 0x00000000#32 : Ideal .f32) = _
    rw [zeroF]; unfold Args.ds
    rw [P_zero b n i j h, zero_mul]; rfl

end Row

theorem rP : val_main_v50 (F := Ideal) x0 x1 x3 (ix4 b n i j) = (A.P b n i j : EReal) := by
  obtain ⟨M, hM⟩ := r46 H b n i
  exact r50 b n i j hM

theorem r75 : val_main_v75 (F := Ideal) x0 x1 x2 x3 x4 (ix4 b n i j) = (A.ds b n i j : EReal) := by
  obtain ⟨M, hM⟩ := r46 H b n i
  exact r75' H b n i j hM

theorem r79 : val_main_v79 (F := Ideal) x0 x1 x2 x3 x4 (ix3 b n j) = (A.dc b n j : EReal) := by
  refine (val_main_v79_apply x0 x1 x2 x3 x4 _).trans ?_
  refine (zero_add_real (φ := .f32) _ zeroF _ (fun _ => A.dc b n j) fun z => ?_).trans (by rw [Finset.sum_range_one])
  have e1 : idx_main_v79 (ix3 b n j) z = ix4 b n z j := ext4 rfl rfl rfl rfl
  rw [e1]
  unfold val_main_v78
  refine (unitMid_apply _ _ b n j z).trans ?_
  refine (val_main_v77_apply x0 x1 x2 x3 x4 _).trans ?_
  unfold Args.dc
  rw [← Finset.sum_neg_distrib]
  refine zero_add_real (φ := .f32) _ zeroF _ (fun i => -A.ds b n i j) fun k => ?_
  have e : idx_main_v77 (ix3 b n j) k = ix4 b n k j := ext4 rfl rfl rfl rfl
  rw [e, val_main_v76_apply, r75 H]
  exact neg_real _

theorem r82 : val_main_v82 (F := Ideal) x0 x1 x2 x3 x4 (ix3 b n i) = ((0 : ℝ) : EReal) := by
  refine (val_main_v82_apply x0 x1 x2 x3 x4 _).trans ?_
  refine (zero_add_real (φ := .f32) _ zeroF _ (fun _ => 0) fun z => ?_).trans (by rw [Finset.sum_range_one])
  have e1 : idx_main_v82 (ix3 b n i) z = ix4 b n i z := ext4 rfl rfl rfl rfl
  rw [e1]
  unfold val_main_v81
  refine (unitLast_apply _ _ b n i z).trans ?_
  refine (val_main_v80_apply x0 x1 x2 x3 x4 _).trans ?_
  rw [← A.sum_ds b n i i.isLt]
  refine zero_add_real (φ := .f32) _ zeroF _ (fun j => A.ds b n i j) fun k => ?_
  have e : idx_main_v80 (ix3 b n i) k = ix4 b n i k := ext4 rfl rfl rfl rfl
  rw [e]; exact r75 H b n i k

theorem r83 : val_main_v83 (F := Ideal) x0 x1 x2 x3 x4 (ix3 b n j) = (A.dc b n j : EReal) := by
  rw [val_main_v83_apply, r79 H, r82 H]
  show (_ : EReal) + _ = _
  rw [← EReal.coe_add, add_zero]

theorem r85 : val_main_v85 (F := Ideal) x0 x1 x2 x3 x4 (ix4 b n i j) = (A.ds b n i j * (1 / 8) : ℝ) := by
  rw [val_main_v85_apply, r75 H, val_main_v84_apply, val_main_cst_17_apply]
  show (_ : EReal) * (FloatOps.ofBits .f32 0x3E000000#32 : Ideal .f32) = _
  rw [eighthF, ← EReal.coe_mul]

theorem r86 : val_main_v86 (F := Ideal) x0 x1 x2 x3 x4 (ix4 b n j d) = (A.dk b n j d : EReal) := by
  refine (val_main_v86_apply x0 x1 x2 x3 x4 _).trans ?_
  refine (sum_of _ (fun i => A.ds b n i j * (1 / 8) * A.q b i (64 * n.val + d.val)) fun k => ?_).trans ?_
  · have e1 : lidx_main_v86 (ix4 b n j d) k = ix4 b n k j := ext4 rfl rfl rfl rfl
    have e2 : ridx_main_v86 (ix4 b n j d) k = ix4 b n k d := ext4 rfl rfl rfl rfl
    rw [e1, e2, r85 H, r4 H]
    exact (EReal.coe_mul _ _).symm
  unfold Args.dk
  rw [Finset.sum_mul]
  exact congrArg _ (Finset.sum_congr rfl fun k _ => by ring)

theorem r87 : val_main_v87 (F := Ideal) x0 x1 x2 x3 x4 (ix4 b n i d) = (A.dq b n i d : EReal) := by
  refine (val_main_v87_apply x0 x1 x2 x3 x4 _).trans ?_
  refine (sum_of _ (fun j => A.ds b n i j * (1 / 8) * A.k b j (64 * n.val + d.val)) fun k => ?_).trans ?_
  · have e1 : lidx_main_v87 (ix4 b n i d) k = ix4 b n i k := ext4 rfl rfl rfl rfl
    have e2 : ridx_main_v87 (ix4 b n i d) k = ix4 b n k d := ext4 rfl rfl rfl rfl
    rw [e1, e2, r85 H, r6 H]
    exact (EReal.coe_mul _ _).symm
  unfold Args.dq
  rw [Finset.sum_mul]
  exact congrArg _ (Finset.sum_congr rfl fun k _ => by ring)

theorem r61 : val_main_v61 (F := Ideal) x0 x1 x3 x4 (ix4 b n j d) = (A.dv b n j d : EReal) := by
  unfold val_main_v61
  refine (transpose_apply _ _ _ _ (ix4 b n d j) (fun a => ?_)).trans ?_
  · match a with
    | ⟨0, _⟩ => rfl
    | ⟨1, _⟩ => rfl
    | ⟨2, _⟩ => rfl
    | ⟨3, _⟩ => rfl
  refine (val_main_v60_apply x0 x1 x3 x4 _).trans ?_
  refine (sum_of _ (fun i => A.o b i (64 * n.val + d.val) * A.P b n i j) fun k => ?_).trans ?_
  · have e1 : lidx_main_v60 (ix4 b n d j) k = ix4 b n k d := ext4 rfl rfl rfl rfl
    have e2 : ridx_main_v60 (ix4 b n d j) k = ix4 b n k j := ext4 rfl rfl rfl rfl
    rw [e1, e2, rP H, r59 H]
    exact (EReal.coe_mul _ _).symm
  unfold Args.dv
  exact congrArg _ (Finset.sum_congr rfl fun k _ => mul_comm _ _)

theorem r93 (x : Fin 512) : val_main_v93 (F := Ideal) x0 x1 x2 x3 x4 (ix3 b i x) = (A.dq b (x.val / 64) i (x.val % 64) : EReal) := by
  unfold val_main_v93 val_main_v92
  exact (unheads_apply _ _ _ b i x).trans (r87 H b _ i _)
theorem r91 (x : Fin 512) : val_main_v91 (F := Ideal) x0 x1 x2 x3 x4 (ix3 b i x) = (A.dk b (x.val / 64) i (x.val % 64) : EReal) := by
  unfold val_main_v91 val_main_v90
  exact (unheads_apply _ _ _ b i x).trans (r86 H b _ i _)
theorem r89 (x : Fin 512) : val_main_v89 (F := Ideal) x0 x1 x3 x4 (ix3 b i x) = (A.dv b (x.val / 64) i (x.val % 64) : EReal) := by
  unfold val_main_v89 val_main_v88
  exact (unheads_apply _ _ _ b i x).trans (r61 H b _ i _)

theorem r103 : val_main_v103 (F := Ideal) x0 x1 x2 x3 x4 = rowsOf A.dq := by
  funext y
  obtain ⟨r, x, rfl⟩ : ∃ (r : Fin 8704) (x : Fin 512), y = ix2 r x := ⟨_, _, eq_ix2 y⟩
  unfold val_main_v103 val_main_v102 val_main_v101 val_main_v100
  exact padRows_apply (φ := .f32) _ _ (fun i => (val_main_v99_apply (F := Ideal) i).trans zeroF) (f := fun b i x => A.dq b (x / 64) i (x % 64)) (r93 H) _ _ _ _ r x
theorem r108 : val_main_v108 (F := Ideal) x0 x1 x2 x3 x4 = rowsOf A.dk := by
  funext y
  obtain ⟨r, x, rfl⟩ : ∃ (r : Fin 8704) (x : Fin 512), y = ix2 r x := ⟨_, _, eq_ix2 y⟩
  unfold val_main_v108 val_main_v107 val_main_v106 val_main_v105
  exact padRows_apply (φ := .f32) _ _ (fun i => (val_main_v104_apply (F := Ideal) i).trans zeroF) (f := fun b i x => A.dk b (x / 64) i (x % 64)) (r91 H) _ _ _ _ r x
theorem r113 : val_main_v113 (F := Ideal) x0 x1 x3 x4 = rowsOf A.dv := by
  funext y
  obtain ⟨r, x, rfl⟩ : ∃ (r : Fin 8704) (x : Fin 512), y = ix2 r x := ⟨_, _, eq_ix2 y⟩
  unfold val_main_v113 val_main_v112 val_main_v111 val_main_v110
  exact padRows_apply (φ := .f32) _ _ (fun i => (val_main_v109_apply (F := Ideal) i).trans zeroF) (f := fun b i x => A.dv b (x / 64) i (x % 64)) (r89 H) _ _ _ _ r x

theorem r97 (i : Fin 2176) : val_main_v97 (F := Ideal) x0 x1 x2 x3 x4 (ix3 b n i) = (pad (A.dc b n) i : EReal) := by
  unfold val_main_v97 val_main_v96 val_main_v95
  exact padLast_apply (φ := .f32) _ _ (fun i => (val_main_v94_apply (F := Ideal) i).trans zeroF) (f := A.dc) (r83 H) _ _ _ b n i

theorem r98 (g : Fin 16) (e : Fin 2) (i : Fin 2176) : val_main_v98 (F := Ideal) x0 x1 x2 x3 x4 (ix3 g e i)
    = (pad (A.dc (g.val / 4) (2 * (g.val % 4) + e.val)) i : EReal) := by
  unfold val_main_v98
  refine (shapeCast_apply _ _ _ (ix3 (⟨g.val / 4, by omega⟩ : Fin 4) (⟨2 * (g.val % 4) + e.val, by omega⟩ : Fin 8) i) ?_).trans (r97 H _ _ i)
  rw [Shape.rowMajor_val_three, Shape.rowMajor_val_three]
  show (g.val / 4 * 8 + (2 * (g.val % 4) + e.val)) * 2176 + i.val = (g.val * 2 + e.val) * 2176 + i.val
  omega

theorem r114 : val_main_v114 (F := Ideal) x0 x1 x2 x3 x4 = gatesOf A.dc 0 := by
  funext y
  obtain ⟨g, z, i, rfl⟩ : ∃ (g : Fin 16) (z : Fin 1) (i : Fin 2176), y = ix3 g z i := ⟨_, _, _, eq_ix3 y⟩
  unfold val_main_v114
  refine (extractStridedSlice_apply _ _ _ _ (ix3 g 0 i) (fun a => ?_)).trans (r98 H g 0 i)
  match a with
  | ⟨0, _⟩ => exact (Nat.zero_add _).symm
  | ⟨1, _⟩ => show 0 = 0 + z.val; omega
  | ⟨2, _⟩ => exact (Nat.zero_add _).symm
theorem r115 : val_main_v115 (F := Ideal) x0 x1 x2 x3 x4 = gatesOf A.dc 1 := by
  funext y
  obtain ⟨g, z, i, rfl⟩ : ∃ (g : Fin 16) (z : Fin 1) (i : Fin 2176), y = ix3 g z i := ⟨_, _, _, eq_ix3 y⟩
  unfold val_main_v115
  refine (extractStridedSlice_apply _ _ _ _ (ix3 g 1 i) (fun a => ?_)).trans (r98 H g 1 i)
  match a with
  | ⟨0, _⟩ => exact (Nat.zero_add _).symm
  | ⟨1, _⟩ => show 1 = 1 + z.val; omega
  | ⟨2, _⟩ => exact (Nat.zero_add _).symm

end Fox.Plain
-- ==== Proof.Arrays.lean ====
module

public import proofs.«01_k».proof.Proof.Block
public import proofs.«01_k».proof.Proof.Gen.KernelIdeal.Value

/-!
  The arrays a grid step reads, gathered.
-/

@[expose] public section

set_option maxRecDepth 16384

noncomputable section

namespace Fox

open Cert.KernelIdeal Cert.KernelIdeal.Gen Idealize.ShloMosaic Idealize.ShloMosaic.ValueIdx
open scoped BigOperators

variable (c : Dev nD) (arg2 : Memref sig .tc .vmem S2176x128 .bf16) (harg2 : arg2.IsWhole) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S1x2176x2 .f32) (harg6 : arg6.IsWhole) (arg7 : Memref sig .tc .vmem S1x1x2176 .f32) (harg7 : arg7.IsWhole) (arg8 : Memref sig .tc .vmem S1x1x2176 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole) (arg12 : Memref sig .tc .vmem S1x1x2176 .f32) (harg12 : arg12.IsWhole) (arg13 : Memref sig .tc .vmem S1x1x2176 .f32) (harg13 : arg13.IsWhole)
  (x0 : S2176x128.Idx → Elt Ideal .bf16)
  (x1 : S2176x128.Idx → Elt Ideal .bf16)
  (x2 : S2176x128.Idx → Elt Ideal .bf16)
  (x3 : S2176x128.Idx → Elt Ideal .bf16)
  (x4 : S1x2176x2.Idx → Elt Ideal .f32)
  (x5 : S1x1x2176.Idx → Elt Ideal .f32)
  (x6 : S1x1x2176.Idx → Elt Ideal .f32)

/-- The arrays read by a grid step, as its windows hold them. -/
abbrev ins : Ins := ⟨arg2.view.read (Elt Ideal) (harg2.unread x0), arg3.view.read (Elt Ideal) (harg3.unread x1),
  arg4.view.read (Elt Ideal) (harg4.unread x2), arg5.view.read (Elt Ideal) (harg5.unread x3),
  arg6.view.read (Elt Ideal) (harg6.unread x4), arg7.view.read (Elt Ideal) (harg7.unread x5),
  arg8.view.read (Elt Ideal) (harg8.unread x6)⟩

end Fox
-- ==== Proof.Entry.lean ====
/- What a grid step's windows hold: the rows of one example and the columns of a pair of heads, zero rows put in. -/
module

public import proofs.«01_k».proof.Proof.Rows
public import proofs.«01_k».proof.Proof.Arrays
public import Idealize.ShloMosaic.Lib.StableHlo.RunRead
public import Idealize.ShloMosaic.Lib.Claim

@[expose] public section

set_option maxRecDepth 16384
set_option maxHeartbeats 4000000

noncomputable section

namespace Fox

open Cert.KernelIdeal Cert.KernelIdeal.Gen Idealize.ShloMosaic Idealize.ShloMosaic.TcCoe Idealize.ShloMosaic.StableHlo
open scoped BigOperators

abbrev S4 (a b c d : ℕ) : Shape := ⟨4, ![a, b, c, d]⟩

/-- The five argument arrays hold the numbers of `A`. -/
structure Fits (A : Args) (X0 X1 X2 : FVec Ideal (S3 4 2064 512) .bf16) (X3 : FVec Ideal (S3 4 8 2064) .f32)
    (X4 : FVec Ideal (S3 4 2064 512) .bf16) : Prop where
  q : ∀ (b : Fin 4) (i : Fin 2064) (d : Fin 512), X0 (ValueIdx.ix3 b i d) = (A.q b i d : EReal)
  k : ∀ (b : Fin 4) (i : Fin 2064) (d : Fin 512), X1 (ValueIdx.ix3 b i d) = (A.k b i d : EReal)
  v : ∀ (b : Fin 4) (i : Fin 2064) (d : Fin 512), X2 (ValueIdx.ix3 b i d) = (A.v b i d : EReal)
  c : ∀ (b : Fin 4) (n : Fin 8) (i : Fin 2064), X3 (ValueIdx.ix3 b n i) = (A.c b n i : EReal)
  o : ∀ (b : Fin 4) (i : Fin 2064) (d : Fin 512), X4 (ValueIdx.ix3 b i d) = (A.o b i d : EReal)

theorem zero_bf16 (i : (S3 4 112 512).Idx) :
    (broadcastInDim S4x112x512 ![] Facts₀.bcast_S_S4x112x512 (constant S_ .bf16 0x0000#16) : FVec Ideal (S3 4 112 512) .bf16) i
      = ((0 : ℝ) : EReal) := by
  exact zeroB

theorem zero_f32 (i : (S3 4 8 112).Idx) :
    (broadcastInDim S4x8x112 ![] Facts₀.bcast_S_S4x8x112 (constant S_ .f32 0x00000000#32) : FVec Ideal (S3 4 8 112) .f32) i
      = ((0 : ℝ) : EReal) := zeroF

/-- Three arrays joined, each replaced by an equal one. -/
theorem cat3_congr {α : Type} {t s₀ s₁ s₂ : Shape} {a : Fin t.rank} {x x' : s₀.Idx → α} {y y' : s₁.Idx → α} {z z' : s₂.Idx → α}
    (h : Shape.Concatenates [s₀, s₁, s₂] t a) (hx : x = x') (hy : y = y') (hz : z = z') :
    concatenate t a [⟨s₀, x⟩, ⟨s₁, y⟩, ⟨s₂, z⟩] h = concatenate t a [⟨s₀, x'⟩, ⟨s₁, y'⟩, ⟨s₂, z'⟩] h := by
  subst hx hy hz; rfl

variable {m : (ℓ : Loc nD τ sig) → Buf (Elt Ideal) ℓ} {c : Dev nD} {A : Args}
  (H : Fits A (m (c, main_arg0)) (m (c, main_arg1)) (m (c, main_arg2)) (m (c, main_arg3)) (m (c, main_arg4)))
include H

theorem entry_q (r : Fin 8704) (x : Fin 512) : (Gen.V m c main_v4 : FVec Ideal (S2 8704 512) .bf16) (ValueIdx.ix2 r x)
    = ((pad (fun i => A.q (r.val / 2176) i x) (r.val % 2176) : ℝ) : EReal) := by
  refine Eq.trans (congrFun (?_ : _ = _) _) (padRows_apply _ _ zero_bf16 H.q Facts₀.slices_S4x2064x512_S4x16x512_0_0_0
    Facts₀.slices_S4x2064x512_S4x2048x512_0_16_0 Facts₀.concatenates_S4x16x512_S4x112x512_S4x2048x512_S4x2176x512_d1
    Facts₀.shapeCasts_S4x2176x512_S8704x512 r x)
  unfold_abbrev_sides
  after_reads_simp
  refine congrArg (fun X => shapeCast (S2 8704 512) X Facts₀.shapeCasts_S4x2176x512_S8704x512)
    (cat3_congr Facts₀.concatenates_S4x16x512_S4x112x512_S4x2048x512_S4x2176x512_d1 ?_ ?_ ?_)
  · show upto _ _ _ (Proc.devRef .tc main_v1) = _; after_reads_simp
  · show upto _ _ _ (Proc.devRef .tc main_v0) = _; after_reads_simp
  · show upto _ _ _ (Proc.devRef .tc main_v2) = _; after_reads_simp

theorem entry_k (r : Fin 8704) (x : Fin 512) : (Gen.V m c main_v9 : FVec Ideal (S2 8704 512) .bf16) (ValueIdx.ix2 r x)
    = ((pad (fun i => A.k (r.val / 2176) i x) (r.val % 2176) : ℝ) : EReal) := by
  refine Eq.trans (congrFun (?_ : _ = _) _) (padRows_apply _ _ zero_bf16 H.k Facts₀.slices_S4x2064x512_S4x16x512_0_0_0
    Facts₀.slices_S4x2064x512_S4x2048x512_0_16_0 Facts₀.concatenates_S4x16x512_S4x112x512_S4x2048x512_S4x2176x512_d1
    Facts₀.shapeCasts_S4x2176x512_S8704x512 r x)
  unfold_abbrev_sides
  after_reads_simp
  refine congrArg (fun X => shapeCast (S2 8704 512) X Facts₀.shapeCasts_S4x2176x512_S8704x512)
    (cat3_congr Facts₀.concatenates_S4x16x512_S4x112x512_S4x2048x512_S4x2176x512_d1 ?_ ?_ ?_)
  · show upto _ _ _ (Proc.devRef .tc main_v6) = _; after_reads_simp
  · show upto _ _ _ (Proc.devRef .tc main_v5) = _; after_reads_simp
  · show upto _ _ _ (Proc.devRef .tc main_v7) = _; after_reads_simp

theorem entry_v (r : Fin 8704) (x : Fin 512) : (Gen.V m c main_v14 : FVec Ideal (S2 8704 512) .bf16) (ValueIdx.ix2 r x)
    = ((pad (fun i => A.v (r.val / 2176) i x) (r.val % 2176) : ℝ) : EReal) := by
  refine Eq.trans (congrFun (?_ : _ = _) _) (padRows_apply _ _ zero_bf16 H.v Facts₀.slices_S4x2064x512_S4x16x512_0_0_0
    Facts₀.slices_S4x2064x512_S4x2048x512_0_16_0 Facts₀.concatenates_S4x16x512_S4x112x512_S4x2048x512_S4x2176x512_d1
    Facts₀.shapeCasts_S4x2176x512_S8704x512 r x)
  unfold_abbrev_sides
  after_reads_simp
  refine congrArg (fun X => shapeCast (S2 8704 512) X Facts₀.shapeCasts_S4x2176x512_S8704x512)
    (cat3_congr Facts₀.concatenates_S4x16x512_S4x112x512_S4x2048x512_S4x2176x512_d1 ?_ ?_ ?_)
  · show upto _ _ _ (Proc.devRef .tc main_v11) = _; after_reads_simp
  · show upto _ _ _ (Proc.devRef .tc main_v10) = _; after_reads_simp
  · show upto _ _ _ (Proc.devRef .tc main_v12) = _; after_reads_simp

theorem entry_o (r : Fin 8704) (x : Fin 512) : (Gen.V m c main_v19 : FVec Ideal (S2 8704 512) .bf16) (ValueIdx.ix2 r x)
    = ((pad (fun i => A.o (r.val / 2176) i x) (r.val % 2176) : ℝ) : EReal) := by
  refine Eq.trans (congrFun (?_ : _ = _) _) (padRows_apply _ _ zero_bf16 H.o Facts₀.slices_S4x2064x512_S4x16x512_0_0_0
    Facts₀.slices_S4x2064x512_S4x2048x512_0_16_0 Facts₀.concatenates_S4x16x512_S4x112x512_S4x2048x512_S4x2176x512_d1
    Facts₀.shapeCasts_S4x2176x512_S8704x512 r x)
  unfold_abbrev_sides
  after_reads_simp
  refine congrArg (fun X => shapeCast (S2 8704 512) X Facts₀.shapeCasts_S4x2176x512_S8704x512)
    (cat3_congr Facts₀.concatenates_S4x16x512_S4x112x512_S4x2048x512_S4x2176x512_d1 ?_ ?_ ?_)
  · show upto _ _ _ (Proc.devRef .tc main_v16) = _; after_reads_simp
  · show upto _ _ _ (Proc.devRef .tc main_v15) = _; after_reads_simp
  · show upto _ _ _ (Proc.devRef .tc main_v17) = _; after_reads_simp

theorem entry_pair (g : Fin 16) (i : Fin 2176) (e : Fin 2) : (Gen.V m c main_v27 : FVec Ideal (S3 16 2176 2) .f32) (ValueIdx.ix3 g i e)
    = ((pad (A.c (g.val / 4) (2 * (g.val % 4) + e.val)) i : ℝ) : EReal) := by
  have hg := g.isLt
  have he := e.isLt
  have P := padLast_apply (m (c, main_arg3)) _ zero_f32 H.c Facts₀.slices_S4x8x2064_S4x8x16_0_0_0
    Facts₀.slices_S4x8x2064_S4x8x2048_0_0_16 Facts₀.concatenates_S4x8x16_S4x8x112_S4x8x2048_S4x8x2176_d2
    ⟨g.val / 4, by omega⟩ ⟨2 * (g.val % 4) + e.val, by omega⟩ i
  refine Eq.trans ?_ P
  unfold_abbrev_sides
  after_reads_simp
  show shapeCast (S3 16 2176 2) (transpose (S4 4 4 2176 2) [0, 1, 3, 2]
     (shapeCast (S4 4 4 2 2176) (shapeCast (S2 32 2176) (concatenate (S3 4 8 2176) 2
    [⟨S3 4 8 16, upto hostOps0 (fun b => m (c, b)) 28 (Proc.devRef .tc main_v20)⟩,
     ⟨S3 4 8 112, upto hostOps0 (fun b => m (c, b)) 28 (Proc.devRef .tc main_v21)⟩,
     ⟨S3 4 8 2048, upto hostOps0 (fun b => m (c, b)) 28 (Proc.devRef .tc main_v22)⟩] _) _) _) _) _ (ValueIdx.ix3 g i e) = _
  refine (shapeCast_apply _ _ _ (ValueIdx.ix4 (⟨g.val / 4, by omega⟩ : Fin 4) (⟨g.val % 4, by omega⟩ : Fin 4) i e) ?_).trans ?_
  · rw [Shape.rowMajor_val_four, Shape.rowMajor_val_three]
    show ((g.val / 4 * 4 + g.val % 4) * 2176 + i.val) * 2 + e.val = (g.val * 2176 + i.val) * 2 + e.val
    omega
  refine (transpose_apply _ _ _ _ (ValueIdx.ix4 (⟨g.val / 4, by omega⟩ : Fin 4) (⟨g.val % 4, by omega⟩ : Fin 4) e i) ?_).trans ?_
  · intro a
    match a with
    | ⟨0, _⟩ => rfl
    | ⟨1, _⟩ => rfl
    | ⟨2, _⟩ => rfl
    | ⟨3, _⟩ => rfl
  refine (shapeCast_apply _ _ _ (ValueIdx.ix2 (⟨2 * g.val + e.val, by omega⟩ : Fin 32) i) ?_).trans ?_
  · rw [Shape.rowMajor_val_four, Shape.rowMajor_val_two]
    show (2 * g.val + e.val) * 2176 + i.val = ((g.val / 4 * 4 + g.val % 4) * 2 + e.val) * 2176 + i.val
    omega
  refine (shapeCast_apply _ _ _ (ValueIdx.ix3 (⟨g.val / 4, by omega⟩ : Fin 4) (⟨2 * (g.val % 4) + e.val, by omega⟩ : Fin 8) i) ?_).trans ?_
  · rw [Shape.rowMajor_val_three, Shape.rowMajor_val_two]
    show (g.val / 4 * 8 + (2 * (g.val % 4) + e.val)) * 2176 + i.val = (2 * g.val + e.val) * 2176 + i.val
    omega
  refine congrFun (cat3_congr Facts₀.concatenates_S4x8x16_S4x8x112_S4x8x2048_S4x8x2176_d2 ?_ ?_ ?_) _
  · after_reads_simp
  · after_reads_simp
  · after_reads_simp

theorem entry_row (n : Fin 32) (i : Fin 2176) : (Gen.V m c main_v28 : FVec Ideal (S3 32 1 2176) .f32) (ValueIdx.ix3 n 0 i)
    = ((pad (A.c (n.val / 8) (n.val % 8)) i : ℝ) : EReal) := by
  have hn := n.isLt
  have P := padLast_apply (m (c, main_arg3)) _ zero_f32 H.c Facts₀.slices_S4x8x2064_S4x8x16_0_0_0
    Facts₀.slices_S4x8x2064_S4x8x2048_0_0_16 Facts₀.concatenates_S4x8x16_S4x8x112_S4x8x2048_S4x8x2176_d2
    ⟨n.val / 8, by omega⟩ ⟨n.val % 8, by omega⟩ i
  refine Eq.trans ?_ P
  unfold_abbrev_sides
  after_reads_simp
  show shapeCast (S3 32 1 2176) (shapeCast (S2 32 2176) (concatenate (S3 4 8 2176) 2
    [⟨S3 4 8 16, upto hostOps0 (fun b => m (c, b)) 28 (Proc.devRef .tc main_v20)⟩,
     ⟨S3 4 8 112, upto hostOps0 (fun b => m (c, b)) 28 (Proc.devRef .tc main_v21)⟩,
     ⟨S3 4 8 2048, upto hostOps0 (fun b => m (c, b)) 28 (Proc.devRef .tc main_v22)⟩] _) _) _ (ValueIdx.ix3 n 0 i) = _
  refine (shapeCast_apply _ _ _ (ValueIdx.ix2 n i) ?_).trans ?_
  · rw [Shape.rowMajor_val_three, Shape.rowMajor_val_two]
    show n.val * 2176 + i.val = (n.val * 1 + 0) * 2176 + i.val
    omega
  refine (shapeCast_apply _ _ _ (ValueIdx.ix3 (⟨n.val / 8, by omega⟩ : Fin 4) (⟨n.val % 8, by omega⟩ : Fin 8) i) ?_).trans ?_
  · rw [Shape.rowMajor_val_three, Shape.rowMajor_val_two]
    show (n.val / 8 * 8 + n.val % 8) * 2176 + i.val = n.val * 2176 + i.val
    omega
  refine congrFun (cat3_congr Facts₀.concatenates_S4x8x16_S4x8x112_S4x8x2048_S4x8x2176_d2 ?_ ?_ ?_) _
  · after_reads_simp
  · after_reads_simp
  · after_reads_simp

end Fox
-- ==== Proof.Held.lean ====
/- What the windows hold at a grid step, and what the step leaves in the outputs' blocks. -/
module

public import proofs.«01_k».proof.Proof.Entry

@[expose] public section

set_option maxRecDepth 16384
set_option maxHeartbeats 4000000

noncomputable section

namespace Fox

open Cert.KernelIdeal Cert.KernelIdeal.Gen Cert.KernelIdeal.Value Idealize.ShloMosaic Idealize.ShloMosaic.TcCoe
open scoped BigOperators

theorem rowblk : ∀ t : Fin cfg0.N, (win0_0.index t (0 : Fin 2) = t.val / 4 ∧ win0_0.index t (1 : Fin 2) = t.val % 4)
    ∧ (win0_1.index t (0 : Fin 2) = t.val / 4 ∧ win0_1.index t (1 : Fin 2) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4) :=
  (by decide +kernel : ∀ t : Fin grid0.N, _)

theorem gateblk : ∀ t : Fin cfg0.N,
    (win0_4.index t (0 : Fin 3) = t.val ∧ win0_4.index t (1 : Fin 3) = 0 ∧ win0_4.index t (2 : Fin 3) = 0)
    ∧ (win0_5.index t (0 : Fin 3) = 2 * t.val ∧ win0_5.index t (1 : Fin 3) = 0 ∧ win0_5.index t (2 : Fin 3) = 0)
    ∧ (win0_6.index t (0 : Fin 3) = 2 * t.val + 1 ∧ win0_6.index t (1 : Fin 3) = 0 ∧ win0_6.index t (2 : Fin 3) = 0) :=
  (by decide +kernel : ∀ t : Fin grid0.N, _)

theorem outblk : ∀ t : Fin cfg0.N, (win0_7.index t (0 : Fin 2) = t.val / 4 ∧ win0_7.index t (1 : Fin 2) = t.val % 4)
    ∧ (win0_8.index t (0 : Fin 2) = t.val / 4 ∧ win0_8.index t (1 : Fin 2) = t.val % 4)
    ∧ (win0_9.index t (0 : Fin 2) = t.val / 4 ∧ win0_9.index t (1 : Fin 2) = t.val % 4)
    ∧ (win0_10.index t (0 : Fin 3) = t.val ∧ win0_10.index t (1 : Fin 3) = 0 ∧ win0_10.index t (2 : Fin 3) = 0)
    ∧ (win0_11.index t (0 : Fin 3) = t.val ∧ win0_11.index t (1 : Fin 3) = 0 ∧ win0_11.index t (2 : Fin 3) = 0) :=
  (by decide +kernel : ∀ t : Fin grid0.N, _)

theorem step_lt (t : Fin cfg0.N) : t.val < 16 := t.isLt

/-- The row and column of an array at which a row and column of step `t`'s block stand. -/
def at2 (t : Fin cfg0.N) (i : Fin 2176) (d : Fin 128) : (S2 8704 512).Idx :=
  ValueIdx.ix2 ⟨t.val / 4 * 2176 + i.val, by have := step_lt t; omega⟩ ⟨t.val % 4 * 128 + d.val, by omega⟩

theorem pad_at (f : ℕ → ℕ → ℝ) (t : Fin cfg0.N) (i : Fin 2176) (x : ℕ) :
    pad (fun k => f ((t.val / 4 * 2176 + i.val) / 2176) k) ((t.val / 4 * 2176 + i.val) % 2176)
      = pad (fun k => f (t.val / 4) k) i := by
  have := i.isLt
  rw [show (t.val / 4 * 2176 + i.val) / 2176 = t.val / 4 by omega, show (t.val / 4 * 2176 + i.val) % 2176 = i.val by omega]

section Entry
variable {m : (ℓ : Loc nD τ sig) → Buf (Elt Ideal) ℓ} {c : Dev nD} {A : Args}
  (H : Fits A (m (c, main_arg0)) (m (c, main_arg1)) (m (c, main_arg2)) (m (c, main_arg3)) (m (c, main_arg4)))
include H

theorem held (t : Fin cfg0.N) : Rep (ins (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (iblk m c 0 t) (iblk m c 1 t) (iblk m c 2 t) (iblk m c 3 t)
    (iblk m c 4 t) (iblk m c 5 t) (iblk m c 6 t)) (A.step (t.val / 4) (t.val % 4)) where
  q i d := by
    have e : ((cfg0.win 0).blk t).view.emb (ValueIdx.ix2 i d) = at2 t i d := by
      obtain ⟨⟨e0, e1⟩, -⟩ := rowblk t
      funext a; apply Fin.ext
      match a with
      | ⟨0, _⟩ => show win0_0.index t (0 : Fin 2) * 2176 + 1 * i.val = t.val / 4 * 2176 + i.val; omega
      | ⟨1, _⟩ => show win0_0.index t (1 : Fin 2) * 128 + 1 * d.val = t.val % 4 * 128 + d.val; omega
    refine (congrFun ((hs0_0 t).read_unread _) (ValueIdx.ix2 i d)).trans ?_
    show Gen.V m c main_v4 (((cfg0.win 0).blk t).view.emb (ValueIdx.ix2 i d)) = _
    rw [e]
    refine (entry_q H _ _).trans (congrArg _ ?_)
    refine (pad_at (fun b k => A.q b k (t.val % 4 * 128 + d.val)) t i 0).trans ?_
    rw [Nat.mul_comm]; rfl
  k i d := by
    have e : ((cfg0.win 1).blk t).view.emb (ValueIdx.ix2 i d) = at2 t i d := by
      obtain ⟨-, ⟨e0, e1⟩, -⟩ := rowblk t
      funext a; apply Fin.ext
      match a with
      | ⟨0, _⟩ => show win0_1.index t (0 : Fin 2) * 2176 + 1 * i.val = t.val / 4 * 2176 + i.val; omega
      | ⟨1, _⟩ => show win0_1.index t (1 : Fin 2) * 128 + 1 * d.val = t.val % 4 * 128 + d.val; omega
    refine (congrFun ((hs0_1 t).read_unread _) (ValueIdx.ix2 i d)).trans ?_
    show Gen.V m c main_v9 (((cfg0.win 1).blk t).view.emb (ValueIdx.ix2 i d)) = _
    rw [e]
    refine (entry_k H _ _).trans (congrArg _ ?_)
    refine (pad_at (fun b k => A.k b k (t.val % 4 * 128 + d.val)) t i 0).trans ?_
    rw [Nat.mul_comm]; rfl
  v i d := by
    have e : ((cfg0.win 2).blk t).view.emb (ValueIdx.ix2 i d) = at2 t i d := by
      obtain ⟨-, -, ⟨e0, e1⟩, -⟩ := rowblk t
      funext a; apply Fin.ext
      match a with
      | ⟨0, _⟩ => show win0_2.index t (0 : Fin 2) * 2176 + 1 * i.val = t.val / 4 * 2176 + i.val; omega
      | ⟨1, _⟩ => show win0_2.index t (1 : Fin 2) * 128 + 1 * d.val = t.val % 4 * 128 + d.val; omega
    refine (congrFun ((hs0_2 t).read_unread _) (ValueIdx.ix2 i d)).trans ?_
    show Gen.V m c main_v14 (((cfg0.win 2).blk t).view.emb (ValueIdx.ix2 i d)) = _
    rw [e]
    refine (entry_v H _ _).trans (congrArg _ ?_)
    refine (pad_at (fun b k => A.v b k (t.val % 4 * 128 + d.val)) t i 0).trans ?_
    rw [Nat.mul_comm]; rfl
  o i d := by
    have e : ((cfg0.win 3).blk t).view.emb (ValueIdx.ix2 i d) = at2 t i d := by
      obtain ⟨-, -, -, ⟨e0, e1⟩⟩ := rowblk t
      funext a; apply Fin.ext
      match a with
      | ⟨0, _⟩ => show win0_3.index t (0 : Fin 2) * 2176 + 1 * i.val = t.val / 4 * 2176 + i.val; omega
      | ⟨1, _⟩ => show win0_3.index t (1 : Fin 2) * 128 + 1 * d.val = t.val % 4 * 128 + d.val; omega
    refine (congrFun ((hs0_3 t).read_unread _) (ValueIdx.ix2 i d)).trans ?_
    show Gen.V m c main_v19 (((cfg0.win 3).blk t).view.emb (ValueIdx.ix2 i d)) = _
    rw [e]
    refine (entry_o H _ _).trans (congrArg _ ?_)
    refine (pad_at (fun b k => A.o b k (t.val % 4 * 128 + d.val)) t i 0).trans ?_
    rw [Nat.mul_comm]; rfl
  t i e := by
    have e' : ((cfg0.win 4).blk t).view.emb (ValueIdx.ix3 0 i e) = (ValueIdx.ix3 ⟨t.val, step_lt t⟩ i e : (S3 16 2176 2).Idx) := by
      obtain ⟨⟨e0, e1, e2⟩, -⟩ := gateblk t
      funext a; apply Fin.ext
      match a with
      | ⟨0, _⟩ => show win0_4.index t (0 : Fin 3) * 1 + 1 * 0 = t.val; omega
      | ⟨1, _⟩ => show win0_4.index t (1 : Fin 3) * 2176 + 1 * i.val = i.val; omega
      | ⟨2, _⟩ => show win0_4.index t (2 : Fin 3) * 2 + 1 * e.val = e.val; omega
    refine (congrFun ((hs0_4 t).read_unread _) (ValueIdx.ix3 0 i e)).trans ?_
    show Gen.V m c main_v27 (((cfg0.win 4).blk t).view.emb (ValueIdx.ix3 0 i e)) = _
    rw [e']
    exact entry_pair H _ _ _
  c e j := by
    have e5 : ((cfg0.win 5).blk t).view.emb (ValueIdx.ix3 0 0 j)
        = (ValueIdx.ix3 ⟨2 * t.val, by have := step_lt t; omega⟩ 0 j : (S3 32 1 2176).Idx) := by
      obtain ⟨-, ⟨e0, e1, e2⟩, -⟩ := gateblk t
      funext a; apply Fin.ext
      match a with
      | ⟨0, _⟩ => show win0_5.index t (0 : Fin 3) * 1 + 1 * 0 = 2 * t.val; omega
      | ⟨1, _⟩ => show win0_5.index t (1 : Fin 3) * 1 + 1 * 0 = 0; omega
      | ⟨2, _⟩ => show win0_5.index t (2 : Fin 3) * 2176 + 1 * j.val = j.val; omega
    have e6 : ((cfg0.win 6).blk t).view.emb (ValueIdx.ix3 0 0 j)
        = (ValueIdx.ix3 ⟨2 * t.val + 1, by have := step_lt t; omega⟩ 0 j : (S3 32 1 2176).Idx) := by
      obtain ⟨-, -, ⟨e0, e1, e2⟩⟩ := gateblk t
      funext a; apply Fin.ext
      match a with
      | ⟨0, _⟩ => show win0_6.index t (0 : Fin 3) * 1 + 1 * 0 = 2 * t.val + 1; omega
      | ⟨1, _⟩ => show win0_6.index t (1 : Fin 3) * 1 + 1 * 0 = 0; omega
      | ⟨2, _⟩ => show win0_6.index t (2 : Fin 3) * 2176 + 1 * j.val = j.val; omega
    match e with
    | 0 =>
      refine (congrFun ((hs0_5 t).read_unread _) (ValueIdx.ix3 0 0 j)).trans ?_
      show Gen.V m c main_v28 (((cfg0.win 5).blk t).view.emb (ValueIdx.ix3 0 0 j)) = _
      rw [e5]
      refine (entry_row H _ _).trans (congrArg _ ?_)
      show pad (A.c (2 * t.val / 8) (2 * t.val % 8)) j = pad (A.c (t.val / 4) (2 * (t.val % 4) + min 0 1)) j
      rw [show 2 * t.val / 8 = t.val / 4 by omega, show 2 * t.val % 8 = 2 * (t.val % 4) + min 0 1 by omega]
    | e + 1 =>
      refine (congrFun ((hs0_6 t).read_unread _) (ValueIdx.ix3 0 0 j)).trans ?_
      show Gen.V m c main_v28 (((cfg0.win 6).blk t).view.emb (ValueIdx.ix3 0 0 j)) = _
      rw [e6]
      refine (entry_row H _ _).trans (congrArg _ ?_)
      show pad (A.c ((2 * t.val + 1) / 8) ((2 * t.val + 1) % 8)) j = pad (A.c (t.val / 4) (2 * (t.val % 4) + min (e + 1) 1)) j
      rw [show (2 * t.val + 1) / 8 = t.val / 4 by omega, show (2 * t.val + 1) % 8 = 2 * (t.val % 4) + min (e + 1) 1 by omega]

end Entry

end Fox
-- ==== Proof.KeyGrad.lean ====
module

public import proofs.«01_k».proof.Proof.Arrays
public import proofs.«01_k».proof.Proof.Gen.KernelIdeal.Value

/-!
  The key gradient of a grid step: eighteen additions, two heads in each of nine blocks of rows.
-/

@[expose] public section

set_option maxRecDepth 16384

noncomputable section

namespace Fox

open Cert.KernelIdeal Cert.KernelIdeal.Gen Idealize.ShloMosaic Idealize.ShloMosaic.ValueIdx
open scoped BigOperators

variable (c : Dev nD) (arg2 : Memref sig .tc .vmem S2176x128 .bf16) (harg2 : arg2.IsWhole) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S1x2176x2 .f32) (harg6 : arg6.IsWhole) (arg7 : Memref sig .tc .vmem S1x1x2176 .f32) (harg7 : arg7.IsWhole) (arg8 : Memref sig .tc .vmem S1x1x2176 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole) (arg12 : Memref sig .tc .vmem S1x1x2176 .f32) (harg12 : arg12.IsWhole) (arg13 : Memref sig .tc .vmem S1x1x2176 .f32) (harg13 : arg13.IsWhole)
  (x0 : S2176x128.Idx → Elt Ideal .bf16)
  (x1 : S2176x128.Idx → Elt Ideal .bf16)
  (x2 : S2176x128.Idx → Elt Ideal .bf16)
  (x3 : S2176x128.Idx → Elt Ideal .bf16)
  (x4 : S1x2176x2.Idx → Elt Ideal .f32)
  (x5 : S1x1x2176.Idx → Elt Ideal .f32)
  (x6 : S1x1x2176.Idx → Elt Ideal .f32)

include c arg2 harg2 arg3 harg3 arg4 harg4 arg5 harg5 arg6 harg6 arg7 harg7 arg8 harg8 arg9 harg9 arg10 harg10 arg11 harg11 arg12 harg12 arg13 harg13 x0 x1 x2 x3 x4 x5 x6

set_option maxHeartbeats 8000000

theorem dk_0 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_1 (F := Ideal)) (ix2 j d) = ((D.sumK 0 j d : ℝ) : EReal) := by
  exact (zero2 j d).trans (by simp [Dat.sumK])

theorem dk_1 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_2 (F := Ideal) c arg2 harg2 arg3 harg3 arg4 harg4 arg5 harg5 arg6 harg6 arg7 harg7 arg10 x0 x1 x2 x3 x4 x5) (ix2 j d) = ((D.sumK 1 j d : ℝ) : EReal) := by
  refine (acc2 arg10.view (N := 128) (by omega) (f := fun j d => D.sumK 0 j d) (g := fun j d => D.dk 0 j d 0 128) (fun j d => dk_0 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 0) (r0 := 0) (R := 128) (by omega) (by omega) (by omega) (mask0_val hmk) rfl j d)
    (fun j d h => D.dk_zero (by omega) h) j d).trans (congrArg _ ?_)
  show _ = ∑ _ ∈ _, _
  rw [Finset.sum_range_succ]; rfl

theorem dk_2 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_3 (F := Ideal) c arg2 harg2 arg3 harg3 arg4 harg4 arg5 harg5 arg6 harg6 arg7 harg7 arg8 harg8 arg10 x0 x1 x2 x3 x4 x5 x6) (ix2 j d) = ((D.sumK 2 j d : ℝ) : EReal) := by
  refine (acc2 arg10.view (N := 128) (by omega) (f := fun j d => D.sumK 1 j d) (g := fun j d => D.dk 1 j d 0 128) (fun j d => dk_1 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 1) (r0 := 0) (R := 128) (by omega) (by omega) (by omega) (mask0_val hmk) rfl j d)
    (fun j d h => D.dk_zero (by omega) h) j d).trans (congrArg _ ?_)
  show _ = ∑ _ ∈ _, _
  rw [Finset.sum_range_succ]; rfl

theorem dk_3 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_4 (F := Ideal) c arg2 harg2 arg3 harg3 arg4 harg4 arg5 harg5 arg6 harg6 arg7 harg7 arg8 harg8 arg10 x0 x1 x2 x3 x4 x5 x6) (ix2 j d) = ((D.sumK 3 j d : ℝ) : EReal) := by
  refine (acc2 arg10.view (N := 384) (by omega) (f := fun j d => D.sumK 2 j d) (g := fun j d => D.dk 0 j d 128 256) (fun j d => dk_2 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 0) (r0 := 128) (R := 256) (by omega) (by omega) (by omega) (mask1_val hmk (R := 256) (N := 384) (by omega) rfl) rfl j d)
    (fun j d h => D.dk_zero (by omega) h) j d).trans (congrArg _ ?_)
  show _ = ∑ _ ∈ _, _
  rw [Finset.sum_range_succ]; rfl

theorem dk_4 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_5 (F := Ideal) c arg2 harg2 arg3 harg3 arg4 harg4 arg5 harg5 arg6 harg6 arg7 harg7 arg8 harg8 arg10 x0 x1 x2 x3 x4 x5 x6) (ix2 j d) = ((D.sumK 4 j d : ℝ) : EReal) := by
  refine (acc2 arg10.view (N := 384) (by omega) (f := fun j d => D.sumK 3 j d) (g := fun j d => D.dk 1 j d 128 256) (fun j d => dk_3 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 1) (r0 := 128) (R := 256) (by omega) (by omega) (by omega) (mask1_val hmk (R := 256) (N := 384) (by omega) rfl) rfl j d)
    (fun j d h => D.dk_zero (by omega) h) j d).trans (congrArg _ ?_)
  show _ = ∑ _ ∈ _, _
  rw [Finset.sum_range_succ]; rfl

theorem dk_5 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_6 (F := Ideal) c arg2 harg2 arg3 harg3 arg4 harg4 arg5 harg5 arg6 harg6 arg7 harg7 arg8 harg8 arg10 x0 x1 x2 x3 x4 x5 x6) (ix2 j d) = ((D.sumK 5 j d : ℝ) : EReal) := by
  refine (acc2 arg10.view (N := 640) (by omega) (f := fun j d => D.sumK 4 j d) (g := fun j d => D.dk 0 j d 384 256) (fun j d => dk_4 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 0) (r0 := 384) (R := 256) (by omega) (by omega) (by omega) (maskG_val hmk (R := 256) (M := 256) (N := 640) (r0 := 384) (by omega) rfl rfl) rfl j d)
    (fun j d h => D.dk_zero (by omega) h) j d).trans (congrArg _ ?_)
  show _ = ∑ _ ∈ _, _
  rw [Finset.sum_range_succ]; rfl

theorem dk_6 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_7 (F := Ideal) c arg2 harg2 arg3 harg3 arg4 harg4 arg5 harg5 arg6 harg6 arg7 harg7 arg8 harg8 arg10 x0 x1 x2 x3 x4 x5 x6) (ix2 j d) = ((D.sumK 6 j d : ℝ) : EReal) := by
  refine (acc2 arg10.view (N := 640) (by omega) (f := fun j d => D.sumK 5 j d) (g := fun j d => D.dk 1 j d 384 256) (fun j d => dk_5 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 1) (r0 := 384) (R := 256) (by omega) (by omega) (by omega) (maskG_val hmk (R := 256) (M := 256) (N := 640) (r0 := 384) (by omega) rfl rfl) rfl j d)
    (fun j d h => D.dk_zero (by omega) h) j d).trans (congrArg _ ?_)
  show _ = ∑ _ ∈ _, _
  rw [Finset.sum_range_succ]; rfl

theorem dk_7 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_8 (F := Ideal) c arg2 harg2 arg3 harg3 arg4 harg4 arg5 harg5 arg6 harg6 arg7 harg7 arg8 harg8 arg10 x0 x1 x2 x3 x4 x5 x6) (ix2 j d) = ((D.sumK 7 j d : ℝ) : EReal) := by
  refine (acc2 arg10.view (N := 896) (by omega) (f := fun j d => D.sumK 6 j d) (g := fun j d => D.dk 0 j d 640 256) (fun j d => dk_6 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 0) (r0 := 640) (R := 256) (by omega) (by omega) (by omega) (maskG_val hmk (R := 256) (M := 512) (N := 896) (r0 := 640) (by omega) rfl rfl) rfl j d)
    (fun j d h => D.dk_zero (by omega) h) j d).trans (congrArg _ ?_)
  show _ = ∑ _ ∈ _, _
  rw [Finset.sum_range_succ]; rfl

theorem dk_8 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_9 (F := Ideal) c arg2 harg2 arg3 harg3 arg4 harg4 arg5 harg5 arg6 harg6 arg7 harg7 arg8 harg8 arg10 x0 x1 x2 x3 x4 x5 x6) (ix2 j d) = ((D.sumK 8 j d : ℝ) : EReal) := by
  refine (acc2 arg10.view (N := 896) (by omega) (f := fun j d => D.sumK 7 j d) (g := fun j d => D.dk 1 j d 640 256) (fun j d => dk_7 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 1) (r0 := 640) (R := 256) (by omega) (by omega) (by omega) (maskG_val hmk (R := 256) (M := 512) (N := 896) (r0 := 640) (by omega) rfl rfl) rfl j d)
    (fun j d h => D.dk_zero (by omega) h) j d).trans (congrArg _ ?_)
  show _ = ∑ _ ∈ _, _
  rw [Finset.sum_range_succ]; rfl

theorem dk_9 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_10 (F := Ideal) c arg2 harg2 arg3 harg3 arg4 harg4 arg5 harg5 arg6 harg6 arg7 harg7 arg8 harg8 arg10 x0 x1 x2 x3 x4 x5 x6) (ix2 j d) = ((D.sumK 9 j d : ℝ) : EReal) := by
  refine (acc2 arg10.view (N := 1152) (by omega) (f := fun j d => D.sumK 8 j d) (g := fun j d => D.dk 0 j d 896 256) (fun j d => dk_8 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 0) (r0 := 896) (R := 256) (by omega) (by omega) (by omega) (maskG_val hmk (R := 256) (M := 768) (N := 1152) (r0 := 896) (by omega) rfl rfl) rfl j d)
    (fun j d h => D.dk_zero (by omega) h) j d).trans (congrArg _ ?_)
  show _ = ∑ _ ∈ _, _
  rw [Finset.sum_range_succ]; rfl

theorem dk_10 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_11 (F := Ideal) c arg2 harg2 arg3 harg3 arg4 harg4 arg5 harg5 arg6 harg6 arg7 harg7 arg8 harg8 arg10 x0 x1 x2 x3 x4 x5 x6) (ix2 j d) = ((D.sumK 10 j d : ℝ) : EReal) := by
  refine (acc2 arg10.view (N := 1152) (by omega) (f := fun j d => D.sumK 9 j d) (g := fun j d => D.dk 1 j d 896 256) (fun j d => dk_9 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 1) (r0 := 896) (R := 256) (by omega) (by omega) (by omega) (maskG_val hmk (R := 256) (M := 768) (N := 1152) (r0 := 896) (by omega) rfl rfl) rfl j d)
    (fun j d h => D.dk_zero (by omega) h) j d).trans (congrArg _ ?_)
  show _ = ∑ _ ∈ _, _
  rw [Finset.sum_range_succ]; rfl

theorem dk_11 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_12 (F := Ideal) c arg2 harg2 arg3 harg3 arg4 harg4 arg5 harg5 arg6 harg6 arg7 harg7 arg8 harg8 arg10 x0 x1 x2 x3 x4 x5 x6) (ix2 j d) = ((D.sumK 11 j d : ℝ) : EReal) := by
  refine (acc2 arg10.view (N := 1408) (by omega) (f := fun j d => D.sumK 10 j d) (g := fun j d => D.dk 0 j d 1152 256) (fun j d => dk_10 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 0) (r0 := 1152) (R := 256) (by omega) (by omega) (by omega) (maskG_val hmk (R := 256) (M := 1024) (N := 1408) (r0 := 1152) (by omega) rfl rfl) rfl j d)
    (fun j d h => D.dk_zero (by omega) h) j d).trans (congrArg _ ?_)
  show _ = ∑ _ ∈ _, _
  rw [Finset.sum_range_succ]; rfl

theorem dk_12 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_13 (F := Ideal) c arg2 harg2 arg3 harg3 arg4 harg4 arg5 harg5 arg6 harg6 arg7 harg7 arg8 harg8 arg10 x0 x1 x2 x3 x4 x5 x6) (ix2 j d) = ((D.sumK 12 j d : ℝ) : EReal) := by
  refine (acc2 arg10.view (N := 1408) (by omega) (f := fun j d => D.sumK 11 j d) (g := fun j d => D.dk 1 j d 1152 256) (fun j d => dk_11 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 1) (r0 := 1152) (R := 256) (by omega) (by omega) (by omega) (maskG_val hmk (R := 256) (M := 1024) (N := 1408) (r0 := 1152) (by omega) rfl rfl) rfl j d)
    (fun j d h => D.dk_zero (by omega) h) j d).trans (congrArg _ ?_)
  show _ = ∑ _ ∈ _, _
  rw [Finset.sum_range_succ]; rfl

theorem dk_13 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_14 (F := Ideal) c arg2 harg2 arg3 harg3 arg4 harg4 arg5 harg5 arg6 harg6 arg7 harg7 arg8 harg8 arg10 x0 x1 x2 x3 x4 x5 x6) (ix2 j d) = ((D.sumK 13 j d : ℝ) : EReal) := by
  refine (acc2 arg10.view (N := 1664) (by omega) (f := fun j d => D.sumK 12 j d) (g := fun j d => D.dk 0 j d 1408 256) (fun j d => dk_12 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 0) (r0 := 1408) (R := 256) (by omega) (by omega) (by omega) (maskG_val hmk (R := 256) (M := 1280) (N := 1664) (r0 := 1408) (by omega) rfl rfl) rfl j d)
    (fun j d h => D.dk_zero (by omega) h) j d).trans (congrArg _ ?_)
  show _ = ∑ _ ∈ _, _
  rw [Finset.sum_range_succ]; rfl

theorem dk_14 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_15 (F := Ideal) c arg2 harg2 arg3 harg3 arg4 harg4 arg5 harg5 arg6 harg6 arg7 harg7 arg8 harg8 arg10 x0 x1 x2 x3 x4 x5 x6) (ix2 j d) = ((D.sumK 14 j d : ℝ) : EReal) := by
  refine (acc2 arg10.view (N := 1664) (by omega) (f := fun j d => D.sumK 13 j d) (g := fun j d => D.dk 1 j d 1408 256) (fun j d => dk_13 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 1) (r0 := 1408) (R := 256) (by omega) (by omega) (by omega) (maskG_val hmk (R := 256) (M := 1280) (N := 1664) (r0 := 1408) (by omega) rfl rfl) rfl j d)
    (fun j d h => D.dk_zero (by omega) h) j d).trans (congrArg _ ?_)
  show _ = ∑ _ ∈ _, _
  rw [Finset.sum_range_succ]; rfl

theorem dk_15 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_16 (F := Ideal) c arg2 harg2 arg3 harg3 arg4 harg4 arg5 harg5 arg6 harg6 arg7 harg7 arg8 harg8 arg10 x0 x1 x2 x3 x4 x5 x6) (ix2 j d) = ((D.sumK 15 j d : ℝ) : EReal) := by
  refine (acc2 arg10.view (N := 1920) (by omega) (f := fun j d => D.sumK 14 j d) (g := fun j d => D.dk 0 j d 1664 256) (fun j d => dk_14 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 0) (r0 := 1664) (R := 256) (by omega) (by omega) (by omega) (maskG_val hmk (R := 256) (M := 1536) (N := 1920) (r0 := 1664) (by omega) rfl rfl) rfl j d)
    (fun j d h => D.dk_zero (by omega) h) j d).trans (congrArg _ ?_)
  show _ = ∑ _ ∈ _, _
  rw [Finset.sum_range_succ]; rfl

theorem dk_16 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_17 (F := Ideal) c arg2 harg2 arg3 harg3 arg4 harg4 arg5 harg5 arg6 harg6 arg7 harg7 arg8 harg8 arg10 x0 x1 x2 x3 x4 x5 x6) (ix2 j d) = ((D.sumK 16 j d : ℝ) : EReal) := by
  refine (acc2 arg10.view (N := 1920) (by omega) (f := fun j d => D.sumK 15 j d) (g := fun j d => D.dk 1 j d 1664 256) (fun j d => dk_15 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 1) (r0 := 1664) (R := 256) (by omega) (by omega) (by omega) (maskG_val hmk (R := 256) (M := 1536) (N := 1920) (r0 := 1664) (by omega) rfl rfl) rfl j d)
    (fun j d h => D.dk_zero (by omega) h) j d).trans (congrArg _ ?_)
  show _ = ∑ _ ∈ _, _
  rw [Finset.sum_range_succ]; rfl

theorem dk_17 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_18 (F := Ideal) c arg2 harg2 arg3 harg3 arg4 harg4 arg5 harg5 arg6 harg6 arg7 harg7 arg8 harg8 arg10 x0 x1 x2 x3 x4 x5 x6) (ix2 j d) = ((D.sumK 17 j d : ℝ) : EReal) := by
  refine (acc2 arg10.view (N := 2176) (by omega) (f := fun j d => D.sumK 16 j d) (g := fun j d => D.dk 0 j d 1920 256) (fun j d => dk_16 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 0) (r0 := 1920) (R := 256) (by omega) (by omega) (by omega) (maskG_val hmk (R := 256) (M := 1792) (N := 2176) (r0 := 1920) (by omega) rfl rfl) rfl j d)
    (fun j d h => D.dk_zero (by omega) h) j d).trans (congrArg _ ?_)
  show _ = ∑ _ ∈ _, _
  rw [Finset.sum_range_succ]; rfl

theorem dk_18 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6).2.1 (ix2 j d) = ((D.sumK 18 j d : ℝ) : EReal) := by
  refine (acc2 arg10.view (N := 2176) (by omega) (f := fun j d => D.sumK 17 j d) (g := fun j d => D.dk 1 j d 1920 256) (fun j d => dk_17 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dkS_val H (e := 1) (r0 := 1920) (R := 256) (by omega) (by omega) (by omega) (maskG_val hmk (R := 256) (M := 1792) (N := 2176) (r0 := 1920) (by omega) rfl rfl) rfl j d)
    (fun j d h => D.dk_zero (by omega) h) j d).trans (congrArg _ ?_)
  show _ = ∑ _ ∈ _, _
  rw [Finset.sum_range_succ]; rfl

end Fox
-- ==== Proof.ValGrad.lean ====
module

public import proofs.«01_k».proof.Proof.Arrays
public import proofs.«01_k».proof.Proof.Gen.KernelIdeal.Value

/-!
  The value gradient of a grid step: eighteen additions, two heads in each of nine blocks of rows.
-/

@[expose] public section

set_option maxRecDepth 16384

noncomputable section

namespace Fox

open Cert.KernelIdeal Cert.KernelIdeal.Gen Idealize.ShloMosaic Idealize.ShloMosaic.ValueIdx
open scoped BigOperators

variable (c : Dev nD) (arg2 : Memref sig .tc .vmem S2176x128 .bf16) (harg2 : arg2.IsWhole) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S1x2176x2 .f32) (harg6 : arg6.IsWhole) (arg7 : Memref sig .tc .vmem S1x1x2176 .f32) (harg7 : arg7.IsWhole) (arg8 : Memref sig .tc .vmem S1x1x2176 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole) (arg12 : Memref sig .tc .vmem S1x1x2176 .f32) (harg12 : arg12.IsWhole) (arg13 : Memref sig .tc .vmem S1x1x2176 .f32) (harg13 : arg13.IsWhole)
  (x0 : S2176x128.Idx → Elt Ideal .bf16)
  (x1 : S2176x128.Idx → Elt Ideal .bf16)
  (x2 : S2176x128.Idx → Elt Ideal .bf16)
  (x3 : S2176x128.Idx → Elt Ideal .bf16)
  (x4 : S1x2176x2.Idx → Elt Ideal .f32)
  (x5 : S1x1x2176.Idx → Elt Ideal .f32)
  (x6 : S1x1x2176.Idx → Elt Ideal .f32)

include c arg2 harg2 arg3 harg3 arg4 harg4 arg5 harg5 arg6 harg6 arg7 harg7 arg8 harg8 arg9 harg9 arg10 harg10 arg11 harg11 arg12 harg12 arg13 harg13 x0 x1 x2 x3 x4 x5 x6

set_option maxHeartbeats 8000000

theorem dv_0 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H8_1 (F := Ideal)) (ix2 j d) = ((D.sumV 0 j d : ℝ) : EReal) := by
  exact (zero2 j d).trans (by simp [Dat.sumV])

theorem dv_1 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_2 (F := Ideal) c arg2 harg2 arg3 harg3 arg5 harg5 arg6 harg6 arg7 harg7 arg11 x0 x1 x3 x4 x5) (ix2 j d) = ((D.sumV 1 j d : ℝ) : EReal) := by
  refine (acc2 arg11.view (N := 128) (by omega) (f := fun j d => D.sumV 0 j d) (g := fun j d => D.dv 0 j d 0 128) (fun j d => dv_0 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 0) (r0 := 0) (R := 128) (by omega) (by omega) (by omega) (mask0_val hmk) rfl j d)
    (fun j d h => D.dv_zero (by omega) h) j d).trans (congrArg _ ?_)
  show _ = ∑ _ ∈ _, _
  rw [Finset.sum_range_succ]; rfl

theorem dv_2 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_3 (F := Ideal) c arg2 harg2 arg3 harg3 arg5 harg5 arg6 harg6 arg7 harg7 arg8 harg8 arg11 x0 x1 x3 x4 x5 x6) (ix2 j d) = ((D.sumV 2 j d : ℝ) : EReal) := by
  refine (acc2 arg11.view (N := 128) (by omega) (f := fun j d => D.sumV 1 j d) (g := fun j d => D.dv 1 j d 0 128) (fun j d => dv_1 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 1) (r0 := 0) (R := 128) (by omega) (by omega) (by omega) (mask0_val hmk) rfl j d)
    (fun j d h => D.dv_zero (by omega) h) j d).trans (congrArg _ ?_)
  show _ = ∑ _ ∈ _, _
  rw [Finset.sum_range_succ]; rfl

theorem dv_3 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_4 (F := Ideal) c arg2 harg2 arg3 harg3 arg5 harg5 arg6 harg6 arg7 harg7 arg8 harg8 arg11 x0 x1 x3 x4 x5 x6) (ix2 j d) = ((D.sumV 3 j d : ℝ) : EReal) := by
  refine (acc2 arg11.view (N := 384) (by omega) (f := fun j d => D.sumV 2 j d) (g := fun j d => D.dv 0 j d 128 256) (fun j d => dv_2 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 0) (r0 := 128) (R := 256) (by omega) (by omega) (by omega) (mask1_val hmk (R := 256) (N := 384) (by omega) rfl) rfl j d)
    (fun j d h => D.dv_zero (by omega) h) j d).trans (congrArg _ ?_)
  show _ = ∑ _ ∈ _, _
  rw [Finset.sum_range_succ]; rfl

theorem dv_4 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_5 (F := Ideal) c arg2 harg2 arg3 harg3 arg5 harg5 arg6 harg6 arg7 harg7 arg8 harg8 arg11 x0 x1 x3 x4 x5 x6) (ix2 j d) = ((D.sumV 4 j d : ℝ) : EReal) := by
  refine (acc2 arg11.view (N := 384) (by omega) (f := fun j d => D.sumV 3 j d) (g := fun j d => D.dv 1 j d 128 256) (fun j d => dv_3 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 1) (r0 := 128) (R := 256) (by omega) (by omega) (by omega) (mask1_val hmk (R := 256) (N := 384) (by omega) rfl) rfl j d)
    (fun j d h => D.dv_zero (by omega) h) j d).trans (congrArg _ ?_)
  show _ = ∑ _ ∈ _, _
  rw [Finset.sum_range_succ]; rfl

theorem dv_5 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_6 (F := Ideal) c arg2 harg2 arg3 harg3 arg5 harg5 arg6 harg6 arg7 harg7 arg8 harg8 arg11 x0 x1 x3 x4 x5 x6) (ix2 j d) = ((D.sumV 5 j d : ℝ) : EReal) := by
  refine (acc2 arg11.view (N := 640) (by omega) (f := fun j d => D.sumV 4 j d) (g := fun j d => D.dv 0 j d 384 256) (fun j d => dv_4 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 0) (r0 := 384) (R := 256) (by omega) (by omega) (by omega) (maskG_val hmk (R := 256) (M := 256) (N := 640) (r0 := 384) (by omega) rfl rfl) rfl j d)
    (fun j d h => D.dv_zero (by omega) h) j d).trans (congrArg _ ?_)
  show _ = ∑ _ ∈ _, _
  rw [Finset.sum_range_succ]; rfl

theorem dv_6 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_7 (F := Ideal) c arg2 harg2 arg3 harg3 arg5 harg5 arg6 harg6 arg7 harg7 arg8 harg8 arg11 x0 x1 x3 x4 x5 x6) (ix2 j d) = ((D.sumV 6 j d : ℝ) : EReal) := by
  refine (acc2 arg11.view (N := 640) (by omega) (f := fun j d => D.sumV 5 j d) (g := fun j d => D.dv 1 j d 384 256) (fun j d => dv_5 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 1) (r0 := 384) (R := 256) (by omega) (by omega) (by omega) (maskG_val hmk (R := 256) (M := 256) (N := 640) (r0 := 384) (by omega) rfl rfl) rfl j d)
    (fun j d h => D.dv_zero (by omega) h) j d).trans (congrArg _ ?_)
  show _ = ∑ _ ∈ _, _
  rw [Finset.sum_range_succ]; rfl

theorem dv_7 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_8 (F := Ideal) c arg2 harg2 arg3 harg3 arg5 harg5 arg6 harg6 arg7 harg7 arg8 harg8 arg11 x0 x1 x3 x4 x5 x6) (ix2 j d) = ((D.sumV 7 j d : ℝ) : EReal) := by
  refine (acc2 arg11.view (N := 896) (by omega) (f := fun j d => D.sumV 6 j d) (g := fun j d => D.dv 0 j d 640 256) (fun j d => dv_6 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 0) (r0 := 640) (R := 256) (by omega) (by omega) (by omega) (maskG_val hmk (R := 256) (M := 512) (N := 896) (r0 := 640) (by omega) rfl rfl) rfl j d)
    (fun j d h => D.dv_zero (by omega) h) j d).trans (congrArg _ ?_)
  show _ = ∑ _ ∈ _, _
  rw [Finset.sum_range_succ]; rfl

theorem dv_8 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_9 (F := Ideal) c arg2 harg2 arg3 harg3 arg5 harg5 arg6 harg6 arg7 harg7 arg8 harg8 arg11 x0 x1 x3 x4 x5 x6) (ix2 j d) = ((D.sumV 8 j d : ℝ) : EReal) := by
  refine (acc2 arg11.view (N := 896) (by omega) (f := fun j d => D.sumV 7 j d) (g := fun j d => D.dv 1 j d 640 256) (fun j d => dv_7 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 1) (r0 := 640) (R := 256) (by omega) (by omega) (by omega) (maskG_val hmk (R := 256) (M := 512) (N := 896) (r0 := 640) (by omega) rfl rfl) rfl j d)
    (fun j d h => D.dv_zero (by omega) h) j d).trans (congrArg _ ?_)
  show _ = ∑ _ ∈ _, _
  rw [Finset.sum_range_succ]; rfl

theorem dv_9 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_10 (F := Ideal) c arg2 harg2 arg3 harg3 arg5 harg5 arg6 harg6 arg7 harg7 arg8 harg8 arg11 x0 x1 x3 x4 x5 x6) (ix2 j d) = ((D.sumV 9 j d : ℝ) : EReal) := by
  refine (acc2 arg11.view (N := 1152) (by omega) (f := fun j d => D.sumV 8 j d) (g := fun j d => D.dv 0 j d 896 256) (fun j d => dv_8 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 0) (r0 := 896) (R := 256) (by omega) (by omega) (by omega) (maskG_val hmk (R := 256) (M := 768) (N := 1152) (r0 := 896) (by omega) rfl rfl) rfl j d)
    (fun j d h => D.dv_zero (by omega) h) j d).trans (congrArg _ ?_)
  show _ = ∑ _ ∈ _, _
  rw [Finset.sum_range_succ]; rfl

theorem dv_10 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_11 (F := Ideal) c arg2 harg2 arg3 harg3 arg5 harg5 arg6 harg6 arg7 harg7 arg8 harg8 arg11 x0 x1 x3 x4 x5 x6) (ix2 j d) = ((D.sumV 10 j d : ℝ) : EReal) := by
  refine (acc2 arg11.view (N := 1152) (by omega) (f := fun j d => D.sumV 9 j d) (g := fun j d => D.dv 1 j d 896 256) (fun j d => dv_9 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 1) (r0 := 896) (R := 256) (by omega) (by omega) (by omega) (maskG_val hmk (R := 256) (M := 768) (N := 1152) (r0 := 896) (by omega) rfl rfl) rfl j d)
    (fun j d h => D.dv_zero (by omega) h) j d).trans (congrArg _ ?_)
  show _ = ∑ _ ∈ _, _
  rw [Finset.sum_range_succ]; rfl

theorem dv_11 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_12 (F := Ideal) c arg2 harg2 arg3 harg3 arg5 harg5 arg6 harg6 arg7 harg7 arg8 harg8 arg11 x0 x1 x3 x4 x5 x6) (ix2 j d) = ((D.sumV 11 j d : ℝ) : EReal) := by
  refine (acc2 arg11.view (N := 1408) (by omega) (f := fun j d => D.sumV 10 j d) (g := fun j d => D.dv 0 j d 1152 256) (fun j d => dv_10 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 0) (r0 := 1152) (R := 256) (by omega) (by omega) (by omega) (maskG_val hmk (R := 256) (M := 1024) (N := 1408) (r0 := 1152) (by omega) rfl rfl) rfl j d)
    (fun j d h => D.dv_zero (by omega) h) j d).trans (congrArg _ ?_)
  show _ = ∑ _ ∈ _, _
  rw [Finset.sum_range_succ]; rfl

theorem dv_12 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_13 (F := Ideal) c arg2 harg2 arg3 harg3 arg5 harg5 arg6 harg6 arg7 harg7 arg8 harg8 arg11 x0 x1 x3 x4 x5 x6) (ix2 j d) = ((D.sumV 12 j d : ℝ) : EReal) := by
  refine (acc2 arg11.view (N := 1408) (by omega) (f := fun j d => D.sumV 11 j d) (g := fun j d => D.dv 1 j d 1152 256) (fun j d => dv_11 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 1) (r0 := 1152) (R := 256) (by omega) (by omega) (by omega) (maskG_val hmk (R := 256) (M := 1024) (N := 1408) (r0 := 1152) (by omega) rfl rfl) rfl j d)
    (fun j d h => D.dv_zero (by omega) h) j d).trans (congrArg _ ?_)
  show _ = ∑ _ ∈ _, _
  rw [Finset.sum_range_succ]; rfl

theorem dv_13 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_14 (F := Ideal) c arg2 harg2 arg3 harg3 arg5 harg5 arg6 harg6 arg7 harg7 arg8 harg8 arg11 x0 x1 x3 x4 x5 x6) (ix2 j d) = ((D.sumV 13 j d : ℝ) : EReal) := by
  refine (acc2 arg11.view (N := 1664) (by omega) (f := fun j d => D.sumV 12 j d) (g := fun j d => D.dv 0 j d 1408 256) (fun j d => dv_12 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 0) (r0 := 1408) (R := 256) (by omega) (by omega) (by omega) (maskG_val hmk (R := 256) (M := 1280) (N := 1664) (r0 := 1408) (by omega) rfl rfl) rfl j d)
    (fun j d h => D.dv_zero (by omega) h) j d).trans (congrArg _ ?_)
  show _ = ∑ _ ∈ _, _
  rw [Finset.sum_range_succ]; rfl

theorem dv_14 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_15 (F := Ideal) c arg2 harg2 arg3 harg3 arg5 harg5 arg6 harg6 arg7 harg7 arg8 harg8 arg11 x0 x1 x3 x4 x5 x6) (ix2 j d) = ((D.sumV 14 j d : ℝ) : EReal) := by
  refine (acc2 arg11.view (N := 1664) (by omega) (f := fun j d => D.sumV 13 j d) (g := fun j d => D.dv 1 j d 1408 256) (fun j d => dv_13 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 1) (r0 := 1408) (R := 256) (by omega) (by omega) (by omega) (maskG_val hmk (R := 256) (M := 1280) (N := 1664) (r0 := 1408) (by omega) rfl rfl) rfl j d)
    (fun j d h => D.dv_zero (by omega) h) j d).trans (congrArg _ ?_)
  show _ = ∑ _ ∈ _, _
  rw [Finset.sum_range_succ]; rfl

theorem dv_15 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_16 (F := Ideal) c arg2 harg2 arg3 harg3 arg5 harg5 arg6 harg6 arg7 harg7 arg8 harg8 arg11 x0 x1 x3 x4 x5 x6) (ix2 j d) = ((D.sumV 15 j d : ℝ) : EReal) := by
  refine (acc2 arg11.view (N := 1920) (by omega) (f := fun j d => D.sumV 14 j d) (g := fun j d => D.dv 0 j d 1664 256) (fun j d => dv_14 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 0) (r0 := 1664) (R := 256) (by omega) (by omega) (by omega) (maskG_val hmk (R := 256) (M := 1536) (N := 1920) (r0 := 1664) (by omega) rfl rfl) rfl j d)
    (fun j d h => D.dv_zero (by omega) h) j d).trans (congrArg _ ?_)
  show _ = ∑ _ ∈ _, _
  rw [Finset.sum_range_succ]; rfl

theorem dv_16 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_17 (F := Ideal) c arg2 harg2 arg3 harg3 arg5 harg5 arg6 harg6 arg7 harg7 arg8 harg8 arg11 x0 x1 x3 x4 x5 x6) (ix2 j d) = ((D.sumV 16 j d : ℝ) : EReal) := by
  refine (acc2 arg11.view (N := 1920) (by omega) (f := fun j d => D.sumV 15 j d) (g := fun j d => D.dv 1 j d 1664 256) (fun j d => dv_15 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 1) (r0 := 1664) (R := 256) (by omega) (by omega) (by omega) (maskG_val hmk (R := 256) (M := 1536) (N := 1920) (r0 := 1664) (by omega) rfl rfl) rfl j d)
    (fun j d h => D.dv_zero (by omega) h) j d).trans (congrArg _ ?_)
  show _ = ∑ _ ∈ _, _
  rw [Finset.sum_range_succ]; rfl

theorem dv_17 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A.sl.H9_18 (F := Ideal) c arg2 harg2 arg3 harg3 arg5 harg5 arg6 harg6 arg7 harg7 arg8 harg8 arg11 x0 x1 x3 x4 x5 x6) (ix2 j d) = ((D.sumV 17 j d : ℝ) : EReal) := by
  refine (acc2 arg11.view (N := 2176) (by omega) (f := fun j d => D.sumV 16 j d) (g := fun j d => D.dv 0 j d 1920 256) (fun j d => dv_16 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 0) (r0 := 1920) (R := 256) (by omega) (by omega) (by omega) (maskG_val hmk (R := 256) (M := 1792) (N := 2176) (r0 := 1920) (by omega) rfl rfl) rfl j d)
    (fun j d h => D.dv_zero (by omega) h) j d).trans (congrArg _ ?_)
  show _ = ∑ _ ∈ _, _
  rw [Finset.sum_range_succ]; rfl

theorem dv_18 (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6).2.2.1 (ix2 j d) = ((D.sumV 18 j d : ℝ) : EReal) := by
  refine (acc2 arg11.view (N := 2176) (by omega) (f := fun j d => D.sumV 17 j d) (g := fun j d => D.dv 1 j d 1920 256) (fun j d => dv_17 c arg2 harg2 arg3 harg3 arg4 harg4 arg5 harg5 arg6 harg6 arg7 harg7 arg8 harg8 arg9 harg9 arg10 harg10 arg11 harg11 arg12 harg12 arg13 harg13 x0 x1 x2 x3 x4 x5 x6 i H j d)
    (fun j d => dvS_val H (e := 1) (r0 := 1920) (R := 256) (by omega) (by omega) (by omega) (maskG_val hmk (R := 256) (M := 1792) (N := 2176) (r0 := 1920) (by omega) rfl rfl) rfl j d)
    (fun j d h => D.dv_zero (by omega) h) j d).trans (congrArg _ ?_)
  show _ = ∑ _ ∈ _, _
  rw [Finset.sum_range_succ]; rfl

end Fox
-- ==== Proof.QueryGrad.lean ====
module

public import proofs.«01_k».proof.Proof.Arrays
public import proofs.«01_k».proof.Proof.Gen.KernelIdeal.Value

/-!
  The query gradient of a grid step: nine blocks of rows, both heads put together.
-/

@[expose] public section

set_option maxRecDepth 16384

noncomputable section

namespace Fox

open Cert.KernelIdeal Cert.KernelIdeal.Gen Idealize.ShloMosaic Idealize.ShloMosaic.ValueIdx
open scoped BigOperators

variable (c : Dev nD) (arg2 : Memref sig .tc .vmem S2176x128 .bf16) (harg2 : arg2.IsWhole) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S1x2176x2 .f32) (harg6 : arg6.IsWhole) (arg7 : Memref sig .tc .vmem S1x1x2176 .f32) (harg7 : arg7.IsWhole) (arg8 : Memref sig .tc .vmem S1x1x2176 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole) (arg12 : Memref sig .tc .vmem S1x1x2176 .f32) (harg12 : arg12.IsWhole) (arg13 : Memref sig .tc .vmem S1x1x2176 .f32) (harg13 : arg13.IsWhole)
  (x0 : S2176x128.Idx → Elt Ideal .bf16)
  (x1 : S2176x128.Idx → Elt Ideal .bf16)
  (x2 : S2176x128.Idx → Elt Ideal .bf16)
  (x3 : S2176x128.Idx → Elt Ideal .bf16)
  (x4 : S1x2176x2.Idx → Elt Ideal .f32)
  (x5 : S1x1x2176.Idx → Elt Ideal .f32)
  (x6 : S1x1x2176.Idx → Elt Ideal .f32)

include c arg2 harg2 arg3 harg3 arg4 harg4 arg5 harg5 arg6 harg6 arg7 harg7 arg8 harg8 arg9 harg9 arg10 harg10 arg11 harg11 arg12 harg12 arg13 harg13 x0 x1 x2 x3 x4 x5 x6

set_option maxHeartbeats 8000000

theorem dq_all (i : grid0.Coords) {D : Dat} (H : Rep (ins arg2 harg2 arg3 harg3 arg4 harg4 arg5 harg5 arg6 harg6 arg7 harg7 arg8 harg8 x0 x1 x2 x3 x4 x5 x6) D) (j : Fin 2176) (d : Fin 128) :
    View.canon (Val := Elt Ideal) (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6).1 (ix2 j d) = ((if d.val < 64 then D.dq 0 j d else D.dq 1 j d : ℝ) : EReal) := by
  have h0 := put2 (r0 := 0) (R := 128) (lo := 0) (by omega) rfl (f := fun j d => if d < 64 then D.dq 0 j d else D.dq 1 j d)
    (c := selV (dqS (ins arg2 harg2 arg3 harg3 arg4 harg4 arg5 harg5 arg6 harg6 arg7 harg7 arg8 harg8 x0 x1 x2 x3 x4 x5 x6) 0 0 128 128 (by omega) (by omega) (by omega) (mask0 mk 128 128)) (dqS (ins arg2 harg2 arg3 harg3 arg4 harg4 arg5 harg5 arg6 harg6 arg7 harg7 arg8 harg8 x0 x1 x2 x3 x4 x5 x6) 1 0 128 128 (by omega) (by omega) (by omega) (mask0 mk 128 128)))
    (L := []) (fun j d h => absurd h (Nat.not_lt_zero _))
    (fun j d => by
      rw [selV_apply, (dqS_val H (e := 0) (r0 := 0) (R := 128) (N := 128) (by omega) (by omega) (by omega) (mask0_val hmk) rfl j d), (dqS_val H (e := 1) (r0 := 0) (R := 128) (N := 128) (by omega) (by omega) (by omega) (mask0_val hmk) rfl j d)]
      split <;> rfl)
  have h1 := put2 (r0 := 128) (R := 256) (lo := 128) (by omega) rfl (f := fun j d => if d < 64 then D.dq 0 j d else D.dq 1 j d)
    (c := selV (dqS (ins arg2 harg2 arg3 harg3 arg4 harg4 arg5 harg5 arg6 harg6 arg7 harg7 arg8 harg8 x0 x1 x2 x3 x4 x5 x6) 0 128 256 384 (by omega) (by omega) (by omega) (mask1 mk 256 384 rfl)) (dqS (ins arg2 harg2 arg3 harg3 arg4 harg4 arg5 harg5 arg6 harg6 arg7 harg7 arg8 harg8 x0 x1 x2 x3 x4 x5 x6) 1 128 256 384 (by omega) (by omega) (by omega) (mask1 mk 256 384 rfl)))
    h0
    (fun j d => by
      rw [selV_apply, (dqS_val H (e := 0) (r0 := 128) (R := 256) (N := 384) (by omega) (by omega) (by omega) (mask1_val hmk (R := 256) (N := 384) (by omega) rfl) rfl j d), (dqS_val H (e := 1) (r0 := 128) (R := 256) (N := 384) (by omega) (by omega) (by omega) (mask1_val hmk (R := 256) (N := 384) (by omega) rfl) rfl j d)]
      split <;> rfl)
  have h2 := put2 (r0 := 384) (R := 256) (lo := 384) (by omega) rfl (f := fun j d => if d < 64 then D.dq 0 j d else D.dq 1 j d)
    (c := selV (dqS (ins arg2 harg2 arg3 harg3 arg4 harg4 arg5 harg5 arg6 harg6 arg7 harg7 arg8 harg8 x0 x1 x2 x3 x4 x5 x6) 0 384 256 640 (by omega) (by omega) (by omega) (maskG mk 256 256 640 rfl)) (dqS (ins arg2 harg2 arg3 harg3 arg4 harg4 arg5 harg5 arg6 harg6 arg7 harg7 arg8 harg8 x0 x1 x2 x3 x4 x5 x6) 1 384 256 640 (by omega) (by omega) (by omega) (maskG mk 256 256 640 rfl)))
    h1
    (fun j d => by
      rw [selV_apply, (dqS_val H (e := 0) (r0 := 384) (R := 256) (N := 640) (by omega) (by omega) (by omega) (maskG_val hmk (R := 256) (M := 256) (N := 640) (r0 := 384) (by omega) rfl rfl) rfl j d), (dqS_val H (e := 1) (r0 := 384) (R := 256) (N := 640) (by omega) (by omega) (by omega) (maskG_val hmk (R := 256) (M := 256) (N := 640) (r0 := 384) (by omega) rfl rfl) rfl j d)]
      split <;> rfl)
  have h3 := put2 (r0 := 640) (R := 256) (lo := 640) (by omega) rfl (f := fun j d => if d < 64 then D.dq 0 j d else D.dq 1 j d)
    (c := selV (dqS (ins arg2 harg2 arg3 harg3 arg4 harg4 arg5 harg5 arg6 harg6 arg7 harg7 arg8 harg8 x0 x1 x2 x3 x4 x5 x6) 0 640 256 896 (by omega) (by omega) (by omega) (maskG mk 256 512 896 rfl)) (dqS (ins arg2 harg2 arg3 harg3 arg4 harg4 arg5 harg5 arg6 harg6 arg7 harg7 arg8 harg8 x0 x1 x2 x3 x4 x5 x6) 1 640 256 896 (by omega) (by omega) (by omega) (maskG mk 256 512 896 rfl)))
    h2
    (fun j d => by
      rw [selV_apply, (dqS_val H (e := 0) (r0 := 640) (R := 256) (N := 896) (by omega) (by omega) (by omega) (maskG_val hmk (R := 256) (M := 512) (N := 896) (r0 := 640) (by omega) rfl rfl) rfl j d), (dqS_val H (e := 1) (r0 := 640) (R := 256) (N := 896) (by omega) (by omega) (by omega) (maskG_val hmk (R := 256) (M := 512) (N := 896) (r0 := 640) (by omega) rfl rfl) rfl j d)]
      split <;> rfl)
  have h4 := put2 (r0 := 896) (R := 256) (lo := 896) (by omega) rfl (f := fun j d => if d < 64 then D.dq 0 j d else D.dq 1 j d)
    (c := selV (dqS (ins arg2 harg2 arg3 harg3 arg4 harg4 arg5 harg5 arg6 harg6 arg7 harg7 arg8 harg8 x0 x1 x2 x3 x4 x5 x6) 0 896 256 1152 (by omega) (by omega) (by omega) (maskG mk 256 768 1152 rfl)) (dqS (ins arg2 harg2 arg3 harg3 arg4 harg4 arg5 harg5 arg6 harg6 arg7 harg7 arg8 harg8 x0 x1 x2 x3 x4 x5 x6) 1 896 256 1152 (by omega) (by omega) (by omega) (maskG mk 256 768 1152 rfl)))
    h3
    (fun j d => by
      rw [selV_apply, (dqS_val H (e := 0) (r0 := 896) (R := 256) (N := 1152) (by omega) (by omega) (by omega) (maskG_val hmk (R := 256) (M := 768) (N := 1152) (r0 := 896) (by omega) rfl rfl) rfl j d), (dqS_val H (e := 1) (r0 := 896) (R := 256) (N := 1152) (by omega) (by omega) (by omega) (maskG_val hmk (R := 256) (M := 768) (N := 1152) (r0 := 896) (by omega) rfl rfl) rfl j d)]
      split <;> rfl)
  have h5 := put2 (r0 := 1152) (R := 256) (lo := 1152) (by omega) rfl (f := fun j d => if d < 64 then D.dq 0 j d else D.dq 1 j d)
    (c := selV (dqS (ins arg2 harg2 arg3 harg3 arg4 harg4 arg5 harg5 arg6 harg6 arg7 harg7 arg8 harg8 x0 x1 x2 x3 x4 x5 x6) 0 1152 256 1408 (by omega) (by omega) (by omega) (maskG mk 256 1024 1408 rfl)) (dqS (ins arg2 harg2 arg3 harg3 arg4 harg4 arg5 harg5 arg6 harg6 arg7 harg7 arg8 harg8 x0 x1 x2 x3 x4 x5 x6) 1 1152 256 1408 (by omega) (by omega) (by omega) (maskG mk 256 1024 1408 rfl)))
    h4
    (fun j d => by
      rw [selV_apply, (dqS_val H (e := 0) (r0 := 1152) (R := 256) (N := 1408) (by omega) (by omega) (by omega) (maskG_val hmk (R := 256) (M := 1024) (N := 1408) (r0 := 1152) (by omega) rfl rfl) rfl j d), (dqS_val H (e := 1) (r0 := 1152) (R := 256) (N := 1408) (by omega) (by omega) (by omega) (maskG_val hmk (R := 256) (M := 1024) (N := 1408) (r0 := 1152) (by omega) rfl rfl) rfl j d)]
      split <;> rfl)
  have h6 := put2 (r0 := 1408) (R := 256) (lo := 1408) (by omega) rfl (f := fun j d => if d < 64 then D.dq 0 j d else D.dq 1 j d)
    (c := selV (dqS (ins arg2 harg2 arg3 harg3 arg4 harg4 arg5 harg5 arg6 harg6 arg7 harg7 arg8 harg8 x0 x1 x2 x3 x4 x5 x6) 0 1408 256 1664 (by omega) (by omega) (by omega) (maskG mk 256 1280 1664 rfl)) (dqS (ins arg2 harg2 arg3 harg3 arg4 harg4 arg5 harg5 arg6 harg6 arg7 harg7 arg8 harg8 x0 x1 x2 x3 x4 x5 x6) 1 1408 256 1664 (by omega) (by omega) (by omega) (maskG mk 256 1280 1664 rfl)))
    h5
    (fun j d => by
      rw [selV_apply, (dqS_val H (e := 0) (r0 := 1408) (R := 256) (N := 1664) (by omega) (by omega) (by omega) (maskG_val hmk (R := 256) (M := 1280) (N := 1664) (r0 := 1408) (by omega) rfl rfl) rfl j d), (dqS_val H (e := 1) (r0 := 1408) (R := 256) (N := 1664) (by omega) (by omega) (by omega) (maskG_val hmk (R := 256) (M := 1280) (N := 1664) (r0 := 1408) (by omega) rfl rfl) rfl j d)]
      split <;> rfl)
  have h7 := put2 (r0 := 1664) (R := 256) (lo := 1664) (by omega) rfl (f := fun j d => if d < 64 then D.dq 0 j d else D.dq 1 j d)
    (c := selV (dqS (ins arg2 harg2 arg3 harg3 arg4 harg4 arg5 harg5 arg6 harg6 arg7 harg7 arg8 harg8 x0 x1 x2 x3 x4 x5 x6) 0 1664 256 1920 (by omega) (by omega) (by omega) (maskG mk 256 1536 1920 rfl)) (dqS (ins arg2 harg2 arg3 harg3 arg4 harg4 arg5 harg5 arg6 harg6 arg7 harg7 arg8 harg8 x0 x1 x2 x3 x4 x5 x6) 1 1664 256 1920 (by omega) (by omega) (by omega) (maskG mk 256 1536 1920 rfl)))
    h6
    (fun j d => by
      rw [selV_apply, (dqS_val H (e := 0) (r0 := 1664) (R := 256) (N := 1920) (by omega) (by omega) (by omega) (maskG_val hmk (R := 256) (M := 1536) (N := 1920) (r0 := 1664) (by omega) rfl rfl) rfl j d), (dqS_val H (e := 1) (r0 := 1664) (R := 256) (N := 1920) (by omega) (by omega) (by omega) (maskG_val hmk (R := 256) (M := 1536) (N := 1920) (r0 := 1664) (by omega) rfl rfl) rfl j d)]
      split <;> rfl)
  have h8 := put2 (r0 := 1920) (R := 256) (lo := 1920) (by omega) rfl (f := fun j d => if d < 64 then D.dq 0 j d else D.dq 1 j d)
    (c := selV (dqS (ins arg2 harg2 arg3 harg3 arg4 harg4 arg5 harg5 arg6 harg6 arg7 harg7 arg8 harg8 x0 x1 x2 x3 x4 x5 x6) 0 1920 256 2176 (by omega) (by omega) (by omega) (maskG mk 256 1792 2176 rfl)) (dqS (ins arg2 harg2 arg3 harg3 arg4 harg4 arg5 harg5 arg6 harg6 arg7 harg7 arg8 harg8 x0 x1 x2 x3 x4 x5 x6) 1 1920 256 2176 (by omega) (by omega) (by omega) (maskG mk 256 1792 2176 rfl)))
    h7
    (fun j d => by
      rw [selV_apply, (dqS_val H (e := 0) (r0 := 1920) (R := 256) (N := 2176) (by omega) (by omega) (by omega) (maskG_val hmk (R := 256) (M := 1792) (N := 2176) (r0 := 1920) (by omega) rfl rfl) rfl j d), (dqS_val H (e := 1) (r0 := 1920) (R := 256) (N := 2176) (by omega) (by omega) (by omega) (maskG_val hmk (R := 256) (M := 1792) (N := 2176) (r0 := 1920) (by omega) rfl rfl) rfl j d)]
      split <;> rfl)
  exact h8 j d j.isLt

end Fox
-- ==== Proof.BiasGrad0.lean ====
module

public import proofs.«01_k».proof.Proof.Arrays
public import proofs.«01_k».proof.Proof.Gen.KernelIdeal.Value

/-!
  The first head's key bias gradient of a grid step: nine subtractions of column sums.
-/

@[expose] public section

set_option maxRecDepth 16384

noncomputable section

namespace Fox

open Cert.KernelIdeal Cert.KernelIdeal.Gen Idealize.ShloMosaic Idealize.ShloMosaic.ValueIdx
open scoped BigOperators

variable (c : Dev nD) (arg2 : Memref sig .tc .vmem S2176x128 .bf16) (harg2 : arg2.IsWhole) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S1x2176x2 .f32) (harg6 : arg6.IsWhole) (arg7 : Memref sig .tc .vmem S1x1x2176 .f32) (harg7 : arg7.IsWhole) (arg8 : Memref sig .tc .vmem S1x1x2176 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole) (arg12 : Memref sig .tc .vmem S1x1x2176 .f32) (harg12 : arg12.IsWhole) (arg13 : Memref sig .tc .vmem S1x1x2176 .f32) (harg13 : arg13.IsWhole)
  (x0 : S2176x128.Idx → Elt Ideal .bf16)
  (x1 : S2176x128.Idx → Elt Ideal .bf16)
  (x2 : S2176x128.Idx → Elt Ideal .bf16)
  (x3 : S2176x128.Idx → Elt Ideal .bf16)
  (x4 : S1x2176x2.Idx → Elt Ideal .f32)
  (x5 : S1x1x2176.Idx → Elt Ideal .f32)
  (x6 : S1x1x2176.Idx → Elt Ideal .f32)

include c arg2 harg2 arg3 harg3 arg4 harg4 arg5 harg5 arg6 harg6 arg7 harg7 arg8 harg8 arg9 harg9 arg10 harg10 arg11 harg11 arg12 harg12 arg13 harg13 x0 x1 x2 x3 x4 x5 x6

set_option maxHeartbeats 8000000

theorem dca_0 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_1 (F := Ideal)) (ix3 0 0 j) = ((-D.sumC 0 0 j : ℝ) : EReal) := by
  exact (zero3 j).trans (by simp [Dat.sumC])

theorem dca_1 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_2 (F := Ideal) c arg2 harg2 arg3 harg3 arg4 harg4 arg5 harg5 arg6 harg6 arg7 harg7 arg12 x0 x1 x2 x3 x4 x5) (ix3 0 0 j) = ((-D.sumC 0 1 j : ℝ) : EReal) := by
  refine (acc3 arg12.view (N := 128) (by omega) (f := fun j => -D.sumC 0 0 j) (g := fun j => D.dc 0 j 0 128) (fun j => dca_0 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 0) (r0 := 0) (R := 128) (by omega) (by omega) (by omega) (mask0_val hmk) rfl j)
    (fun j h => D.dc_zero (by omega) h) j).trans (congrArg _ ?_)
  show _ = -∑ _ ∈ _, _
  rw [Finset.sum_range_succ, neg_add]; rfl

theorem dca_2 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_3 (F := Ideal) c arg2 harg2 arg3 harg3 arg4 harg4 arg5 harg5 arg6 harg6 arg7 harg7 arg12 x0 x1 x2 x3 x4 x5) (ix3 0 0 j) = ((-D.sumC 0 2 j : ℝ) : EReal) := by
  refine (acc3 arg12.view (N := 384) (by omega) (f := fun j => -D.sumC 0 1 j) (g := fun j => D.dc 0 j 128 256) (fun j => dca_1 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 0) (r0 := 128) (R := 256) (by omega) (by omega) (by omega) (mask1_val hmk (R := 256) (N := 384) (by omega) rfl) rfl j)
    (fun j h => D.dc_zero (by omega) h) j).trans (congrArg _ ?_)
  show _ = -∑ _ ∈ _, _
  rw [Finset.sum_range_succ, neg_add]; rfl

theorem dca_3 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_4 (F := Ideal) c arg2 harg2 arg3 harg3 arg4 harg4 arg5 harg5 arg6 harg6 arg7 harg7 arg12 x0 x1 x2 x3 x4 x5) (ix3 0 0 j) = ((-D.sumC 0 3 j : ℝ) : EReal) := by
  refine (acc3 arg12.view (N := 640) (by omega) (f := fun j => -D.sumC 0 2 j) (g := fun j => D.dc 0 j 384 256) (fun j => dca_2 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 0) (r0 := 384) (R := 256) (by omega) (by omega) (by omega) (maskG_val hmk (R := 256) (M := 256) (N := 640) (r0 := 384) (by omega) rfl rfl) rfl j)
    (fun j h => D.dc_zero (by omega) h) j).trans (congrArg _ ?_)
  show _ = -∑ _ ∈ _, _
  rw [Finset.sum_range_succ, neg_add]; rfl

theorem dca_4 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_5 (F := Ideal) c arg2 harg2 arg3 harg3 arg4 harg4 arg5 harg5 arg6 harg6 arg7 harg7 arg12 x0 x1 x2 x3 x4 x5) (ix3 0 0 j) = ((-D.sumC 0 4 j : ℝ) : EReal) := by
  refine (acc3 arg12.view (N := 896) (by omega) (f := fun j => -D.sumC 0 3 j) (g := fun j => D.dc 0 j 640 256) (fun j => dca_3 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 0) (r0 := 640) (R := 256) (by omega) (by omega) (by omega) (maskG_val hmk (R := 256) (M := 512) (N := 896) (r0 := 640) (by omega) rfl rfl) rfl j)
    (fun j h => D.dc_zero (by omega) h) j).trans (congrArg _ ?_)
  show _ = -∑ _ ∈ _, _
  rw [Finset.sum_range_succ, neg_add]; rfl

theorem dca_5 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_6 (F := Ideal) c arg2 harg2 arg3 harg3 arg4 harg4 arg5 harg5 arg6 harg6 arg7 harg7 arg12 x0 x1 x2 x3 x4 x5) (ix3 0 0 j) = ((-D.sumC 0 5 j : ℝ) : EReal) := by
  refine (acc3 arg12.view (N := 1152) (by omega) (f := fun j => -D.sumC 0 4 j) (g := fun j => D.dc 0 j 896 256) (fun j => dca_4 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 0) (r0 := 896) (R := 256) (by omega) (by omega) (by omega) (maskG_val hmk (R := 256) (M := 768) (N := 1152) (r0 := 896) (by omega) rfl rfl) rfl j)
    (fun j h => D.dc_zero (by omega) h) j).trans (congrArg _ ?_)
  show _ = -∑ _ ∈ _, _
  rw [Finset.sum_range_succ, neg_add]; rfl

theorem dca_6 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_7 (F := Ideal) c arg2 harg2 arg3 harg3 arg4 harg4 arg5 harg5 arg6 harg6 arg7 harg7 arg12 x0 x1 x2 x3 x4 x5) (ix3 0 0 j) = ((-D.sumC 0 6 j : ℝ) : EReal) := by
  refine (acc3 arg12.view (N := 1408) (by omega) (f := fun j => -D.sumC 0 5 j) (g := fun j => D.dc 0 j 1152 256) (fun j => dca_5 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 0) (r0 := 1152) (R := 256) (by omega) (by omega) (by omega) (maskG_val hmk (R := 256) (M := 1024) (N := 1408) (r0 := 1152) (by omega) rfl rfl) rfl j)
    (fun j h => D.dc_zero (by omega) h) j).trans (congrArg _ ?_)
  show _ = -∑ _ ∈ _, _
  rw [Finset.sum_range_succ, neg_add]; rfl

theorem dca_7 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_8 (F := Ideal) c arg2 harg2 arg3 harg3 arg4 harg4 arg5 harg5 arg6 harg6 arg7 harg7 arg12 x0 x1 x2 x3 x4 x5) (ix3 0 0 j) = ((-D.sumC 0 7 j : ℝ) : EReal) := by
  refine (acc3 arg12.view (N := 1664) (by omega) (f := fun j => -D.sumC 0 6 j) (g := fun j => D.dc 0 j 1408 256) (fun j => dca_6 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 0) (r0 := 1408) (R := 256) (by omega) (by omega) (by omega) (maskG_val hmk (R := 256) (M := 1280) (N := 1664) (r0 := 1408) (by omega) rfl rfl) rfl j)
    (fun j h => D.dc_zero (by omega) h) j).trans (congrArg _ ?_)
  show _ = -∑ _ ∈ _, _
  rw [Finset.sum_range_succ, neg_add]; rfl

theorem dca_8 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_9 (F := Ideal) c arg2 harg2 arg3 harg3 arg4 harg4 arg5 harg5 arg6 harg6 arg7 harg7 arg12 x0 x1 x2 x3 x4 x5) (ix3 0 0 j) = ((-D.sumC 0 8 j : ℝ) : EReal) := by
  refine (acc3 arg12.view (N := 1920) (by omega) (f := fun j => -D.sumC 0 7 j) (g := fun j => D.dc 0 j 1664 256) (fun j => dca_7 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 0) (r0 := 1664) (R := 256) (by omega) (by omega) (by omega) (maskG_val hmk (R := 256) (M := 1536) (N := 1920) (r0 := 1664) (by omega) rfl rfl) rfl j)
    (fun j h => D.dc_zero (by omega) h) j).trans (congrArg _ ?_)
  show _ = -∑ _ ∈ _, _
  rw [Finset.sum_range_succ, neg_add]; rfl

theorem dca_9 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6).2.2.2.1 (ix3 0 0 j) = ((-D.sumC 0 9 j : ℝ) : EReal) := by
  refine (acc3 arg12.view (N := 2176) (by omega) (f := fun j => -D.sumC 0 8 j) (g := fun j => D.dc 0 j 1920 256) (fun j => dca_8 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 0) (r0 := 1920) (R := 256) (by omega) (by omega) (by omega) (maskG_val hmk (R := 256) (M := 1792) (N := 2176) (r0 := 1920) (by omega) rfl rfl) rfl j)
    (fun j h => D.dc_zero (by omega) h) j).trans (congrArg _ ?_)
  show _ = -∑ _ ∈ _, _
  rw [Finset.sum_range_succ, neg_add]; rfl

end Fox
-- ==== Proof.BiasGrad1.lean ====
module

public import proofs.«01_k».proof.Proof.Arrays
public import proofs.«01_k».proof.Proof.Gen.KernelIdeal.Value

/-!
  The second head's key bias gradient of a grid step: nine subtractions of column sums.
-/

@[expose] public section

set_option maxRecDepth 16384

noncomputable section

namespace Fox

open Cert.KernelIdeal Cert.KernelIdeal.Gen Idealize.ShloMosaic Idealize.ShloMosaic.ValueIdx
open scoped BigOperators

variable (c : Dev nD) (arg2 : Memref sig .tc .vmem S2176x128 .bf16) (harg2 : arg2.IsWhole) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S1x2176x2 .f32) (harg6 : arg6.IsWhole) (arg7 : Memref sig .tc .vmem S1x1x2176 .f32) (harg7 : arg7.IsWhole) (arg8 : Memref sig .tc .vmem S1x1x2176 .f32) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole) (arg12 : Memref sig .tc .vmem S1x1x2176 .f32) (harg12 : arg12.IsWhole) (arg13 : Memref sig .tc .vmem S1x1x2176 .f32) (harg13 : arg13.IsWhole)
  (x0 : S2176x128.Idx → Elt Ideal .bf16)
  (x1 : S2176x128.Idx → Elt Ideal .bf16)
  (x2 : S2176x128.Idx → Elt Ideal .bf16)
  (x3 : S2176x128.Idx → Elt Ideal .bf16)
  (x4 : S1x2176x2.Idx → Elt Ideal .f32)
  (x5 : S1x1x2176.Idx → Elt Ideal .f32)
  (x6 : S1x1x2176.Idx → Elt Ideal .f32)

include c arg2 harg2 arg3 harg3 arg4 harg4 arg5 harg5 arg6 harg6 arg7 harg7 arg8 harg8 arg9 harg9 arg10 harg10 arg11 harg11 arg12 harg12 arg13 harg13 x0 x1 x2 x3 x4 x5 x6

set_option maxHeartbeats 8000000

theorem dcb_0 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H10_1 (F := Ideal)) (ix3 0 0 j) = ((-D.sumC 1 0 j : ℝ) : EReal) := by
  exact (zero3 j).trans (by simp [Dat.sumC])

theorem dcb_1 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H11_2 (F := Ideal) c arg2 harg2 arg3 harg3 arg4 harg4 arg5 harg5 arg6 harg6 arg8 harg8 arg13 x0 x1 x2 x3 x4 x6) (ix3 0 0 j) = ((-D.sumC 1 1 j : ℝ) : EReal) := by
  refine (acc3 arg13.view (N := 128) (by omega) (f := fun j => -D.sumC 1 0 j) (g := fun j => D.dc 1 j 0 128) (fun j => dcb_0 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 1) (r0 := 0) (R := 128) (by omega) (by omega) (by omega) (mask0_val hmk) rfl j)
    (fun j h => D.dc_zero (by omega) h) j).trans (congrArg _ ?_)
  show _ = -∑ _ ∈ _, _
  rw [Finset.sum_range_succ, neg_add]; rfl

theorem dcb_2 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H11_3 (F := Ideal) c arg2 harg2 arg3 harg3 arg4 harg4 arg5 harg5 arg6 harg6 arg8 harg8 arg13 x0 x1 x2 x3 x4 x6) (ix3 0 0 j) = ((-D.sumC 1 2 j : ℝ) : EReal) := by
  refine (acc3 arg13.view (N := 384) (by omega) (f := fun j => -D.sumC 1 1 j) (g := fun j => D.dc 1 j 128 256) (fun j => dcb_1 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 1) (r0 := 128) (R := 256) (by omega) (by omega) (by omega) (mask1_val hmk (R := 256) (N := 384) (by omega) rfl) rfl j)
    (fun j h => D.dc_zero (by omega) h) j).trans (congrArg _ ?_)
  show _ = -∑ _ ∈ _, _
  rw [Finset.sum_range_succ, neg_add]; rfl

theorem dcb_3 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H11_4 (F := Ideal) c arg2 harg2 arg3 harg3 arg4 harg4 arg5 harg5 arg6 harg6 arg8 harg8 arg13 x0 x1 x2 x3 x4 x6) (ix3 0 0 j) = ((-D.sumC 1 3 j : ℝ) : EReal) := by
  refine (acc3 arg13.view (N := 640) (by omega) (f := fun j => -D.sumC 1 2 j) (g := fun j => D.dc 1 j 384 256) (fun j => dcb_2 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 1) (r0 := 384) (R := 256) (by omega) (by omega) (by omega) (maskG_val hmk (R := 256) (M := 256) (N := 640) (r0 := 384) (by omega) rfl rfl) rfl j)
    (fun j h => D.dc_zero (by omega) h) j).trans (congrArg _ ?_)
  show _ = -∑ _ ∈ _, _
  rw [Finset.sum_range_succ, neg_add]; rfl

theorem dcb_4 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H11_5 (F := Ideal) c arg2 harg2 arg3 harg3 arg4 harg4 arg5 harg5 arg6 harg6 arg8 harg8 arg13 x0 x1 x2 x3 x4 x6) (ix3 0 0 j) = ((-D.sumC 1 4 j : ℝ) : EReal) := by
  refine (acc3 arg13.view (N := 896) (by omega) (f := fun j => -D.sumC 1 3 j) (g := fun j => D.dc 1 j 640 256) (fun j => dcb_3 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 1) (r0 := 640) (R := 256) (by omega) (by omega) (by omega) (maskG_val hmk (R := 256) (M := 512) (N := 896) (r0 := 640) (by omega) rfl rfl) rfl j)
    (fun j h => D.dc_zero (by omega) h) j).trans (congrArg _ ?_)
  show _ = -∑ _ ∈ _, _
  rw [Finset.sum_range_succ, neg_add]; rfl

theorem dcb_5 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H11_6 (F := Ideal) c arg2 harg2 arg3 harg3 arg4 harg4 arg5 harg5 arg6 harg6 arg8 harg8 arg13 x0 x1 x2 x3 x4 x6) (ix3 0 0 j) = ((-D.sumC 1 5 j : ℝ) : EReal) := by
  refine (acc3 arg13.view (N := 1152) (by omega) (f := fun j => -D.sumC 1 4 j) (g := fun j => D.dc 1 j 896 256) (fun j => dcb_4 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 1) (r0 := 896) (R := 256) (by omega) (by omega) (by omega) (maskG_val hmk (R := 256) (M := 768) (N := 1152) (r0 := 896) (by omega) rfl rfl) rfl j)
    (fun j h => D.dc_zero (by omega) h) j).trans (congrArg _ ?_)
  show _ = -∑ _ ∈ _, _
  rw [Finset.sum_range_succ, neg_add]; rfl

theorem dcb_6 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H11_7 (F := Ideal) c arg2 harg2 arg3 harg3 arg4 harg4 arg5 harg5 arg6 harg6 arg8 harg8 arg13 x0 x1 x2 x3 x4 x6) (ix3 0 0 j) = ((-D.sumC 1 6 j : ℝ) : EReal) := by
  refine (acc3 arg13.view (N := 1408) (by omega) (f := fun j => -D.sumC 1 5 j) (g := fun j => D.dc 1 j 1152 256) (fun j => dcb_5 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 1) (r0 := 1152) (R := 256) (by omega) (by omega) (by omega) (maskG_val hmk (R := 256) (M := 1024) (N := 1408) (r0 := 1152) (by omega) rfl rfl) rfl j)
    (fun j h => D.dc_zero (by omega) h) j).trans (congrArg _ ?_)
  show _ = -∑ _ ∈ _, _
  rw [Finset.sum_range_succ, neg_add]; rfl

theorem dcb_7 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H11_8 (F := Ideal) c arg2 harg2 arg3 harg3 arg4 harg4 arg5 harg5 arg6 harg6 arg8 harg8 arg13 x0 x1 x2 x3 x4 x6) (ix3 0 0 j) = ((-D.sumC 1 7 j : ℝ) : EReal) := by
  refine (acc3 arg13.view (N := 1664) (by omega) (f := fun j => -D.sumC 1 6 j) (g := fun j => D.dc 1 j 1408 256) (fun j => dcb_6 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 1) (r0 := 1408) (R := 256) (by omega) (by omega) (by omega) (maskG_val hmk (R := 256) (M := 1280) (N := 1664) (r0 := 1408) (by omega) rfl rfl) rfl j)
    (fun j h => D.dc_zero (by omega) h) j).trans (congrArg _ ?_)
  show _ = -∑ _ ∈ _, _
  rw [Finset.sum_range_succ, neg_add]; rfl

theorem dcb_8 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A.sl.H11_9 (F := Ideal) c arg2 harg2 arg3 harg3 arg4 harg4 arg5 harg5 arg6 harg6 arg8 harg8 arg13 x0 x1 x2 x3 x4 x6) (ix3 0 0 j) = ((-D.sumC 1 8 j : ℝ) : EReal) := by
  refine (acc3 arg13.view (N := 1920) (by omega) (f := fun j => -D.sumC 1 7 j) (g := fun j => D.dc 1 j 1664 256) (fun j => dcb_7 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 1) (r0 := 1664) (R := 256) (by omega) (by omega) (by omega) (maskG_val hmk (R := 256) (M := 1536) (N := 1920) (r0 := 1664) (by omega) rfl rfl) rfl j)
    (fun j h => D.dc_zero (by omega) h) j).trans (congrArg _ ?_)
  show _ = -∑ _ ∈ _, _
  rw [Finset.sum_range_succ, neg_add]; rfl

theorem dcb_9 (i : grid0.Coords) {D : Dat} (H : Rep (ins arg2 harg2 arg3 harg3 arg4 harg4 arg5 harg5 arg6 harg6 arg7 harg7 arg8 harg8 x0 x1 x2 x3 x4 x5 x6) D) (j : Fin 2176) :
    View.canon (Val := Elt Ideal) (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6).2.2.2.2.1 (ix3 0 0 j) = ((-D.sumC 1 9 j : ℝ) : EReal) := by
  refine (acc3 arg13.view (N := 2176) (by omega) (f := fun j => -D.sumC 1 8 j) (g := fun j => D.dc 1 j 1920 256) (fun j => dcb_8 c arg2 harg2 arg3 harg3 arg4 harg4 arg5 harg5 arg6 harg6 arg7 harg7 arg8 harg8 arg9 harg9 arg10 harg10 arg11 harg11 arg12 harg12 arg13 harg13 x0 x1 x2 x3 x4 x5 x6 i H j)
    (fun j => dcS_val H (e := 1) (r0 := 1920) (R := 256) (by omega) (by omega) (by omega) (maskG_val hmk (R := 256) (M := 1792) (N := 2176) (r0 := 1920) (by omega) rfl rfl) rfl j)
    (fun j h => D.dc_zero (by omega) h) j).trans (congrArg _ ?_)
  show _ = -∑ _ ∈ _, _
  rw [Finset.sum_range_succ, neg_add]; rfl

end Fox
-- ==== Proof.Left.lean ====
/- The arrays that the call leaves, as functions of the numbers in its arguments. -/
module

public import proofs.«01_k».proof.Proof.Held
public import proofs.«01_k».proof.Proof.KeyGrad
public import proofs.«01_k».proof.Proof.ValGrad
public import proofs.«01_k».proof.Proof.QueryGrad
public import proofs.«01_k».proof.Proof.BiasGrad0
public import proofs.«01_k».proof.Proof.BiasGrad1

@[expose] public section

set_option maxRecDepth 16384
set_option maxHeartbeats 4000000

noncomputable section

namespace Fox

open Cert.KernelIdeal Cert.KernelIdeal.Gen Cert.KernelIdeal.Value Idealize.ShloMosaic Idealize.ShloMosaic.TcCoe
open scoped BigOperators

theorem rowsOf_block (f : ℕ → ℕ → ℕ → ℕ → ℝ) (t : Fin cfg0.N) (i : Fin 2176) (d : Fin 128) (g : ℕ → ℝ)
    (hg : ∀ e < 2, ∀ x < 64, g (64 * e + x) = pad (fun i => f (t.val / 4) (2 * (t.val % 4) + e) i x) i) :
    ((g d : ℝ) : EReal) = rowsOf f (at2 t i d) := by
  have hd := d.isLt
  refine congrArg (fun r : ℝ => (r : EReal)) ?_
  have h := hg (d.val / 64) (by omega) (d.val % 64) (Nat.mod_lt _ (by omega))
  rw [show 64 * (d.val / 64) + d.val % 64 = d.val by omega] at h
  refine h.trans ((pad_at (fun b k => f b ((t.val % 4 * 128 + d.val) / 64) k ((t.val % 4 * 128 + d.val) % 64)) t i 0).trans ?_).symm
  rw [show (t.val % 4 * 128 + d.val) / 64 = 2 * (t.val % 4) + d.val / 64 by omega,
    show (t.val % 4 * 128 + d.val) % 64 = d.val % 64 by omega]

/-- The step at which an index of an array of all rows is written. -/
def stepOf (r x : ℕ) (hr : r < 8704) (hx : x < 512) : Fin cfg0.N := ⟨r / 2176 * 4 + x / 128, by show _ < 16; omega⟩

theorem at2_cover (y : (S2 8704 512).Idx) : ∃ t i d, at2 t i d = y := by
  have h0 : (y (0 : Fin 2)).val < 8704 := (y (0 : Fin 2)).isLt
  have h1 : (y (1 : Fin 2)).val < 512 := (y (1 : Fin 2)).isLt
  refine ⟨stepOf (y (0 : Fin 2)).val (y (1 : Fin 2)).val h0 h1, ⟨(y (0 : Fin 2)).val % 2176, Nat.mod_lt _ (by omega)⟩,
    ⟨(y (1 : Fin 2)).val % 128, Nat.mod_lt _ (by omega)⟩, ?_⟩
  funext a; apply Fin.ext
  match a with
  | ⟨0, _⟩ =>
    show ((y (0 : Fin 2)).val / 2176 * 4 + (y (1 : Fin 2)).val / 128) / 4 * 2176 + (y (0 : Fin 2)).val % 2176 = (y (0 : Fin 2)).val
    omega
  | ⟨1, _⟩ =>
    show ((y (0 : Fin 2)).val / 2176 * 4 + (y (1 : Fin 2)).val / 128) % 4 * 128 + (y (1 : Fin 2)).val % 128 = (y (1 : Fin 2)).val
    omega

theorem split2 (j : (S2 2176 128).Idx) : ∃ (i : Fin 2176) (d : Fin 128), j = ValueIdx.ix2 i d :=
  ⟨j 0, j 1, funext fun a => match a with | ⟨0, _⟩ => rfl | ⟨1, _⟩ => rfl⟩

theorem gates_cover (y : (S3 16 1 2176).Idx) : ∃ (t : Fin cfg0.N) (j : Fin 2176),
    (ValueIdx.ix3 ⟨t.val, step_lt t⟩ 0 j : (S3 16 1 2176).Idx) = y :=
  ⟨⟨(y (0 : Fin 3)).val, (y (0 : Fin 3)).isLt⟩, y (2 : Fin 3), funext fun a => match a with
    | ⟨0, _⟩ => rfl | ⟨1, _⟩ => Subsingleton.elim (α := Fin 1) _ _ | ⟨2, _⟩ => rfl⟩

section Arr
variable {m : (ℓ : Loc nD τ sig) → Buf (Elt Ideal) ℓ} {c : Dev nD} {A : Args}
  (H : Fits A (m (c, main_arg0)) (m (c, main_arg1)) (m (c, main_arg2)) (m (c, main_arg3)) (m (c, main_arg4)))

theorem emb7 (t : Fin cfg0.N) (i : Fin 2176) (d : Fin 128) : ((cfg0.win 7).blk t).view.emb (ValueIdx.ix2 i d) = at2 t i d := by
  obtain ⟨⟨e0, e1⟩, -⟩ := outblk t
  funext a; apply Fin.ext
  match a with
  | ⟨0, _⟩ => show win0_7.index t (0 : Fin 2) * 2176 + 1 * i.val = t.val / 4 * 2176 + i.val; omega
  | ⟨1, _⟩ => show win0_7.index t (1 : Fin 2) * 128 + 1 * d.val = t.val % 4 * 128 + d.val; omega

include H in
theorem left7 : (dats m 0 c).arrAt 7 cfg0.N = rowsOf A.dq := by
  refine (dats m 0 c).arrAt_eq_of_cover 7 (rowsOf A.dq) (fun t _ => ?_) fun y => ?_
  · refine (flushed7_A m c t).trans (funext fun j => ?_)
    obtain ⟨i, d, rfl⟩ := split2 j
    show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ValueIdx.ix2 i d) = rowsOf A.dq (((cfg0.win 7).blk t).view.emb (ValueIdx.ix2 i d))
    rw [emb7]
    unfold out0_A_7
    refine (congrFun (View.read_writes_junk_eq_canon _ _) _).trans ?_
    refine (dq_all c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (grid0.coords t) (held H t) i d).trans ?_
    refine rowsOf_block A.dq t i d (fun d => if d < 64 then (A.step (t.val / 4) (t.val % 4)).dq 0 i d else (A.step (t.val / 4) (t.val % 4)).dq 1 i d) fun e he x hx => ?_
    match e, he with
    | 0, _ => exact (if_pos (by omega)).trans (step_dq A _ _ 0 (by omega) i x i.isLt)
    | 1, _ => exact (if_neg (by omega)).trans (step_dq A _ _ 1 (by omega) i x i.isLt)
  · obtain ⟨t, i, d, rfl⟩ := at2_cover y
    refine ⟨t, flush0_7 t, ?_⟩
    have h := ((cfg0.win 7).blk t).view.emb_mem_set (ValueIdx.ix2 i d)
    rwa [emb7] at h

theorem emb8 (t : Fin cfg0.N) (i : Fin 2176) (d : Fin 128) : ((cfg0.win 8).blk t).view.emb (ValueIdx.ix2 i d) = at2 t i d := by
  obtain ⟨-, ⟨e0, e1⟩, -⟩ := outblk t
  funext a; apply Fin.ext
  match a with
  | ⟨0, _⟩ => show win0_8.index t (0 : Fin 2) * 2176 + 1 * i.val = t.val / 4 * 2176 + i.val; omega
  | ⟨1, _⟩ => show win0_8.index t (1 : Fin 2) * 128 + 1 * d.val = t.val % 4 * 128 + d.val; omega

include H in
theorem left8 : (dats m 0 c).arrAt 8 cfg0.N = rowsOf A.dk := by
  refine (dats m 0 c).arrAt_eq_of_cover 8 (rowsOf A.dk) (fun t _ => ?_) fun y => ?_
  · refine (flushed8_A m c t).trans (funext fun j => ?_)
    obtain ⟨i, d, rfl⟩ := split2 j
    show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ValueIdx.ix2 i d) = rowsOf A.dk (((cfg0.win 8).blk t).view.emb (ValueIdx.ix2 i d))
    rw [emb8]
    unfold out0_A_8
    refine (congrFun (View.read_writes_junk_eq_canon _ _) _).trans ?_
    refine (dk_18 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (grid0.coords t) (held H t) i d).trans ?_
    exact rowsOf_block A.dk t i d (fun d => (A.step (t.val / 4) (t.val % 4)).sumK 18 i d) fun e he x hx => step_dk A _ _ e he i x i.isLt hx
  · obtain ⟨t, i, d, rfl⟩ := at2_cover y
    refine ⟨t, flush0_8 t, ?_⟩
    have h := ((cfg0.win 8).blk t).view.emb_mem_set (ValueIdx.ix2 i d)
    rwa [emb8] at h

theorem emb9 (t : Fin cfg0.N) (i : Fin 2176) (d : Fin 128) : ((cfg0.win 9).blk t).view.emb (ValueIdx.ix2 i d) = at2 t i d := by
  obtain ⟨-, -, ⟨e0, e1⟩, -⟩ := outblk t
  funext a; apply Fin.ext
  match a with
  | ⟨0, _⟩ => show win0_9.index t (0 : Fin 2) * 2176 + 1 * i.val = t.val / 4 * 2176 + i.val; omega
  | ⟨1, _⟩ => show win0_9.index t (1 : Fin 2) * 128 + 1 * d.val = t.val % 4 * 128 + d.val; omega

include H in
theorem left9 : (dats m 0 c).arrAt 9 cfg0.N = rowsOf A.dv := by
  refine (dats m 0 c).arrAt_eq_of_cover 9 (rowsOf A.dv) (fun t _ => ?_) fun y => ?_
  · refine (flushed9_A m c t).trans (funext fun j => ?_)
    obtain ⟨i, d, rfl⟩ := split2 j
    show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ValueIdx.ix2 i d) = rowsOf A.dv (((cfg0.win 9).blk t).view.emb (ValueIdx.ix2 i d))
    rw [emb9]
    unfold out0_A_9
    refine (congrFun (View.read_writes_junk_eq_canon _ _) _).trans ?_
    refine (dv_18 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (grid0.coords t) (held H t) i d).trans ?_
    exact rowsOf_block A.dv t i d (fun d => (A.step (t.val / 4) (t.val % 4)).sumV 18 i d) fun e he x hx => step_dv A _ _ e he i x i.isLt hx
  · obtain ⟨t, i, d, rfl⟩ := at2_cover y
    refine ⟨t, flush0_9 t, ?_⟩
    have h := ((cfg0.win 9).blk t).view.emb_mem_set (ValueIdx.ix2 i d)
    rwa [emb9] at h

theorem emb10 (t : Fin cfg0.N) (j : Fin 2176) : ((cfg0.win 10).blk t).view.emb (ValueIdx.ix3 0 0 j)
    = (ValueIdx.ix3 ⟨t.val, step_lt t⟩ 0 j : (S3 16 1 2176).Idx) := by
  obtain ⟨-, -, -, ⟨e0, e1, e2⟩, -⟩ := outblk t
  funext a; apply Fin.ext
  match a with
  | ⟨0, _⟩ => show win0_10.index t (0 : Fin 3) * 1 + 1 * 0 = t.val; omega
  | ⟨1, _⟩ => show win0_10.index t (1 : Fin 3) * 1 + 1 * 0 = 0; omega
  | ⟨2, _⟩ => show win0_10.index t (2 : Fin 3) * 2176 + 1 * j.val = j.val; omega

include H in
theorem left10 : (dats m 0 c).arrAt 10 cfg0.N = gatesOf A.dc 0 := by
  refine (dats m 0 c).arrAt_eq_of_cover 10 (gatesOf A.dc 0) (fun t _ => ?_) fun y => ?_
  · refine (flushed10_A m c t).trans (funext fun j => ?_)
    obtain ⟨j, rfl⟩ : ∃ k : Fin 2176, j = (ValueIdx.ix3 0 0 k : (S3 1 1 2176).Idx) := ⟨j 2, funext fun a => match a with
      | ⟨0, _⟩ => Subsingleton.elim (α := Fin 1) _ _ | ⟨1, _⟩ => Subsingleton.elim (α := Fin 1) _ _ | ⟨2, _⟩ => rfl⟩
    show out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ValueIdx.ix3 0 0 j) = gatesOf A.dc 0 (((cfg0.win 10).blk t).view.emb (ValueIdx.ix3 0 0 j))
    rw [emb10]
    unfold out0_A_10
    refine (congrFun (View.read_writes_junk_eq_canon _ _) _).trans ?_
    refine (dca_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (grid0.coords t) (held H t) j).trans ?_
    exact congrArg (fun r : ℝ => (r : EReal)) (step_dc A (t.val / 4) (t.val % 4) 0 (by omega) j j.isLt)
  · obtain ⟨t, j, rfl⟩ := gates_cover y
    refine ⟨t, flush0_10 t, ?_⟩
    have h := ((cfg0.win 10).blk t).view.emb_mem_set (ValueIdx.ix3 0 0 j)
    rwa [emb10] at h

theorem emb11 (t : Fin cfg0.N) (j : Fin 2176) : ((cfg0.win 11).blk t).view.emb (ValueIdx.ix3 0 0 j)
    = (ValueIdx.ix3 ⟨t.val, step_lt t⟩ 0 j : (S3 16 1 2176).Idx) := by
  obtain ⟨-, -, -, -, ⟨e0, e1, e2⟩⟩ := outblk t
  funext a; apply Fin.ext
  match a with
  | ⟨0, _⟩ => show win0_11.index t (0 : Fin 3) * 1 + 1 * 0 = t.val; omega
  | ⟨1, _⟩ => show win0_11.index t (1 : Fin 3) * 1 + 1 * 0 = 0; omega
  | ⟨2, _⟩ => show win0_11.index t (2 : Fin 3) * 2176 + 1 * j.val = j.val; omega

include H in
theorem left11 : (dats m 0 c).arrAt 11 cfg0.N = gatesOf A.dc 1 := by
  refine (dats m 0 c).arrAt_eq_of_cover 11 (gatesOf A.dc 1) (fun t _ => ?_) fun y => ?_
  · refine (flushed11_A m c t).trans (funext fun j => ?_)
    obtain ⟨j, rfl⟩ : ∃ k : Fin 2176, j = (ValueIdx.ix3 0 0 k : (S3 1 1 2176).Idx) := ⟨j 2, funext fun a => match a with
      | ⟨0, _⟩ => Subsingleton.elim (α := Fin 1) _ _ | ⟨1, _⟩ => Subsingleton.elim (α := Fin 1) _ _ | ⟨2, _⟩ => rfl⟩
    show out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (ValueIdx.ix3 0 0 j) = gatesOf A.dc 1 (((cfg0.win 11).blk t).view.emb (ValueIdx.ix3 0 0 j))
    rw [emb11]
    unfold out0_A_11
    refine (congrFun (View.read_writes_junk_eq_canon _ _) _).trans ?_
    refine (dcb_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (grid0.coords t) (held H t) j).trans ?_
    exact congrArg (fun r : ℝ => (r : EReal)) (step_dc A (t.val / 4) (t.val % 4) 1 (by omega) j j.isLt)
  · obtain ⟨t, j, rfl⟩ := gates_cover y
    refine ⟨t, flush0_11 t, ?_⟩
    have h := ((cfg0.win 11).blk t).view.emb_mem_set (ValueIdx.ix3 0 0 j)
    rwa [emb11] at h

end Arr

end Fox
-- ==== Proof.Finite.lean ====
/- The precondition read: every entry of the five arguments is a real number. -/
module

public import proofs.«01_k».proof.Proof.Plain
public import proofs.«01_k».proof.Proof.Left
public import proofs.«01_k».proof.Defs

@[expose] public section

set_option maxRecDepth 16384
set_option maxHeartbeats 1000000

noncomputable section

namespace Fox

open Idealize.ShloMosaic Idealize.ShloMosaic.ValueIdx

/-- An entry whose magnitude lies below infinity is a real number. -/
theorem real_of_lt (x : Ideal .f32) (h : FloatOps.cmpf .olt (FloatOps.hostAbsf x) (FloatOps.ofBits (F := Ideal) .f32 0x7F800000#32) = 1#1) :
    (x : EReal) = ((EReal.toReal x : ℝ) : EReal) := by
  rw [← Ideal.xori_weird_eq_hostAbsf_olt_inf] at h
  have hw : ¬ ((x : EReal) = ⊤ ∨ (x : EReal) = ⊥) := fun hw => by
    have : IntOp.xori (BitVec.ofBool (decide ((x : EReal) = ⊤ ∨ (x : EReal) = ⊥))) 1#1 = 1#1 := h
    rw [decide_eq_true hw] at this
    exact absurd this (by decide)
  push Not at hw
  exact (EReal.coe_toReal hw.1 hw.2).symm

/-- The numbers of an array of three axes, zero past its ends. -/
def num {a b c : ℕ} {φ : FTy} (X : FVec Ideal (S3 a b c) φ) (x y z : ℕ) : ℝ :=
  if h : x < a ∧ y < b ∧ z < c then EReal.toReal (X (ix3 ⟨x, h.1⟩ ⟨y, h.2.1⟩ ⟨z, h.2.2⟩)) else 0

theorem num_of {a b c : ℕ} {φ : FTy} (X : FVec Ideal (S3 a b c) φ) (hX : ∀ y, (X y : EReal) = ((EReal.toReal (X y) : ℝ) : EReal))
    (x : Fin a) (y : Fin b) (z : Fin c) : X (ix3 x y z) = ((num X x y z : ℝ) : EReal) := by
  unfold num
  rw [dif_pos ⟨x.isLt, y.isLt, z.isLt⟩]
  exact hX _

theorem facts : Cert.Pre_finite.Facts where
  bitsLt_bf16_f32 := by decide
  bcast_S_S4x2064x512 := by decide
  bcast_S_S4x8x2064 := by decide

/-- The numbers in the arguments of device `c`. -/
def argsOf (m : (ℓ : Loc Cert.KernelIdeal.nD Cert.KernelIdeal.τ Cert.KernelIdeal.sig) → Buf (Elt Ideal) ℓ) (c : Dev Cert.KernelIdeal.nD) : Args where
  q := num (φ := .bf16) (m ((c.tc : Thread Cert.KernelIdeal.nD Cert.KernelIdeal.τ).loc Cert.KernelIdeal.main_arg0) : FVec Ideal (S3 4 2064 512) .bf16)
  k := num (φ := .bf16) (m ((c.tc : Thread Cert.KernelIdeal.nD Cert.KernelIdeal.τ).loc Cert.KernelIdeal.main_arg1) : FVec Ideal (S3 4 2064 512) .bf16)
  v := num (φ := .bf16) (m ((c.tc : Thread Cert.KernelIdeal.nD Cert.KernelIdeal.τ).loc Cert.KernelIdeal.main_arg2) : FVec Ideal (S3 4 2064 512) .bf16)
  c := num (φ := .f32) (m ((c.tc : Thread Cert.KernelIdeal.nD Cert.KernelIdeal.τ).loc Cert.KernelIdeal.main_arg3) : FVec Ideal (S3 4 8 2064) .f32)
  o := num (φ := .bf16) (m ((c.tc : Thread Cert.KernelIdeal.nD Cert.KernelIdeal.τ).loc Cert.KernelIdeal.main_arg4) : FVec Ideal (S3 4 2064 512) .bf16)

theorem fits (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) :
    Fits (argsOf m c) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) where
  q := num_of (φ := .bf16) _ fun y => real_of_lt _ (congrFun (h c).1 y)
  k := num_of (φ := .bf16) _ fun y => real_of_lt _ (congrFun (h c).2.1 y)
  v := num_of (φ := .bf16) _ fun y => real_of_lt _ (congrFun (h c).2.2.1 y)
  c := num_of (φ := .f32) _ fun y => real_of_lt _ (congrFun (h c).2.2.2.1 y)
  o := num_of (φ := .bf16) _ fun y => real_of_lt _ (congrFun (h c).2.2.2.2 y)

/-- The reference's arguments hold them too. -/
theorem holds {A : Args} {X0 X1 X2 : FVec Ideal (S3 4 2064 512) .bf16} {X3 : FVec Ideal (S3 4 8 2064) .f32}
    {X4 : FVec Ideal (S3 4 2064 512) .bf16} (H : Fits A X0 X1 X2 X3 X4) : Plain.Holds A X0 X1 X2 X3 X4 :=
  ⟨H.q, H.k, H.v, H.c, H.o⟩

end Fox
-- ==== Proof.Whole.lean ====
module

public import proofs.«01_k».proof.Proof.Step

/-!
  Arrays of two axes read at natural numbers, and sums of their entries over ranges.
-/

@[expose] public section

noncomputable section

namespace Ffn

open Idealize.ShloMosaic Idealize.ShloMosaic.ValueIdx
open scoped BigOperators

/-- An array's entry at a row and a column, zero past its ends. -/
def tot {a b : ℕ} {φ : FTy} (X : Fox.V a b φ) (r x : ℕ) : EReal :=
  if h : r < a ∧ x < b then X (ix2 ⟨r, h.1⟩ ⟨x, h.2⟩) else 0

theorem tot_ix {a b : ℕ} {φ : FTy} (X : Fox.V a b φ) (r : Fin a) (x : Fin b) : tot X r x = X (ix2 r x) := by
  unfold tot
  rw [dif_pos ⟨r.isLt, x.isLt⟩]

theorem tot_of {a b : ℕ} {φ : FTy} (X : Fox.V a b φ) {r x : ℕ} (hr : r < a) (hx : x < b) :
    tot X r x = X (ix2 ⟨r, hr⟩ ⟨x, hx⟩) := by
  unfold tot
  rw [dif_pos ⟨hr, hx⟩]

/-- A product's entry, as a sum over a range. -/
theorem sum_range_of {n : ℕ} {f : Fin n → EReal} {g : ℕ → EReal} (h : ∀ k : Fin n, f k = g k) :
    ∑ k : Fin n, f k = ∑ k ∈ Finset.range n, g k :=
  (Finset.sum_congr rfl fun k _ => h k).trans (Fin.sum_univ_eq_sum_range g n)

/-- A sum over `n` entries and the `k` after them. -/
theorem sum_more (f : ℕ → EReal) (n k : ℕ) :
    ∑ i ∈ Finset.range n, f i + ∑ i ∈ Finset.range k, f (n + i) = ∑ i ∈ Finset.range (n + k), f i :=
  (Finset.sum_range_add f n k).symm

theorem halfF : (FloatOps.ofBits .f32 0x3F000000#32 : Ideal .f32) = ((1 / 2 : ℝ) : EReal) := by
  show Ideal.ofBits .f32 _ = _; simp [Ideal.ofBits, Ideal.ieee, -EReal.coe_mul]; norm_num

/-- A half of a sum is the sum of the halves. -/
theorem half_sum {ι : Type*} (s : Finset ι) (f : ι → EReal) :
    ((1 / 2 : ℝ) : EReal) * ∑ i ∈ s, f i = ∑ i ∈ s, ((1 / 2 : ℝ) : EReal) * f i := by
  classical
  induction s using Finset.induction with
  | empty => simp
  | insert a s ha ih =>
    rw [Finset.sum_insert ha, Finset.sum_insert ha, ← ih,
      EReal.left_distrib_of_nonneg_of_ne_top (EReal.coe_nonneg.mpr (by norm_num)) (EReal.coe_ne_top _)]

theorem hz : (![0, 0] : Fin 2 → Nat) = fun _ => 0 := funext fun a => by fin_cases a <;> rfl

end Ffn
-- ==== Proof.UpGrad.lean ====
module

public import proofs.«01_k».proof.Proof.Whole
public import proofs.«01_k».proof.Proof.Gen.Kernel3Ideal.Value
public import proofs.«01_k».proof.Proof.Gen.Reference3Ideal.Read

/-!
  The gradient of the first product's weights: the normalised rows' transpose against the gradients of the gate and of the
  value, summed over the rows in seventeen blocks and cut into four groups of columns.
-/

@[expose] public section

set_option maxRecDepth 16384
set_option maxHeartbeats 1000000

noncomputable section

namespace Ffn.Up

open Cert.Kernel3Ideal Cert.Kernel3Ideal.Gen Cert.Kernel3Ideal.Value Idealize.ShloMosaic Idealize.ShloMosaic.TcCoe
open Idealize.ShloMosaic.ValueIdx (ix2 ix3 eq_ix2 eq_ix3)
open scoped BigOperators

/-- What a step adds to the accumulator. -/
def add (acc : Fox.V 1024 2816 .f32) (x : Fox.V 512 1024 .bf16) (y : Fox.V 512 2816 .bf16) : Fox.V 1024 2816 .f32 :=
  k0_pay2 (F := Ideal) acc x y

theorem add_apply (acc : Fox.V 1024 2816 .f32) (x : Fox.V 512 1024 .bf16) (y : Fox.V 512 2816 .bf16)
    (r : Fin 1024) (d : Fin 2816) :
    add acc x y (ix2 r d) = acc (ix2 r d) + ∑ k : Fin 512, x (ix2 k r) * y (ix2 k d) := by
  unfold add k0_pay2
  rw [shapeCast_self]
  show acc (ix2 r d) + FloatOps.matmul (Fox.tn 512 1024 2816) none x y
    (constant S1024x2816 .f32 0x00000000#32) (ix2 r d) = _
  rw [Fox.matmul_tn_apply]
  show acc (ix2 r d) + ((FloatOps.ofBits .f32 0x00000000#32 : Ideal .f32) + _) = _
  rw [Fox.zeroF]
  exact congrArg (acc (ix2 r d) + ·) (zero_add _)

/-- The block written: the sums' columns in two groups. -/
def halves (s : Fox.V 1024 2816 .f32) : FVec Ideal S2x1024x1408 .bf16 := fun y =>
  s (ix2 (y 1) ⟨1408 * (y 0).val + (y 2).val, by
    have h0 : (y 0).val < 2 := (y 0).isLt
    have h2 : (y 2).val < 1408 := (y 2).isLt
    omega⟩)

theorem one_apply (s : Fox.V 1024 2816 .f32) (i : S1024x2816.Idx) : (k0_pay3 (F := Ideal) s : S1024x2816.Idx → EReal) i = s i := by
  unfold k0_pay3
  show s i * (FloatOps.ofBits .f32 0x3F800000#32 : Ideal .f32) = _
  rw [Fox.oneF]
  exact mul_one _

theorem left_apply (s : Fox.V 1024 2816 .f32) (x : S1x1024x1408.Idx) : (k0_pay4 (F := Ideal) s : S1x1024x1408.Idx → EReal) x
    = s (ix2 (x 1) ⟨(x 2).val, by have h : (x 2).val < 1408 := (x 2).isLt; omega⟩) := by
  unfold k0_pay4
  dsimp only
  refine (shapeCast_apply _ _ _ (ix2 (x 1) (x 2) : S1024x1408.Idx) ?_).trans ?_
  · rw [Shape.rowMajor_val_two, Shape.rowMajor_val_three]
    have h0 : (x 0).val < 1 := (x 0).isLt
    show (x 1).val * 1408 + (x 2).val = ((x 0).val * 1024 + (x 1).val) * 1408 + (x 2).val
    omega
  · refine (one_apply s _).trans (congrArg s (funext fun a => Fin.ext ?_))
    match a with
    | ⟨0, _⟩ => show 0 + (x 1).val = (x 1).val; omega
    | ⟨1, _⟩ => show 0 + (x 2).val = (x 2).val; omega

theorem right_apply (s : Fox.V 1024 2816 .f32) (x : S1x1024x1408.Idx) : (k0_pay5 (F := Ideal) s : S1x1024x1408.Idx → EReal) x
    = s (ix2 (x 1) ⟨1408 + (x 2).val, by have h : (x 2).val < 1408 := (x 2).isLt; omega⟩) := by
  unfold k0_pay5
  dsimp only
  refine (shapeCast_apply _ _ _ (ix2 (x 1) (x 2) : S1024x1408.Idx) ?_).trans ?_
  · rw [Shape.rowMajor_val_two, Shape.rowMajor_val_three]
    have h0 : (x 0).val < 1 := (x 0).isLt
    show (x 1).val * 1408 + (x 2).val = ((x 0).val * 1024 + (x 1).val) * 1408 + (x 2).val
    omega
  · refine (one_apply s _).trans (congrArg s (funext fun a => Fin.ext ?_))
    match a with
    | ⟨0, _⟩ => show 0 + (x 1).val = (x 1).val; omega
    | ⟨1, _⟩ => rfl

section Cases
variable (c : Dev nD) (i : grid0.Coords) (a3 : Memref sig .tc .vmem S512x1024 .bf16) (h3 : a3.IsWhole)
  (a4 : Memref sig .tc .vmem S512x2816 .bf16) (h4 : a4.IsWhole) (a5 : Memref sig .tc .vmem S2x1024x1408 .bf16) (h5 : a5.IsWhole)
  (a6 : Memref sig .tc .vmem S1024x2816 .f32) (h6 : a6.IsWhole)
  (x : Vec Ideal S512x1024 .bf16) (y : Vec Ideal S512x2816 .bf16) (acc : Vec Ideal S1024x2816 .f32)

theorem left_A (hc : cond0_0 i) (hd : ¬cond0_1 i) :
    sout0_A_0 c i a3 h3 a4 h4 a5 h5 a6 h6 hc hd x y = add (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x2816) hz, View.readCov_unit_zero (S := S1024x2816) _ hz]
  unfold add
  simp only [View.readAt_eq_ld, h3.read_unread, h4.read_unread, View.ld_unit_zero (S := S512x1024) hz,
    View.ld_unit_zero (S := S512x2816) hz]

theorem left_B (hc : ¬cond0_0 i) (hd : ¬cond0_1 i) :
    sout0_B_0 c i a3 h3 a4 h4 a5 h5 a6 h6 hc hd x y acc = add acc x y := by
  unfold sout0_B_0
  rw [View.read_writes_eq_canon _ _ _ (scover0_B_0 c i a3 h3 a4 h4 a5 h5 a6 h6 hc hd x y acc)]
  unfold kernelRun0_B
  dsimp only
  rw [View.canon_unit_zero hz]
  unfold add
  simp only [View.readAt_eq_ld, h3.read_unread, h4.read_unread, h6.read_unread, View.ld_unit_zero (S := S512x1024) hz,
    View.ld_unit_zero (S := S512x2816) hz, View.ld_unit_zero (S := S1024x2816) hz]

theorem out_C (hc : ¬cond0_0 i) (hd : cond0_1 i) :
    out0_C_2 c i a3 h3 a4 h4 a5 h5 a6 h6 hc hd x y acc = halves (add acc x y) := by
  unfold out0_C_2
  rw [View.read_writes_eq_canon _ _ _ (cover0_C_2 c i a3 h3 a4 h4 a5 h5 a6 h6 hc hd x y acc)]
  funext i'
  refine View.canon_apply_of_pieces (halves (add acc x y)) _ ?_ i' (cover0_C_2 c i a3 h3 a4 h4 a5 h5 a6 h6 hc hd x y acc i')
  unfold kernelRun0_C
  dsimp only
  sl_unfold_words
  rw [View.readCov_unit_zero (S := S1024x2816) _ hz]
  simp only [View.readAt_eq_ld, h3.read_unread, h4.read_unread, h6.read_unread, View.ld_unit_zero (S := S512x1024) hz,
    View.ld_unit_zero (S := S512x2816) hz, View.ld_unit_zero (S := S1024x2816) hz]
  intro p hp z
  rcases List.mem_cons.mp hp with rfl | hp
  · refine (right_apply (add acc x y) z).trans (congrArg (add acc x y) (funext fun a => Fin.ext ?_))
    have h0 : (z 0).val < 1 := (z 0).isLt
    match a with
    | ⟨0, _⟩ => show (z 1).val = 0 + 1 * (z 1).val; omega
    | ⟨1, _⟩ => show 1408 + (z 2).val = 1408 * (1 + 1 * (z 0).val) + (0 + 1 * (z 2).val); omega
  · obtain rfl := List.mem_singleton.mp hp
    refine (left_apply (add acc x y) z).trans (congrArg (add acc x y) (funext fun a => Fin.ext ?_))
    have h0 : (z 0).val < 1 := (z 0).isLt
    match a with
    | ⟨0, _⟩ => show (z 1).val = 0 + 1 * (z 1).val; omega
    | ⟨1, _⟩ => show (z 2).val = 1408 * (0 + 1 * (z 0).val) + (0 + 1 * (z 2).val); omega

end Cases

theorem blocks : ∀ t : Fin cfg0.N, (win0_0.index t (0 : Fin 2) = t.val % 17 ∧ win0_0.index t (1 : Fin 2) = 0)
    ∧ (win0_1.index t (0 : Fin 2) = t.val % 17 ∧ win0_1.index t (1 : Fin 2) = t.val / 17) :=
  (by decide +kernel : ∀ t : Fin grid0.N, _)

variable (m : (ℓ : Loc nD τ sig) → Buf (Elt Ideal) ℓ) (c : Dev nD)

/-- The normalised rows. -/
abbrev X : Fox.V 8704 1024 .bf16 := m ((c : Thread nD τ).loc main_arg0)
/-- The gradients of the gate and of the value. -/
abbrev Y : Fox.V 8704 5632 .bf16 := m ((c : Thread nD τ).loc main_arg1)

theorem blk_x (t : Fin cfg0.N) (k : Fin 512) (r : Fin 1024) :
    (iblk m c 0 t : Fox.V 512 1024 .bf16) (ix2 k r) = tot (X m c) (512 * (t.val % 17) + k) r := by
  obtain ⟨⟨e0, e1⟩, -⟩ := blocks t
  have ht : t.val < 34 := t.isLt
  rw [tot_of _ (by omega) (by omega)]
  show Gen.V m c main_arg0 (((cfg0.win 0).blk t).view.emb (ix2 k r)) = _
  rw [V_main_arg0]
  refine congrArg (m ((c : Thread nD τ).loc main_arg0)) (funext fun a => Fin.ext ?_)
  match a with
  | ⟨0, _⟩ => show win0_0.index t (0 : Fin 2) * 512 + 1 * k.val = 512 * (t.val % 17) + k.val; omega
  | ⟨1, _⟩ => show win0_0.index t (1 : Fin 2) * 1024 + 1 * r.val = r.val; omega

theorem blk_y (t : Fin cfg0.N) (k : Fin 512) (d : Fin 2816) :
    (iblk m c 1 t : Fox.V 512 2816 .bf16) (ix2 k d) = tot (Y m c) (512 * (t.val % 17) + k) (2816 * (t.val / 17) + d) := by
  obtain ⟨-, ⟨e0, e1⟩⟩ := blocks t
  have ht : t.val < 34 := t.isLt
  rw [tot_of _ (by omega) (by omega)]
  show Gen.V m c main_arg1 (((cfg0.win 1).blk t).view.emb (ix2 k d)) = _
  rw [V_main_arg1]
  refine congrArg (m ((c : Thread nD τ).loc main_arg1)) (funext fun a => Fin.ext ?_)
  match a with
  | ⟨0, _⟩ => show win0_1.index t (0 : Fin 2) * 512 + 1 * k.val = 512 * (t.val % 17) + k.val; omega
  | ⟨1, _⟩ => show win0_1.index t (1 : Fin 2) * 2816 + 1 * d.val = 2816 * (t.val / 17) + d.val; omega

/-- The sum over the first `n` rows. -/
def part (r d n : ℕ) : EReal := ∑ k ∈ Finset.range n, tot (X m c) k r * tot (Y m c) k d

theorem step (t : Fin cfg0.N) (acc : Fox.V 1024 2816 .f32) (r : Fin 1024) (d : Fin 2816)
    (h : acc (ix2 r d) = part m c r (2816 * (t.val / 17) + d) (512 * (t.val % 17))) :
    add acc (iblk m c 0 t) (iblk m c 1 t) (ix2 r d) = part m c r (2816 * (t.val / 17) + d) (512 * (t.val % 17 + 1)) := by
  rw [add_apply, h, Nat.mul_succ]
  unfold part
  rw [← sum_more]
  exact congrArg _ (sum_range_of fun k => by rw [blk_x, blk_y])

theorem zero_apply (r : Fin 1024) (d : Fin 2816) : (k0_pay1 (F := Ideal) : Fox.V 1024 2816 .f32) (ix2 r d) = 0 := by
  unfold k0_pay1
  rw [shapeCast_self]
  exact Fox.zeroF

/-- The accumulator after a step that is not the last of its column block: the sum over the rows read so far. -/
theorem held (r : Fin 1024) (d : Fin 2816) : ∀ (n : ℕ) (h : n < cfg0.N), ¬n % 17 = 16 →
    (outsAt0 m c n h).2 (ix2 r d) = part m c r (2816 * (n / 17) + d) (512 * (n % 17 + 1))
  | n, h, h1 => by
    by_cases h0 : n % 17 = 0
    · rw [outsAt0_A m c ⟨n, h⟩ h0 h1]
      dsimp only
      rw [left_A]
      refine step m c ⟨n, h⟩ _ r d ?_
      rw [zero_apply]
      show 0 = part m c r (2816 * (n / 17) + d) (512 * (n % 17))
      rw [h0]; simp [part]
    · have hp : n - 1 < cfg0.N := by omega
      have e := held r d (n - 1) hp (by omega)
      rw [show (n - 1) / 17 = n / 17 by omega, show (n - 1) % 17 + 1 = n % 17 by omega] at e
      rw [outsAt0_B m c ⟨n, h⟩ h0 h1]
      dsimp only
      rw [left_B]
      exact step m c ⟨n, h⟩ _ r d e
  termination_by n => n
  decreasing_by omega

/-- The block written back: the whole sums. -/
theorem last (t : Fin cfg0.N) (h1 : t.val % 17 = 16) (y : S2x1024x1408.Idx) :
    (outsAt0 m c t.val t.isLt).1 y = part m c (y 1).val (2816 * (t.val / 17) + (1408 * (y 0).val + (y 2).val)) 8704 := by
  have h0 : ¬t.val % 17 = 0 := by omega
  rw [outsAt0_C m c t h0 h1]
  dsimp only
  rw [out_C]
  unfold halves
  refine (step m c t _ _ _ ?_).trans (by rw [h1])
  have hp : t.val - 1 < cfg0.N := by have := t.isLt; omega
  have e := held m c (y 1) ⟨1408 * (y 0).val + (y 2).val, by
    have h0 : (y 0).val < 2 := (y 0).isLt
    have h2 : (y 2).val < 1408 := (y 2).isLt
    omega⟩ (t.val - 1) hp (by omega)
  rwa [show (t.val - 1) / 17 = t.val / 17 by omega, show (t.val - 1) % 17 + 1 = t.val % 17 by omega] at e

/-- The array after the run. -/
def result : FVec Ideal S4x1024x1408 .bf16 := fun i => part m c (i 1).val (1408 * (i 0).val + (i 2).val) 8704

theorem final : (G2 m c : FVec Ideal S4x1024x1408 .bf16) = result m c := by
  funext y
  have h0 : (y 0).val < 4 := (y 0).isLt
  have h1 : (y 1).val < 1024 := (y 1).isLt
  have h2 : (y 2).val < 1408 := (y 2).isLt
  have hp : pt2Of y = 17 * ((y 0).val / 2) + 16 := by
    show 17 * (1 * ((y 0).val / 2 - 0) + 1 * ((y 1).val / 1024 - 0) + 1 * ((y 2).val / 1408 - 0)) + 16 = _
    omega
  have hN : cfg0.N = 34 := N_0
  have hlt : pt2Of y < cfg0.N := by rw [hp]; omega
  unfold G2
  rw [dif_pos hlt, ← outsAt0_sweep m c _ hlt]
  refine (last m c ⟨_, hlt⟩ (by show pt2Of y % 17 = 16; omega) (loc2Of y)).trans ?_
  show part m c ((y 1).val % 1024) (2816 * (pt2Of y / 17) + (1408 * ((y 0).val % 2) + (y 2).val % 1408)) 8704
    = part m c (y 1).val (1408 * (y 0).val + (y 2).val) 8704
  rw [show 2816 * (pt2Of y / 17) + (1408 * ((y 0).val % 2) + (y 2).val % 1408) = 1408 * (y 0).val + (y 2).val by rw [hp]; omega,
    show (y 1).val % 1024 = (y 1).val by omega]

/-! ## The reference -/

open Cert.Reference3Ideal.Read in
theorem plain : val_main_v8 (F := Ideal) (X m c) (Y m c) = result m c := by
  funext y
  have h0 : (y 0).val < 4 := (y 0).isLt
  have h1 : (y 1).val < 1024 := (y 1).isLt
  have h2 : (y 2).val < 1408 := (y 2).isLt
  rw [val_main_v8_apply, val_main_v7_apply, val_main_v6_apply, val_main_v5_apply]
  show (val_main_v4 (F := Ideal) (X m c) (Y m c) _ : EReal) = _
  rw [val_main_v4_apply]
  show _ = part m c (y 1).val (1408 * (y 0).val + (y 2).val) 8704
  unfold part
  refine sum_range_of fun k => ?_
  have er : ridx_main_v4 (idx_main_v5 (idx_main_v6 (idx_main_v7 y))) k = ix2 k ⟨(y 1).val, h1⟩ := by
    funext a; apply Fin.ext
    match a with
    | ⟨0, _⟩ => rfl
    | ⟨1, _⟩ => show (((y 1).val * 4 + (y 0).val) * 1408 + (y 2).val) / 5632 = (y 1).val; omega
  have el : lidx_main_v4 (idx_main_v5 (idx_main_v6 (idx_main_v7 y))) k = ix2 k ⟨1408 * (y 0).val + (y 2).val, by omega⟩ := by
    funext a; apply Fin.ext
    match a with
    | ⟨0, _⟩ => rfl
    | ⟨1, _⟩ => show (((y 1).val * 4 + (y 0).val) * 1408 + (y 2).val) % 5632 = 1408 * (y 0).val + (y 2).val; omega
  rw [er, el, tot_of _ k.isLt h1, tot_of _ k.isLt (show 1408 * (y 0).val + (y 2).val < 5632 by omega), val_main_v3_apply, val_main_v0_apply]
  exact mul_comm _ _

end Ffn.Up
-- ==== Proof.DownGrad.lean ====
module

public import proofs.«01_k».proof.Proof.Whole
public import proofs.«01_k».proof.Proof.Gen.Kernel4Ideal.Value
public import proofs.«01_k».proof.Proof.Gen.Reference4Ideal.Read

/-!
  The gradient of the second product's weights: half of the activations' transpose against the layer's cotangent, summed
  over the rows in four blocks.
-/

@[expose] public section

set_option maxRecDepth 16384
set_option maxHeartbeats 1000000

noncomputable section

namespace Ffn.Down

open Cert.Kernel4Ideal Cert.Kernel4Ideal.Gen Cert.Kernel4Ideal.Value Idealize.ShloMosaic Idealize.ShloMosaic.TcCoe
open Idealize.ShloMosaic.ValueIdx (ix2 eq_ix2)
open scoped BigOperators

/-- What a step adds to the accumulator. -/
def add (acc : Fox.V 1408 1024 .f32) (x : Fox.V 2176 1408 .bf16) (y : Fox.V 2176 1024 .f32) : Fox.V 1408 1024 .f32 :=
  k0_pay2 (F := Ideal) acc x y

theorem add_apply (acc : Fox.V 1408 1024 .f32) (x : Fox.V 2176 1408 .bf16) (y : Fox.V 2176 1024 .f32)
    (r : Fin 1408) (d : Fin 1024) :
    add acc x y (ix2 r d) = acc (ix2 r d) + ∑ k : Fin 2176, x (ix2 k r) * y (ix2 k d) := by
  unfold add k0_pay2
  rw [shapeCast_self]
  show acc (ix2 r d) + FloatOps.matmul (Fox.tn 2176 1408 1024) none x (truncf .bf16 y bitsLt_bf16_f32)
    (constant S1408x1024 .f32 0x00000000#32) (ix2 r d) = _
  rw [Fox.matmul_tn_apply]
  show acc (ix2 r d) + ((FloatOps.ofBits .f32 0x00000000#32 : Ideal .f32) + _) = _
  rw [Fox.zeroF]
  exact congrArg (acc (ix2 r d) + ·) (zero_add _)

section Cases
variable (c : Dev nD) (i : grid0.Coords) (a3 : Memref sig .tc .vmem S2176x1408 .bf16) (h3 : a3.IsWhole)
  (a4 : Memref sig .tc .vmem S2176x1024 .f32) (h4 : a4.IsWhole) (a5 : Memref sig .tc .vmem S1408x1024 .bf16) (h5 : a5.IsWhole)
  (a6 : Memref sig .tc .vmem S1408x1024 .f32) (h6 : a6.IsWhole)
  (x : Vec Ideal S2176x1408 .bf16) (y : Vec Ideal S2176x1024 .f32) (acc : Vec Ideal S1408x1024 .f32)

theorem left_A (hc : cond0_0 i) (hd : ¬cond0_1 i) :
    sout0_A_0 c i a3 h3 a4 h4 a5 h5 a6 h6 hc hd x y = add (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1408x1024) hz, View.readCov_unit_zero (S := S1408x1024) _ hz]
  unfold add
  simp only [View.readAt_eq_ld, h3.read_unread, h4.read_unread, View.ld_unit_zero (S := S2176x1408) hz,
    View.ld_unit_zero (S := S2176x1024) hz]

theorem left_B (hc : ¬cond0_0 i) (hd : ¬cond0_1 i) :
    sout0_B_0 c i a3 h3 a4 h4 a5 h5 a6 h6 hc hd x y acc = add acc x y := by
  unfold sout0_B_0
  rw [View.read_writes_eq_canon _ _ _ (scover0_B_0 c i a3 h3 a4 h4 a5 h5 a6 h6 hc hd x y acc)]
  unfold kernelRun0_B
  dsimp only
  rw [View.canon_unit_zero hz]
  unfold add
  simp only [View.readAt_eq_ld, h3.read_unread, h4.read_unread, h6.read_unread, View.ld_unit_zero (S := S2176x1408) hz,
    View.ld_unit_zero (S := S2176x1024) hz, View.ld_unit_zero (S := S1408x1024) hz]

theorem left_C (hc : ¬cond0_0 i) (hd : cond0_1 i) :
    sout0_C_0 c i a3 h3 a4 h4 a5 h5 a6 h6 hc hd x y acc = add acc x y := by
  unfold sout0_C_0
  rw [View.read_writes_eq_canon _ _ _ (scover0_C_0 c i a3 h3 a4 h4 a5 h5 a6 h6 hc hd x y acc)]
  unfold kernelRun0_C
  dsimp only
  sl_unfold_words
  rw [View.canon_unit_zero hz]
  unfold add
  simp only [View.readAt_eq_ld, h3.read_unread, h4.read_unread, h6.read_unread, View.ld_unit_zero (S := S2176x1408) hz,
    View.ld_unit_zero (S := S2176x1024) hz, View.ld_unit_zero (S := S1408x1024) hz]

theorem out_C (hc : ¬cond0_0 i) (hd : cond0_1 i) :
    out0_C_2 c i a3 h3 a4 h4 a5 h5 a6 h6 hc hd x y acc = k0_pay3 (F := Ideal) (add acc x y) := by
  unfold out0_C_2
  rw [View.read_writes_eq_canon _ _ _ (cover0_C_2 c i a3 h3 a4 h4 a5 h5 a6 h6 hc hd x y acc)]
  unfold kernelRun0_C
  dsimp only
  sl_unfold_words
  rw [View.canon_unit_zero hz, View.readCov_unit_zero (S := S1408x1024) _ hz]
  unfold add
  simp only [View.readAt_eq_ld, h3.read_unread, h4.read_unread, h6.read_unread, View.ld_unit_zero (S := S2176x1408) hz,
    View.ld_unit_zero (S := S2176x1024) hz, View.ld_unit_zero (S := S1408x1024) hz]

end Cases

theorem blocks : ∀ t : Fin cfg0.N, (win0_0.index t (0 : Fin 2) = t.val % 4 ∧ win0_0.index t (1 : Fin 2) = t.val / 4)
    ∧ (win0_1.index t (0 : Fin 2) = t.val % 4 ∧ win0_1.index t (1 : Fin 2) = 0) :=
  (by decide +kernel : ∀ t : Fin grid0.N, _)

variable (m : (ℓ : Loc nD τ sig) → Buf (Elt Ideal) ℓ) (c : Dev nD)

/-- The activations. -/
abbrev X : Fox.V 8704 2816 .bf16 := m ((c : Thread nD τ).loc main_arg0)
/-- The layer's cotangent. -/
abbrev Y : Fox.V 8704 1024 .f32 := m ((c : Thread nD τ).loc main_arg1)

theorem blk_x (t : Fin cfg0.N) (k : Fin 2176) (r : Fin 1408) :
    (iblk m c 0 t : Fox.V 2176 1408 .bf16) (ix2 k r) = tot (X m c) (2176 * (t.val % 4) + k) (1408 * (t.val / 4) + r) := by
  obtain ⟨⟨e0, e1⟩, -⟩ := blocks t
  have ht : t.val < 8 := t.isLt
  rw [tot_of _ (by omega) (by omega)]
  show Gen.V m c main_arg0 (((cfg0.win 0).blk t).view.emb (ix2 k r)) = _
  rw [V_main_arg0]
  refine congrArg (m ((c : Thread nD τ).loc main_arg0)) (funext fun a => Fin.ext ?_)
  match a with
  | ⟨0, _⟩ => show win0_0.index t (0 : Fin 2) * 2176 + 1 * k.val = 2176 * (t.val % 4) + k.val; omega
  | ⟨1, _⟩ => show win0_0.index t (1 : Fin 2) * 1408 + 1 * r.val = 1408 * (t.val / 4) + r.val; omega

theorem blk_y (t : Fin cfg0.N) (k : Fin 2176) (d : Fin 1024) :
    (iblk m c 1 t : Fox.V 2176 1024 .f32) (ix2 k d) = tot (Y m c) (2176 * (t.val % 4) + k) d := by
  obtain ⟨-, ⟨e0, e1⟩⟩ := blocks t
  have ht : t.val < 8 := t.isLt
  rw [tot_of _ (by omega) (by omega)]
  show Gen.V m c main_arg1 (((cfg0.win 1).blk t).view.emb (ix2 k d)) = _
  rw [V_main_arg1]
  refine congrArg (m ((c : Thread nD τ).loc main_arg1)) (funext fun a => Fin.ext ?_)
  match a with
  | ⟨0, _⟩ => show win0_1.index t (0 : Fin 2) * 2176 + 1 * k.val = 2176 * (t.val % 4) + k.val; omega
  | ⟨1, _⟩ => show win0_1.index t (1 : Fin 2) * 1024 + 1 * d.val = d.val; omega

/-- The sum over the first `n` rows. -/
def part (r d n : ℕ) : EReal := ∑ k ∈ Finset.range n, tot (X m c) k r * tot (Y m c) k d

theorem step (t : Fin cfg0.N) (acc : Fox.V 1408 1024 .f32) (r : Fin 1408) (d : Fin 1024)
    (h : acc (ix2 r d) = part m c (1408 * (t.val / 4) + r) d (2176 * (t.val % 4))) :
    add acc (iblk m c 0 t) (iblk m c 1 t) (ix2 r d) = part m c (1408 * (t.val / 4) + r) d (2176 * (t.val % 4 + 1)) := by
  rw [add_apply, h, Nat.mul_succ]
  unfold part
  rw [← sum_more]
  exact congrArg _ (sum_range_of fun k => by rw [blk_x, blk_y])

theorem zero_apply (r : Fin 1408) (d : Fin 1024) : (k0_pay1 (F := Ideal) : Fox.V 1408 1024 .f32) (ix2 r d) = 0 := by
  unfold k0_pay1
  rw [shapeCast_self]
  exact Fox.zeroF

/-- The accumulator after step `t`: the sum over the rows of the blocks read so far. -/
theorem held (r : Fin 1408) (d : Fin 1024) : ∀ (n : ℕ) (h : n < cfg0.N),
    (outsAt0 m c n h).2 (ix2 r d) = part m c (1408 * (n / 4) + r) d (2176 * (n % 4 + 1))
  | n, h => by
    by_cases h0 : n % 4 = 0
    · have h1 : ¬n % 4 = 3 := by omega
      rw [outsAt0_A m c ⟨n, h⟩ h0 h1]
      dsimp only
      rw [left_A]
      refine step m c ⟨n, h⟩ _ r d ?_
      rw [zero_apply]
      show 0 = part m c (1408 * (n / 4) + r) d (2176 * (n % 4))
      rw [h0]; simp [part]
    · have hp : n - 1 < cfg0.N := by omega
      have e := held r d (n - 1) hp
      rw [show (n - 1) / 4 = n / 4 by omega, show (n - 1) % 4 + 1 = n % 4 by omega] at e
      by_cases h1 : n % 4 = 3
      · rw [outsAt0_C m c ⟨n, h⟩ h0 h1]
        dsimp only
        rw [left_C]
        exact step m c ⟨n, h⟩ _ r d e
      · rw [outsAt0_B m c ⟨n, h⟩ h0 h1]
        dsimp only
        rw [left_B]
        exact step m c ⟨n, h⟩ _ r d e
  termination_by n => n
  decreasing_by omega

/-- The block written back: half of the whole sum. -/
theorem last (t : Fin cfg0.N) (h1 : t.val % 4 = 3) (r : Fin 1408) (d : Fin 1024) :
    (outsAt0 m c t.val t.isLt).1 (ix2 r d) = part m c (1408 * (t.val / 4) + r) d 8704 * ((1 / 2 : ℝ) : EReal) := by
  have h0 : ¬t.val % 4 = 0 := by omega
  rw [outsAt0_C m c t h0 h1]
  dsimp only
  rw [out_C]
  unfold k0_pay3
  show add _ _ _ (ix2 r d) * (FloatOps.ofBits .f32 0x3F000000#32 : Ideal .f32) = _
  rw [halfF]
  refine congrArg (· * _) ((step m c t _ r d ?_).trans (by rw [h1]))
  have hp : t.val - 1 < cfg0.N := by have := t.isLt; omega
  have e := held m c r d (t.val - 1) hp
  rwa [show (t.val - 1) / 4 = t.val / 4 by omega, show (t.val - 1) % 4 + 1 = t.val % 4 by omega] at e

/-- The array after the run. -/
def result : Fox.V 2816 1024 .bf16 := fun i => part m c (i 0).val (i 1).val 8704 * ((1 / 2 : ℝ) : EReal)

theorem final : (G2 m c : Fox.V 2816 1024 .bf16) = result m c := by
  funext y
  obtain ⟨r, d, rfl⟩ : ∃ r d, y = ix2 r d := ⟨_, _, eq_ix2 y⟩
  have hr := r.isLt
  have hd := d.isLt
  have hp : pt2Of (ix2 r d) = 4 * (r.val / 1408) + 3 := by
    show 4 * (1 * (r.val / 1408 - 0) + 1 * (d.val / 1024 - 0)) + 3 = _
    omega
  have hN : cfg0.N = 8 := N_0
  have hlt : pt2Of (ix2 r d) < cfg0.N := by rw [hp]; omega
  unfold G2
  rw [dif_pos hlt, ← outsAt0_sweep m c _ hlt]
  have e := last m c ⟨_, hlt⟩ (by show pt2Of (ix2 r d) % 4 = 3; omega) ⟨r.val % 1408, Nat.mod_lt _ (by decide)⟩
    ⟨d.val % 1024, Nat.mod_lt _ (by decide)⟩
  have hl : loc2Of (ix2 r d) = ix2 (⟨r.val % 1408, Nat.mod_lt _ (by decide)⟩ : Fin 1408) (⟨d.val % 1024, Nat.mod_lt _ (by decide)⟩ : Fin 1024) := by
    funext a; apply Fin.ext
    match a with
    | ⟨0, _⟩ => rfl
    | ⟨1, _⟩ => rfl
  rw [hl]
  refine e.trans ?_
  show part m c (1408 * (pt2Of (ix2 r d) / 4) + r.val % 1408) (d.val % 1024) 8704 * _ = part m c r.val d.val 8704 * _
  rw [show 1408 * (pt2Of (ix2 r d) / 4) + r.val % 1408 = r.val by rw [hp]; omega, show d.val % 1024 = d.val by omega]

/-! ## The reference -/

open Cert.Reference4Ideal.Read in
theorem plain : val_main_v9 (F := Ideal) (X m c) (Y m c) = result m c := by
  funext y
  obtain ⟨r, d, rfl⟩ : ∃ r d, y = ix2 r d := ⟨_, _, eq_ix2 y⟩
  rw [val_main_v9_apply, val_main_v8_apply]
  show (val_main_v7 (F := Ideal) (X m c) (Y m c) _ : EReal) = _
  rw [val_main_v7_apply]
  show _ = part m c r.val d.val 8704 * _
  unfold part
  rw [mul_comm, half_sum]
  refine sum_range_of fun k => ?_
  have e1 : ridx_main_v7 (idx_main_v8 (ix2 r d)) k = ix2 k r := by
    funext a; apply Fin.ext
    match a with
    | ⟨0, _⟩ => rfl
    | ⟨1, _⟩ => rfl
  have e2 : lidx_main_v7 (idx_main_v8 (ix2 r d)) k = ix2 k d := by
    funext a; apply Fin.ext
    match a with
    | ⟨0, _⟩ => rfl
    | ⟨1, _⟩ => rfl
  rw [e1, e2, tot_ix, tot_ix, val_main_v6_apply, val_main_v5_apply, val_main_cst_1_apply, val_main_v0_apply]
  show ((FloatOps.ofBits .f32 0x3F000000#32 : Ideal .f32) : EReal) * Y m c (ix2 k d) * X m c (ix2 k r) = _
  rw [halfF]
  rw [mul_assoc, mul_comm (Y m c (ix2 k d))]

end Ffn.Down
-- ==== Proof.Layer.lean ====
module

public import proofs.«01_k».proof.Proof.Whole

/-!
  One feed-forward layer, row by row: the row scaled to unit mean square, the gated activations, and the block operations
  that compute them.
-/

@[expose] public section

set_option maxRecDepth 16384

noncomputable section

namespace Ffn

open Idealize.ShloMosaic Idealize.ShloMosaic.ValueIdx Fox
open scoped BigOperators

/-! ## Constants -/

/-- The small number added to a row's mean square. -/
def eps : EReal := (FloatOps.ofBits .f32 0x358637BD#32 : Ideal .f32)

theorem thousandthF : (FloatOps.ofBits .f32 0x3A800000#32 : Ideal .f32) = ((1 / 1024 : ℝ) : EReal) := by
  show Ideal.ofBits .f32 _ = _; simp [Ideal.ofBits, Ideal.ieee, -EReal.coe_mul]; norm_num
theorem thousandF : (FloatOps.ofBits .f32 0x44800000#32 : Ideal .f32) = ((1024 : ℝ) : EReal) := by
  show Ideal.ofBits .f32 _ = _; simp [Ideal.ofBits, Ideal.ieee, -EReal.coe_mul]; norm_num
theorem eps_pos : ∃ e : ℝ, 0 < e ∧ eps = (e : EReal) := by
  refine ⟨8796093 / 8796093022208, by norm_num, ?_⟩
  unfold eps
  show Ideal.ofBits .f32 _ = _; simp [Ideal.ofBits, Ideal.ieee, -EReal.coe_mul]; norm_num

/-- Dividing by 1024 is multiplying by its inverse. -/
theorem div_thousand (x : EReal) :
    (FloatOps.hostDivf (x : Ideal .f32) (FloatOps.ofBits .f32 0x44800000#32 : Ideal .f32) : EReal) = x * ((1 / 1024 : ℝ) : EReal) := by
  rw [thousandF]
  exact Ideal.div_coe (by norm_num) x

/-! ## A row -/

/-- The inverse root of a row's mean square. -/
def scale (x : Fin 1024 → EReal) : EReal := Ideal.rsqrt ((∑ k, x k * x k) * ((1 / 1024 : ℝ) : EReal) + eps)
/-- The row the first products read. -/
def unit (x g : Fin 1024 → EReal) (k : Fin 1024) : EReal := x k * scale x * g k
/-- A row times a matrix. -/
def lin {n m : ℕ} (u : Fin n → EReal) (A : Fin n → Fin m → EReal) (j : Fin m) : EReal := ∑ k, u k * A k j
/-- A gated activation. -/
def act (a b : EReal) : EReal := a * Ideal.logistic a * b

/-- The logistic function spelled with an exponential, a sum and a quotient. -/
theorem logistic_spelled (x : EReal) :
    (FloatOps.hostDivf (FloatOps.ofBits .f32 0x3F800000#32 : Ideal .f32)
      (FloatOps.addf (FloatOps.ofBits .f32 0x3F800000#32 : Ideal .f32) (FloatOps.hostUnary .exp (FloatOps.hostNegf (x : Ideal .f32)))) : EReal)
      = Ideal.logistic x := by
  rw [oneF]
  rfl

/-! ## Blocks of rows -/

theorem plain_apply {M K N : ℕ} {φ₁ φ₂ : FTy} (x : V M K φ₁) (y : V K N φ₂) (i : Fin M) (j : Fin N) :
    FloatOps.matmul (DotDims.plain M K N) none x y (constant (S2 M N) .f32 0x00000000#32) (ix2 i j)
      = ∑ k : Fin K, x (ix2 i k) * y (ix2 k j) := by
  rw [Ideal.matmul_plain_apply]
  show ((FloatOps.ofBits .f32 0x00000000#32 : Ideal .f32) + _ : EReal) = _
  rw [zeroF]
  exact zero_add _

theorem turned_apply {M K N : ℕ} {φ₁ φ₂ : FTy} (x : V M K φ₁) (y : V N K φ₂) (i : Fin M) (j : Fin N) :
    FloatOps.matmul (DotDims.transposedRhs M K N) none x y (constant (S2 M N) .f32 0x00000000#32) (ix2 i j)
      = ∑ k : Fin K, x (ix2 i k) * y (ix2 j k) := by
  rw [Ideal.matmul_transposedRhs_apply]
  show ((FloatOps.ofBits .f32 0x00000000#32 : Ideal .f32) + _ : EReal) = _
  rw [zeroF]
  exact zero_add _

theorem sumCol_apply {R N : ℕ} (x : V R N .f32) (i : Fin R) (z : Fin 1) :
    shapeCast (S2 R 1) (multiReduction .add [1] (S1 R) x 0x00000000#32 (redRow R N) fmtF accAdd) (scCol R) (ix2 i z)
      = ∑ k : Fin N, x (ix2 i k) := by
  rw [col_apply, rowAdd_apply]

/-- The scales of a block's rows. -/
def scaleV {R : ℕ} (h : V R 1024 .f32) : V R 1 .f32 :=
  rsqrt (addf (mulf (shapeCast (S2 R 1) (multiReduction .add [1] (S1 R) (mulf h h) 0x00000000#32 (redRow R 1024) fmtF accAdd) (scCol R))
    (broadcast (S2 R 1) (Scalar.ofBits .f32 0x3A800000#32))) (broadcast (S2 R 1) (Scalar.ofBits .f32 0x358637BD#32)))

theorem scaleV_apply {R : ℕ} (h : V R 1024 .f32) (i : Fin R) (z : Fin 1) : scaleV h (ix2 i z) = scale fun k => h (ix2 i k) := by
  show Ideal.rsqrt (shapeCast (S2 R 1) _ (scCol R) (ix2 i z) * (FloatOps.ofBits .f32 0x3A800000#32 : Ideal .f32) + eps) = _
  rw [sumCol_apply, thousandthF]
  rfl

/-- The rows of a block over their root mean squares. -/
def overV {R : ℕ} (h : V R 1024 .f32) : V R 1024 .f32 := mulf h (broadcastTo (S2 R 1024) (scaleV h) (bcCol R 1024))

theorem overV_apply {R : ℕ} (h : V R 1024 .f32) (i : Fin R) (k : Fin 1024) :
    overV h (ix2 i k) = h (ix2 i k) * scale fun k => h (ix2 i k) := by
  show h (ix2 i k) * broadcastTo (S2 R 1024) (scaleV h) (bcCol R 1024) (ix2 i k) = _
  rw [bcCol_apply, scaleV_apply]

/-- The rows the first products read. -/
def unitV {R : ℕ} (h : V R 1024 .f32) (g : V 1 1024 .f32) : V R 1024 .bf16 :=
  truncf .bf16 (mulf (overV h) (broadcastTo (S2 R 1024) g (bcRow R 1024))) bits_lt

theorem unitV_apply {R : ℕ} (h : V R 1024 .f32) (g : V 1 1024 .f32) (i : Fin R) (k : Fin 1024) :
    unitV h g (ix2 i k) = unit (fun k => h (ix2 i k)) (fun k => g (ix2 0 k)) k := by
  show overV h (ix2 i k) * broadcastTo (S2 R 1024) g (bcRow R 1024) (ix2 i k) = _
  rw [bcRow_apply, overV_apply]
  rfl

/-- A product of a block's rows with a matrix. -/
def linV {R K N : ℕ} (u : V R K .bf16) (w : V K N .bf16) : V R N .f32 :=
  FloatOps.matmul (DotDims.plain R K N) none u w (constant (S2 R N) .f32 0x00000000#32)

theorem linV_apply {R K N : ℕ} (u : V R K .bf16) (w : V K N .bf16) (i : Fin R) (j : Fin N) :
    linV u w (ix2 i j) = lin (fun k => u (ix2 i k)) (fun k j => w (ix2 k j)) j := plain_apply u w i j

/-- A product of a block's rows with a matrix's transpose. -/
def backV {R K N : ℕ} (u : V R K .bf16) (w : V N K .bf16) : V R N .f32 :=
  FloatOps.matmul (DotDims.transposedRhs R K N) none u w (constant (S2 R N) .f32 0x00000000#32)

theorem backV_apply {R K N : ℕ} (u : V R K .bf16) (w : V N K .bf16) (i : Fin R) (j : Fin N) :
    backV u w (ix2 i j) = lin (fun k => u (ix2 i k)) (fun k j => w (ix2 j k)) j := turned_apply u w i j

/-- The gated activations of a block. -/
def actV {R N : ℕ} (a b : V R N .f32) : V R N .bf16 := truncf .bf16 (mulf (mulf a (logistic a)) b) bits_lt

theorem actV_apply {R N : ℕ} (a b : V R N .f32) (i : Fin R) (j : Fin N) :
    actV a b (ix2 i j) = act (a (ix2 i j)) (b (ix2 i j)) := rfl

end Ffn
-- ==== Proof.Forward.lean ====
module

public import proofs.«01_k».proof.Proof.Layer
public import proofs.«01_k».proof.Proof.Gen.Kernel5Ideal.Value
public import proofs.«01_k».proof.Proof.Gen.Reference5Ideal.Read

/-!
  The layer's forward call: each block of 512 rows is scaled, multiplied by the two halves of the first weights, gated,
  multiplied by the second weights and added, halved, to itself.
-/

@[expose] public section

set_option maxRecDepth 16384
set_option maxHeartbeats 1000000

noncomputable section

namespace Ffn.Fwd

open Cert.Kernel5Ideal Cert.Kernel5Ideal.Gen Cert.Kernel5Ideal.Value Idealize.ShloMosaic Idealize.ShloMosaic.TcCoe
open Idealize.ShloMosaic.ValueIdx (ix2 eq_ix2)
open scoped BigOperators

/-- A row of the layer's output. -/
def out (x g : Fin 1024 → EReal) (A B : Fin 1024 → Fin 2816 → EReal) (D : Fin 2816 → Fin 1024 → EReal) (d : Fin 1024) : EReal :=
  x d + ((1 / 2 : ℝ) : EReal) * lin (fun j => act (lin (unit x g) A j) (lin (unit x g) B j)) D d

/-- The value stored: a block of the output. -/
theorem pay_apply (h : Fox.V 512 1024 .f32) (g : Fox.V 1 1024 .f32) (a b : Fox.V 1024 2816 .bf16) (w : Fox.V 2816 1024 .bf16)
    (i : Fin 512) (d : Fin 1024) :
    (k0_pay1 (F := Ideal) h g a b w : Fox.V 512 1024 .f32) (ix2 i d)
      = out (fun k => h (ix2 i k)) (fun k => g (ix2 0 k)) (fun k j => a (ix2 k j)) (fun k j => b (ix2 k j)) (fun j k => w (ix2 j k)) d := by
  show h (ix2 i d) + (FloatOps.ofBits .f32 0x3F000000#32 : Ideal .f32)
    * linV (actV (linV (unitV h g) a) (linV (unitV h g) b)) w (ix2 i d) = _
  rw [halfF, linV_apply]
  simp only [actV_apply, linV_apply, unitV_apply]
  rfl

theorem blocks : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 1) ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem writes : ∀ t : Fin cfg0.N, (cfg0.win 5).flush t = true :=
  (by decide +kernel : ∀ t : Fin grid0.N, _)

variable (m : (ℓ : Loc nD τ sig) → Buf (Elt Ideal) ℓ) (c : Dev nD)

/-- The activations entering the layer. -/
abbrev X : Fox.V 8704 1024 .f32 := m ((c : Thread nD τ).loc main_arg0)
/-- The norm's gains. -/
abbrev Y : Fox.V 1 1024 .f32 := m ((c : Thread nD τ).loc main_arg1)
/-- The first weights. -/
abbrev W : Fox.V 1024 5632 .bf16 := m ((c : Thread nD τ).loc main_arg2)
/-- The second weights. -/
abbrev D : Fox.V 2816 1024 .bf16 := m ((c : Thread nD τ).loc main_arg3)

theorem row_lt (t : Fin cfg0.N) (i : Fin 512) : 512 * t.val + i.val < 8704 := by
  have h : t.val < 17 := t.isLt
  omega

theorem blk_x (t : Fin cfg0.N) (i : Fin 512) (k : Fin 1024) :
    (iblk m c 0 t : Fox.V 512 1024 .f32) (ix2 i k) = X m c (ix2 ⟨512 * t.val + i.val, row_lt t i⟩ k) := by
  obtain ⟨⟨e0, e1⟩, -⟩ := blocks t
  show Gen.V m c main_arg0 (((cfg0.win 0).blk t).view.emb (ix2 i k)) = _
  rw [V_main_arg0]
  refine congrArg (m ((c : Thread nD τ).loc main_arg0)) (funext fun a => Fin.ext ?_)
  match a with
  | ⟨0, _⟩ => show win0_0.index t (0 : Fin 2) * 512 + 1 * i.val = 512 * t.val + i.val; omega
  | ⟨1, _⟩ => show win0_0.index t (1 : Fin 2) * 1024 + 1 * k.val = k.val; omega

theorem blk_y (t : Fin cfg0.N) (k : Fin 1024) : (iblk m c 1 t : Fox.V 1 1024 .f32) (ix2 0 k) = Y m c (ix2 0 k) := by
  obtain ⟨-, ⟨e0, e1⟩, -⟩ := blocks t
  show Gen.V m c main_arg1 (((cfg0.win 1).blk t).view.emb (ix2 0 k)) = _
  rw [V_main_arg1]
  refine congrArg (m ((c : Thread nD τ).loc main_arg1)) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem blk_a (t : Fin cfg0.N) (k : Fin 1024) (j : Fin 2816) :
    (iblk m c 2 t : Fox.V 1024 2816 .bf16) (ix2 k j) = W m c (ix2 k ⟨j.val, by omega⟩) := by
  obtain ⟨-, -, ⟨e0, e1⟩, -⟩ := blocks t
  show Gen.V m c main_arg2 (((cfg0.win 2).blk t).view.emb (ix2 k j)) = _
  rw [V_main_arg2]
  refine congrArg (m ((c : Thread nD τ).loc main_arg2)) (funext fun a => Fin.ext ?_)
  match a with
  | ⟨0, _⟩ => show win0_2.index t (0 : Fin 2) * 1024 + 1 * k.val = k.val; omega
  | ⟨1, _⟩ => show win0_2.index t (1 : Fin 2) * 2816 + 1 * j.val = j.val; omega

theorem blk_b (t : Fin cfg0.N) (k : Fin 1024) (j : Fin 2816) :
    (iblk m c 3 t : Fox.V 1024 2816 .bf16) (ix2 k j) = W m c (ix2 k ⟨2816 + j.val, by omega⟩) := by
  obtain ⟨-, -, -, ⟨e0, e1⟩, -⟩ := blocks t
  show Gen.V m c main_arg2 (((cfg0.win 3).blk t).view.emb (ix2 k j)) = _
  rw [V_main_arg2]
  refine congrArg (m ((c : Thread nD τ).loc main_arg2)) (funext fun a => Fin.ext ?_)
  match a with
  | ⟨0, _⟩ => show win0_3.index t (0 : Fin 2) * 1024 + 1 * k.val = k.val; omega
  | ⟨1, _⟩ => show win0_3.index t (1 : Fin 2) * 2816 + 1 * j.val = 2816 + j.val; omega

theorem blk_d (t : Fin cfg0.N) (j : Fin 2816) (k : Fin 1024) :
    (iblk m c 4 t : Fox.V 2816 1024 .bf16) (ix2 j k) = D m c (ix2 j k) := by
  obtain ⟨-, -, -, -, ⟨e0, e1⟩, -⟩ := blocks t
  show Gen.V m c main_arg3 (((cfg0.win 4).blk t).view.emb (ix2 j k)) = _
  rw [V_main_arg3]
  refine congrArg (m ((c : Thread nD τ).loc main_arg3)) (funext fun a => Fin.ext ?_)
  match a with
  | ⟨0, _⟩ => show win0_4.index t (0 : Fin 2) * 2816 + 1 * j.val = j.val; omega
  | ⟨1, _⟩ => show win0_4.index t (1 : Fin 2) * 1024 + 1 * k.val = k.val; omega

theorem emb (t : Fin cfg0.N) (i : Fin 512) (d : Fin 1024) :
    (((cfg0.win 5).blk t).view.emb (ix2 i d) : (Fox.S2 8704 1024).Idx) = ix2 ⟨512 * t.val + i.val, row_lt t i⟩ d := by
  obtain ⟨-, -, -, -, -, ⟨e0, e1⟩⟩ := blocks t
  funext a; apply Fin.ext
  match a with
  | ⟨0, _⟩ => show win0_5.index t (0 : Fin 2) * 512 + 1 * i.val = 512 * t.val + i.val; omega
  | ⟨1, _⟩ => show win0_5.index t (1 : Fin 2) * 1024 + 1 * d.val = d.val; omega

/-- The array after the run. -/
def result : Fox.V 8704 1024 .f32 := fun y =>
  out (fun k => X m c (ix2 (y 0) k)) (fun k => Y m c (ix2 0 k)) (fun k j => W m c (ix2 k ⟨j.val, by omega⟩))
    (fun k j => W m c (ix2 k ⟨2816 + j.val, by omega⟩)) (fun j k => D m c (ix2 j k)) (y 1)

theorem final : ((dats m 0 c).arrAt 5 cfg0.N : Fox.V 8704 1024 .f32) = result m c := by
  refine (dats m 0 c).arrAt_eq_of_cover 5 (result m c) (fun t _ => ?_) fun y => ?_
  · refine (flushed5 m c t).trans (funext fun j => ?_)
    obtain ⟨i, d, rfl⟩ : ∃ (i : Fin 512) (d : Fin 1024), j = ix2 i d := ⟨_, _, eq_ix2 j⟩
    show out0_5 (iblk m c 0 t) (iblk m c 1 t) (iblk m c 2 t) (iblk m c 3 t) (iblk m c 4 t) (ix2 i d)
      = result m c (((cfg0.win 5).blk t).view.emb (ix2 i d))
    rw [emb]
    unfold out0_5
    rw [View.canon_unit_zero hz]
    simp only [View.ld_unit_zero (S := S512x1024) hz, View.ld_unit_zero (S := S1x1024) hz, View.ld_unit_zero (S := S1024x2816) hz,
      View.ld_unit_zero (S := S2816x1024) hz]
    refine (pay_apply _ _ _ _ _ i d).trans ?_
    simp only [blk_x, blk_y, blk_a, blk_b, blk_d]
    rfl
  · obtain ⟨r, d, rfl⟩ : ∃ (r : Fin 8704) (d : Fin 1024), y = ix2 r d := ⟨_, _, eq_ix2 y⟩
    have hN : cfg0.N = 17 := N_0
    have hr := r.isLt
    refine ⟨⟨r.val / 512, by omega⟩, writes _, ?_⟩
    have h := ((cfg0.win 5).blk (⟨r.val / 512, by omega⟩ : Fin cfg0.N)).view.emb_mem_set
      (ix2 (⟨r.val % 512, Nat.mod_lt _ (by decide)⟩ : Fin 512) d)
    rw [emb] at h
    have e : (⟨512 * (r.val / 512) + r.val % 512, by omega⟩ : Fin 8704) = r := Fin.ext (by show 512 * (r.val / 512) + r.val % 512 = r.val; omega)
    rwa [e] at h

/-! ## The reference -/

section Reference
open Cert.Reference5Ideal.Read
variable (x : Fox.V 8704 1024 .f32) (g : Fox.V 1 1024 .f32) (w : Fox.V 1024 5632 .bf16) (e : Fox.V 2816 1024 .bf16)

/-- Closes an equality of two-axis indices with the same coordinates. -/
theorem ext2 {a b : ℕ} {p q : (Fox.S2 a b).Idx} (h0 : (p 0).val = (q 0).val) (h1 : (p 1).val = (q 1).val) : p = q := by
  funext i; apply Fin.ext
  match i with
  | ⟨0, _⟩ => exact h0
  | ⟨1, _⟩ => exact h1

theorem ref_scale (i : Fin 8704) (z : Fin 1) : (val_main_v7 (F := Ideal) x : Fox.V 8704 1 .f32) (ix2 i z) = scale fun k => x (ix2 i k) := by
  rw [val_main_v7_apply, val_main_v6_apply, val_main_v4_apply, val_main_v3_apply, val_main_v5_apply, val_main_cst_0_apply,
    val_main_cst_1_apply, div_thousand, val_main_v2_apply, val_main_v1_apply, val_main_cst_apply]
  show Ideal.rsqrt (((FloatOps.ofBits .f32 0x00000000#32 : Ideal .f32) + ∑ k, _ : EReal) * _ + eps) = _
  rw [Fox.zeroF, zero_add]
  unfold scale
  refine congrArg (fun s => Ideal.rsqrt (s * _ + eps)) (Finset.sum_congr rfl fun k _ => ?_)
  rw [val_main_v0_apply, show idx_main_v1 (idx_main_v2 (ix2 i z)) k = ix2 i k from ext2 rfl rfl]
  rfl

theorem ref_unit (i : Fin 8704) (k : Fin 1024) :
    (val_main_v11 (F := Ideal) x g : Fox.V 8704 1024 .f32) (ix2 i k) = unit (fun k => x (ix2 i k)) (fun k => g (ix2 0 k)) k := by
  rw [val_main_v11_apply, val_main_v9_apply, val_main_v8_apply, val_main_v10_apply,
    show idx_main_v8 (ix2 i k) = ix2 i 0 from ext2 rfl rfl, show idx_main_v10 (ix2 i k) = ix2 0 k from ext2 rfl rfl, ref_scale]
  rfl

theorem ref_lin (i : Fin 8704) (j : Fin 5632) :
    (val_main_v13 (F := Ideal) x g w : Fox.V 8704 5632 .f32) (ix2 i j)
      = lin (unit (fun k => x (ix2 i k)) (fun k => g (ix2 0 k))) (fun k j => w (ix2 k j)) j := by
  rw [val_main_v13_apply]
  refine Finset.sum_congr rfl fun k _ => ?_
  rw [show lidx_main_v13 (ix2 i j) k = ix2 i k from ext2 rfl rfl, show ridx_main_v13 (ix2 i j) k = ix2 k j from ext2 rfl rfl,
    ref_unit, val_main_v12_apply]
  rfl

theorem ref_act (i : Fin 8704) (j : Fin 2816) :
    (val_main_v17 (F := Ideal) x g w : Fox.V 8704 2816 .f32) (ix2 i j)
      = act (lin (unit (fun k => x (ix2 i k)) (fun k => g (ix2 0 k))) (fun k (j : Fin 2816) => w (ix2 k ⟨j.val, by omega⟩)) j)
        (lin (unit (fun k => x (ix2 i k)) (fun k => g (ix2 0 k))) (fun k (j : Fin 2816) => w (ix2 k ⟨2816 + j.val, by omega⟩)) j) := by
  rw [val_main_v17_apply, val_main_v16_apply, val_main_call0_v5_apply, val_main_call0_v4_apply, val_main_call0_cst_0_apply,
    val_main_call0_v3_apply, val_main_call0_v2_apply, val_main_call0_cst_apply, val_main_call0_v1_apply, val_main_call0_v0_apply,
    logistic_spelled, val_main_v14_apply, val_main_v15_apply,
    show idx_main_v14 (ix2 i j) = ix2 i ⟨j.val, by omega⟩ from ext2 rfl rfl,
    show idx_main_v15 (ix2 i j) = ix2 i ⟨2816 + j.val, by omega⟩ from ext2 rfl rfl, ref_lin, ref_lin]
  rfl

end Reference

open Cert.Reference5Ideal.Read in
theorem plain : (val_main_v22 (F := Ideal) (X m c) (Y m c) (W m c) (D m c) : Fox.V 8704 1024 .f32) = result m c := by
  funext y
  obtain ⟨r, d, rfl⟩ : ∃ r d, y = ix2 r d := ⟨_, _, eq_ix2 y⟩
  rw [val_main_v22_apply, val_main_v21_apply, val_main_v20_apply, val_main_cst_2_apply, val_main_v19_apply]
  show X m c (ix2 r d) + (FloatOps.ofBits .f32 0x3F000000#32 : Ideal .f32) * (∑ k, _ : EReal) = _
  rw [halfF]
  unfold result out
  refine congrArg (fun s => X m c (ix2 r d) + _ * s) (Finset.sum_congr rfl fun j _ => ?_)
  rw [show lidx_main_v19 (ix2 r d) j = ix2 r j from ext2 rfl rfl, show ridx_main_v19 (ix2 r d) j = ix2 j d from ext2 rfl rfl,
    ref_act, val_main_v18_apply]
  rfl

end Ffn.Fwd
-- ==== Proof.BackRow.lean ====
module

public import proofs.«01_k».proof.Proof.Layer
public import proofs.«01_k».proof.Proof.Gen.Kernel2Ideal.Value

/-!
  The layer's backward call, row by row: what one row of the activations and one row of the cotangent give, and the values
  stored for a block of 256 rows.
-/

@[expose] public section

set_option maxRecDepth 16384
set_option maxHeartbeats 1000000

noncomputable section

namespace Ffn

open Idealize.ShloMosaic Idealize.ShloMosaic.ValueIdx
open scoped BigOperators

/-- What a row's gradients depend on: the activations, the cotangent, the norm's gains, the weights of the gate, of the value
and of the way back. -/
structure Row where
  x : Fin 1024 → EReal
  o : Fin 1024 → EReal
  g : Fin 1024 → EReal
  A : Fin 1024 → Fin 2816 → EReal
  B : Fin 1024 → Fin 2816 → EReal
  D : Fin 2816 → Fin 1024 → EReal

namespace Row
variable (r : Row)

/-- The row over its root mean square. -/
def xh (k : Fin 1024) : EReal := r.x k * scale r.x
/-- The row the first products read. -/
def u (k : Fin 1024) : EReal := unit r.x r.g k
/-- The gate before its activation. -/
def ga (j : Fin 2816) : EReal := lin r.u r.A j
/-- The value the gate multiplies. -/
def va (j : Fin 2816) : EReal := lin r.u r.B j
/-- The gated value. -/
def a (j : Fin 2816) : EReal := act (r.ga j) (r.va j)
/-- The gradient of the gated value. -/
def da (j : Fin 2816) : EReal := lin (fun d => ((1 / 2 : ℝ) : EReal) * r.o d) (fun d j => r.D j d) j
/-- The gradient of the value. -/
def dp (j : Fin 2816) : EReal := r.da j * (r.ga j * Ideal.logistic (r.ga j))
/-- The gradient of the gate. -/
def dg (j : Fin 2816) : EReal :=
  r.da j * r.va j * (Ideal.logistic (r.ga j) * (1 + r.ga j * (1 - Ideal.logistic (r.ga j))))
/-- The gradient of the row the first products read. -/
def du (k : Fin 1024) : EReal := lin r.dg (fun j k => r.A k j) k + lin r.dp (fun j k => r.B k j) k
/-- The gradient of the row over its root mean square. -/
def w (k : Fin 1024) : EReal := r.du k * r.g k
/-- The row's share of the gains' gradient. -/
def dn (k : Fin 1024) : EReal := r.du k * r.xh k
/-- The gradient of the activations. -/
def dh (d : Fin 1024) : EReal :=
  r.o d + scale r.x * (r.w d - r.xh d * ((∑ k, r.w k * r.xh k) * ((1 / 1024 : ℝ) : EReal)))

end Row

namespace Bwd

open Cert.Kernel2Ideal Cert.Kernel2Ideal.Gen

section Block
variable (h o : Fox.V 256 1024 .f32) (g : Fox.V 1 1024 .f32) (a b : Fox.V 1024 2816 .bf16) (e : Fox.V 2816 1024 .bf16)

/-- Row `i` of a block. -/
def rowOf (i : Fin 256) : Row where
  x k := h (ix2 i k)
  o k := o (ix2 i k)
  g k := g (ix2 0 k)
  A k j := a (ix2 k j)
  B k j := b (ix2 k j)
  D j k := e (ix2 j k)

/-- One, as the block operations read it. -/
abbrev one : Ideal .f32 := Scalar.ofBits .f32 0x3F800000#32

/-- The rows stored for the first products. -/
def uB : Fox.V 256 1024 .bf16 := k0_pay5 (F := Ideal) h g
/-- The gated values stored. -/
def aB : Fox.V 256 2816 .bf16 := k0_pay13 (F := Ideal) (k0_pay7 (F := Ideal) h g b) (k0_pay9 (F := Ideal) h g a)
/-- The gradients of the gate stored. -/
def dgB : Fox.V 256 2816 .bf16 :=
  k0_pay14 (F := Ideal) (k0_pay6 (F := Ideal) h g a) (k0_pay8 (F := Ideal) h g a) (k0_pay12 (F := Ideal) h g b o e) one
/-- The gradients of the value stored. -/
def dpB : Fox.V 256 2816 .bf16 := k0_pay15 (F := Ideal) (k0_pay11 (F := Ideal) h g a o e)
/-- The gradients of the rows the first products read. -/
def duB : Fox.V 256 1024 .f32 :=
  k0_pay16 (F := Ideal) (k0_pay6 (F := Ideal) h g a) (k0_pay8 (F := Ideal) h g a) (k0_pay11 (F := Ideal) h g a o e)
    (k0_pay12 (F := Ideal) h g b o e) one a b
/-- The gains' gradient after the block. -/
def dnB (acc : Fox.V 1 1024 .f32) : Fox.V 1 1024 .f32 :=
  k0_pay17 (F := Ideal) (k0_pay4 (F := Ideal) h) (k0_pay6 (F := Ideal) h g a) (k0_pay8 (F := Ideal) h g a)
    (k0_pay11 (F := Ideal) h g a o e) (k0_pay12 (F := Ideal) h g b o e) one a b acc
/-- The gradients of the activations stored. -/
def dhB : Fox.V 256 1024 .f32 :=
  k0_pay1 (F := Ideal) (k0_pay3 (F := Ideal) h) (k0_pay4 (F := Ideal) h) o
    (k0_pay18 (F := Ideal) (k0_pay6 (F := Ideal) h g a) (k0_pay8 (F := Ideal) h g a) (k0_pay11 (F := Ideal) h g a o e)
      (k0_pay12 (F := Ideal) h g b o e) one a b g)
    (k0_pay19 (F := Ideal) (k0_pay4 (F := Ideal) h) (k0_pay6 (F := Ideal) h g a) (k0_pay8 (F := Ideal) h g a)
      (k0_pay11 (F := Ideal) h g a o e) (k0_pay12 (F := Ideal) h g b o e) one a b g)

theorem uB_apply (i : Fin 256) (k : Fin 1024) : uB h g (ix2 i k) = (rowOf h o g a b e i).u k := unitV_apply h g i k

theorem ga_apply (i : Fin 256) (j : Fin 2816) :
    (k0_pay6 (F := Ideal) h g a : Fox.V 256 2816 .f32) (ix2 i j) = (rowOf h o g a b e i).ga j := by
  show linV (unitV h g) a (ix2 i j) = _
  rw [linV_apply]
  simp only [unitV_apply]
  rfl

theorem va_apply (i : Fin 256) (j : Fin 2816) :
    (k0_pay7 (F := Ideal) h g b : Fox.V 256 2816 .f32) (ix2 i j) = (rowOf h o g a b e i).va j := by
  show linV (unitV h g) b (ix2 i j) = _
  rw [linV_apply]
  simp only [unitV_apply]
  rfl

theorem da_apply (i : Fin 256) (j : Fin 2816) :
    (k0_pay10 (F := Ideal) o e : Fox.V 256 2816 .f32) (ix2 i j) = (rowOf h o g a b e i).da j := by
  show backV (truncf .bf16 (mulf (broadcast (Fox.S2 256 1024) (Scalar.ofBits .f32 0x3F000000#32 : Ideal .f32)) o) Fox.bits_lt) e (ix2 i j) = _
  rw [backV_apply]
  show lin (fun k => (FloatOps.ofBits .f32 0x3F000000#32 : Ideal .f32) * o (ix2 i k)) _ j = _
  rw [halfF]
  rfl

theorem aB_apply (i : Fin 256) (j : Fin 2816) : aB h g a b (ix2 i j) = (rowOf h o g a b e i).a j := by
  show (k0_pay6 (F := Ideal) h g a : Fox.V 256 2816 .f32) (ix2 i j)
    * Ideal.logistic ((k0_pay6 (F := Ideal) h g a : Fox.V 256 2816 .f32) (ix2 i j))
    * (k0_pay7 (F := Ideal) h g b : Fox.V 256 2816 .f32) (ix2 i j) = _
  rw [ga_apply h o g a b e, va_apply h o g a b e]
  rfl

theorem dpB_apply (i : Fin 256) (j : Fin 2816) : dpB h o g a e (ix2 i j) = (rowOf h o g a b e i).dp j := by
  show (k0_pay10 (F := Ideal) o e : Fox.V 256 2816 .f32) (ix2 i j)
    * ((k0_pay6 (F := Ideal) h g a : Fox.V 256 2816 .f32) (ix2 i j)
      * Ideal.logistic ((k0_pay6 (F := Ideal) h g a : Fox.V 256 2816 .f32) (ix2 i j))) = _
  rw [ga_apply h o g a b e, da_apply h o g a b e]
  rfl

theorem dgB_apply (i : Fin 256) (j : Fin 2816) : dgB h o g a b e (ix2 i j) = (rowOf h o g a b e i).dg j := by
  show (k0_pay10 (F := Ideal) o e : Fox.V 256 2816 .f32) (ix2 i j) * (k0_pay7 (F := Ideal) h g b : Fox.V 256 2816 .f32) (ix2 i j)
    * (Ideal.logistic ((k0_pay6 (F := Ideal) h g a : Fox.V 256 2816 .f32) (ix2 i j))
      * ((FloatOps.ofBits .f32 0x3F800000#32 : Ideal .f32) + (k0_pay6 (F := Ideal) h g a : Fox.V 256 2816 .f32) (ix2 i j)
        * ((FloatOps.ofBits .f32 0x3F800000#32 : Ideal .f32)
          - Ideal.logistic ((k0_pay6 (F := Ideal) h g a : Fox.V 256 2816 .f32) (ix2 i j)) : EReal)) : EReal) = _
  rw [Fox.oneF, ga_apply h o g a b e, va_apply h o g a b e, da_apply h o g a b e]
  rfl

theorem duB_apply (i : Fin 256) (k : Fin 1024) : duB h o g a b e (ix2 i k) = (rowOf h o g a b e i).du k := by
  show backV (dgB h o g a b e) a (ix2 i k) + backV (dpB h o g a e) b (ix2 i k) = _
  rw [backV_apply, backV_apply]
  simp only [dgB_apply, dpB_apply h o g a b e]
  rfl

theorem dnB_apply (acc : Fox.V 1 1024 .f32) (k : Fin 1024) :
    dnB h o g a b e acc (ix2 0 k) = acc (ix2 0 k) + ∑ i, (rowOf h o g a b e i).dn k := by
  show shapeCast (Fox.S2 1 1024) acc _ (ix2 0 k) + shapeCast (Fox.S2 1 1024) (multiReduction .add [0] (Fox.S1 1024)
    (mulf (duB h o g a b e) (overV h)) 0x00000000#32 (Fox.redCol 256 1024) Fox.fmtF Fox.accAdd) (Fox.scRow 1024) (ix2 0 k) = _
  rw [shapeCast_self, Fox.row_apply, Fox.colAdd_apply]
  refine congrArg (acc (ix2 0 k) + ·) (Finset.sum_congr rfl fun i _ => ?_)
  show duB h o g a b e (ix2 i k) * overV h (ix2 i k) = _
  rw [duB_apply, overV_apply]
  rfl

theorem dhB_apply (i : Fin 256) (d : Fin 1024) : dhB h o g a b e (ix2 i d) = (rowOf h o g a b e i).dh d := by
  show o (ix2 i d) + broadcastTo (Fox.S2 256 1024) (scaleV h) (Fox.bcCol 256 1024) (ix2 i d)
    * (duB h o g a b e (ix2 i d) * broadcastTo (Fox.S2 256 1024) g (Fox.bcRow 256 1024) (ix2 i d)
      - overV h (ix2 i d) * broadcastTo (Fox.S2 256 1024) (mulf (shapeCast (Fox.S2 256 1) (multiReduction .add [1] (Fox.S1 256)
        (mulf (mulf (duB h o g a b e) (broadcastTo (Fox.S2 256 1024) g (Fox.bcRow 256 1024))) (overV h)) 0x00000000#32
        (Fox.redRow 256 1024) Fox.fmtF Fox.accAdd) (Fox.scCol 256))
        (broadcast (Fox.S2 256 1) (Scalar.ofBits .f32 0x3A800000#32 : Ideal .f32))) (Fox.bcCol 256 1024) (ix2 i d)) = _
  rw [Fox.bcCol_apply, Fox.bcCol_apply, Fox.bcRow_apply, scaleV_apply, overV_apply, duB_apply]
  show _ + _ * (_ - _ * (shapeCast (Fox.S2 256 1) _ (Fox.scCol 256) (ix2 i 0) * (FloatOps.ofBits .f32 0x3A800000#32 : Ideal .f32))) = _
  rw [sumCol_apply, thousandthF]
  have e' : ∀ k : Fin 1024, (mulf (mulf (duB h o g a b e) (broadcastTo (Fox.S2 256 1024) g (Fox.bcRow 256 1024))) (overV h) : Fox.V 256 1024 .f32) (ix2 i k)
      = (rowOf h o g a b e i).w k * (rowOf h o g a b e i).xh k := fun k => by
    show duB h o g a b e (ix2 i k) * broadcastTo (Fox.S2 256 1024) g (Fox.bcRow 256 1024) (ix2 i k) * overV h (ix2 i k) = _
    rw [duB_apply, Fox.bcRow_apply, overV_apply]
    rfl
  simp only [e']
  rfl

end Block

end Bwd

end Ffn
-- ==== Proof.Backward.lean ====
module

public import proofs.«01_k».proof.Proof.BackRow

/-!
  What each step of the layer's backward call stores.
-/

@[expose] public section

set_option maxRecDepth 16384
set_option maxHeartbeats 4000000

noncomputable section

namespace Ffn.Bwd

open Cert.Kernel2Ideal Cert.Kernel2Ideal.Gen Cert.Kernel2Ideal.Value Idealize.ShloMosaic Idealize.ShloMosaic.TcCoe
open Idealize.ShloMosaic.ValueIdx (ix2 eq_ix2)
open scoped BigOperators

/-- The two gradients of a block side by side. -/
def sides (p q : Fox.V 256 2816 .bf16) : Fox.V 256 5632 .bf16 := fun i =>
  if h : (i 1).val < 2816 then p (ix2 (i 0) ⟨(i 1).val, h⟩)
  else q (ix2 (i 0) ⟨(i 1).val - 2816, by have h1 : (i 1).val < 5632 := (i 1).isLt; omega⟩)

theorem sides_left (p q : Fox.V 256 2816 .bf16) (z : (Fox.S2 256 2816).Idx) (y : (Fox.S2 256 5632).Idx)
    (h0 : (y 0).val = (z 0).val) (h1 : (y 1).val = (z 1).val) : sides p q y = p z := by
  have hz : (z 1).val < 2816 := (z 1).isLt
  refine (dif_pos (by omega)).trans (congrArg p (funext fun a => Fin.ext ?_))
  match a with
  | ⟨0, _⟩ => exact h0
  | ⟨1, _⟩ => exact h1

theorem sides_right (p q : Fox.V 256 2816 .bf16) (z : (Fox.S2 256 2816).Idx) (y : (Fox.S2 256 5632).Idx)
    (h0 : (y 0).val = (z 0).val) (h1 : (y 1).val = 2816 + (z 1).val) : sides p q y = q z := by
  refine (dif_neg (by omega)).trans (congrArg q (funext fun a => Fin.ext ?_))
  match a with
  | ⟨0, _⟩ => exact h0
  | ⟨1, _⟩ => show (y 1).val - 2816 = (z 1).val; omega

section Cases
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S1x1024 .f32) (h3 : a3.IsWhole)
  (a4 : Memref sig .tc .vmem S1024x2816 .bf16) (h4 : a4.IsWhole) (a5 : Memref sig .tc .vmem S1024x2816 .bf16) (h5 : a5.IsWhole)
  (a6 : Memref sig .tc .vmem S2816x1024 .bf16) (h6 : a6.IsWhole) (a7 : Memref sig .tc .vmem S256x1024 .f32) (h7 : a7.IsWhole)
  (a8 : Memref sig .tc .vmem S256x1024 .bf16) (h8 : a8.IsWhole) (a9 : Memref sig .tc .vmem S256x2816 .bf16) (h9 : a9.IsWhole)
  (a10 : Memref sig .tc .vmem S256x5632 .bf16) (h10 : a10.IsWhole) (a11 : Memref sig .tc .vmem S1x1024 .f32) (h11 : a11.IsWhole)
  (x0 x1 : Vec Ideal S256x1024 .f32) (x2 : Vec Ideal S1x1024 .f32) (x3 x4 : Vec Ideal S1024x2816 .bf16)
  (x5 : Vec Ideal S2816x1024 .bf16) (acc : Vec Ideal S1x1024 .f32)

theorem out_A_7 (hc : cond0_0 i) :
    out0_A_7 c i a1 h1 a2 h2 a3 h3 a4 h4 a5 h5 a6 h6 a7 h7 a8 h8 a9 h9 a10 h10 a11 h11 hc x0 x1 x2 x3 x4 x5 = uB x0 x2 := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  rfl

theorem out_A_8 (hc : cond0_0 i) :
    out0_A_8 c i a1 h1 a2 h2 a3 h3 a4 h4 a5 h5 a6 h6 a7 h7 a8 h8 a9 h9 a10 h10 a11 h11 hc x0 x1 x2 x3 x4 x5 = aB x0 x2 x3 x4 := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  rfl

theorem out_A_6 (hc : cond0_0 i) :
    out0_A_6 c i a1 h1 a2 h2 a3 h3 a4 h4 a5 h5 a6 h6 a7 h7 a8 h8 a9 h9 a10 h10 a11 h11 hc x0 x1 x2 x3 x4 x5 = dhB x0 x1 x2 x3 x4 x5 := by
  unfold out0_A_6
  rw [View.read_writes_eq_canon _ _ _ (cover0_A_6 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  rfl

theorem out_A_10 (hc : cond0_0 i) :
    out0_A_10 c i a1 h1 a2 h2 a3 h3 a4 h4 a5 h5 a6 h6 a7 h7 a8 h8 a9 h9 a10 h10 a11 h11 hc x0 x1 x2 x3 x4 x5 = dnB x0 x1 x2 x3 x4 x5 (k0_pay2 (F := Ideal)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  rfl

theorem out_A_9 (hc : cond0_0 i) :
    out0_A_9 c i a1 h1 a2 h2 a3 h3 a4 h4 a5 h5 a6 h6 a7 h7 a8 h8 a9 h9 a10 h10 a11 h11 hc x0 x1 x2 x3 x4 x5
      = sides (dgB x0 x1 x2 x3 x4 x5) (dpB x0 x1 x2 x3 x5) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5)]
  funext i'
  refine View.canon_apply_of_pieces (sides (dgB x0 x1 x2 x3 x4 x5) (dpB x0 x1 x2 x3 x5)) _ ?_ i'
    (cover0_A_9 c i a1 h1 a2 h2 a3 h3 a4 h4 a5 h5 a6 h6 a7 h7 a8 h8 a9 h9 a10 h10 a11 h11 hc x0 x1 x2 x3 x4 x5 i')
  unfold kernelRun0_A
  dsimp only
  sl_unfold_words
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  intro p hp z
  rcases List.mem_cons.mp hp with rfl | hp
  · exact (sides_right _ (dpB x0 x1 x2 x3 x5) z _ (by show 0 + 1 * (z 0).val = (z 0).val; omega)
      (by show 2816 + 1 * (z 1).val = 2816 + (z 1).val; omega)).symm
  · obtain rfl := List.mem_singleton.mp hp
    exact (sides_left (dgB x0 x1 x2 x3 x4 x5) _ z _ (by show 0 + 1 * (z 0).val = (z 0).val; omega)
      (by show 0 + 1 * (z 1).val = (z 1).val; omega)).symm

theorem out_B_7 (hc : ¬cond0_0 i) :
    out0_B_7 c i a1 h1 a2 h2 a3 h3 a4 h4 a5 h5 a6 h6 a7 h7 a8 h8 a9 h9 a10 h10 a11 h11 hc x0 x1 x2 x3 x4 x5 acc = uB x0 x2 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 acc)]
  unfold kernelRun0_B
  dsimp only
  sl_unfold_words
  rw [View.canon_unit_zero hz]
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  rfl

theorem out_B_8 (hc : ¬cond0_0 i) :
    out0_B_8 c i a1 h1 a2 h2 a3 h3 a4 h4 a5 h5 a6 h6 a7 h7 a8 h8 a9 h9 a10 h10 a11 h11 hc x0 x1 x2 x3 x4 x5 acc = aB x0 x2 x3 x4 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 acc)]
  unfold kernelRun0_B
  dsimp only
  sl_unfold_words
  rw [View.canon_unit_zero hz]
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  rfl

theorem out_B_6 (hc : ¬cond0_0 i) :
    out0_B_6 c i a1 h1 a2 h2 a3 h3 a4 h4 a5 h5 a6 h6 a7 h7 a8 h8 a9 h9 a10 h10 a11 h11 hc x0 x1 x2 x3 x4 x5 acc = dhB x0 x1 x2 x3 x4 x5 := by
  unfold out0_B_6
  rw [View.read_writes_eq_canon _ _ _ (cover0_B_6 c i a1 h1 a2 h2 a3 h3 a4 h4 a5 h5 a6 h6 a7 h7 a8 h8 a9 h9 a10 h10 a11 h11 hc x0 x1 x2 x3 x4 x5 acc)]
  unfold kernelRun0_B
  dsimp only
  sl_unfold_words
  rw [View.canon_unit_zero hz]
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  rfl

theorem out_B_10 (hc : ¬cond0_0 i) :
    out0_B_10 c i a1 h1 a2 h2 a3 h3 a4 h4 a5 h5 a6 h6 a7 h7 a8 h8 a9 h9 a10 h10 a11 h11 hc x0 x1 x2 x3 x4 x5 acc = dnB x0 x1 x2 x3 x4 x5 acc := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 acc)]
  unfold kernelRun0_B
  dsimp only
  sl_unfold_words
  rw [View.canon_unit_zero hz]
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  rfl

theorem out_B_9 (hc : ¬cond0_0 i) :
    out0_B_9 c i a1 h1 a2 h2 a3 h3 a4 h4 a5 h5 a6 h6 a7 h7 a8 h8 a9 h9 a10 h10 a11 h11 hc x0 x1 x2 x3 x4 x5 acc
      = sides (dgB x0 x1 x2 x3 x4 x5) (dpB x0 x1 x2 x3 x5) := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 acc)]
  funext i'
  refine View.canon_apply_of_pieces (sides (dgB x0 x1 x2 x3 x4 x5) (dpB x0 x1 x2 x3 x5)) _ ?_ i'
    (cover0_B_9 c i a1 h1 a2 h2 a3 h3 a4 h4 a5 h5 a6 h6 a7 h7 a8 h8 a9 h9 a10 h10 a11 h11 hc x0 x1 x2 x3 x4 x5 acc i')
  unfold kernelRun0_B
  dsimp only
  sl_unfold_words
  simp only [View.readAt_eq_ld, h1.read_unread, h2.read_unread, h3.read_unread, h4.read_unread, h5.read_unread, h6.read_unread,
    h11.read_unread, View.ld_unit_zero (S := S256x1024) hz, View.ld_unit_zero (S := S1x1024) hz, View.ld_unit_zero (S := S1024x2816) hz,
    View.ld_unit_zero (S := S2816x1024) hz]
  intro p hp z
  rcases List.mem_cons.mp hp with rfl | hp
  · exact (sides_right _ (dpB x0 x1 x2 x3 x5) z _ (by show 0 + 1 * (z 0).val = (z 0).val; omega)
      (by show 2816 + 1 * (z 1).val = 2816 + (z 1).val; omega)).symm
  · obtain rfl := List.mem_singleton.mp hp
    exact (sides_left (dgB x0 x1 x2 x3 x4 x5) _ z _ (by show 0 + 1 * (z 0).val = (z 0).val; omega)
      (by show 0 + 1 * (z 1).val = (z 1).val; omega)).symm

end Cases

end Ffn.Bwd
-- ==== Proof.BackArrays.lean ====
module

public import proofs.«01_k».proof.Proof.Backward

/-!
  The arrays after the last step of the layer's backward call.
-/

@[expose] public section

set_option maxRecDepth 16384
set_option maxHeartbeats 400000

noncomputable section

namespace Ffn.Bwd

open Cert.Kernel2Ideal Cert.Kernel2Ideal.Gen Cert.Kernel2Ideal.Value Idealize.ShloMosaic Idealize.ShloMosaic.TcCoe
open Idealize.ShloMosaic.ValueIdx (ix2 eq_ix2)
open scoped BigOperators

theorem blocks : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 1)
    ∧ (win0_5.index t (0 : Fin 2) = 0 ∧ win0_5.index t (1 : Fin 2) = 0) :=
  (by decide +kernel : ∀ t : Fin grid0.N, _)

variable (m : (ℓ : Loc nD τ sig) → Buf (Elt Ideal) ℓ) (c : Dev nD)

/-- The activations entering the layer. -/
abbrev X : Fox.V 8704 1024 .f32 := m ((c : Thread nD τ).loc main_arg0)
/-- The layer's cotangent. -/
abbrev O : Fox.V 8704 1024 .f32 := m ((c : Thread nD τ).loc main_arg1)
/-- The norm's gains. -/
abbrev Y : Fox.V 1 1024 .f32 := m ((c : Thread nD τ).loc main_arg2)
/-- The first weights. -/
abbrev W : Fox.V 1024 5632 .bf16 := m ((c : Thread nD τ).loc main_arg3)
/-- The second weights. -/
abbrev D : Fox.V 2816 1024 .bf16 := m ((c : Thread nD τ).loc main_arg4)

/-- Row `i` of the arguments. -/
def rows (i : Fin 8704) : Row where
  x k := X m c (ix2 i k)
  o k := O m c (ix2 i k)
  g k := Y m c (ix2 0 k)
  A k j := W m c (ix2 k ⟨j.val, by omega⟩)
  B k j := W m c (ix2 k ⟨2816 + j.val, by omega⟩)
  D j k := D m c (ix2 j k)

theorem row_lt (t : Fin cfg0.N) (i : Fin 256) : 256 * t.val + i.val < 8704 := by
  have h : t.val < 34 := t.isLt
  omega

theorem blk_x (t : Fin cfg0.N) (i : Fin 256) (k : Fin 1024) :
    (iblk m c 0 t : Fox.V 256 1024 .f32) (ix2 i k) = X m c (ix2 ⟨256 * t.val + i.val, row_lt t i⟩ k) := by
  obtain ⟨⟨e0, e1⟩, -⟩ := blocks t
  show Gen.V m c main_arg0 (((cfg0.win 0).blk t).view.emb (ix2 i k)) = _
  rw [V_main_arg0]
  refine congrArg (m ((c : Thread nD τ).loc main_arg0)) (funext fun a => Fin.ext ?_)
  match a with
  | ⟨0, _⟩ => show win0_0.index t (0 : Fin 2) * 256 + 1 * i.val = 256 * t.val + i.val; omega
  | ⟨1, _⟩ => show win0_0.index t (1 : Fin 2) * 1024 + 1 * k.val = k.val; omega

theorem blk_o (t : Fin cfg0.N) (i : Fin 256) (k : Fin 1024) :
    (iblk m c 1 t : Fox.V 256 1024 .f32) (ix2 i k) = O m c (ix2 ⟨256 * t.val + i.val, row_lt t i⟩ k) := by
  obtain ⟨-, ⟨e0, e1⟩, -⟩ := blocks t
  show Gen.V m c main_arg1 (((cfg0.win 1).blk t).view.emb (ix2 i k)) = _
  rw [V_main_arg1]
  refine congrArg (m ((c : Thread nD τ).loc main_arg1)) (funext fun a => Fin.ext ?_)
  match a with
  | ⟨0, _⟩ => show win0_1.index t (0 : Fin 2) * 256 + 1 * i.val = 256 * t.val + i.val; omega
  | ⟨1, _⟩ => show win0_1.index t (1 : Fin 2) * 1024 + 1 * k.val = k.val; omega

theorem blk_y (t : Fin cfg0.N)  (k : Fin 1024) :
    (iblk m c 2 t : Fox.V 1 1024 .f32) (ix2 0 k) = Y m c (ix2 0 k) := by
  obtain ⟨-, -, ⟨e0, e1⟩, -⟩ := blocks t
  show Gen.V m c main_arg2 (((cfg0.win 2).blk t).view.emb (ix2 0 k)) = _
  rw [V_main_arg2]
  refine congrArg (m ((c : Thread nD τ).loc main_arg2)) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

theorem blk_a (t : Fin cfg0.N) (k : Fin 1024) (j : Fin 2816) :
    (iblk m c 3 t : Fox.V 1024 2816 .bf16) (ix2 k j) = W m c (ix2 k ⟨j.val, by omega⟩) := by
  obtain ⟨-, -, -, ⟨e0, e1⟩, -⟩ := blocks t
  show Gen.V m c main_arg3 (((cfg0.win 3).blk t).view.emb (ix2 k j)) = _
  rw [V_main_arg3]
  refine congrArg (m ((c : Thread nD τ).loc main_arg3)) (funext fun a => Fin.ext ?_)
  match a with
  | ⟨0, _⟩ => show win0_3.index t (0 : Fin 2) * 1024 + 1 * k.val = k.val; omega
  | ⟨1, _⟩ => show win0_3.index t (1 : Fin 2) * 2816 + 1 * j.val = j.val; omega

theorem blk_b (t : Fin cfg0.N) (k : Fin 1024) (j : Fin 2816) :
    (iblk m c 4 t : Fox.V 1024 2816 .bf16) (ix2 k j) = W m c (ix2 k ⟨2816 + j.val, by omega⟩) := by
  obtain ⟨-, -, -, -, ⟨e0, e1⟩, -⟩ := blocks t
  show Gen.V m c main_arg3 (((cfg0.win 4).blk t).view.emb (ix2 k j)) = _
  rw [V_main_arg3]
  refine congrArg (m ((c : Thread nD τ).loc main_arg3)) (funext fun a => Fin.ext ?_)
  match a with
  | ⟨0, _⟩ => show win0_4.index t (0 : Fin 2) * 1024 + 1 * k.val = k.val; omega
  | ⟨1, _⟩ => show win0_4.index t (1 : Fin 2) * 2816 + 1 * j.val = 2816 + j.val; omega

theorem blk_d (t : Fin cfg0.N) (j : Fin 2816) (k : Fin 1024) :
    (iblk m c 5 t : Fox.V 2816 1024 .bf16) (ix2 j k) = D m c (ix2 j k) := by
  obtain ⟨-, -, -, -, -, ⟨e0, e1⟩⟩ := blocks t
  show Gen.V m c main_arg4 (((cfg0.win 5).blk t).view.emb (ix2 j k)) = _
  rw [V_main_arg4]
  refine congrArg (m ((c : Thread nD τ).loc main_arg4)) (funext fun a => Fin.ext ?_)
  match a with
  | ⟨0, _⟩ => show win0_5.index t (0 : Fin 2) * 2816 + 1 * j.val = j.val; omega
  | ⟨1, _⟩ => show win0_5.index t (1 : Fin 2) * 1024 + 1 * k.val = k.val; omega

/-- The rows of a step's blocks are rows of the arguments. -/
theorem row_blk (t : Fin cfg0.N) (i : Fin 256) :
    rowOf (iblk m c 0 t) (iblk m c 1 t) (iblk m c 2 t) (iblk m c 3 t) (iblk m c 4 t) (iblk m c 5 t) i
      = rows m c ⟨256 * t.val + i.val, row_lt t i⟩ := by
  unfold rowOf rows
  simp only [blk_x, blk_o, blk_y, blk_a, blk_b, blk_d]

/-- What a step stores. -/
theorem stores (t : Fin cfg0.N) :
    (outsAt0 m c t.val t.isLt).1 = dhB (iblk m c 0 t) (iblk m c 1 t) (iblk m c 2 t) (iblk m c 3 t) (iblk m c 4 t) (iblk m c 5 t)
    ∧ (outsAt0 m c t.val t.isLt).2.1 = uB (iblk m c 0 t) (iblk m c 2 t)
    ∧ (outsAt0 m c t.val t.isLt).2.2.1 = aB (iblk m c 0 t) (iblk m c 2 t) (iblk m c 3 t) (iblk m c 4 t)
    ∧ (outsAt0 m c t.val t.isLt).2.2.2.1 = sides (dgB (iblk m c 0 t) (iblk m c 1 t) (iblk m c 2 t) (iblk m c 3 t) (iblk m c 4 t) (iblk m c 5 t))
        (dpB (iblk m c 0 t) (iblk m c 1 t) (iblk m c 2 t) (iblk m c 3 t) (iblk m c 5 t)) := by
  by_cases h0 : t.val % 34 = 0
  · rw [outsAt0_A m c t h0]
    dsimp only
    rw [out_A_6, out_A_7, out_A_8, out_A_9]
    exact ⟨rfl, rfl, rfl, rfl⟩
  · rw [outsAt0_B m c t h0]
    dsimp only
    rw [out_B_6, out_B_7, out_B_8, out_B_9]
    exact ⟨rfl, rfl, rfl, rfl⟩

theorem moves : ∀ t : Fin cfg0.N, (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0) :=
  (by decide +kernel : ∀ t : Fin grid0.N, _)

theorem writes : ∀ t : Fin cfg0.N, (cfg0.win 6).flush t = true ∧ (cfg0.win 7).flush t = true ∧ (cfg0.win 8).flush t = true
    ∧ (cfg0.win 9).flush t = true ∧ ((cfg0.win 10).flush t = true ↔ t.val = 33) :=
  (by decide +kernel : ∀ t : Fin grid0.N, _)

theorem emb_dh (t : Fin cfg0.N) (i : Fin 256) (d : Fin 1024) :
    (((cfg0.win 6).blk t).view.emb (ix2 i d) : (Fox.S2 8704 1024).Idx) = ix2 ⟨256 * t.val + i.val, row_lt t i⟩ d := by
  obtain ⟨⟨e0, e1⟩, -⟩ := moves t
  funext a; apply Fin.ext
  match a with
  | ⟨0, _⟩ => show win0_6.index t (0 : Fin 2) * 256 + 1 * i.val = 256 * t.val + i.val; omega
  | ⟨1, _⟩ => show win0_6.index t (1 : Fin 2) * 1024 + 1 * d.val = d.val; omega

/-- The gradient of the activations. -/
def dh : Fox.V 8704 1024 .f32 := fun y =>
  (rows m c (y 0)).dh (y 1)

theorem final_dh : ((dats m 0 c).arrAt 6 cfg0.N : Fox.V 8704 1024 .f32) = dh m c := by
  refine (dats m 0 c).arrAt_eq_of_cover 6 (dh m c) (fun t _ => ?_) fun y => ?_
  · refine (flushed6 m c t).trans (funext fun j => ?_)
    obtain ⟨i, d, rfl⟩ : ∃ (i : Fin 256) (d : Fin 1024), j = ix2 i d := ⟨_, _, eq_ix2 j⟩
    show (outsAt0 m c t.val t.isLt).1 (ix2 i d) = dh m c (((cfg0.win 6).blk t).view.emb (ix2 i d))
    rw [emb_dh, (stores m c t).1]
    refine (dhB_apply _ _ _ _ _ _ i d).trans ?_
    rw [row_blk]
    rfl
  · obtain ⟨r, d, rfl⟩ : ∃ (r : Fin 8704) (d : Fin 1024), y = ix2 r d := ⟨_, _, eq_ix2 y⟩
    have hN : cfg0.N = 34 := N_0
    have hr := r.isLt
    refine ⟨⟨r.val / 256, by omega⟩, (writes _).1, ?_⟩
    have h := ((cfg0.win 6).blk (⟨r.val / 256, by omega⟩ : Fin cfg0.N)).view.emb_mem_set
      (ix2 (⟨r.val % 256, Nat.mod_lt _ (by decide)⟩ : Fin 256) d)
    rw [emb_dh] at h
    have e : (⟨256 * (r.val / 256) + r.val % 256, by omega⟩ : Fin 8704) = r := Fin.ext (by show 256 * (r.val / 256) + r.val % 256 = r.val; omega)
    rwa [e] at h

theorem emb_u (t : Fin cfg0.N) (i : Fin 256) (d : Fin 1024) :
    (((cfg0.win 7).blk t).view.emb (ix2 i d) : (Fox.S2 8704 1024).Idx) = ix2 ⟨256 * t.val + i.val, row_lt t i⟩ d := by
  obtain ⟨-, ⟨e0, e1⟩, -⟩ := moves t
  funext a; apply Fin.ext
  match a with
  | ⟨0, _⟩ => show win0_7.index t (0 : Fin 2) * 256 + 1 * i.val = 256 * t.val + i.val; omega
  | ⟨1, _⟩ => show win0_7.index t (1 : Fin 2) * 1024 + 1 * d.val = d.val; omega

/-- The rows the first products read. -/
def u : Fox.V 8704 1024 .bf16 := fun y =>
  (rows m c (y 0)).u (y 1)

theorem final_u : ((dats m 0 c).arrAt 7 cfg0.N : Fox.V 8704 1024 .bf16) = u m c := by
  refine (dats m 0 c).arrAt_eq_of_cover 7 (u m c) (fun t _ => ?_) fun y => ?_
  · refine (flushed7 m c t).trans (funext fun j => ?_)
    obtain ⟨i, d, rfl⟩ : ∃ (i : Fin 256) (d : Fin 1024), j = ix2 i d := ⟨_, _, eq_ix2 j⟩
    show (outsAt0 m c t.val t.isLt).2.1 (ix2 i d) = u m c (((cfg0.win 7).blk t).view.emb (ix2 i d))
    rw [emb_u, (stores m c t).2.1]
    refine (uB_apply _ (iblk m c 1 t) _ (iblk m c 3 t) (iblk m c 4 t) (iblk m c 5 t) i d).trans ?_
    rw [row_blk]
    rfl
  · obtain ⟨r, d, rfl⟩ : ∃ (r : Fin 8704) (d : Fin 1024), y = ix2 r d := ⟨_, _, eq_ix2 y⟩
    have hN : cfg0.N = 34 := N_0
    have hr := r.isLt
    refine ⟨⟨r.val / 256, by omega⟩, (writes _).2.1, ?_⟩
    have h := ((cfg0.win 7).blk (⟨r.val / 256, by omega⟩ : Fin cfg0.N)).view.emb_mem_set
      (ix2 (⟨r.val % 256, Nat.mod_lt _ (by decide)⟩ : Fin 256) d)
    rw [emb_u] at h
    have e : (⟨256 * (r.val / 256) + r.val % 256, by omega⟩ : Fin 8704) = r := Fin.ext (by show 256 * (r.val / 256) + r.val % 256 = r.val; omega)
    rwa [e] at h

theorem emb_a (t : Fin cfg0.N) (i : Fin 256) (d : Fin 2816) :
    (((cfg0.win 8).blk t).view.emb (ix2 i d) : (Fox.S2 8704 2816).Idx) = ix2 ⟨256 * t.val + i.val, row_lt t i⟩ d := by
  obtain ⟨-, -, ⟨e0, e1⟩, -⟩ := moves t
  funext a; apply Fin.ext
  match a with
  | ⟨0, _⟩ => show win0_8.index t (0 : Fin 2) * 256 + 1 * i.val = 256 * t.val + i.val; omega
  | ⟨1, _⟩ => show win0_8.index t (1 : Fin 2) * 2816 + 1 * d.val = d.val; omega

/-- The gated values. -/
def a : Fox.V 8704 2816 .bf16 := fun y =>
  (rows m c (y 0)).a (y 1)

theorem final_a : ((dats m 0 c).arrAt 8 cfg0.N : Fox.V 8704 2816 .bf16) = a m c := by
  refine (dats m 0 c).arrAt_eq_of_cover 8 (a m c) (fun t _ => ?_) fun y => ?_
  · refine (flushed8 m c t).trans (funext fun j => ?_)
    obtain ⟨i, d, rfl⟩ : ∃ (i : Fin 256) (d : Fin 2816), j = ix2 i d := ⟨_, _, eq_ix2 j⟩
    show (outsAt0 m c t.val t.isLt).2.2.1 (ix2 i d) = a m c (((cfg0.win 8).blk t).view.emb (ix2 i d))
    rw [emb_a, (stores m c t).2.2.1]
    refine (aB_apply _ (iblk m c 1 t) _ _ _ (iblk m c 5 t) i d).trans ?_
    rw [row_blk]
    rfl
  · obtain ⟨r, d, rfl⟩ : ∃ (r : Fin 8704) (d : Fin 2816), y = ix2 r d := ⟨_, _, eq_ix2 y⟩
    have hN : cfg0.N = 34 := N_0
    have hr := r.isLt
    refine ⟨⟨r.val / 256, by omega⟩, (writes _).2.2.1, ?_⟩
    have h := ((cfg0.win 8).blk (⟨r.val / 256, by omega⟩ : Fin cfg0.N)).view.emb_mem_set
      (ix2 (⟨r.val % 256, Nat.mod_lt _ (by decide)⟩ : Fin 256) d)
    rw [emb_a] at h
    have e : (⟨256 * (r.val / 256) + r.val % 256, by omega⟩ : Fin 8704) = r := Fin.ext (by show 256 * (r.val / 256) + r.val % 256 = r.val; omega)
    rwa [e] at h

theorem emb_dgu (t : Fin cfg0.N) (i : Fin 256) (d : Fin 5632) :
    (((cfg0.win 9).blk t).view.emb (ix2 i d) : (Fox.S2 8704 5632).Idx) = ix2 ⟨256 * t.val + i.val, row_lt t i⟩ d := by
  obtain ⟨-, -, -, ⟨e0, e1⟩, -⟩ := moves t
  funext a; apply Fin.ext
  match a with
  | ⟨0, _⟩ => show win0_9.index t (0 : Fin 2) * 256 + 1 * i.val = 256 * t.val + i.val; omega
  | ⟨1, _⟩ => show win0_9.index t (1 : Fin 2) * 5632 + 1 * d.val = d.val; omega

/-- The gradients of the gate and of the value side by side. -/
def dgu : Fox.V 8704 5632 .bf16 := fun y =>
  if h : (y 1).val < 2816 then (rows m c (y 0)).dg ⟨(y 1).val, h⟩
  else (rows m c (y 0)).dp ⟨(y 1).val - 2816, by have h1 : (y 1).val < 5632 := (y 1).isLt; omega⟩

theorem dgu_left (y : (Fox.S2 8704 5632).Idx) (h : (y 1).val < 2816) : dgu m c y = (rows m c (y 0)).dg ⟨(y 1).val, h⟩ := dif_pos h

theorem dgu_right (y : (Fox.S2 8704 5632).Idx) (h : ¬(y 1).val < 2816) :
    dgu m c y = (rows m c (y 0)).dp ⟨(y 1).val - 2816, by have h1 : (y 1).val < 5632 := (y 1).isLt; omega⟩ := dif_neg h

theorem final_dgu : ((dats m 0 c).arrAt 9 cfg0.N : Fox.V 8704 5632 .bf16) = dgu m c := by
  refine (dats m 0 c).arrAt_eq_of_cover 9 (dgu m c) (fun t _ => ?_) fun y => ?_
  · refine (flushed9 m c t).trans (funext fun j => ?_)
    obtain ⟨i, d, rfl⟩ : ∃ (i : Fin 256) (d : Fin 5632), j = ix2 i d := ⟨_, _, eq_ix2 j⟩
    show (outsAt0 m c t.val t.isLt).2.2.2.1 (ix2 i d) = dgu m c (((cfg0.win 9).blk t).view.emb (ix2 i d))
    rw [emb_dgu, (stores m c t).2.2.2]
    by_cases hd : d.val < 2816
    · refine (sides_left _ _ (ix2 i ⟨d.val, hd⟩) _ rfl rfl).trans ((dgB_apply _ _ _ _ _ _ i _).trans ?_)
      rw [row_blk]
      exact (dgu_left m c (ix2 ⟨256 * t.val + i.val, row_lt t i⟩ d) hd).symm
    · refine (sides_right _ _ (ix2 i ⟨d.val - 2816, by omega⟩) _ rfl
        (by show d.val = 2816 + (d.val - 2816); omega)).trans ((dpB_apply _ _ _ _ (iblk m c 4 t) _ i _).trans ?_)
      rw [row_blk]
      exact (dgu_right m c (ix2 ⟨256 * t.val + i.val, row_lt t i⟩ d) hd).symm
  · obtain ⟨r, d, rfl⟩ : ∃ (r : Fin 8704) (d : Fin 5632), y = ix2 r d := ⟨_, _, eq_ix2 y⟩
    have hN : cfg0.N = 34 := N_0
    have hr := r.isLt
    refine ⟨⟨r.val / 256, by omega⟩, (writes _).2.2.2.1, ?_⟩
    have h := ((cfg0.win 9).blk (⟨r.val / 256, by omega⟩ : Fin cfg0.N)).view.emb_mem_set
      (ix2 (⟨r.val % 256, Nat.mod_lt _ (by decide)⟩ : Fin 256) d)
    rw [emb_dgu] at h
    have e : (⟨256 * (r.val / 256) + r.val % 256, by omega⟩ : Fin 8704) = r := Fin.ext (by show 256 * (r.val / 256) + r.val % 256 = r.val; omega)
    rwa [e] at h

/-- A row's share of the gains' gradient, zero past the last row. -/
def share (k : Fin 1024) (i : ℕ) : EReal := if h : i < 8704 then (rows m c ⟨i, h⟩).dn k else 0

theorem share_of (k : Fin 1024) {i : ℕ} (h : i < 8704) : share m c k i = (rows m c ⟨i, h⟩).dn k := dif_pos h

theorem step (t : Fin cfg0.N) (acc : Fox.V 1 1024 .f32) (k : Fin 1024)
    (h : acc (ix2 0 k) = ∑ i ∈ Finset.range (256 * t.val), share m c k i) :
    dnB (iblk m c 0 t) (iblk m c 1 t) (iblk m c 2 t) (iblk m c 3 t) (iblk m c 4 t) (iblk m c 5 t) acc (ix2 0 k)
      = ∑ i ∈ Finset.range (256 * (t.val + 1)), share m c k i := by
  rw [dnB_apply, h, Nat.mul_succ, ← sum_more]
  refine congrArg _ (sum_range_of fun i => ?_)
  rw [row_blk, share_of]

/-- The gains' gradient after a step: the sum over the rows read so far. -/
theorem held (k : Fin 1024) : ∀ (n : ℕ) (h : n < cfg0.N),
    (outsAt0 m c n h).2.2.2.2 (ix2 0 k) = ∑ i ∈ Finset.range (256 * (n + 1)), share m c k i
  | n, h => by
    have hN : cfg0.N = 34 := N_0
    by_cases h0 : n % 34 = 0
    · have e : n = 0 := by omega
      rw [outsAt0_A m c ⟨n, h⟩ h0]
      dsimp only
      rw [out_A_10]
      refine step m c ⟨n, h⟩ _ k ?_
      show (FloatOps.ofBits .f32 0x00000000#32 : Ideal .f32) = _
      rw [Fox.zeroF]
      subst e
      simp
    · have hp : n - 1 < cfg0.N := by omega
      have e := held k (n - 1) hp
      rw [show n - 1 + 1 = n by omega] at e
      rw [outsAt0_B m c ⟨n, h⟩ h0]
      dsimp only
      rw [out_B_10]
      exact step m c ⟨n, h⟩ _ k e
  termination_by n => n
  decreasing_by omega

theorem emb_dn (t : Fin cfg0.N) (i : Fin 1) (d : Fin 1024) :
    (((cfg0.win 10).blk t).view.emb (ix2 i d) : (Fox.S2 1 1024).Idx) = ix2 i d := by
  obtain ⟨-, -, -, -, ⟨e0, e1⟩⟩ := moves t
  funext a; apply Fin.ext
  match a with
  | ⟨0, _⟩ => show win0_10.index t (0 : Fin 2) * 1 + 1 * i.val = i.val; omega
  | ⟨1, _⟩ => show win0_10.index t (1 : Fin 2) * 1024 + 1 * d.val = d.val; omega

/-- The gradient of the norm's gains. -/
def dn : Fox.V 1 1024 .f32 := fun y => ∑ i : Fin 8704, (rows m c i).dn (y 1)

theorem final_dn : ((dats m 0 c).arrAt 10 cfg0.N : Fox.V 1 1024 .f32) = dn m c := by
  have hN : cfg0.N = 34 := N_0
  refine (dats m 0 c).arrAt_eq_of_cover 10 (dn m c) (fun t hf => ?_) fun y => ?_
  · have ht : t.val = 33 := (writes t).2.2.2.2.mp hf
    refine (flushed10 m c t).trans (funext fun j => ?_)
    obtain ⟨i, d, rfl⟩ : ∃ (i : Fin 1) (d : Fin 1024), j = ix2 i d := ⟨_, _, eq_ix2 j⟩
    obtain rfl : i = 0 := Subsingleton.elim _ _
    show (outsAt0 m c t.val t.isLt).2.2.2.2 (ix2 0 d) = dn m c (((cfg0.win 10).blk t).view.emb (ix2 0 d))
    rw [emb_dn, held, ht]
    exact (sum_range_of fun i => (share_of m c d i.isLt).symm).symm
  · obtain ⟨r, d, rfl⟩ : ∃ (r : Fin 1) (d : Fin 1024), y = ix2 r d := ⟨_, _, eq_ix2 y⟩
    refine ⟨⟨33, by omega⟩, (writes _).2.2.2.2.mpr rfl, ?_⟩
    have h := ((cfg0.win 10).blk (⟨33, by omega⟩ : Fin cfg0.N)).view.emb_mem_set (ix2 r d)
    rwa [emb_dn] at h

end Ffn.Bwd
-- ==== Proof.BackReal.lean ====
module

public import proofs.«01_k».proof.Proof.BackRow

/-!
  A row of real numbers: every quantity of the backward call is a real number, so the gradients spelled as the chain rule
  gives them equal the ones the call computes.
-/

@[expose] public section

set_option maxRecDepth 16384

noncomputable section

namespace Ffn

open Idealize.ShloMosaic
open scoped BigOperators

/-- An extended real that is a real number. -/
def IsReal (x : EReal) : Prop := ∃ q : ℝ, x = (q : EReal)

namespace IsReal
theorem of_coe (q : ℝ) : IsReal (q : EReal) := ⟨q, rfl⟩
theorem one : IsReal 1 := ⟨1, EReal.coe_one.symm⟩
theorem add {x y : EReal} : IsReal x → IsReal y → IsReal (x + y) := by
  rintro ⟨p, rfl⟩ ⟨q, rfl⟩; exact ⟨p + q, (EReal.coe_add p q).symm⟩
theorem sub {x y : EReal} : IsReal x → IsReal y → IsReal (x - y) := by
  rintro ⟨p, rfl⟩ ⟨q, rfl⟩; exact ⟨p - q, (EReal.coe_sub p q).symm⟩
theorem mul {x y : EReal} : IsReal x → IsReal y → IsReal (x * y) := by
  rintro ⟨p, rfl⟩ ⟨q, rfl⟩; exact ⟨p * q, (EReal.coe_mul p q).symm⟩
theorem sum {n : ℕ} {f : Fin n → EReal} (h : ∀ k, IsReal (f k)) : IsReal (∑ k, f k) := by
  choose q hq using h
  exact ⟨∑ k, q k, by rw [← Fox.coe_sum]; exact Finset.sum_congr rfl fun k _ => hq k⟩
theorem logistic {x : EReal} : IsReal x → IsReal (Ideal.logistic x) := by
  rintro ⟨p, rfl⟩; exact ⟨_, Ideal.logistic_coe p⟩
theorem lin {n m : ℕ} {u : Fin n → EReal} {A : Fin n → Fin m → EReal} (hu : ∀ k, IsReal (u k)) (hA : ∀ k j, IsReal (A k j)) (j : Fin m) :
    IsReal (Ffn.lin u A j) := sum fun k => (hu k).mul (hA k j)
end IsReal

/-- A real row's mean square is positive with the small number added, and its scale is the inverse of its root. -/
theorem scale_real {x : Fin 1024 → EReal} (hx : ∀ k, IsReal (x k)) :
    ∃ i p : ℝ, p ≠ 0 ∧ i * i = 1 / p ∧ (∑ k, x k * x k) * ((1 / 1024 : ℝ) : EReal) + eps = (p : EReal) ∧ scale x = (i : EReal) := by
  choose q hq using hx
  obtain ⟨e, he, hE⟩ := eps_pos
  have hs : (0 : ℝ) ≤ ∑ k, q k * q k := Finset.sum_nonneg fun k _ => mul_self_nonneg (q k)
  have hp : 0 < (∑ k, q k * q k) * (1 / 1024) + e := by positivity
  have E : (∑ k, x k * x k) * ((1 / 1024 : ℝ) : EReal) + eps = (((∑ k, q k * q k) * (1 / 1024) + e : ℝ) : EReal) := by
    rw [hE, EReal.coe_add, EReal.coe_mul, ← Fox.coe_sum]
    refine congrArg (fun s => s * _ + _) (Finset.sum_congr rfl fun k _ => ?_)
    rw [hq, EReal.coe_mul]
  refine ⟨(Real.sqrt ((∑ k, q k * q k) * (1 / 1024) + e))⁻¹, _, hp.ne', ?_, E, ?_⟩
  · rw [← mul_inv, Real.mul_self_sqrt hp.le]
    exact (one_div _).symm
  · unfold scale
    rw [E, Ideal.rsqrt_coe, if_neg (not_lt.mpr hp.le), if_neg hp.ne']

/-- A row whose entries are real numbers. -/
structure Row.Fits (r : Row) : Prop where
  x : ∀ k, IsReal (r.x k)
  o : ∀ k, IsReal (r.o k)
  g : ∀ k, IsReal (r.g k)
  A : ∀ k j, IsReal (r.A k j)
  B : ∀ k j, IsReal (r.B k j)
  D : ∀ j k, IsReal (r.D j k)

namespace Row
variable {r : Row} (H : r.Fits)
include H

theorem scale_is : IsReal (scale r.x) := by
  obtain ⟨i, p, -, -, -, e⟩ := scale_real H.x
  exact ⟨i, e⟩
theorem xh_is (k : Fin 1024) : IsReal (r.xh k) := (H.x k).mul (scale_is H)
theorem u_is (k : Fin 1024) : IsReal (r.u k) := (xh_is H k).mul (H.g k)
theorem ga_is (j : Fin 2816) : IsReal (r.ga j) := IsReal.lin (u_is H) H.A j
theorem va_is (j : Fin 2816) : IsReal (r.va j) := IsReal.lin (u_is H) H.B j
theorem da_is (j : Fin 2816) : IsReal (r.da j) :=
  IsReal.lin (fun d => (IsReal.of_coe _).mul (H.o d)) (fun d j => H.D j d) j
theorem dp_is (j : Fin 2816) : IsReal (r.dp j) := (da_is H j).mul ((ga_is H j).mul (ga_is H j).logistic)
theorem dg_is (j : Fin 2816) : IsReal (r.dg j) :=
  ((da_is H j).mul (va_is H j)).mul ((ga_is H j).logistic.mul (IsReal.one.add ((ga_is H j).mul (IsReal.one.sub (ga_is H j).logistic))))
theorem du_is (k : Fin 1024) : IsReal (r.du k) :=
  (IsReal.lin (dg_is H) (fun j k => H.A k j) k).add (IsReal.lin (dp_is H) (fun j k => H.B k j) k)
theorem w_is (k : Fin 1024) : IsReal (r.w k) := (du_is H k).mul (H.g k)

/-- The gate's gradient as the product rule gives it. -/
theorem dg_chain (j : Fin 2816) :
    r.da j * r.va j * Ideal.logistic (r.ga j)
      + r.ga j * (r.da j * r.va j) * (Ideal.logistic (r.ga j) * (1 - Ideal.logistic (r.ga j))) = r.dg j := by
  unfold dg
  obtain ⟨a, ha⟩ := da_is H j
  obtain ⟨v, hv⟩ := va_is H j
  obtain ⟨s, hs⟩ := (ga_is H j).logistic
  obtain ⟨b, hb⟩ := ga_is H j
  rw [hs, ha, hv, hb, ← EReal.coe_one]
  norm_cast
  ring

/-- What the mean square's gradient gives a row's entry, once for each of its two factors. -/
def q (r : Row) : EReal :=
  (∑ k, r.x k * r.w k)
    * (((-(1 / 2) : ℝ) : EReal) * Ideal.div (scale r.x) ((∑ k, r.x k * r.x k) * ((1 / 1024 : ℝ) : EReal) + eps))
    * ((1 / 1024 : ℝ) : EReal)

omit H in
theorem real_dh (x w : Fin 1024 → ℝ) (o i p : ℝ) (hi : i * i = 1 / p) (d : Fin 1024) :
    o + i * (w d - x d * i * ((∑ k, w k * (x k * i)) * (1 / 1024)))
      = o + ((w d * i + x d * ((∑ k, x k * w k) * (-(1 / 2) * (i * (1 / p))) * (1 / 1024)))
        + (∑ k, x k * w k) * (-(1 / 2) * (i * (1 / p))) * (1 / 1024) * x d) := by
  have e : ∑ k, w k * (x k * i) = i * ∑ k, x k * w k := by
    rw [Finset.mul_sum]
    exact Finset.sum_congr rfl fun k _ => by ring
  rw [e, ← hi]
  ring

/-- The activations' gradient as the product rule gives it. -/
theorem dh_chain (d : Fin 1024) :
    r.o d + ((r.w d * scale r.x + r.x d * r.q) + r.q * r.x d) = r.dh d := by
  obtain ⟨i, p, hp, hi, E, hs⟩ := scale_real H.x
  choose w hw using w_is H
  choose x hx using H.x
  obtain ⟨o, ho⟩ := H.o d
  have hq : r.q = (((∑ k, x k * w k) * (-(1 / 2) * (i * (1 / p))) * (1 / 1024) : ℝ) : EReal) := by
    unfold q
    rw [E, hs, Ideal.div_coe hp]
    simp only [EReal.coe_mul, ← Fox.coe_sum, hx, hw]
  have hS : (∑ k, r.w k * r.xh k) = ((∑ k, w k * (x k * i) : ℝ) : EReal) := by
    rw [← Fox.coe_sum]
    refine Finset.sum_congr rfl fun k _ => ?_
    unfold xh
    rw [hs, hw, hx, EReal.coe_mul, EReal.coe_mul]
  unfold dh
  rw [hS, hq]
  unfold xh
  rw [hs, hw, hx, ho]
  have := real_dh x w o i p hi d
  rw [← EReal.coe_mul, ← EReal.coe_mul, ← EReal.coe_mul, ← EReal.coe_add, ← EReal.coe_add, ← EReal.coe_add,
    ← EReal.coe_mul, ← EReal.coe_mul, ← EReal.coe_mul, ← EReal.coe_sub, ← EReal.coe_mul, ← EReal.coe_add]
  exact congrArg _ this.symm

end Row

end Ffn
-- ==== Proof.BackPlain.lean ====
module

public import proofs.«01_k».proof.Proof.BackArrays
public import proofs.«01_k».proof.Proof.BackReal
public import proofs.«01_k».proof.Proof.Forward
public import proofs.«01_k».proof.Proof.Finite
public import proofs.«01_k».proof.Proof.Gen.Reference2Ideal.Read

/-!
  The derivative of the layer, stage by stage, equals the arrays of the backward call when every entry of the arguments is a
  real number.
-/

@[expose] public section

set_option maxRecDepth 16384
set_option maxHeartbeats 400000

noncomputable section

namespace Ffn.Bwd

open Idealize.ShloMosaic Idealize.ShloMosaic.TcCoe
open Idealize.ShloMosaic.ValueIdx (ix1 ix2 eq_ix2)
open Ffn.Fwd (ext2)
open Cert.Reference2Ideal.Read
open scoped BigOperators

theorem minusHalfF : (FloatOps.ofBits .f32 0xBF000000#32 : Ideal .f32) = ((-(1 / 2) : ℝ) : EReal) := by
  show Ideal.ofBits .f32 _ = _; simp [Ideal.ofBits, Ideal.ieee, -EReal.coe_mul]; norm_num

/-- A sum over the two halves of the first weights' columns. -/
theorem sum_halves (f : Fin 5632 → EReal) :
    ∑ j, f j = (∑ j : Fin 2816, f ⟨j.val, by omega⟩) + ∑ j : Fin 2816, f ⟨2816 + j.val, by omega⟩ :=
  Fin.sum_univ_add (a := 2816) (b := 2816) f

variable (x o : Fox.V 8704 1024 .f32) (g : Fox.V 1 1024 .f32) (w : Fox.V 1024 5632 .bf16) (e : Fox.V 2816 1024 .bf16)

/-- Row `i` of the arguments. -/
def rowR (i : Fin 8704) : Row where
  x k := x (ix2 i k)
  o k := o (ix2 i k)
  g k := g (ix2 0 k)
  A k j := w (ix2 k ⟨j.val, by omega⟩)
  B k j := w (ix2 k ⟨2816 + j.val, by omega⟩)
  D j k := e (ix2 j k)

theorem ref_mean (i : Fin 8704) (z : Fin 1) : (val_main_v8 (F := Ideal) x : Fox.V 8704 1 .f32) (ix2 i z)
    = (∑ k, x (ix2 i k) * x (ix2 i k)) * ((1 / 1024 : ℝ) : EReal) + eps := by
  rw [val_main_v8_apply, val_main_v6_apply, val_main_v4_apply, val_main_v5_apply, val_main_cst_0_apply, val_main_v7_apply,
    val_main_cst_1_apply, div_thousand, val_main_v3_apply, val_main_cst_apply]
  show (((FloatOps.ofBits .f32 0x00000000#32 : Ideal .f32) + ∑ k, _ : EReal) * _ + eps) = _
  rw [Fox.zeroF, zero_add]
  refine congrArg (fun s => s * _ + eps) (Finset.sum_congr rfl fun k _ => ?_)
  rw [val_main_v2_apply, show idx_main_v3 (idx_main_v4 (ix2 i z)) k = ix2 i k from ext2 rfl rfl]
  rfl

theorem ref_scale (i : Fin 8704) (z : Fin 1) : (val_main_v9 (F := Ideal) x : Fox.V 8704 1 .f32) (ix2 i z) = scale fun k => x (ix2 i k) := by
  rw [val_main_v9_apply, ref_mean]
  rfl

theorem ref_xh (i : Fin 8704) (k : Fin 1024) : (val_main_v14 (F := Ideal) x : Fox.V 8704 1024 .f32) (ix2 i k) = (rowR x o g w e i).xh k := by
  rw [val_main_v14_apply, val_main_v13_apply, show idx_main_v13 (ix2 i k) = ix2 i 0 from ext2 rfl rfl, ref_scale]
  rfl

theorem ref_u (i : Fin 8704) (k : Fin 1024) : (val_main_v16 (F := Ideal) x g : Fox.V 8704 1024 .f32) (ix2 i k) = (rowR x o g w e i).u k := by
  rw [val_main_v16_apply, ref_xh x o g w e, val_main_v15_apply, show idx_main_v15 (ix2 i k) = ix2 0 k from ext2 rfl rfl]
  rfl

theorem ref_lin (i : Fin 8704) (j : Fin 5632) :
    (val_main_v17 (F := Ideal) x g w : Fox.V 8704 5632 .f32) (ix2 i j) = lin (rowR x o g w e i).u (fun k j => w (ix2 k j)) j := by
  rw [val_main_v17_apply]
  refine Finset.sum_congr rfl fun k _ => ?_
  rw [show lidx_main_v17 (ix2 i j) k = ix2 i k from ext2 rfl rfl, show ridx_main_v17 (ix2 i j) k = ix2 k j from ext2 rfl rfl,
    ref_u x o g w e, val_main_v0_apply]
  rfl

theorem ref_ga (i : Fin 8704) (j : Fin 2816) : (val_main_v18 (F := Ideal) x g w : Fox.V 8704 2816 .f32) (ix2 i j) = (rowR x o g w e i).ga j := by
  rw [val_main_v18_apply, show idx_main_v18 (ix2 i j) = ix2 i ⟨j.val, by omega⟩ from ext2 rfl rfl, ref_lin x o g w e]
  rfl

theorem ref_va (i : Fin 8704) (j : Fin 2816) : (val_main_v19 (F := Ideal) x g w : Fox.V 8704 2816 .f32) (ix2 i j) = (rowR x o g w e i).va j := by
  rw [val_main_v19_apply, show idx_main_v19 (ix2 i j) = ix2 i ⟨2816 + j.val, by omega⟩ from ext2 rfl rfl, ref_lin x o g w e]
  rfl

theorem ref_s (i : Fin 8704) (j : Fin 2816) :
    (val_main_v20_2 (F := Ideal) x g w : Fox.V 8704 2816 .f32) (ix2 i j) = Ideal.logistic ((rowR x o g w e i).ga j) := by
  rw [val_main_v20_2_apply, val_main_call0_v4_apply, val_main_call0_cst_0_apply, val_main_call0_v3_apply, val_main_call0_v2_apply,
    val_main_call0_cst_apply, val_main_call0_v1_apply, val_main_call0_v0_apply, logistic_spelled, ref_ga x o g w e]

theorem ref_s' (i : Fin 8704) (j : Fin 2816) : (val_main_v20_1 (F := Ideal) x g w : Fox.V 8704 2816 .f32) (ix2 i j)
    = Ideal.logistic ((rowR x o g w e i).ga j) * (1 - Ideal.logistic ((rowR x o g w e i).ga j)) := by
  rw [val_main_v20_1_apply, val_main_call0_v7_apply, val_main_call0_v6_apply, val_main_call0_cst_1_apply, ref_s x o g w e, Fox.oneF]
  rfl

theorem ref_gs (i : Fin 8704) (j : Fin 2816) : (val_main_v20_0 (F := Ideal) x g w : Fox.V 8704 2816 .f32) (ix2 i j)
    = (rowR x o g w e i).ga j * Ideal.logistic ((rowR x o g w e i).ga j) := by
  rw [val_main_v20_0_apply, ref_s x o g w e, ref_ga x o g w e]
  rfl

theorem ref_a (i : Fin 8704) (j : Fin 2816) : (val_main_v21 (F := Ideal) x g w : Fox.V 8704 2816 .f32) (ix2 i j) = (rowR x o g w e i).a j := by
  rw [val_main_v21_apply, ref_gs x o g w e, ref_va x o g w e]
  rfl

theorem ref_da (i : Fin 8704) (j : Fin 2816) : (val_main_v27 (F := Ideal) o e : Fox.V 8704 2816 .f32) (ix2 i j) = (rowR x o g w e i).da j := by
  rw [val_main_v27_apply]
  unfold Row.da lin
  refine Finset.sum_congr rfl fun d _ => ?_
  rw [show lidx_main_v27 (ix2 i j) d = ix2 i d from ext2 rfl rfl, show ridx_main_v27 (ix2 i j) d = ix2 j d from ext2 rfl rfl,
    val_main_v26_apply, val_main_v25_apply, val_main_cst_4_apply, val_main_v1_apply, halfF]
  rfl

theorem ref_dp (i : Fin 8704) (j : Fin 2816) : (val_main_v28 (F := Ideal) x o g w e : Fox.V 8704 2816 .f32) (ix2 i j) = (rowR x o g w e i).dp j := by
  rw [val_main_v28_apply, ref_gs x o g w e, ref_da x o g w e]
  exact mul_comm _ _

theorem ref_dav (i : Fin 8704) (j : Fin 2816) : (val_main_v29 (F := Ideal) x o g w e : Fox.V 8704 2816 .f32) (ix2 i j)
    = (rowR x o g w e i).da j * (rowR x o g w e i).va j := by
  rw [val_main_v29_apply, ref_va x o g w e, ref_da x o g w e]
  rfl

theorem join_left (p q : Fox.V 8704 2816 .f32)
    (h : Shape.Concatenates [Fox.S2 8704 2816, Fox.S2 8704 2816] (Fox.S2 8704 5632) (1 : Fin 2)) (i : Fin 8704) (j : Fin 5632) (hj : j.val < 2816) :
    concatenate (Fox.S2 8704 5632) (1 : Fin 2) [⟨Fox.S2 8704 2816, p⟩, ⟨Fox.S2 8704 2816, q⟩] h (ix2 i j) = p (ix2 i ⟨j.val, hj⟩) := by
  refine concatenate_pair_apply_left (t := Fox.S2 8704 5632) (s₁ := Fox.S2 8704 2816) (s₂ := Fox.S2 8704 2816) (1 : Fin 2) p q h (ix2 i j) rfl
    (ix2 i ⟨j.val, hj⟩) fun b => ?_
  match b with
  | ⟨0, _⟩ => rfl
  | ⟨1, _⟩ => rfl

theorem join_right (p q : Fox.V 8704 2816 .f32)
    (h : Shape.Concatenates [Fox.S2 8704 2816, Fox.S2 8704 2816] (Fox.S2 8704 5632) (1 : Fin 2)) (i : Fin 8704) (j : Fin 5632) (hj : ¬j.val < 2816) :
    concatenate (Fox.S2 8704 5632) (1 : Fin 2) [⟨Fox.S2 8704 2816, p⟩, ⟨Fox.S2 8704 2816, q⟩] h (ix2 i j) = q (ix2 i ⟨j.val - 2816, by omega⟩) := by
  refine concatenate_pair_apply_right (t := Fox.S2 8704 5632) (s₁ := Fox.S2 8704 2816) (s₂ := Fox.S2 8704 2816) (1 : Fin 2) p q h (ix2 i j) rfl rfl
    (ix2 i ⟨j.val - 2816, by omega⟩) (fun b hb => ?_) (by show j.val - 2816 + 2816 = j.val; omega)
  match b with
  | ⟨0, _⟩ => rfl
  | ⟨1, _⟩ => exact absurd rfl hb

section Fits
variable {x o g w e} (H : ∀ i, (rowR x o g w e i).Fits)
include H

theorem ref_dg (i : Fin 8704) (j : Fin 2816) : (val_main_v30 (F := Ideal) x o g w e : Fox.V 8704 2816 .f32) (ix2 i j) = (rowR x o g w e i).dg j := by
  rw [val_main_v30_apply, val_main_call1_v1_apply, val_main_call1_v2_apply, val_main_call1_v0_apply, ref_dav, ref_s x o g w e,
    ref_s' x o g w e, ref_ga x o g w e]
  exact Row.dg_chain (H i) j

theorem ref_left (i : Fin 8704) (j : Fin 5632) (h : j.val < 2816) :
    (val_main_v31 (F := Ideal) x o g w e : Fox.V 8704 5632 .f32) (ix2 i j) = (rowR x o g w e i).dg ⟨j.val, h⟩ :=
  (join_left _ _ _ i j h).trans (ref_dg H i _)

theorem ref_right (i : Fin 8704) (j : Fin 5632) (h : ¬j.val < 2816) :
    (val_main_v31 (F := Ideal) x o g w e : Fox.V 8704 5632 .f32) (ix2 i j) = (rowR x o g w e i).dp ⟨j.val - 2816, by omega⟩ :=
  (join_right _ _ _ i j h).trans (ref_dp x o g w e i _)

theorem ref_du (i : Fin 8704) (k : Fin 1024) : (val_main_v32 (F := Ideal) x o g w e : Fox.V 8704 1024 .f32) (ix2 i k) = (rowR x o g w e i).du k := by
  rw [val_main_v32_apply, sum_halves]
  unfold Row.du
  refine congrArg₂ (· + ·) (Finset.sum_congr rfl fun j _ => ?_) (Finset.sum_congr rfl fun j _ => ?_)
  · rw [show lidx_main_v32 (ix2 i k) ⟨j.val, by omega⟩ = ix2 i ⟨j.val, by omega⟩ from ext2 rfl rfl,
      show ridx_main_v32 (ix2 i k) ⟨j.val, by omega⟩ = ix2 k ⟨j.val, by omega⟩ from ext2 rfl rfl,
      ref_left H i ⟨j.val, by omega⟩ j.isLt, val_main_v0_apply]
    rfl
  · rw [show lidx_main_v32 (ix2 i k) ⟨2816 + j.val, by omega⟩ = ix2 i ⟨2816 + j.val, by omega⟩ from ext2 rfl rfl,
      show ridx_main_v32 (ix2 i k) ⟨2816 + j.val, by omega⟩ = ix2 k ⟨2816 + j.val, by omega⟩ from ext2 rfl rfl,
      ref_right H i ⟨2816 + j.val, by omega⟩ (by simp), val_main_v0_apply]
    have e : (⟨2816 + j.val - 2816, by omega⟩ : Fin 2816) = j := Fin.ext (by simp)
    rw [e]
    rfl

theorem ref_dn (k : Fin 1024) : (val_main_v35 (F := Ideal) x o g w e : Fox.V 1 1024 .f32) (ix2 0 k) = ∑ i, (rowR x o g w e i).dn k := by
  rw [val_main_v35_apply, val_main_v34_apply, val_main_cst_5_apply]
  show ((FloatOps.ofBits .f32 0x00000000#32 : Ideal .f32) + ∑ k, _ : EReal) = _
  rw [Fox.zeroF, zero_add]
  refine Finset.sum_congr rfl fun i _ => ?_
  have hi : idx_main_v34 (idx_main_v35 (ix2 0 k)) i = ix2 i k := ext2 rfl (by simp)
  rw [hi, val_main_v33_apply, ref_xh x o g w e, ref_du H]
  exact mul_comm _ _

theorem ref_w (i : Fin 8704) (k : Fin 1024) : (val_main_v37 (F := Ideal) x o g w e : Fox.V 8704 1024 .f32) (ix2 i k) = (rowR x o g w e i).w k := by
  rw [val_main_v37_apply, ref_du H, val_main_v36_apply, show idx_main_v36 (ix2 i k) = ix2 0 k from ext2 rfl rfl]
  rfl

theorem ref_sum (i : Fin 8704) (z : Fin 1) : (val_main_v40 (F := Ideal) x o g w e : Fox.V 8704 1 .f32) (ix2 i z)
    = ∑ k, (rowR x o g w e i).x k * (rowR x o g w e i).w k := by
  rw [val_main_v40_apply, val_main_v39_apply, val_main_cst_6_apply]
  show ((FloatOps.ofBits .f32 0x00000000#32 : Ideal .f32) + ∑ k, _ : EReal) = _
  rw [Fox.zeroF, zero_add]
  refine Finset.sum_congr rfl fun k _ => ?_
  have hi : idx_main_v39 (idx_main_v40 (ix2 i z)) k = ix2 i k := ext2 (by simp) rfl
  rw [hi, val_main_v38_apply, ref_w H]
  rfl

theorem ref_q (i : Fin 8704) (k : Fin 1024) : (val_main_v47 (F := Ideal) x o g w e : Fox.V 8704 1024 .f32) (ix2 i k) = (rowR x o g w e i).q := by
  rw [val_main_v47_apply, val_main_v46_apply, val_main_cst_8_apply]
  show ((FloatOps.ofBits .f32 0x00000000#32 : Ideal .f32) + ∑ k, _ : EReal) = _
  rw [Fox.zeroF, zero_add, Fin.sum_univ_one]
  have hi : idx_main_v46 (idx_main_v47 (ix2 i k)) 0 = ix2 i 0 := ext2 rfl rfl
  rw [hi, val_main_v45_apply, val_main_v44_apply, val_main_cst_7_apply, div_thousand, val_main_v43_apply, ref_sum H, val_main_v12_apply,
    val_main_v11_apply, val_main_cst_2_apply, minusHalfF, val_main_v10_apply, ref_scale, ref_mean]
  rfl

theorem ref_dh (i : Fin 8704) (d : Fin 1024) : (val_main_v52 (F := Ideal) x o g w e : Fox.V 8704 1024 .f32) (ix2 i d) = (rowR x o g w e i).dh d := by
  rw [val_main_v52_apply, val_main_v51_apply, val_main_v49_apply, val_main_v42_apply, val_main_v48_apply, val_main_v50_apply, ref_w H, ref_q H,
    val_main_v41_apply, show idx_main_v41 (ix2 i d) = ix2 i 0 from ext2 rfl rfl, ref_scale]
  exact Row.dh_chain (H i) d

end Fits

/-! ## The claim's arrays -/

section Claim
open Cert.Kernel2Ideal
variable (m : (ℓ : Loc nD τ sig) → Buf (Elt Ideal) ℓ) (c : Dev nD)

theorem facts : Cert.Pre_finite2.Facts where
  bcast_S_S8704x1024 := by decide
  bcast_S_S1x1024 := by decide
  bitsLt_bf16_f32 := by decide
  bcast_S_S1024x5632 := by decide
  bcast_S_S2816x1024 := by decide

/-- The precondition read: every entry of the five arguments is a real number. -/
theorem fits (h : Cert.Pre_Kernel2Ideal_finite2 (hPre_finite2 := facts) m) (i : Fin 8704) :
    (rowR (X m c) (O m c) (Y m c) (W m c) (D m c) i).Fits where
  x k := ⟨_, Fox.real_of_lt _ (congrFun (h c).1 (ix2 i k))⟩
  o k := ⟨_, Fox.real_of_lt _ (congrFun (h c).2.1 (ix2 i k))⟩
  g k := ⟨_, Fox.real_of_lt _ (congrFun (h c).2.2.1 (ix2 0 k))⟩
  A k j := ⟨_, Fox.real_of_lt (W m c (ix2 k ⟨j.val, by omega⟩)) (congrFun (h c).2.2.2.1 (ix2 k ⟨j.val, by omega⟩))⟩
  B k j := ⟨_, Fox.real_of_lt (W m c (ix2 k ⟨2816 + j.val, by omega⟩)) (congrFun (h c).2.2.2.1 (ix2 k ⟨2816 + j.val, by omega⟩))⟩
  D j k := ⟨_, Fox.real_of_lt (D m c (ix2 j k)) (congrFun (h c).2.2.2.2 (ix2 j k))⟩

theorem plain_u : val_main_v53 (F := Ideal) (X m c) (Y m c) = u m c := by
  funext y
  obtain ⟨i, k, rfl⟩ : ∃ i k, y = ix2 i k := ⟨_, _, eq_ix2 y⟩
  exact ref_u (X m c) (O m c) (Y m c) (W m c) (D m c) i k

theorem plain_a : val_main_v54 (F := Ideal) (X m c) (Y m c) (W m c) = a m c := by
  funext y
  obtain ⟨i, j, rfl⟩ : ∃ i j, y = ix2 i j := ⟨_, _, eq_ix2 y⟩
  exact ref_a (X m c) (O m c) (Y m c) (W m c) (D m c) i j

variable (h : Cert.Pre_Kernel2Ideal_finite2 (hPre_finite2 := facts) m)
include h

theorem plain_dh : val_main_v52 (F := Ideal) (X m c) (O m c) (Y m c) (W m c) (D m c) = dh m c := by
  funext y
  obtain ⟨i, d, rfl⟩ : ∃ i d, y = ix2 i d := ⟨_, _, eq_ix2 y⟩
  exact ref_dh (fits m c h) i d

theorem plain_dgu : val_main_v55 (F := Ideal) (X m c) (O m c) (Y m c) (W m c) (D m c) = dgu m c := by
  funext y
  obtain ⟨i, j, rfl⟩ : ∃ i j, y = ix2 i j := ⟨_, _, eq_ix2 y⟩
  by_cases hj : j.val < 2816
  · exact (ref_left (fits m c h) i j hj).trans (dgu_left m c (ix2 i j) hj).symm
  · exact (ref_right (fits m c h) i j hj).trans (dgu_right m c (ix2 i j) hj).symm

theorem plain_dn : val_main_v35 (F := Ideal) (X m c) (O m c) (Y m c) (W m c) (D m c) = dn m c := by
  funext y
  obtain ⟨z, k, rfl⟩ : ∃ z k, y = ix2 z k := ⟨_, _, eq_ix2 y⟩
  obtain rfl : z = 0 := Subsingleton.elim _ _
  exact ref_dn (fits m c h) k

end Claim

end Ffn.Bwd
-- ==== Proof.TopGrad.lean ====
module

public import proofs.«01_k».proof.Proof.Whole
public import proofs.«01_k».proof.Proof.Gen.Kernel6Ideal.Value
public import proofs.«01_k».proof.Proof.Gen.Reference6Ideal.Read

/-!
  The upper half of the rows of the gradient of the first product's weights, which the first layer's call computes: 512
  columns of the normalised rows against the gradients of the gate and of the value, summed over the rows in seventeen
  blocks and cut into four groups of columns.
-/

@[expose] public section

set_option maxRecDepth 16384
set_option maxHeartbeats 1000000

noncomputable section

namespace Ffn.Top

open Cert.Kernel6Ideal Cert.Kernel6Ideal.Gen Cert.Kernel6Ideal.Value Idealize.ShloMosaic Idealize.ShloMosaic.TcCoe
open Idealize.ShloMosaic.ValueIdx (ix2 ix3 eq_ix2 eq_ix3)
open scoped BigOperators

/-- What a step adds to the accumulator. -/
def add (acc : Fox.V 512 2816 .f32) (x : Fox.V 512 512 .bf16) (y : Fox.V 512 2816 .bf16) : Fox.V 512 2816 .f32 :=
  k0_pay2 (F := Ideal) acc x y

theorem add_apply (acc : Fox.V 512 2816 .f32) (x : Fox.V 512 512 .bf16) (y : Fox.V 512 2816 .bf16)
    (r : Fin 512) (d : Fin 2816) :
    add acc x y (ix2 r d) = acc (ix2 r d) + ∑ k : Fin 512, x (ix2 k r) * y (ix2 k d) := by
  unfold add k0_pay2
  rw [shapeCast_self]
  show acc (ix2 r d) + FloatOps.matmul (Fox.tn 512 512 2816) none x y
    (constant S512x2816 .f32 0x00000000#32) (ix2 r d) = _
  rw [Fox.matmul_tn_apply]
  show acc (ix2 r d) + ((FloatOps.ofBits .f32 0x00000000#32 : Ideal .f32) + _) = _
  rw [Fox.zeroF]
  exact congrArg (acc (ix2 r d) + ·) (zero_add _)

/-- The block written: the sums' columns in two groups. -/
def halves (s : Fox.V 512 2816 .f32) : FVec Ideal S2x512x1408 .bf16 := fun y =>
  s (ix2 (y 1) ⟨1408 * (y 0).val + (y 2).val, by
    have h0 : (y 0).val < 2 := (y 0).isLt
    have h2 : (y 2).val < 1408 := (y 2).isLt
    omega⟩)

theorem one_apply (s : Fox.V 512 2816 .f32) (i : S512x2816.Idx) : (k0_pay3 (F := Ideal) s : S512x2816.Idx → EReal) i = s i := by
  unfold k0_pay3
  show s i * (FloatOps.ofBits .f32 0x3F800000#32 : Ideal .f32) = _
  rw [Fox.oneF]
  exact mul_one _

theorem left_apply (s : Fox.V 512 2816 .f32) (x : S1x512x1408.Idx) : (k0_pay4 (F := Ideal) s : S1x512x1408.Idx → EReal) x
    = s (ix2 (x 1) ⟨(x 2).val, by have h : (x 2).val < 1408 := (x 2).isLt; omega⟩) := by
  unfold k0_pay4
  dsimp only
  refine (shapeCast_apply _ _ _ (ix2 (x 1) (x 2) : S512x1408.Idx) ?_).trans ?_
  · rw [Shape.rowMajor_val_two, Shape.rowMajor_val_three]
    have h0 : (x 0).val < 1 := (x 0).isLt
    show (x 1).val * 1408 + (x 2).val = ((x 0).val * 512 + (x 1).val) * 1408 + (x 2).val
    omega
  · refine (one_apply s _).trans (congrArg s (funext fun a => Fin.ext ?_))
    match a with
    | ⟨0, _⟩ => show 0 + (x 1).val = (x 1).val; omega
    | ⟨1, _⟩ => show 0 + (x 2).val = (x 2).val; omega

theorem right_apply (s : Fox.V 512 2816 .f32) (x : S1x512x1408.Idx) : (k0_pay5 (F := Ideal) s : S1x512x1408.Idx → EReal) x
    = s (ix2 (x 1) ⟨1408 + (x 2).val, by have h : (x 2).val < 1408 := (x 2).isLt; omega⟩) := by
  unfold k0_pay5
  dsimp only
  refine (shapeCast_apply _ _ _ (ix2 (x 1) (x 2) : S512x1408.Idx) ?_).trans ?_
  · rw [Shape.rowMajor_val_two, Shape.rowMajor_val_three]
    have h0 : (x 0).val < 1 := (x 0).isLt
    show (x 1).val * 1408 + (x 2).val = ((x 0).val * 512 + (x 1).val) * 1408 + (x 2).val
    omega
  · refine (one_apply s _).trans (congrArg s (funext fun a => Fin.ext ?_))
    match a with
    | ⟨0, _⟩ => show 0 + (x 1).val = (x 1).val; omega
    | ⟨1, _⟩ => rfl

section Cases
variable (c : Dev nD) (i : grid0.Coords) (a3 : Memref sig .tc .vmem S512x512 .bf16) (h3 : a3.IsWhole)
  (a4 : Memref sig .tc .vmem S512x2816 .bf16) (h4 : a4.IsWhole) (a5 : Memref sig .tc .vmem S2x512x1408 .bf16) (h5 : a5.IsWhole)
  (a6 : Memref sig .tc .vmem S512x2816 .f32) (h6 : a6.IsWhole)
  (x : Vec Ideal S512x512 .bf16) (y : Vec Ideal S512x2816 .bf16) (acc : Vec Ideal S512x2816 .f32)

theorem left_A (hc : cond0_0 i) (hd : ¬cond0_1 i) :
    sout0_A_0 c i a3 h3 a4 h4 a5 h5 a6 h6 hc hd x y = add (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S512x2816) hz, View.readCov_unit_zero (S := S512x2816) _ hz]
  unfold add
  simp only [View.readAt_eq_ld, h3.read_unread, h4.read_unread, View.ld_unit_zero (S := S512x512) hz,
    View.ld_unit_zero (S := S512x2816) hz]

theorem left_B (hc : ¬cond0_0 i) (hd : ¬cond0_1 i) :
    sout0_B_0 c i a3 h3 a4 h4 a5 h5 a6 h6 hc hd x y acc = add acc x y := by
  unfold sout0_B_0
  rw [View.read_writes_eq_canon _ _ _ (scover0_B_0 c i a3 h3 a4 h4 a5 h5 a6 h6 hc hd x y acc)]
  unfold kernelRun0_B
  dsimp only
  rw [View.canon_unit_zero hz]
  unfold add
  simp only [View.readAt_eq_ld, h3.read_unread, h4.read_unread, h6.read_unread, View.ld_unit_zero (S := S512x512) hz,
    View.ld_unit_zero (S := S512x2816) hz, View.ld_unit_zero (S := S512x2816) hz]

theorem out_C (hc : ¬cond0_0 i) (hd : cond0_1 i) :
    out0_C_2 c i a3 h3 a4 h4 a5 h5 a6 h6 hc hd x y acc = halves (add acc x y) := by
  unfold out0_C_2
  rw [View.read_writes_eq_canon _ _ _ (cover0_C_2 c i a3 h3 a4 h4 a5 h5 a6 h6 hc hd x y acc)]
  funext i'
  refine View.canon_apply_of_pieces (halves (add acc x y)) _ ?_ i' (cover0_C_2 c i a3 h3 a4 h4 a5 h5 a6 h6 hc hd x y acc i')
  unfold kernelRun0_C
  dsimp only
  sl_unfold_words
  rw [View.readCov_unit_zero (S := S512x2816) _ hz]
  simp only [View.readAt_eq_ld, h3.read_unread, h4.read_unread, h6.read_unread, View.ld_unit_zero (S := S512x512) hz,
    View.ld_unit_zero (S := S512x2816) hz, View.ld_unit_zero (S := S512x2816) hz]
  intro p hp z
  rcases List.mem_cons.mp hp with rfl | hp
  · refine (right_apply (add acc x y) z).trans (congrArg (add acc x y) (funext fun a => Fin.ext ?_))
    have h0 : (z 0).val < 1 := (z 0).isLt
    match a with
    | ⟨0, _⟩ => show (z 1).val = 0 + 1 * (z 1).val; omega
    | ⟨1, _⟩ => show 1408 + (z 2).val = 1408 * (1 + 1 * (z 0).val) + (0 + 1 * (z 2).val); omega
  · obtain rfl := List.mem_singleton.mp hp
    refine (left_apply (add acc x y) z).trans (congrArg (add acc x y) (funext fun a => Fin.ext ?_))
    have h0 : (z 0).val < 1 := (z 0).isLt
    match a with
    | ⟨0, _⟩ => show (z 1).val = 0 + 1 * (z 1).val; omega
    | ⟨1, _⟩ => show (z 2).val = 1408 * (0 + 1 * (z 0).val) + (0 + 1 * (z 2).val); omega

end Cases

theorem blocks : ∀ t : Fin cfg0.N, (win0_0.index t (0 : Fin 2) = t.val % 17 ∧ win0_0.index t (1 : Fin 2) = 0)
    ∧ (win0_1.index t (0 : Fin 2) = t.val % 17 ∧ win0_1.index t (1 : Fin 2) = t.val / 17) :=
  (by decide +kernel : ∀ t : Fin grid0.N, _)

variable (m : (ℓ : Loc nD τ sig) → Buf (Elt Ideal) ℓ) (c : Dev nD)

/-- The normalised rows. -/
abbrev X : Fox.V 8704 1024 .bf16 := m ((c : Thread nD τ).loc main_arg0)
/-- The gradients of the gate and of the value. -/
abbrev Y : Fox.V 8704 5632 .bf16 := m ((c : Thread nD τ).loc main_arg1)

theorem blk_x (t : Fin cfg0.N) (k : Fin 512) (r : Fin 512) :
    (iblk m c 0 t : Fox.V 512 512 .bf16) (ix2 k r) = tot (X m c) (512 * (t.val % 17) + k) (0 + r) := by
  obtain ⟨⟨e0, e1⟩, -⟩ := blocks t
  have ht : t.val < 34 := t.isLt
  rw [tot_of _ (by omega) (by omega)]
  show Gen.V m c main_arg0 (((cfg0.win 0).blk t).view.emb (ix2 k r)) = _
  rw [V_main_arg0]
  refine congrArg (m ((c : Thread nD τ).loc main_arg0)) (funext fun a => Fin.ext ?_)
  match a with
  | ⟨0, _⟩ => show win0_0.index t (0 : Fin 2) * 512 + 1 * k.val = 512 * (t.val % 17) + k.val; omega
  | ⟨1, _⟩ => show win0_0.index t (1 : Fin 2) * 512 + 1 * r.val = 0 + r.val; omega

theorem blk_y (t : Fin cfg0.N) (k : Fin 512) (d : Fin 2816) :
    (iblk m c 1 t : Fox.V 512 2816 .bf16) (ix2 k d) = tot (Y m c) (512 * (t.val % 17) + k) (2816 * (t.val / 17) + d) := by
  obtain ⟨-, ⟨e0, e1⟩⟩ := blocks t
  have ht : t.val < 34 := t.isLt
  rw [tot_of _ (by omega) (by omega)]
  show Gen.V m c main_arg1 (((cfg0.win 1).blk t).view.emb (ix2 k d)) = _
  rw [V_main_arg1]
  refine congrArg (m ((c : Thread nD τ).loc main_arg1)) (funext fun a => Fin.ext ?_)
  match a with
  | ⟨0, _⟩ => show win0_1.index t (0 : Fin 2) * 512 + 1 * k.val = 512 * (t.val % 17) + k.val; omega
  | ⟨1, _⟩ => show win0_1.index t (1 : Fin 2) * 2816 + 1 * d.val = 2816 * (t.val / 17) + d.val; omega

/-- The sum over the first `n` rows. -/
def part (r d n : ℕ) : EReal := ∑ k ∈ Finset.range n, tot (X m c) k r * tot (Y m c) k d

theorem step (t : Fin cfg0.N) (acc : Fox.V 512 2816 .f32) (r : Fin 512) (d : Fin 2816)
    (h : acc (ix2 r d) = part m c (0 + r) (2816 * (t.val / 17) + d) (512 * (t.val % 17))) :
    add acc (iblk m c 0 t) (iblk m c 1 t) (ix2 r d) = part m c (0 + r) (2816 * (t.val / 17) + d) (512 * (t.val % 17 + 1)) := by
  rw [add_apply, h, Nat.mul_succ]
  unfold part
  rw [← sum_more]
  exact congrArg _ (sum_range_of fun k => by rw [blk_x, blk_y])

theorem zero_apply (r : Fin 512) (d : Fin 2816) : (k0_pay1 (F := Ideal) : Fox.V 512 2816 .f32) (ix2 r d) = 0 := by
  unfold k0_pay1
  rw [shapeCast_self]
  exact Fox.zeroF

/-- The accumulator after a step that is not the last of its column block: the sum over the rows read so far. -/
theorem held (r : Fin 512) (d : Fin 2816) : ∀ (n : ℕ) (h : n < cfg0.N), ¬n % 17 = 16 →
    (outsAt0 m c n h).2 (ix2 r d) = part m c (0 + r) (2816 * (n / 17) + d) (512 * (n % 17 + 1))
  | n, h, h1 => by
    by_cases h0 : n % 17 = 0
    · rw [outsAt0_A m c ⟨n, h⟩ h0 h1]
      dsimp only
      rw [left_A]
      refine step m c ⟨n, h⟩ _ r d ?_
      rw [zero_apply]
      show 0 = part m c (0 + r) (2816 * (n / 17) + d) (512 * (n % 17))
      rw [h0]; simp [part]
    · have hp : n - 1 < cfg0.N := by omega
      have e := held r d (n - 1) hp (by omega)
      rw [show (n - 1) / 17 = n / 17 by omega, show (n - 1) % 17 + 1 = n % 17 by omega] at e
      rw [outsAt0_B m c ⟨n, h⟩ h0 h1]
      dsimp only
      rw [left_B]
      exact step m c ⟨n, h⟩ _ r d e
  termination_by n => n
  decreasing_by omega

/-- The block written back: the whole sums. -/
theorem last (t : Fin cfg0.N) (h1 : t.val % 17 = 16) (y : S2x512x1408.Idx) :
    (outsAt0 m c t.val t.isLt).1 y = part m c (0 + (y 1).val) (2816 * (t.val / 17) + (1408 * (y 0).val + (y 2).val)) 8704 := by
  have h0 : ¬t.val % 17 = 0 := by omega
  rw [outsAt0_C m c t h0 h1]
  dsimp only
  rw [out_C]
  unfold halves
  refine (step m c t _ _ _ ?_).trans (by rw [h1])
  have hp : t.val - 1 < cfg0.N := by have := t.isLt; omega
  have e := held m c (y 1) ⟨1408 * (y 0).val + (y 2).val, by
    have h0 : (y 0).val < 2 := (y 0).isLt
    have h2 : (y 2).val < 1408 := (y 2).isLt
    omega⟩ (t.val - 1) hp (by omega)
  rwa [show (t.val - 1) / 17 = t.val / 17 by omega, show (t.val - 1) % 17 + 1 = t.val % 17 by omega] at e

/-- The array after the run. -/
def result : FVec Ideal S4x512x1408 .bf16 := fun i => part m c (0 + (i 1).val) (1408 * (i 0).val + (i 2).val) 8704

theorem final : (G2 m c : FVec Ideal S4x512x1408 .bf16) = result m c := by
  funext y
  have h0 : (y 0).val < 4 := (y 0).isLt
  have h1 : (y 1).val < 512 := (y 1).isLt
  have h2 : (y 2).val < 1408 := (y 2).isLt
  have hp : pt2Of y = 17 * ((y 0).val / 2) + 16 := by
    show 17 * (1 * ((y 0).val / 2 - 0) + 1 * ((y 1).val / 512 - 0) + 1 * ((y 2).val / 1408 - 0)) + 16 = _
    omega
  have hN : cfg0.N = 34 := N_0
  have hlt : pt2Of y < cfg0.N := by rw [hp]; omega
  unfold G2
  rw [dif_pos hlt, ← outsAt0_sweep m c _ hlt]
  refine (last m c ⟨_, hlt⟩ (by show pt2Of y % 17 = 16; omega) (loc2Of y)).trans ?_
  show part m c (0 + (y 1).val % 512) (2816 * (pt2Of y / 17) + (1408 * ((y 0).val % 2) + (y 2).val % 1408)) 8704
    = part m c (0 + (y 1).val) (1408 * (y 0).val + (y 2).val) 8704
  rw [show 2816 * (pt2Of y / 17) + (1408 * ((y 0).val % 2) + (y 2).val % 1408) = 1408 * (y 0).val + (y 2).val by rw [hp]; omega,
    show (y 1).val % 512 = (y 1).val by omega]

/-! ## The reference -/

open Cert.Reference6Ideal.Read in
theorem plain : val_main_v9 (F := Ideal) (X m c) (Y m c) = result m c := by
  funext y
  have h0 : (y 0).val < 4 := (y 0).isLt
  have h1 : (y 1).val < 512 := (y 1).isLt
  have h2 : (y 2).val < 1408 := (y 2).isLt
  rw [val_main_v9_apply, val_main_v8_apply, val_main_v7_apply, val_main_v6_apply, val_main_v5_apply]
  show (val_main_v4 (F := Ideal) (X m c) (Y m c) _ : EReal) = _
  rw [val_main_v4_apply]
  show _ = part m c (0 + (y 1).val) (1408 * (y 0).val + (y 2).val) 8704
  unfold part
  refine sum_range_of fun k => ?_
  have er : ridx_main_v4 (idx_main_v5 (idx_main_v6 (idx_main_v7 (idx_main_v9 y)))) k = ix2 k ⟨0 + (y 1).val, by omega⟩ := by
    funext a; apply Fin.ext
    match a with
    | ⟨0, _⟩ => rfl
    | ⟨1, _⟩ => show (((y 1).val * 4 + (y 0).val) * 1408 + (y 2).val) / 5632 = 0 + (y 1).val; omega
  have el : lidx_main_v4 (idx_main_v5 (idx_main_v6 (idx_main_v7 (idx_main_v9 y)))) k = ix2 k ⟨1408 * (y 0).val + (y 2).val, by omega⟩ := by
    funext a; apply Fin.ext
    match a with
    | ⟨0, _⟩ => rfl
    | ⟨1, _⟩ => show (((y 1).val * 4 + (y 0).val) * 1408 + (y 2).val) % 5632 = 1408 * (y 0).val + (y 2).val; omega
  rw [er, el, tot_of _ k.isLt (show 0 + (y 1).val < 1024 by omega), tot_of _ k.isLt (show 1408 * (y 0).val + (y 2).val < 5632 by omega), val_main_v3_apply, val_main_v0_apply]
  exact mul_comm _ _

end Ffn.Top
-- ==== Proof.LowGrad.lean ====
module

public import proofs.«01_k».proof.Proof.Whole
public import proofs.«01_k».proof.Proof.Gen.Kernel7Ideal.Value
public import proofs.«01_k».proof.Proof.Gen.Reference7Ideal.Read

/-!
  The lower half of the rows of the gradient of the first product's weights, which the first layer's call computes: 512
  columns of the normalised rows against the gradients of the gate and of the value, summed over the rows in seventeen
  blocks and cut into four groups of columns.
-/

@[expose] public section

set_option maxRecDepth 16384
set_option maxHeartbeats 1000000

noncomputable section

namespace Ffn.Low

open Cert.Kernel7Ideal Cert.Kernel7Ideal.Gen Cert.Kernel7Ideal.Value Idealize.ShloMosaic Idealize.ShloMosaic.TcCoe
open Idealize.ShloMosaic.ValueIdx (ix2 ix3 eq_ix2 eq_ix3)
open scoped BigOperators

/-- What a step adds to the accumulator. -/
def add (acc : Fox.V 512 2816 .f32) (x : Fox.V 512 512 .bf16) (y : Fox.V 512 2816 .bf16) : Fox.V 512 2816 .f32 :=
  k0_pay2 (F := Ideal) acc x y

theorem add_apply (acc : Fox.V 512 2816 .f32) (x : Fox.V 512 512 .bf16) (y : Fox.V 512 2816 .bf16)
    (r : Fin 512) (d : Fin 2816) :
    add acc x y (ix2 r d) = acc (ix2 r d) + ∑ k : Fin 512, x (ix2 k r) * y (ix2 k d) := by
  unfold add k0_pay2
  rw [shapeCast_self]
  show acc (ix2 r d) + FloatOps.matmul (Fox.tn 512 512 2816) none x y
    (constant S512x2816 .f32 0x00000000#32) (ix2 r d) = _
  rw [Fox.matmul_tn_apply]
  show acc (ix2 r d) + ((FloatOps.ofBits .f32 0x00000000#32 : Ideal .f32) + _) = _
  rw [Fox.zeroF]
  exact congrArg (acc (ix2 r d) + ·) (zero_add _)

/-- The block written: the sums' columns in two groups. -/
def halves (s : Fox.V 512 2816 .f32) : FVec Ideal S2x512x1408 .bf16 := fun y =>
  s (ix2 (y 1) ⟨1408 * (y 0).val + (y 2).val, by
    have h0 : (y 0).val < 2 := (y 0).isLt
    have h2 : (y 2).val < 1408 := (y 2).isLt
    omega⟩)

theorem one_apply (s : Fox.V 512 2816 .f32) (i : S512x2816.Idx) : (k0_pay3 (F := Ideal) s : S512x2816.Idx → EReal) i = s i := by
  unfold k0_pay3
  show s i * (FloatOps.ofBits .f32 0x3F800000#32 : Ideal .f32) = _
  rw [Fox.oneF]
  exact mul_one _

theorem left_apply (s : Fox.V 512 2816 .f32) (x : S1x512x1408.Idx) : (k0_pay4 (F := Ideal) s : S1x512x1408.Idx → EReal) x
    = s (ix2 (x 1) ⟨(x 2).val, by have h : (x 2).val < 1408 := (x 2).isLt; omega⟩) := by
  unfold k0_pay4
  dsimp only
  refine (shapeCast_apply _ _ _ (ix2 (x 1) (x 2) : S512x1408.Idx) ?_).trans ?_
  · rw [Shape.rowMajor_val_two, Shape.rowMajor_val_three]
    have h0 : (x 0).val < 1 := (x 0).isLt
    show (x 1).val * 1408 + (x 2).val = ((x 0).val * 512 + (x 1).val) * 1408 + (x 2).val
    omega
  · refine (one_apply s _).trans (congrArg s (funext fun a => Fin.ext ?_))
    match a with
    | ⟨0, _⟩ => show 0 + (x 1).val = (x 1).val; omega
    | ⟨1, _⟩ => show 0 + (x 2).val = (x 2).val; omega

theorem right_apply (s : Fox.V 512 2816 .f32) (x : S1x512x1408.Idx) : (k0_pay5 (F := Ideal) s : S1x512x1408.Idx → EReal) x
    = s (ix2 (x 1) ⟨1408 + (x 2).val, by have h : (x 2).val < 1408 := (x 2).isLt; omega⟩) := by
  unfold k0_pay5
  dsimp only
  refine (shapeCast_apply _ _ _ (ix2 (x 1) (x 2) : S512x1408.Idx) ?_).trans ?_
  · rw [Shape.rowMajor_val_two, Shape.rowMajor_val_three]
    have h0 : (x 0).val < 1 := (x 0).isLt
    show (x 1).val * 1408 + (x 2).val = ((x 0).val * 512 + (x 1).val) * 1408 + (x 2).val
    omega
  · refine (one_apply s _).trans (congrArg s (funext fun a => Fin.ext ?_))
    match a with
    | ⟨0, _⟩ => show 0 + (x 1).val = (x 1).val; omega
    | ⟨1, _⟩ => rfl

section Cases
variable (c : Dev nD) (i : grid0.Coords) (a3 : Memref sig .tc .vmem S512x512 .bf16) (h3 : a3.IsWhole)
  (a4 : Memref sig .tc .vmem S512x2816 .bf16) (h4 : a4.IsWhole) (a5 : Memref sig .tc .vmem S2x512x1408 .bf16) (h5 : a5.IsWhole)
  (a6 : Memref sig .tc .vmem S512x2816 .f32) (h6 : a6.IsWhole)
  (x : Vec Ideal S512x512 .bf16) (y : Vec Ideal S512x2816 .bf16) (acc : Vec Ideal S512x2816 .f32)

theorem left_A (hc : cond0_0 i) (hd : ¬cond0_1 i) :
    sout0_A_0 c i a3 h3 a4 h4 a5 h5 a6 h6 hc hd x y = add (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S512x2816) hz, View.readCov_unit_zero (S := S512x2816) _ hz]
  unfold add
  simp only [View.readAt_eq_ld, h3.read_unread, h4.read_unread, View.ld_unit_zero (S := S512x512) hz,
    View.ld_unit_zero (S := S512x2816) hz]

theorem left_B (hc : ¬cond0_0 i) (hd : ¬cond0_1 i) :
    sout0_B_0 c i a3 h3 a4 h4 a5 h5 a6 h6 hc hd x y acc = add acc x y := by
  unfold sout0_B_0
  rw [View.read_writes_eq_canon _ _ _ (scover0_B_0 c i a3 h3 a4 h4 a5 h5 a6 h6 hc hd x y acc)]
  unfold kernelRun0_B
  dsimp only
  rw [View.canon_unit_zero hz]
  unfold add
  simp only [View.readAt_eq_ld, h3.read_unread, h4.read_unread, h6.read_unread, View.ld_unit_zero (S := S512x512) hz,
    View.ld_unit_zero (S := S512x2816) hz, View.ld_unit_zero (S := S512x2816) hz]

theorem out_C (hc : ¬cond0_0 i) (hd : cond0_1 i) :
    out0_C_2 c i a3 h3 a4 h4 a5 h5 a6 h6 hc hd x y acc = halves (add acc x y) := by
  unfold out0_C_2
  rw [View.read_writes_eq_canon _ _ _ (cover0_C_2 c i a3 h3 a4 h4 a5 h5 a6 h6 hc hd x y acc)]
  funext i'
  refine View.canon_apply_of_pieces (halves (add acc x y)) _ ?_ i' (cover0_C_2 c i a3 h3 a4 h4 a5 h5 a6 h6 hc hd x y acc i')
  unfold kernelRun0_C
  dsimp only
  sl_unfold_words
  rw [View.readCov_unit_zero (S := S512x2816) _ hz]
  simp only [View.readAt_eq_ld, h3.read_unread, h4.read_unread, h6.read_unread, View.ld_unit_zero (S := S512x512) hz,
    View.ld_unit_zero (S := S512x2816) hz, View.ld_unit_zero (S := S512x2816) hz]
  intro p hp z
  rcases List.mem_cons.mp hp with rfl | hp
  · refine (right_apply (add acc x y) z).trans (congrArg (add acc x y) (funext fun a => Fin.ext ?_))
    have h0 : (z 0).val < 1 := (z 0).isLt
    match a with
    | ⟨0, _⟩ => show (z 1).val = 0 + 1 * (z 1).val; omega
    | ⟨1, _⟩ => show 1408 + (z 2).val = 1408 * (1 + 1 * (z 0).val) + (0 + 1 * (z 2).val); omega
  · obtain rfl := List.mem_singleton.mp hp
    refine (left_apply (add acc x y) z).trans (congrArg (add acc x y) (funext fun a => Fin.ext ?_))
    have h0 : (z 0).val < 1 := (z 0).isLt
    match a with
    | ⟨0, _⟩ => show (z 1).val = 0 + 1 * (z 1).val; omega
    | ⟨1, _⟩ => show (z 2).val = 1408 * (0 + 1 * (z 0).val) + (0 + 1 * (z 2).val); omega

end Cases

theorem blocks : ∀ t : Fin cfg0.N, (win0_0.index t (0 : Fin 2) = t.val % 17 ∧ win0_0.index t (1 : Fin 2) = 1)
    ∧ (win0_1.index t (0 : Fin 2) = t.val % 17 ∧ win0_1.index t (1 : Fin 2) = t.val / 17) :=
  (by decide +kernel : ∀ t : Fin grid0.N, _)

variable (m : (ℓ : Loc nD τ sig) → Buf (Elt Ideal) ℓ) (c : Dev nD)

/-- The normalised rows. -/
abbrev X : Fox.V 8704 1024 .bf16 := m ((c : Thread nD τ).loc main_arg0)
/-- The gradients of the gate and of the value. -/
abbrev Y : Fox.V 8704 5632 .bf16 := m ((c : Thread nD τ).loc main_arg1)

theorem blk_x (t : Fin cfg0.N) (k : Fin 512) (r : Fin 512) :
    (iblk m c 0 t : Fox.V 512 512 .bf16) (ix2 k r) = tot (X m c) (512 * (t.val % 17) + k) (512 + r) := by
  obtain ⟨⟨e0, e1⟩, -⟩ := blocks t
  have ht : t.val < 34 := t.isLt
  rw [tot_of _ (by omega) (by omega)]
  show Gen.V m c main_arg0 (((cfg0.win 0).blk t).view.emb (ix2 k r)) = _
  rw [V_main_arg0]
  refine congrArg (m ((c : Thread nD τ).loc main_arg0)) (funext fun a => Fin.ext ?_)
  match a with
  | ⟨0, _⟩ => show win0_0.index t (0 : Fin 2) * 512 + 1 * k.val = 512 * (t.val % 17) + k.val; omega
  | ⟨1, _⟩ => show win0_0.index t (1 : Fin 2) * 512 + 1 * r.val = 512 + r.val; omega

theorem blk_y (t : Fin cfg0.N) (k : Fin 512) (d : Fin 2816) :
    (iblk m c 1 t : Fox.V 512 2816 .bf16) (ix2 k d) = tot (Y m c) (512 * (t.val % 17) + k) (2816 * (t.val / 17) + d) := by
  obtain ⟨-, ⟨e0, e1⟩⟩ := blocks t
  have ht : t.val < 34 := t.isLt
  rw [tot_of _ (by omega) (by omega)]
  show Gen.V m c main_arg1 (((cfg0.win 1).blk t).view.emb (ix2 k d)) = _
  rw [V_main_arg1]
  refine congrArg (m ((c : Thread nD τ).loc main_arg1)) (funext fun a => Fin.ext ?_)
  match a with
  | ⟨0, _⟩ => show win0_1.index t (0 : Fin 2) * 512 + 1 * k.val = 512 * (t.val % 17) + k.val; omega
  | ⟨1, _⟩ => show win0_1.index t (1 : Fin 2) * 2816 + 1 * d.val = 2816 * (t.val / 17) + d.val; omega

/-- The sum over the first `n` rows. -/
def part (r d n : ℕ) : EReal := ∑ k ∈ Finset.range n, tot (X m c) k r * tot (Y m c) k d

theorem step (t : Fin cfg0.N) (acc : Fox.V 512 2816 .f32) (r : Fin 512) (d : Fin 2816)
    (h : acc (ix2 r d) = part m c (512 + r) (2816 * (t.val / 17) + d) (512 * (t.val % 17))) :
    add acc (iblk m c 0 t) (iblk m c 1 t) (ix2 r d) = part m c (512 + r) (2816 * (t.val / 17) + d) (512 * (t.val % 17 + 1)) := by
  rw [add_apply, h, Nat.mul_succ]
  unfold part
  rw [← sum_more]
  exact congrArg _ (sum_range_of fun k => by rw [blk_x, blk_y])

theorem zero_apply (r : Fin 512) (d : Fin 2816) : (k0_pay1 (F := Ideal) : Fox.V 512 2816 .f32) (ix2 r d) = 0 := by
  unfold k0_pay1
  rw [shapeCast_self]
  exact Fox.zeroF

/-- The accumulator after a step that is not the last of its column block: the sum over the rows read so far. -/
theorem held (r : Fin 512) (d : Fin 2816) : ∀ (n : ℕ) (h : n < cfg0.N), ¬n % 17 = 16 →
    (outsAt0 m c n h).2 (ix2 r d) = part m c (512 + r) (2816 * (n / 17) + d) (512 * (n % 17 + 1))
  | n, h, h1 => by
    by_cases h0 : n % 17 = 0
    · rw [outsAt0_A m c ⟨n, h⟩ h0 h1]
      dsimp only
      rw [left_A]
      refine step m c ⟨n, h⟩ _ r d ?_
      rw [zero_apply]
      show 0 = part m c (512 + r) (2816 * (n / 17) + d) (512 * (n % 17))
      rw [h0]; simp [part]
    · have hp : n - 1 < cfg0.N := by omega
      have e := held r d (n - 1) hp (by omega)
      rw [show (n - 1) / 17 = n / 17 by omega, show (n - 1) % 17 + 1 = n % 17 by omega] at e
      rw [outsAt0_B m c ⟨n, h⟩ h0 h1]
      dsimp only
      rw [left_B]
      exact step m c ⟨n, h⟩ _ r d e
  termination_by n => n
  decreasing_by omega

/-- The block written back: the whole sums. -/
theorem last (t : Fin cfg0.N) (h1 : t.val % 17 = 16) (y : S2x512x1408.Idx) :
    (outsAt0 m c t.val t.isLt).1 y = part m c (512 + (y 1).val) (2816 * (t.val / 17) + (1408 * (y 0).val + (y 2).val)) 8704 := by
  have h0 : ¬t.val % 17 = 0 := by omega
  rw [outsAt0_C m c t h0 h1]
  dsimp only
  rw [out_C]
  unfold halves
  refine (step m c t _ _ _ ?_).trans (by rw [h1])
  have hp : t.val - 1 < cfg0.N := by have := t.isLt; omega
  have e := held m c (y 1) ⟨1408 * (y 0).val + (y 2).val, by
    have h0 : (y 0).val < 2 := (y 0).isLt
    have h2 : (y 2).val < 1408 := (y 2).isLt
    omega⟩ (t.val - 1) hp (by omega)
  rwa [show (t.val - 1) / 17 = t.val / 17 by omega, show (t.val - 1) % 17 + 1 = t.val % 17 by omega] at e

/-- The array after the run. -/
def result : FVec Ideal S4x512x1408 .bf16 := fun i => part m c (512 + (i 1).val) (1408 * (i 0).val + (i 2).val) 8704

theorem final : (G2 m c : FVec Ideal S4x512x1408 .bf16) = result m c := by
  funext y
  have h0 : (y 0).val < 4 := (y 0).isLt
  have h1 : (y 1).val < 512 := (y 1).isLt
  have h2 : (y 2).val < 1408 := (y 2).isLt
  have hp : pt2Of y = 17 * ((y 0).val / 2) + 16 := by
    show 17 * (1 * ((y 0).val / 2 - 0) + 1 * ((y 1).val / 512 - 0) + 1 * ((y 2).val / 1408 - 0)) + 16 = _
    omega
  have hN : cfg0.N = 34 := N_0
  have hlt : pt2Of y < cfg0.N := by rw [hp]; omega
  unfold G2
  rw [dif_pos hlt, ← outsAt0_sweep m c _ hlt]
  refine (last m c ⟨_, hlt⟩ (by show pt2Of y % 17 = 16; omega) (loc2Of y)).trans ?_
  show part m c (512 + (y 1).val % 512) (2816 * (pt2Of y / 17) + (1408 * ((y 0).val % 2) + (y 2).val % 1408)) 8704
    = part m c (512 + (y 1).val) (1408 * (y 0).val + (y 2).val) 8704
  rw [show 2816 * (pt2Of y / 17) + (1408 * ((y 0).val % 2) + (y 2).val % 1408) = 1408 * (y 0).val + (y 2).val by rw [hp]; omega,
    show (y 1).val % 512 = (y 1).val by omega]

/-! ## The reference -/

open Cert.Reference7Ideal.Read in
theorem plain : val_main_v9 (F := Ideal) (X m c) (Y m c) = result m c := by
  funext y
  have h0 : (y 0).val < 4 := (y 0).isLt
  have h1 : (y 1).val < 512 := (y 1).isLt
  have h2 : (y 2).val < 1408 := (y 2).isLt
  rw [val_main_v9_apply, val_main_v8_apply, val_main_v7_apply, val_main_v6_apply, val_main_v5_apply]
  show (val_main_v4 (F := Ideal) (X m c) (Y m c) _ : EReal) = _
  rw [val_main_v4_apply]
  show _ = part m c (512 + (y 1).val) (1408 * (y 0).val + (y 2).val) 8704
  unfold part
  refine sum_range_of fun k => ?_
  have er : ridx_main_v4 (idx_main_v5 (idx_main_v6 (idx_main_v7 (idx_main_v9 y)))) k = ix2 k ⟨512 + (y 1).val, by omega⟩ := by
    funext a; apply Fin.ext
    match a with
    | ⟨0, _⟩ => rfl
    | ⟨1, _⟩ => show (((512 + (y 1).val) * 4 + (y 0).val) * 1408 + (y 2).val) / 5632 = 512 + (y 1).val; omega
  have el : lidx_main_v4 (idx_main_v5 (idx_main_v6 (idx_main_v7 (idx_main_v9 y)))) k = ix2 k ⟨1408 * (y 0).val + (y 2).val, by omega⟩ := by
    funext a; apply Fin.ext
    match a with
    | ⟨0, _⟩ => rfl
    | ⟨1, _⟩ => show (((512 + (y 1).val) * 4 + (y 0).val) * 1408 + (y 2).val) % 5632 = 1408 * (y 0).val + (y 2).val; omega
  rw [er, el, tot_of _ k.isLt (show 512 + (y 1).val < 1024 by omega), tot_of _ k.isLt (show 1408 * (y 0).val + (y 2).val < 5632 by omega), val_main_v3_apply, val_main_v0_apply]
  exact mul_comm _ _

end Ffn.Low
-- ==== Proof.InGrad.lean ====
module

public import proofs.«01_k».proof.Proof.Whole
public import proofs.«01_k».proof.Proof.Gen.Kernel8Ideal.Value
public import proofs.«01_k».proof.Proof.Gen.Reference8Ideal.Read

/-!
  The gradient of the input projection's weights, one half of the columns at a time: the normalised rows' transpose against
  the projection's gradient, summed over the rows in seventeen blocks.
-/

@[expose] public section

set_option maxRecDepth 16384
set_option maxHeartbeats 400000

noncomputable section

namespace Ffn.In

open Cert.Kernel8Ideal Cert.Kernel8Ideal.Gen Cert.Kernel8Ideal.Value Idealize.ShloMosaic Idealize.ShloMosaic.TcCoe
open Idealize.ShloMosaic.ValueIdx (ix2 eq_ix2)
open scoped BigOperators

/-- What a step adds to the accumulator. -/
def add (acc : Fox.V 1024 2048 .f32) (x : Fox.V 512 1024 .bf16) (y : Fox.V 512 2048 .bf16) : Fox.V 1024 2048 .f32 :=
  k0_pay2 (F := Ideal) acc x y

theorem add_apply (acc : Fox.V 1024 2048 .f32) (x : Fox.V 512 1024 .bf16) (y : Fox.V 512 2048 .bf16)
    (r : Fin 1024) (d : Fin 2048) :
    add acc x y (ix2 r d) = acc (ix2 r d) + ∑ k : Fin 512, x (ix2 k r) * y (ix2 k d) := by
  unfold add k0_pay2
  rw [shapeCast_self]
  show acc (ix2 r d) + FloatOps.matmul (Fox.tn 512 1024 2048) none x y
    (constant S1024x2048 .f32 0x00000000#32) (ix2 r d) = _
  rw [Fox.matmul_tn_apply]
  show acc (ix2 r d) + ((FloatOps.ofBits .f32 0x00000000#32 : Ideal .f32) + _) = _
  rw [Fox.zeroF]
  exact congrArg (acc (ix2 r d) + ·) (zero_add _)

section Cases
variable (c : Dev nD) (i : grid0.Coords) (a3 : Memref sig .tc .vmem S512x1024 .bf16) (h3 : a3.IsWhole)
  (a4 : Memref sig .tc .vmem S512x2048 .bf16) (h4 : a4.IsWhole) (a5 : Memref sig .tc .vmem S1024x2048 .bf16) (h5 : a5.IsWhole)
  (a6 : Memref sig .tc .vmem S1024x2048 .f32) (h6 : a6.IsWhole)
  (x : Vec Ideal S512x1024 .bf16) (y : Vec Ideal S512x2048 .bf16) (acc : Vec Ideal S1024x2048 .f32)

theorem left_A (hc : cond0_0 i) (hd : ¬cond0_1 i) :
    sout0_A_0 c i a3 h3 a4 h4 a5 h5 a6 h6 hc hd x y = add (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x2048) hz, View.readCov_unit_zero (S := S1024x2048) _ hz]
  unfold add
  simp only [View.readAt_eq_ld, h3.read_unread, h4.read_unread, View.ld_unit_zero (S := S512x1024) hz,
    View.ld_unit_zero (S := S512x2048) hz]

theorem left_B (hc : ¬cond0_0 i) (hd : ¬cond0_1 i) :
    sout0_B_0 c i a3 h3 a4 h4 a5 h5 a6 h6 hc hd x y acc = add acc x y := by
  unfold sout0_B_0
  rw [View.read_writes_eq_canon _ _ _ (scover0_B_0 c i a3 h3 a4 h4 a5 h5 a6 h6 hc hd x y acc)]
  unfold kernelRun0_B
  dsimp only
  rw [View.canon_unit_zero hz]
  unfold add
  simp only [View.readAt_eq_ld, h3.read_unread, h4.read_unread, h6.read_unread, View.ld_unit_zero (S := S512x1024) hz,
    View.ld_unit_zero (S := S512x2048) hz, View.ld_unit_zero (S := S1024x2048) hz]

theorem left_C (hc : ¬cond0_0 i) (hd : cond0_1 i) :
    sout0_C_0 c i a3 h3 a4 h4 a5 h5 a6 h6 hc hd x y acc = add acc x y := by
  unfold sout0_C_0
  rw [View.read_writes_eq_canon _ _ _ (scover0_C_0 c i a3 h3 a4 h4 a5 h5 a6 h6 hc hd x y acc)]
  unfold kernelRun0_C
  dsimp only
  sl_unfold_words
  rw [View.canon_unit_zero hz]
  unfold add
  simp only [View.readAt_eq_ld, h3.read_unread, h4.read_unread, h6.read_unread, View.ld_unit_zero (S := S512x1024) hz,
    View.ld_unit_zero (S := S512x2048) hz, View.ld_unit_zero (S := S1024x2048) hz]

theorem out_C (hc : ¬cond0_0 i) (hd : cond0_1 i) :
    out0_C_2 c i a3 h3 a4 h4 a5 h5 a6 h6 hc hd x y acc = k0_pay3 (F := Ideal) (add acc x y) := by
  unfold out0_C_2
  rw [View.read_writes_eq_canon _ _ _ (cover0_C_2 c i a3 h3 a4 h4 a5 h5 a6 h6 hc hd x y acc)]
  unfold kernelRun0_C
  dsimp only
  sl_unfold_words
  rw [View.canon_unit_zero hz, View.readCov_unit_zero (S := S1024x2048) _ hz]
  unfold add
  simp only [View.readAt_eq_ld, h3.read_unread, h4.read_unread, h6.read_unread, View.ld_unit_zero (S := S512x1024) hz,
    View.ld_unit_zero (S := S512x2048) hz, View.ld_unit_zero (S := S1024x2048) hz]

end Cases

theorem blocks : ∀ t : Fin cfg0.N, (win0_0.index t (0 : Fin 2) = t.val % 17 ∧ win0_0.index t (1 : Fin 2) = 0)
    ∧ (win0_1.index t (0 : Fin 2) = t.val % 17 ∧ win0_1.index t (1 : Fin 2) = 0) :=
  (by decide +kernel : ∀ t : Fin grid0.N, _)

variable (m : (ℓ : Loc nD τ sig) → Buf (Elt Ideal) ℓ) (c : Dev nD)

/-- The normalised rows. -/
abbrev X : Fox.V 8704 1024 .bf16 := m ((c : Thread nD τ).loc main_arg0)
/-- The gradient of one half of the projection's columns. -/
abbrev Y : Fox.V 8704 2048 .bf16 := m ((c : Thread nD τ).loc main_arg1)

theorem blk_x (t : Fin cfg0.N) (k : Fin 512) (r : Fin 1024) :
    (iblk m c 0 t : Fox.V 512 1024 .bf16) (ix2 k r) = tot (X m c) (512 * (t.val % 17) + k) r := by
  obtain ⟨⟨e0, e1⟩, -⟩ := blocks t
  have ht : t.val < 17 := t.isLt
  rw [tot_of _ (by omega) (by omega)]
  show Gen.V m c main_arg0 (((cfg0.win 0).blk t).view.emb (ix2 k r)) = _
  rw [V_main_arg0]
  refine congrArg (m ((c : Thread nD τ).loc main_arg0)) (funext fun a => Fin.ext ?_)
  match a with
  | ⟨0, _⟩ => show win0_0.index t (0 : Fin 2) * 512 + 1 * k.val = 512 * (t.val % 17) + k.val; omega
  | ⟨1, _⟩ => show win0_0.index t (1 : Fin 2) * 1024 + 1 * r.val = r.val; omega

theorem blk_y (t : Fin cfg0.N) (k : Fin 512) (d : Fin 2048) :
    (iblk m c 1 t : Fox.V 512 2048 .bf16) (ix2 k d) = tot (Y m c) (512 * (t.val % 17) + k) d := by
  obtain ⟨-, ⟨e0, e1⟩⟩ := blocks t
  have ht : t.val < 17 := t.isLt
  rw [tot_of _ (by omega) (by omega)]
  show Gen.V m c main_arg1 (((cfg0.win 1).blk t).view.emb (ix2 k d)) = _
  rw [V_main_arg1]
  refine congrArg (m ((c : Thread nD τ).loc main_arg1)) (funext fun a => Fin.ext ?_)
  match a with
  | ⟨0, _⟩ => show win0_1.index t (0 : Fin 2) * 512 + 1 * k.val = 512 * (t.val % 17) + k.val; omega
  | ⟨1, _⟩ => show win0_1.index t (1 : Fin 2) * 2048 + 1 * d.val = d.val; omega

/-- The sum over the first `n` rows. -/
def part (r d n : ℕ) : EReal := ∑ k ∈ Finset.range n, tot (X m c) k r * tot (Y m c) k d

theorem step (t : Fin cfg0.N) (acc : Fox.V 1024 2048 .f32) (r : Fin 1024) (d : Fin 2048)
    (h : acc (ix2 r d) = part m c r d (512 * (t.val % 17))) :
    add acc (iblk m c 0 t) (iblk m c 1 t) (ix2 r d) = part m c r d (512 * (t.val % 17 + 1)) := by
  rw [add_apply, h, Nat.mul_succ]
  unfold part
  rw [← sum_more]
  exact congrArg _ (sum_range_of fun k => by rw [blk_x, blk_y])

theorem zero_apply (r : Fin 1024) (d : Fin 2048) : (k0_pay1 (F := Ideal) : Fox.V 1024 2048 .f32) (ix2 r d) = 0 := by
  unfold k0_pay1
  rw [shapeCast_self]
  exact Fox.zeroF

/-- The accumulator after step `t`: the sum over the rows of the blocks read so far. -/
theorem held (r : Fin 1024) (d : Fin 2048) : ∀ (n : ℕ) (h : n < cfg0.N),
    (outsAt0 m c n h).2 (ix2 r d) = part m c r d (512 * (n % 17 + 1))
  | n, h => by
    by_cases h0 : n % 17 = 0
    · have h1 : ¬n % 17 = 16 := by omega
      rw [outsAt0_A m c ⟨n, h⟩ h0 h1]
      dsimp only
      rw [left_A]
      refine step m c ⟨n, h⟩ _ r d ?_
      rw [zero_apply]
      show 0 = part m c r d (512 * (n % 17))
      rw [h0]; simp [part]
    · have hp : n - 1 < cfg0.N := by omega
      have e := held r d (n - 1) hp
      rw [show (n - 1) % 17 + 1 = n % 17 by omega] at e
      by_cases h1 : n % 17 = 16
      · rw [outsAt0_C m c ⟨n, h⟩ h0 h1]
        dsimp only
        rw [left_C]
        exact step m c ⟨n, h⟩ _ r d e
      · rw [outsAt0_B m c ⟨n, h⟩ h0 h1]
        dsimp only
        rw [left_B]
        exact step m c ⟨n, h⟩ _ r d e
  termination_by n => n
  decreasing_by omega

/-- The block written back: the whole sum. -/
theorem last (t : Fin cfg0.N) (h1 : t.val % 17 = 16) (r : Fin 1024) (d : Fin 2048) :
    (outsAt0 m c t.val t.isLt).1 (ix2 r d) = part m c r d 8704 := by
  have h0 : ¬t.val % 17 = 0 := by omega
  rw [outsAt0_C m c t h0 h1]
  dsimp only
  rw [out_C]
  unfold k0_pay3
  show add _ _ _ (ix2 r d) * (FloatOps.ofBits .f32 0x3F800000#32 : Ideal .f32) = _
  rw [Fox.oneF, mul_one]
  refine (step m c t _ r d ?_).trans (by rw [h1])
  have hp : t.val - 1 < cfg0.N := by have := t.isLt; omega
  have e := held m c r d (t.val - 1) hp
  rwa [show (t.val - 1) % 17 + 1 = t.val % 17 by omega] at e

/-- The array after the run. -/
def result : Fox.V 1024 2048 .bf16 := fun i => part m c (i 0).val (i 1).val 8704

theorem final : (G2 m c : Fox.V 1024 2048 .bf16) = result m c := by
  funext y
  obtain ⟨r, d, rfl⟩ : ∃ r d, y = ix2 r d := ⟨_, _, eq_ix2 y⟩
  have hr := r.isLt
  have hd := d.isLt
  have hp : pt2Of (ix2 r d) = 16 := by
    show 17 * (1 * (r.val / 1024 - 0) + 1 * (d.val / 2048 - 0)) + 16 = _
    omega
  have hN : cfg0.N = 17 := N_0
  have hlt : pt2Of (ix2 r d) < cfg0.N := by rw [hp]; omega
  unfold G2
  rw [dif_pos hlt, ← outsAt0_sweep m c _ hlt]
  have e := last m c ⟨_, hlt⟩ (by show pt2Of (ix2 r d) % 17 = 16; omega) ⟨r.val % 1024, Nat.mod_lt _ (by decide)⟩
    ⟨d.val % 2048, Nat.mod_lt _ (by decide)⟩
  have hl : loc2Of (ix2 r d) = ix2 (⟨r.val % 1024, Nat.mod_lt _ (by decide)⟩ : Fin 1024) (⟨d.val % 2048, Nat.mod_lt _ (by decide)⟩ : Fin 2048) := by
    funext a; apply Fin.ext
    match a with
    | ⟨0, _⟩ => rfl
    | ⟨1, _⟩ => rfl
  rw [hl]
  refine e.trans ?_
  show part m c (r.val % 1024) (d.val % 2048) 8704 = part m c r.val d.val 8704
  rw [show r.val % 1024 = r.val by omega, show d.val % 2048 = d.val by omega]

/-! ## The reference -/

open Cert.Reference8Ideal.Read in
theorem plain : val_main_v6 (F := Ideal) (X m c) (Y m c) = result m c := by
  funext y
  obtain ⟨r, d, rfl⟩ : ∃ r d, y = ix2 r d := ⟨_, _, eq_ix2 y⟩
  rw [val_main_v6_apply, val_main_v5_apply]
  show (val_main_v4 (F := Ideal) (X m c) (Y m c) _ : EReal) = _
  rw [val_main_v4_apply]
  show _ = part m c r.val d.val 8704
  unfold part
  refine sum_range_of fun k => ?_
  have e1 : ridx_main_v4 (idx_main_v5 (ix2 r d)) k = ix2 k r := by
    funext a; apply Fin.ext
    match a with
    | ⟨0, _⟩ => rfl
    | ⟨1, _⟩ => rfl
  have e2 : lidx_main_v4 (idx_main_v5 (ix2 r d)) k = ix2 k d := by
    funext a; apply Fin.ext
    match a with
    | ⟨0, _⟩ => rfl
    | ⟨1, _⟩ => rfl
  rw [e1, e2, tot_ix, tot_ix, val_main_v3_apply, val_main_v0_apply]
  exact mul_comm (Y m c (ix2 k d)) (X m c (ix2 k r))

end Ffn.In
-- ==== Proof.InRow.lean ====
module

public import proofs.«01_k».proof.Proof.BackReal

/-!
  The input projection's backward call, row by row: what one row of the activations and of the projection's gradients give,
  and that the chain rule's spelling of the activations' gradient is the call's, whatever the entries.
-/

@[expose] public section

set_option maxRecDepth 16384
set_option maxHeartbeats 400000

noncomputable section

namespace Ffn

open Idealize.ShloMosaic
open scoped BigOperators

/-- A sum times a nonnegative real number. -/
theorem sum_times {ι : Type*} (s : Finset ι) (f : ι → EReal) {i : ℝ} (hi : 0 ≤ i) :
    (∑ k ∈ s, f k) * (i : EReal) = ∑ k ∈ s, f k * (i : EReal) := by
  classical
  induction s using Finset.induction with
  | empty => simp
  | insert a s ha ih =>
    rw [Finset.sum_insert ha, Finset.sum_insert ha, ← ih,
      EReal.right_distrib_of_nonneg_of_ne_top (EReal.coe_nonneg.mpr hi) (EReal.coe_ne_top _)]

/-- The square of an extended real is not negative. -/
theorem square_nonneg (x : EReal) : 0 ≤ x * x := by
  induction x with
  | bot => simp
  | top => simp
  | coe r => exact_mod_cast mul_self_nonneg r

/-- The scale of a row of real numbers is not negative. -/
theorem scale_nonneg {x : Fin 1024 → EReal} {i : ℝ} (h : scale x = (i : EReal)) : 0 ≤ i := by
  have e : ∀ y : EReal, Ideal.rsqrt y = (i : EReal) → 0 ≤ i := by
    intro y hy
    induction y with
    | bot => exact absurd hy (EReal.bot_ne_coe i)
    | top => exact le_of_eq (EReal.coe_injective (by rw [← hy]; rfl))
    | coe r =>
      rw [Ideal.rsqrt_coe] at hy
      split_ifs at hy with h1 h2
      · exact absurd hy (EReal.bot_ne_coe i)
      · exact absurd hy (EReal.top_ne_coe i)
      · rw [← EReal.coe_injective hy]
        exact inv_nonneg.mpr (Real.sqrt_nonneg r)
  exact e _ h

/-- The mean square of a row with an infinite entry is infinite. -/
theorem mean_top {x : Fin 1024 → EReal} (h : ¬∀ k, IsReal (x k)) : (∑ k, x k * x k) * ((1 / 1024 : ℝ) : EReal) + eps = ⊤ := by
  obtain ⟨k, hk⟩ := not_forall.mp h
  have e : x k * x k = ⊤ := by
    generalize x k = y at hk
    induction y with
    | bot => rfl
    | top => rfl
    | coe r => exact absurd (IsReal.of_coe r) hk
  have s : ∑ k, x k * x k = ⊤ := top_unique (e ▸ Finset.single_le_sum (fun i _ => square_nonneg (x i)) (Finset.mem_univ k))
  obtain ⟨p, -, hp⟩ := eps_pos
  rw [s, EReal.top_mul_coe_of_pos (by norm_num), hp]
  rfl

/-- What a row's gradients depend on: the activations, the cotangent passed by, the norm's gains, and for each half of the
projection's columns the gradient and the weights. -/
structure Line where
  x : Fin 1024 → EReal
  o : Fin 1024 → EReal
  g : Fin 1024 → EReal
  lo : Fin 2048 → EReal
  hi : Fin 2048 → EReal
  A : Fin 1024 → Fin 2048 → EReal
  B : Fin 1024 → Fin 2048 → EReal

namespace Line
variable (r : Line)

/-- The row over its root mean square. -/
def xh (k : Fin 1024) : EReal := r.x k * scale r.x
/-- The gradient of the row the projection reads. -/
def du (k : Fin 1024) : EReal := lin r.lo (fun j k => r.A k j) k + lin r.hi (fun j k => r.B k j) k
/-- The gradient of the row over its root mean square. -/
def w (k : Fin 1024) : EReal := r.du k * r.g k
/-- The row's share of the gains' gradient. -/
def dn (k : Fin 1024) : EReal := r.du k * r.xh k
/-- The gradient of the activations. -/
def dh (d : Fin 1024) : EReal :=
  r.o d + scale r.x * (r.w d - r.xh d * ((∑ k, r.w k * r.xh k) * ((1 / 1024 : ℝ) : EReal)))

/-- What the mean square's gradient gives a row's entry, once for each of its two factors. -/
def q : EReal :=
  (∑ k, r.x k * r.w k)
    * (((-(1 / 2) : ℝ) : EReal) * Ideal.div (scale r.x) ((∑ k, r.x k * r.x k) * ((1 / 1024 : ℝ) : EReal) + eps))
    * ((1 / 1024 : ℝ) : EReal)

/-- The two spellings for a row of real numbers: `S` is the sum, `i` the scale, both gradients may be infinite. -/
theorem spell (w S : EReal) (x i p : ℝ) (h0 : 0 ≤ i) (hi : i * i = 1 / p) :
    (w * (i : EReal) + (x : EReal) * (S * (((-(1 / 2) : ℝ) : EReal) * ((i : EReal) * ((1 / p : ℝ) : EReal))) * ((1 / 1024 : ℝ) : EReal)))
        + S * (((-(1 / 2) : ℝ) : EReal) * ((i : EReal) * ((1 / p : ℝ) : EReal))) * ((1 / 1024 : ℝ) : EReal) * (x : EReal)
      = (i : EReal) * (w - (x : EReal) * (i : EReal) * (S * (i : EReal) * ((1 / 1024 : ℝ) : EReal))) := by
  have two : ∀ y : EReal, y + y = y * ((2 : ℝ) : EReal) := fun y => by
    rw [show ((2 : ℝ) : EReal) = 1 + 1 by rw [← EReal.coe_one, ← EReal.coe_add]; norm_num,
      EReal.left_distrib_of_nonneg zero_le_one zero_le_one, mul_one]
  have e1 : (x : EReal) * (S * (((-(1 / 2) : ℝ) : EReal) * ((i : EReal) * ((1 / p : ℝ) : EReal))) * ((1 / 1024 : ℝ) : EReal))
      = S * ((x * (-(1 / 2) * (i * (1 / p))) * (1 / 1024) : ℝ) : EReal) := by
    rw [EReal.coe_mul, EReal.coe_mul, EReal.coe_mul, EReal.coe_mul]
    ac_rfl
  have e2 : (i : EReal) * ((x : EReal) * (i : EReal) * (S * (i : EReal) * ((1 / 1024 : ℝ) : EReal)))
      = S * ((x * (i * i) * i * (1 / 1024) : ℝ) : EReal) := by
    rw [EReal.coe_mul, EReal.coe_mul, EReal.coe_mul, EReal.coe_mul]
    ac_rfl
  rw [mul_comm _ (x : EReal), e1, add_assoc, two, mul_assoc, ← EReal.coe_mul, sub_eq_add_neg,
    EReal.left_distrib_of_nonneg_of_ne_top (EReal.coe_nonneg.mpr h0) (EReal.coe_ne_top _), mul_neg, e2, ← mul_neg, ← EReal.coe_neg,
    mul_comm w, hi]
  congr 3
  ring

/-- The activations' gradient as the product rule gives it. -/
theorem dh_chain (d : Fin 1024) :
    r.o d + ((r.w d * scale r.x + r.x d * r.q) + r.q * r.x d) = r.dh d := by
  unfold dh
  refine congrArg (r.o d + ·) ?_
  by_cases H : ∀ k, IsReal (r.x k)
  · obtain ⟨i, p, hp, hi, E, hs⟩ := scale_real H
    have h0 := scale_nonneg hs
    obtain ⟨x, hx⟩ := H d
    have e : ∑ k, r.w k * r.xh k = (∑ k, r.x k * r.w k) * (i : EReal) := by
      rw [sum_times _ _ h0]
      refine Finset.sum_congr rfl fun k _ => ?_
      unfold xh
      rw [hs]
      ac_rfl
    unfold q
    rw [e, E, Ideal.div_coe hp]
    unfold xh
    rw [hs, hx]
    exact spell (r.w d) _ x i p h0 hi
  · have E := mean_top H
    have hs : scale r.x = 0 := by
      unfold scale
      rw [E]
      rfl
    have hq : r.q = 0 := by
      unfold q
      rw [hs, E]
      unfold Ideal.div
      rw [if_neg (by simp), zero_mul, mul_zero, mul_zero, zero_mul]
    rw [hs, hq]
    simp

end Line

end Ffn
-- ==== Proof.InBack.lean ====
module

public import proofs.«01_k».proof.Proof.InRow
public import proofs.«01_k».proof.Proof.BackPlain
public import proofs.«01_k».proof.Proof.Gen.Kernel9Ideal.Value
public import proofs.«01_k».proof.Proof.Gen.Reference9Ideal.Read

/-!
  The input projection's backward call: what each step stores, the arrays after the last step, and the derivative of the
  projection, stage by stage, equal to them.
-/

@[expose] public section

set_option maxRecDepth 16384
set_option maxHeartbeats 400000

noncomputable section

namespace Ffn.InBwd

open Cert.Kernel9Ideal Cert.Kernel9Ideal.Gen Cert.Kernel9Ideal.Value Idealize.ShloMosaic Idealize.ShloMosaic.TcCoe
open Idealize.ShloMosaic.ValueIdx (ix1 ix2 eq_ix2)
open Ffn.Fwd (ext2)
open scoped BigOperators

section Block
variable (h o : Fox.V 512 1024 .f32) (lo hi : Fox.V 512 2048 .bf16) (g : Fox.V 1 1024 .f32) (a b : Fox.V 1024 2048 .bf16)

/-- Row `i` of a block. -/
def lineOf (i : Fin 512) : Line where
  x k := h (ix2 i k)
  o k := o (ix2 i k)
  g k := g (ix2 0 k)
  lo j := lo (ix2 i j)
  hi j := hi (ix2 i j)
  A k j := a (ix2 k j)
  B k j := b (ix2 k j)

/-- The gradients of the rows the projection reads. -/
def duB : Fox.V 512 1024 .f32 := k0_pay5 (F := Ideal) lo a hi b
/-- The gains' gradient after the block. -/
def dnB (acc : Fox.V 1 1024 .f32) : Fox.V 1 1024 .f32 := k0_pay6 (F := Ideal) h lo a hi b acc
/-- The gradients of the activations stored. -/
def dhB : Fox.V 512 1024 .f32 :=
  k0_pay1 (F := Ideal) (k0_pay3 (F := Ideal) h) (k0_pay4 (F := Ideal) h) (duB lo hi a b) o (k0_pay7 (F := Ideal) g)

theorem duB_apply (i : Fin 512) (k : Fin 1024) : duB lo hi a b (ix2 i k) = (lineOf h o lo hi g a b i).du k := by
  show backV lo a (ix2 i k) + backV hi b (ix2 i k) = _
  rw [backV_apply, backV_apply]
  rfl

theorem dnB_apply (acc : Fox.V 1 1024 .f32) (k : Fin 1024) :
    dnB h lo hi a b acc (ix2 0 k) = acc (ix2 0 k) + ∑ i, (lineOf h o lo hi g a b i).dn k := by
  show shapeCast (Fox.S2 1 1024) acc _ (ix2 0 k) + shapeCast (Fox.S2 1 1024) (multiReduction .add [0] (Fox.S1 1024)
    (mulf (duB lo hi a b) (overV h)) 0x00000000#32 (Fox.redCol 512 1024) Fox.fmtF Fox.accAdd) (Fox.scRow 1024) (ix2 0 k) = _
  rw [shapeCast_self, Fox.row_apply, Fox.colAdd_apply]
  refine congrArg (acc (ix2 0 k) + ·) (Finset.sum_congr rfl fun i _ => ?_)
  show duB lo hi a b (ix2 i k) * overV h (ix2 i k) = _
  rw [duB_apply h o lo hi g a b, overV_apply]
  rfl

theorem dhB_apply (i : Fin 512) (d : Fin 1024) : dhB h o lo hi g a b (ix2 i d) = (lineOf h o lo hi g a b i).dh d := by
  show o (ix2 i d) + broadcastTo (Fox.S2 512 1024) (scaleV h) (Fox.bcCol 512 1024) (ix2 i d)
    * (duB lo hi a b (ix2 i d) * broadcastTo (Fox.S2 512 1024) g (Fox.bcRow 512 1024) (ix2 i d)
      - overV h (ix2 i d) * broadcastTo (Fox.S2 512 1024) (mulf (shapeCast (Fox.S2 512 1) (multiReduction .add [1] (Fox.S1 512)
        (mulf (mulf (duB lo hi a b) (broadcastTo (Fox.S2 512 1024) g (Fox.bcRow 512 1024))) (overV h)) 0x00000000#32
        (Fox.redRow 512 1024) Fox.fmtF Fox.accAdd) (Fox.scCol 512))
        (broadcast (Fox.S2 512 1) (Scalar.ofBits .f32 0x3A800000#32 : Ideal .f32))) (Fox.bcCol 512 1024) (ix2 i d)) = _
  rw [Fox.bcCol_apply, Fox.bcCol_apply, Fox.bcRow_apply, scaleV_apply, overV_apply, duB_apply h o lo hi g a b]
  show _ + _ * (_ - _ * (shapeCast (Fox.S2 512 1) _ (Fox.scCol 512) (ix2 i 0) * (FloatOps.ofBits .f32 0x3A800000#32 : Ideal .f32))) = _
  rw [sumCol_apply, thousandthF]
  have e' : ∀ k : Fin 1024, (mulf (mulf (duB lo hi a b) (broadcastTo (Fox.S2 512 1024) g (Fox.bcRow 512 1024))) (overV h) : Fox.V 512 1024 .f32) (ix2 i k)
      = (lineOf h o lo hi g a b i).w k * (lineOf h o lo hi g a b i).xh k := fun k => by
    show duB lo hi a b (ix2 i k) * broadcastTo (Fox.S2 512 1024) g (Fox.bcRow 512 1024) (ix2 i k) * overV h (ix2 i k) = _
    rw [duB_apply h o lo hi g a b, Fox.bcRow_apply, overV_apply]
    rfl
  simp only [e']
  rfl

end Block

section Cases
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x2048 .bf16) (h3 : a3.IsWhole)
  (a4 : Memref sig .tc .vmem S512x2048 .bf16) (h4 : a4.IsWhole) (a5 : Memref sig .tc .vmem S1x1024 .f32) (h5 : a5.IsWhole)
  (a6 : Memref sig .tc .vmem S1024x2048 .bf16) (h6 : a6.IsWhole) (a7 : Memref sig .tc .vmem S1024x2048 .bf16) (h7 : a7.IsWhole)
  (a8 : Memref sig .tc .vmem S512x1024 .f32) (h8 : a8.IsWhole) (a9 : Memref sig .tc .vmem S1x1024 .f32) (h9 : a9.IsWhole)
  (x0 x1 : Vec Ideal S512x1024 .f32) (x2 x3 : Vec Ideal S512x2048 .bf16) (x4 : Vec Ideal S1x1024 .f32)
  (x5 x6 : Vec Ideal S1024x2048 .bf16) (acc : Vec Ideal S1x1024 .f32)

theorem out_A_7 (hc : cond0_0 i) :
    out0_A_7 c i a1 h1 a2 h2 a3 h3 a4 h4 a5 h5 a6 h6 a7 h7 a8 h8 a9 h9 hc x0 x1 x2 x3 x4 x5 x6 = dhB x0 x1 x2 x3 x4 x5 x6 := by
  unfold out0_A_7
  rw [View.read_writes_eq_canon _ _ _ (cover0_A_7 c i a1 h1 a2 h2 a3 h3 a4 h4 a5 h5 a6 h6 a7 h7 a8 h8 a9 h9 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h9.read_unread, View.ld_unit_zero (S := S512x1024) hz, View.ld_unit_zero (S := S1x1024) hz,
    View.ld_unit_zero (S := S512x2048) hz, View.ld_unit_zero (S := S1024x2048) hz]
  rfl

theorem out_A_8 (hc : cond0_0 i) :
    out0_A_8 c i a1 h1 a2 h2 a3 h3 a4 h4 a5 h5 a6 h6 a7 h7 a8 h8 a9 h9 hc x0 x1 x2 x3 x4 x5 x6 = dnB x0 x2 x3 x5 x6 (k0_pay2 (F := Ideal)) := by
  unfold out0_A_8
  rw [View.read_writes_eq_canon _ _ _ (cover0_A_8 c i a1 h1 a2 h2 a3 h3 a4 h4 a5 h5 a6 h6 a7 h7 a8 h8 a9 h9 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread,
    h7.read_unread, h9.read_unread, View.ld_unit_zero (S := S512x1024) hz, View.ld_unit_zero (S := S1x1024) hz,
    View.ld_unit_zero (S := S512x2048) hz, View.ld_unit_zero (S := S1024x2048) hz]
  rfl

theorem out_B_7 (hc : ¬cond0_0 i) :
    out0_B_7 c i a1 h1 a2 h2 a3 h3 a4 h4 a5 h5 a6 h6 a7 h7 a8 h8 a9 h9 hc x0 x1 x2 x3 x4 x5 x6 acc = dhB x0 x1 x2 x3 x4 x5 x6 := by
  unfold out0_B_7
  rw [View.read_writes_eq_canon _ _ _ (cover0_B_7 c i a1 h1 a2 h2 a3 h3 a4 h4 a5 h5 a6 h6 a7 h7 a8 h8 a9 h9 hc x0 x1 x2 x3 x4 x5 x6 acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h9.read_unread, View.ld_unit_zero (S := S512x1024) hz, View.ld_unit_zero (S := S1x1024) hz,
    View.ld_unit_zero (S := S512x2048) hz, View.ld_unit_zero (S := S1024x2048) hz]
  rfl

theorem out_B_8 (hc : ¬cond0_0 i) :
    out0_B_8 c i a1 h1 a2 h2 a3 h3 a4 h4 a5 h5 a6 h6 a7 h7 a8 h8 a9 h9 hc x0 x1 x2 x3 x4 x5 x6 acc = dnB x0 x2 x3 x5 x6 acc := by
  unfold out0_B_8
  rw [View.read_writes_eq_canon _ _ _ (cover0_B_8 c i a1 h1 a2 h2 a3 h3 a4 h4 a5 h5 a6 h6 a7 h7 a8 h8 a9 h9 hc x0 x1 x2 x3 x4 x5 x6 acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h9.read_unread, View.ld_unit_zero (S := S512x1024) hz, View.ld_unit_zero (S := S1x1024) hz,
    View.ld_unit_zero (S := S512x2048) hz, View.ld_unit_zero (S := S1024x2048) hz]
  rfl

end Cases

theorem blocks : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 1) :=
  (by decide +kernel : ∀ t : Fin grid0.N, _)

theorem moves : ∀ t : Fin cfg0.N, (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

theorem writes : ∀ t : Fin cfg0.N, (cfg0.win 7).flush t = true ∧ ((cfg0.win 8).flush t = true ↔ t.val = 16) :=
  (by decide +kernel : ∀ t : Fin grid0.N, _)

/-- Row `i` of the arguments. -/
def lineR (x o : Fox.V 8704 1024 .f32) (lo hi : Fox.V 8704 2048 .bf16) (g : Fox.V 1 1024 .f32) (w : Fox.V 1024 4096 .bf16) (i : Fin 8704) : Line where
  x k := x (ix2 i k)
  o k := o (ix2 i k)
  g k := g (ix2 0 k)
  lo j := lo (ix2 i j)
  hi j := hi (ix2 i j)
  A k j := w (ix2 k ⟨j.val, by omega⟩)
  B k j := w (ix2 k ⟨2048 + j.val, by omega⟩)

section Arrays
variable (m : (ℓ : Loc nD τ sig) → Buf (Elt Ideal) ℓ) (c : Dev nD)

/-- The activations entering the projection. -/
abbrev X : Fox.V 8704 1024 .f32 := m ((c : Thread nD τ).loc main_arg0)
/-- The cotangent passed by. -/
abbrev O : Fox.V 8704 1024 .f32 := m ((c : Thread nD τ).loc main_arg1)
/-- The gradient of the first half of the projection's columns. -/
abbrev L : Fox.V 8704 2048 .bf16 := m ((c : Thread nD τ).loc main_arg2)
/-- The gradient of the second half of the projection's columns. -/
abbrev H : Fox.V 8704 2048 .bf16 := m ((c : Thread nD τ).loc main_arg3)
/-- The norm's gains. -/
abbrev Y : Fox.V 1 1024 .f32 := m ((c : Thread nD τ).loc main_arg4)
/-- The projection's weights. -/
abbrev W : Fox.V 1024 4096 .bf16 := m ((c : Thread nD τ).loc main_arg5)

/-- Row `i` of the arguments. -/
def rows (i : Fin 8704) : Line := lineR (X m c) (O m c) (L m c) (H m c) (Y m c) (W m c) i

theorem row_lt (t : Fin cfg0.N) (i : Fin 512) : 512 * t.val + i.val < 8704 := by
  have h : t.val < 17 := t.isLt
  omega

theorem blk_x (t : Fin cfg0.N) (i : Fin 512) (k : Fin 1024) :
    (iblk m c 0 t : Fox.V 512 1024 .f32) (ix2 i k) = X m c (ix2 ⟨512 * t.val + i.val, row_lt t i⟩ k) := by
  obtain ⟨⟨e0, e1⟩, -⟩ := blocks t
  show Gen.V m c main_arg0 (((cfg0.win 0).blk t).view.emb (ix2 i k)) = _
  rw [V_main_arg0]
  refine congrArg (m ((c : Thread nD τ).loc main_arg0)) (funext fun a => Fin.ext ?_)
  match a with
  | ⟨0, _⟩ => show win0_0.index t (0 : Fin 2) * 512 + 1 * i.val = 512 * t.val + i.val; omega
  | ⟨1, _⟩ => show win0_0.index t (1 : Fin 2) * 1024 + 1 * k.val = k.val; omega

theorem blk_o (t : Fin cfg0.N) (i : Fin 512) (k : Fin 1024) :
    (iblk m c 1 t : Fox.V 512 1024 .f32) (ix2 i k) = O m c (ix2 ⟨512 * t.val + i.val, row_lt t i⟩ k) := by
  obtain ⟨-, ⟨e0, e1⟩, -⟩ := blocks t
  show Gen.V m c main_arg1 (((cfg0.win 1).blk t).view.emb (ix2 i k)) = _
  rw [V_main_arg1]
  refine congrArg (m ((c : Thread nD τ).loc main_arg1)) (funext fun a => Fin.ext ?_)
  match a with
  | ⟨0, _⟩ => show win0_1.index t (0 : Fin 2) * 512 + 1 * i.val = 512 * t.val + i.val; omega
  | ⟨1, _⟩ => show win0_1.index t (1 : Fin 2) * 1024 + 1 * k.val = k.val; omega

theorem blk_lo (t : Fin cfg0.N) (i : Fin 512) (k : Fin 2048) :
    (iblk m c 2 t : Fox.V 512 2048 .bf16) (ix2 i k) = L m c (ix2 ⟨512 * t.val + i.val, row_lt t i⟩ k) := by
  obtain ⟨-, -, ⟨e0, e1⟩, -⟩ := blocks t
  show Gen.V m c main_arg2 (((cfg0.win 2).blk t).view.emb (ix2 i k)) = _
  rw [V_main_arg2]
  refine congrArg (m ((c : Thread nD τ).loc main_arg2)) (funext fun a => Fin.ext ?_)
  match a with
  | ⟨0, _⟩ => show win0_2.index t (0 : Fin 2) * 512 + 1 * i.val = 512 * t.val + i.val; omega
  | ⟨1, _⟩ => show win0_2.index t (1 : Fin 2) * 2048 + 1 * k.val = k.val; omega

theorem blk_hi (t : Fin cfg0.N) (i : Fin 512) (k : Fin 2048) :
    (iblk m c 3 t : Fox.V 512 2048 .bf16) (ix2 i k) = H m c (ix2 ⟨512 * t.val + i.val, row_lt t i⟩ k) := by
  obtain ⟨-, -, -, ⟨e0, e1⟩, -⟩ := blocks t
  show Gen.V m c main_arg3 (((cfg0.win 3).blk t).view.emb (ix2 i k)) = _
  rw [V_main_arg3]
  refine congrArg (m ((c : Thread nD τ).loc main_arg3)) (funext fun a => Fin.ext ?_)
  match a with
  | ⟨0, _⟩ => show win0_3.index t (0 : Fin 2) * 512 + 1 * i.val = 512 * t.val + i.val; omega
  | ⟨1, _⟩ => show win0_3.index t (1 : Fin 2) * 2048 + 1 * k.val = k.val; omega

theorem blk_y (t : Fin cfg0.N) (k : Fin 1024) : (iblk m c 4 t : Fox.V 1 1024 .f32) (ix2 0 k) = Y m c (ix2 0 k) := by
  obtain ⟨-, -, -, -, ⟨e0, e1⟩, -⟩ := blocks t
  show Gen.V m c main_arg4 (((cfg0.win 4).blk t).view.emb (ix2 0 k)) = _
  rw [V_main_arg4]
  refine congrArg (m ((c : Thread nD τ).loc main_arg4)) (funext fun a => Fin.ext ?_)
  match a with
  | ⟨0, _⟩ => show win0_4.index t (0 : Fin 2) * 1 + 1 * 0 = 0; omega
  | ⟨1, _⟩ => show win0_4.index t (1 : Fin 2) * 1024 + 1 * k.val = k.val; omega

theorem blk_a (t : Fin cfg0.N) (k : Fin 1024) (j : Fin 2048) :
    (iblk m c 5 t : Fox.V 1024 2048 .bf16) (ix2 k j) = W m c (ix2 k ⟨j.val, by omega⟩) := by
  obtain ⟨-, -, -, -, -, ⟨e0, e1⟩, -⟩ := blocks t
  show Gen.V m c main_arg5 (((cfg0.win 5).blk t).view.emb (ix2 k j)) = _
  rw [V_main_arg5]
  refine congrArg (m ((c : Thread nD τ).loc main_arg5)) (funext fun a => Fin.ext ?_)
  match a with
  | ⟨0, _⟩ => show win0_5.index t (0 : Fin 2) * 1024 + 1 * k.val = k.val; omega
  | ⟨1, _⟩ => show win0_5.index t (1 : Fin 2) * 2048 + 1 * j.val = j.val; omega

theorem blk_b (t : Fin cfg0.N) (k : Fin 1024) (j : Fin 2048) :
    (iblk m c 6 t : Fox.V 1024 2048 .bf16) (ix2 k j) = W m c (ix2 k ⟨2048 + j.val, by omega⟩) := by
  obtain ⟨-, -, -, -, -, -, ⟨e0, e1⟩⟩ := blocks t
  show Gen.V m c main_arg5 (((cfg0.win 6).blk t).view.emb (ix2 k j)) = _
  rw [V_main_arg5]
  refine congrArg (m ((c : Thread nD τ).loc main_arg5)) (funext fun a => Fin.ext ?_)
  match a with
  | ⟨0, _⟩ => show win0_6.index t (0 : Fin 2) * 1024 + 1 * k.val = k.val; omega
  | ⟨1, _⟩ => show win0_6.index t (1 : Fin 2) * 2048 + 1 * j.val = 2048 + j.val; omega

/-- The rows of a step's blocks are rows of the arguments. -/
theorem row_blk (t : Fin cfg0.N) (i : Fin 512) :
    lineOf (iblk m c 0 t) (iblk m c 1 t) (iblk m c 2 t) (iblk m c 3 t) (iblk m c 4 t) (iblk m c 5 t) (iblk m c 6 t) i
      = rows m c ⟨512 * t.val + i.val, row_lt t i⟩ := by
  unfold lineOf rows lineR
  simp only [blk_x, blk_o, blk_lo, blk_hi, blk_y, blk_a, blk_b]

/-- What a step stores. -/
theorem stores (t : Fin cfg0.N) : (outsAt0 m c t.val t.isLt).1
    = dhB (iblk m c 0 t) (iblk m c 1 t) (iblk m c 2 t) (iblk m c 3 t) (iblk m c 4 t) (iblk m c 5 t) (iblk m c 6 t) := by
  by_cases h0 : t.val % 17 = 0
  · rw [outsAt0_A m c t h0]
    dsimp only
    rw [out_A_7]
  · rw [outsAt0_B m c t h0]
    dsimp only
    rw [out_B_7]

theorem emb_dh (t : Fin cfg0.N) (i : Fin 512) (d : Fin 1024) :
    (((cfg0.win 7).blk t).view.emb (ix2 i d) : (Fox.S2 8704 1024).Idx) = ix2 ⟨512 * t.val + i.val, row_lt t i⟩ d := by
  obtain ⟨⟨e0, e1⟩, -⟩ := moves t
  funext a; apply Fin.ext
  match a with
  | ⟨0, _⟩ => show win0_7.index t (0 : Fin 2) * 512 + 1 * i.val = 512 * t.val + i.val; omega
  | ⟨1, _⟩ => show win0_7.index t (1 : Fin 2) * 1024 + 1 * d.val = d.val; omega

/-- The gradient of the activations. -/
def dh : Fox.V 8704 1024 .f32 := fun y =>
  (rows m c (y 0)).dh (y 1)

theorem final_dh : ((dats m 0 c).arrAt 7 cfg0.N : Fox.V 8704 1024 .f32) = dh m c := by
  refine (dats m 0 c).arrAt_eq_of_cover 7 (dh m c) (fun t _ => ?_) fun y => ?_
  · refine (flushed7 m c t).trans (funext fun j => ?_)
    obtain ⟨i, d, rfl⟩ : ∃ (i : Fin 512) (d : Fin 1024), j = ix2 i d := ⟨_, _, eq_ix2 j⟩
    show (outsAt0 m c t.val t.isLt).1 (ix2 i d) = dh m c (((cfg0.win 7).blk t).view.emb (ix2 i d))
    rw [emb_dh, stores]
    refine (dhB_apply _ _ _ _ _ _ _ i d).trans ?_
    rw [row_blk]
    rfl
  · obtain ⟨r, d, rfl⟩ : ∃ (r : Fin 8704) (d : Fin 1024), y = ix2 r d := ⟨_, _, eq_ix2 y⟩
    have hN : cfg0.N = 17 := N_0
    have hr := r.isLt
    refine ⟨⟨r.val / 512, by omega⟩, (writes _).1, ?_⟩
    have h := ((cfg0.win 7).blk (⟨r.val / 512, by omega⟩ : Fin cfg0.N)).view.emb_mem_set
      (ix2 (⟨r.val % 512, Nat.mod_lt _ (by decide)⟩ : Fin 512) d)
    rw [emb_dh] at h
    have e : (⟨512 * (r.val / 512) + r.val % 512, by omega⟩ : Fin 8704) = r := Fin.ext (by show 512 * (r.val / 512) + r.val % 512 = r.val; omega)
    rwa [e] at h

/-- A row's share of the gains' gradient, zero past the last row. -/
def share (k : Fin 1024) (i : ℕ) : EReal := if h : i < 8704 then (rows m c ⟨i, h⟩).dn k else 0

theorem share_of (k : Fin 1024) {i : ℕ} (h : i < 8704) : share m c k i = (rows m c ⟨i, h⟩).dn k := dif_pos h

theorem step (t : Fin cfg0.N) (acc : Fox.V 1 1024 .f32) (k : Fin 1024)
    (h : acc (ix2 0 k) = ∑ i ∈ Finset.range (512 * t.val), share m c k i) :
    dnB (iblk m c 0 t) (iblk m c 2 t) (iblk m c 3 t) (iblk m c 5 t) (iblk m c 6 t) acc (ix2 0 k)
      = ∑ i ∈ Finset.range (512 * (t.val + 1)), share m c k i := by
  rw [dnB_apply _ (iblk m c 1 t) _ _ (iblk m c 4 t), h, Nat.mul_succ, ← sum_more]
  refine congrArg _ (sum_range_of fun i => ?_)
  rw [row_blk, share_of]

/-- The gains' gradient after a step: the sum over the rows read so far. -/
theorem held (k : Fin 1024) : ∀ (n : ℕ) (h : n < cfg0.N),
    (outsAt0 m c n h).2 (ix2 0 k) = ∑ i ∈ Finset.range (512 * (n + 1)), share m c k i
  | n, h => by
    have hN : cfg0.N = 17 := N_0
    by_cases h0 : n % 17 = 0
    · have e : n = 0 := by omega
      rw [outsAt0_A m c ⟨n, h⟩ h0]
      dsimp only
      rw [out_A_8]
      refine step m c ⟨n, h⟩ _ k ?_
      show (FloatOps.ofBits .f32 0x00000000#32 : Ideal .f32) = _
      rw [Fox.zeroF]
      subst e
      simp
    · have hp : n - 1 < cfg0.N := by omega
      have e := held k (n - 1) hp
      rw [show n - 1 + 1 = n by omega] at e
      rw [outsAt0_B m c ⟨n, h⟩ h0]
      dsimp only
      rw [out_B_8]
      exact step m c ⟨n, h⟩ _ k e
  termination_by n => n
  decreasing_by omega

theorem emb_dn (t : Fin cfg0.N) (i : Fin 1) (d : Fin 1024) :
    (((cfg0.win 8).blk t).view.emb (ix2 i d) : (Fox.S2 1 1024).Idx) = ix2 i d := by
  obtain ⟨-, ⟨e0, e1⟩⟩ := moves t
  funext a; apply Fin.ext
  match a with
  | ⟨0, _⟩ => show win0_8.index t (0 : Fin 2) * 1 + 1 * i.val = i.val; omega
  | ⟨1, _⟩ => show win0_8.index t (1 : Fin 2) * 1024 + 1 * d.val = d.val; omega

/-- The gradient of the norm's gains. -/
def dn : Fox.V 1 1024 .f32 := fun y => ∑ i : Fin 8704, (rows m c i).dn (y 1)

theorem final_dn : ((dats m 0 c).arrAt 8 cfg0.N : Fox.V 1 1024 .f32) = dn m c := by
  have hN : cfg0.N = 17 := N_0
  refine (dats m 0 c).arrAt_eq_of_cover 8 (dn m c) (fun t hf => ?_) fun y => ?_
  · have ht : t.val = 16 := (writes t).2.mp hf
    refine (flushed8 m c t).trans (funext fun j => ?_)
    obtain ⟨i, d, rfl⟩ : ∃ (i : Fin 1) (d : Fin 1024), j = ix2 i d := ⟨_, _, eq_ix2 j⟩
    obtain rfl : i = 0 := Subsingleton.elim _ _
    show (outsAt0 m c t.val t.isLt).2 (ix2 0 d) = dn m c (((cfg0.win 8).blk t).view.emb (ix2 0 d))
    rw [emb_dn, held, ht]
    exact (sum_range_of fun i => (share_of m c d i.isLt).symm).symm
  · obtain ⟨r, d, rfl⟩ : ∃ (r : Fin 1) (d : Fin 1024), y = ix2 r d := ⟨_, _, eq_ix2 y⟩
    refine ⟨⟨16, by omega⟩, (writes _).2.mpr rfl, ?_⟩
    have h := ((cfg0.win 8).blk (⟨16, by omega⟩ : Fin cfg0.N)).view.emb_mem_set (ix2 r d)
    rwa [emb_dn] at h

end Arrays

/-! ## The reference -/

section Reference
open Cert.Reference9Ideal.Read
variable (x o : Fox.V 8704 1024 .f32) (lo hi : Fox.V 8704 2048 .bf16) (g : Fox.V 1 1024 .f32) (w : Fox.V 1024 4096 .bf16)

theorem ref_mean (i : Fin 8704) (z : Fin 1) : (val_main_v7 (F := Ideal) x : Fox.V 8704 1 .f32) (ix2 i z)
    = (∑ k, x (ix2 i k) * x (ix2 i k)) * ((1 / 1024 : ℝ) : EReal) + eps := by
  rw [val_main_v7_apply, val_main_v5_apply, val_main_v3_apply, val_main_v4_apply, val_main_cst_0_apply, val_main_v6_apply,
    val_main_cst_1_apply, div_thousand, val_main_v2_apply, val_main_cst_apply]
  show (((FloatOps.ofBits .f32 0x00000000#32 : Ideal .f32) + ∑ k, _ : EReal) * _ + eps) = _
  rw [Fox.zeroF, zero_add]
  refine congrArg (fun s => s * _ + eps) (Finset.sum_congr rfl fun k _ => ?_)
  rw [val_main_v1_apply, show idx_main_v2 (idx_main_v3 (ix2 i z)) k = ix2 i k from ext2 rfl rfl]
  rfl

theorem ref_scale (i : Fin 8704) (z : Fin 1) : (val_main_v8 (F := Ideal) x : Fox.V 8704 1 .f32) (ix2 i z) = scale fun k => x (ix2 i k) := by
  rw [val_main_v8_apply, ref_mean]
  rfl

theorem ref_xh (i : Fin 8704) (k : Fin 1024) : (val_main_v13 (F := Ideal) x : Fox.V 8704 1024 .f32) (ix2 i k) = (lineR x o lo hi g w i).xh k := by
  rw [val_main_v13_apply, val_main_v12_apply, show idx_main_v12 (ix2 i k) = ix2 i 0 from ext2 rfl rfl, ref_scale]
  rfl

/-- A sum over the two halves of the projection's columns. -/
theorem sum_halves (f : Fin 4096 → EReal) :
    ∑ j, f j = (∑ j : Fin 2048, f ⟨j.val, by omega⟩) + ∑ j : Fin 2048, f ⟨2048 + j.val, by omega⟩ :=
  Fin.sum_univ_add (a := 2048) (b := 2048) f

theorem join_left (p q : Fox.V 8704 2048 .bf16)
    (h : Shape.Concatenates [Fox.S2 8704 2048, Fox.S2 8704 2048] (Fox.S2 8704 4096) (1 : Fin 2)) (i : Fin 8704) (j : Fin 2048) :
    concatenate (Fox.S2 8704 4096) (1 : Fin 2) [⟨Fox.S2 8704 2048, p⟩, ⟨Fox.S2 8704 2048, q⟩] h (ix2 i ⟨j.val, by omega⟩) = p (ix2 i j) := by
  refine concatenate_pair_apply_left (t := Fox.S2 8704 4096) (s₁ := Fox.S2 8704 2048) (s₂ := Fox.S2 8704 2048) (1 : Fin 2) p q h (ix2 i ⟨j.val, by omega⟩) rfl
    (ix2 i j) fun b => ?_
  match b with
  | ⟨0, _⟩ => rfl
  | ⟨1, _⟩ => rfl

theorem join_right (p q : Fox.V 8704 2048 .bf16)
    (h : Shape.Concatenates [Fox.S2 8704 2048, Fox.S2 8704 2048] (Fox.S2 8704 4096) (1 : Fin 2)) (i : Fin 8704) (j : Fin 2048) :
    concatenate (Fox.S2 8704 4096) (1 : Fin 2) [⟨Fox.S2 8704 2048, p⟩, ⟨Fox.S2 8704 2048, q⟩] h (ix2 i ⟨2048 + j.val, by omega⟩) = q (ix2 i j) := by
  refine concatenate_pair_apply_right (t := Fox.S2 8704 4096) (s₁ := Fox.S2 8704 2048) (s₂ := Fox.S2 8704 2048) (1 : Fin 2) p q h
    (ix2 i ⟨2048 + j.val, by omega⟩) rfl rfl (ix2 i j) (fun b hb => ?_) (by show j.val + 2048 = 2048 + j.val; omega)
  match b with
  | ⟨0, _⟩ => rfl
  | ⟨1, _⟩ => exact absurd rfl hb

theorem ref_lo (i : Fin 8704) (j : Fin 2048) :
    (val_main_v17 (F := Ideal) lo hi : Fox.V 8704 4096 .f32) (ix2 i ⟨j.val, by omega⟩) = lo (ix2 i j) := by
  exact join_left lo hi Cert.Reference9Ideal.Facts₀.concatenates_S8704x2048_S8704x2048_S8704x4096_d1 i j

theorem ref_hi (i : Fin 8704) (j : Fin 2048) :
    (val_main_v17 (F := Ideal) lo hi : Fox.V 8704 4096 .f32) (ix2 i ⟨2048 + j.val, by omega⟩) = hi (ix2 i j) := by
  exact join_right lo hi Cert.Reference9Ideal.Facts₀.concatenates_S8704x2048_S8704x2048_S8704x4096_d1 i j

theorem ref_du (i : Fin 8704) (k : Fin 1024) : (val_main_v19 (F := Ideal) lo hi w : Fox.V 8704 1024 .f32) (ix2 i k) = (lineR x o lo hi g w i).du k := by
  rw [val_main_v19_apply, sum_halves]
  unfold Line.du
  refine congrArg₂ (· + ·) (Finset.sum_congr rfl fun j _ => ?_) (Finset.sum_congr rfl fun j _ => ?_)
  · rw [show lidx_main_v19 (ix2 i k) ⟨j.val, by omega⟩ = ix2 i ⟨j.val, by omega⟩ from ext2 rfl rfl,
      show ridx_main_v19 (ix2 i k) ⟨j.val, by omega⟩ = ix2 k ⟨j.val, by omega⟩ from ext2 rfl rfl, ref_lo, val_main_v0_apply]
    rfl
  · rw [show lidx_main_v19 (ix2 i k) ⟨2048 + j.val, by omega⟩ = ix2 i ⟨2048 + j.val, by omega⟩ from ext2 rfl rfl,
      show ridx_main_v19 (ix2 i k) ⟨2048 + j.val, by omega⟩ = ix2 k ⟨2048 + j.val, by omega⟩ from ext2 rfl rfl, ref_hi, val_main_v0_apply]
    rfl

theorem ref_dn (k : Fin 1024) : (val_main_v22 (F := Ideal) x lo hi w : Fox.V 1 1024 .f32) (ix2 0 k) = ∑ i, (lineR x o lo hi g w i).dn k := by
  rw [val_main_v22_apply, val_main_v21_apply, val_main_cst_3_apply]
  show ((FloatOps.ofBits .f32 0x00000000#32 : Ideal .f32) + ∑ k, _ : EReal) = _
  rw [Fox.zeroF, zero_add]
  refine Finset.sum_congr rfl fun i _ => ?_
  have hi' : idx_main_v21 (idx_main_v22 (ix2 0 k)) i = ix2 i k := ext2 rfl (by simp)
  rw [hi', val_main_v20_apply, ref_xh x o lo hi g w, ref_du x o lo hi g w]
  exact mul_comm _ _

theorem ref_w (i : Fin 8704) (k : Fin 1024) : (val_main_v24 (F := Ideal) lo hi g w : Fox.V 8704 1024 .f32) (ix2 i k) = (lineR x o lo hi g w i).w k := by
  rw [val_main_v24_apply, ref_du x o lo hi g w, val_main_v23_apply, show idx_main_v23 (ix2 i k) = ix2 0 k from ext2 rfl rfl]
  rfl

theorem ref_sum (i : Fin 8704) (z : Fin 1) : (val_main_v27 (F := Ideal) x lo hi g w : Fox.V 8704 1 .f32) (ix2 i z)
    = ∑ k, (lineR x o lo hi g w i).x k * (lineR x o lo hi g w i).w k := by
  rw [val_main_v27_apply, val_main_v26_apply, val_main_cst_4_apply]
  show ((FloatOps.ofBits .f32 0x00000000#32 : Ideal .f32) + ∑ k, _ : EReal) = _
  rw [Fox.zeroF, zero_add]
  refine Finset.sum_congr rfl fun k _ => ?_
  have hi' : idx_main_v26 (idx_main_v27 (ix2 i z)) k = ix2 i k := ext2 (by simp) rfl
  rw [hi', val_main_v25_apply, ref_w x o lo hi g w]
  rfl

theorem ref_q (i : Fin 8704) (k : Fin 1024) : (val_main_v34 (F := Ideal) x lo hi g w : Fox.V 8704 1024 .f32) (ix2 i k) = (lineR x o lo hi g w i).q := by
  rw [val_main_v34_apply, val_main_v33_apply, val_main_cst_6_apply]
  show ((FloatOps.ofBits .f32 0x00000000#32 : Ideal .f32) + ∑ k, _ : EReal) = _
  rw [Fox.zeroF, zero_add, Fin.sum_univ_one]
  have hi' : idx_main_v33 (idx_main_v34 (ix2 i k)) 0 = ix2 i 0 := ext2 rfl rfl
  rw [hi', val_main_v32_apply, val_main_v31_apply, val_main_cst_5_apply, div_thousand, val_main_v30_apply, ref_sum x o lo hi g w, val_main_v11_apply,
    val_main_v10_apply, val_main_cst_2_apply, Ffn.Bwd.minusHalfF, val_main_v9_apply, ref_scale, ref_mean]
  rfl

theorem ref_dh (i : Fin 8704) (d : Fin 1024) : (val_main_v39 (F := Ideal) x o lo hi g w : Fox.V 8704 1024 .f32) (ix2 i d) = (lineR x o lo hi g w i).dh d := by
  rw [val_main_v39_apply, val_main_v38_apply, val_main_v36_apply, val_main_v29_apply, val_main_v35_apply, val_main_v37_apply, ref_w x o lo hi g w,
    ref_q x o lo hi g w, val_main_v28_apply, show idx_main_v28 (ix2 i d) = ix2 i 0 from ext2 rfl rfl, ref_scale]
  exact Line.dh_chain (lineR x o lo hi g w i) d

end Reference

section Claim
open Cert.Reference9Ideal.Read
variable (m : (ℓ : Loc nD τ sig) → Buf (Elt Ideal) ℓ) (c : Dev nD)

theorem plain_dh : val_main_v39 (F := Ideal) (X m c) (O m c) (L m c) (H m c) (Y m c) (W m c) = dh m c := by
  funext y
  obtain ⟨i, d, rfl⟩ : ∃ i d, y = ix2 i d := ⟨_, _, eq_ix2 y⟩
  exact ref_dh (X m c) (O m c) (L m c) (H m c) (Y m c) (W m c) i d

theorem plain_dn : val_main_v22 (F := Ideal) (X m c) (L m c) (H m c) (W m c) = dn m c := by
  funext y
  obtain ⟨z, k, rfl⟩ : ∃ z k, y = ix2 z k := ⟨_, _, eq_ix2 y⟩
  obtain rfl : z = 0 := Subsingleton.elim _ _
  exact ref_dn (X m c) (O m c) (L m c) (H m c) (Y m c) (W m c) k

end Claim

end Ffn.InBwd
-- ==== Proof.InFwd.lean ====
module

public import proofs.«01_k».proof.Proof.Forward
public import proofs.«01_k».proof.Proof.Gen.Kernel10Ideal.Value
public import proofs.«01_k».proof.Proof.Gen.Reference10Ideal.Read

/-!
  The input projection's forward call: each block of 512 rows is scaled and multiplied by the projection's weights, and the
  scaled rows are kept for the backward pass.
-/

@[expose] public section

set_option maxRecDepth 16384
set_option maxHeartbeats 400000

noncomputable section

namespace Ffn.InFwd

open Cert.Kernel10Ideal Cert.Kernel10Ideal.Gen Cert.Kernel10Ideal.Value Idealize.ShloMosaic Idealize.ShloMosaic.TcCoe
open Idealize.ShloMosaic.ValueIdx (ix2 eq_ix2)
open Ffn.Fwd (ext2)
open scoped BigOperators

/-- The scaled rows stored. -/
theorem rows_apply (h : Fox.V 512 1024 .f32) (g : Fox.V 1 1024 .f32) (i : Fin 512) (d : Fin 1024) :
    (k0_pay1 (F := Ideal) h g : Fox.V 512 1024 .bf16) (ix2 i d) = unit (fun k => h (ix2 i k)) (fun k => g (ix2 0 k)) d := by
  show unitV h g (ix2 i d) = _
  rw [unitV_apply]

/-- The projection stored. -/
theorem proj_apply (h : Fox.V 512 1024 .f32) (g : Fox.V 1 1024 .f32) (w : Fox.V 1024 4096 .bf16) (i : Fin 512) (j : Fin 4096) :
    (k0_pay2 (F := Ideal) h g w : Fox.V 512 4096 .f32) (ix2 i j)
      = lin (unit (fun k => h (ix2 i k)) (fun k => g (ix2 0 k))) (fun k j => w (ix2 k j)) j := by
  show linV (unitV h g) w (ix2 i j) = _
  rw [linV_apply]
  simp only [unitV_apply]

theorem blocks : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem writes3 : ∀ t : Fin cfg0.N, (cfg0.win 3).flush t = true :=
  (by decide +kernel : ∀ t : Fin grid0.N, _)

theorem writes4 : ∀ t : Fin cfg0.N, (cfg0.win 4).flush t = true :=
  (by decide +kernel : ∀ t : Fin grid0.N, _)

variable (m : (ℓ : Loc nD τ sig) → Buf (Elt Ideal) ℓ) (c : Dev nD)

/-- The activations entering the projection. -/
abbrev X : Fox.V 8704 1024 .f32 := m ((c : Thread nD τ).loc main_arg0)
/-- The norm's gains. -/
abbrev Y : Fox.V 1 1024 .f32 := m ((c : Thread nD τ).loc main_arg1)
/-- The projection's weights. -/
abbrev W : Fox.V 1024 4096 .bf16 := m ((c : Thread nD τ).loc main_arg2)

theorem row_lt (t : Fin cfg0.N) (i : Fin 512) : 512 * t.val + i.val < 8704 := by
  have h : t.val < 17 := t.isLt
  omega

theorem blk_x (t : Fin cfg0.N) (i : Fin 512) (k : Fin 1024) :
    (iblk m c 0 t : Fox.V 512 1024 .f32) (ix2 i k) = X m c (ix2 ⟨512 * t.val + i.val, row_lt t i⟩ k) := by
  obtain ⟨⟨e0, e1⟩, -⟩ := blocks t
  show Gen.V m c main_arg0 (((cfg0.win 0).blk t).view.emb (ix2 i k)) = _
  rw [V_main_arg0]
  refine congrArg (m ((c : Thread nD τ).loc main_arg0)) (funext fun a => Fin.ext ?_)
  match a with
  | ⟨0, _⟩ => show win0_0.index t (0 : Fin 2) * 512 + 1 * i.val = 512 * t.val + i.val; omega
  | ⟨1, _⟩ => show win0_0.index t (1 : Fin 2) * 1024 + 1 * k.val = k.val; omega

theorem blk_y (t : Fin cfg0.N) (k : Fin 1024) : (iblk m c 1 t : Fox.V 1 1024 .f32) (ix2 0 k) = Y m c (ix2 0 k) := by
  obtain ⟨-, ⟨e0, e1⟩, -⟩ := blocks t
  show Gen.V m c main_arg1 (((cfg0.win 1).blk t).view.emb (ix2 0 k)) = _
  rw [V_main_arg1]
  refine congrArg (m ((c : Thread nD τ).loc main_arg1)) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem blk_w (t : Fin cfg0.N) (k : Fin 1024) (j : Fin 4096) :
    (iblk m c 2 t : Fox.V 1024 4096 .bf16) (ix2 k j) = W m c (ix2 k j) := by
  obtain ⟨-, -, ⟨e0, e1⟩, -⟩ := blocks t
  show Gen.V m c main_arg2 (((cfg0.win 2).blk t).view.emb (ix2 k j)) = _
  rw [V_main_arg2]
  refine congrArg (m ((c : Thread nD τ).loc main_arg2)) (funext fun a => Fin.ext ?_)
  match a with
  | ⟨0, _⟩ => show win0_2.index t (0 : Fin 2) * 1024 + 1 * k.val = k.val; omega
  | ⟨1, _⟩ => show win0_2.index t (1 : Fin 2) * 4096 + 1 * j.val = j.val; omega

theorem emb3 (t : Fin cfg0.N) (i : Fin 512) (d : Fin 4096) :
    (((cfg0.win 3).blk t).view.emb (ix2 i d) : (Fox.S2 8704 4096).Idx) = ix2 ⟨512 * t.val + i.val, row_lt t i⟩ d := by
  obtain ⟨-, -, -, ⟨e0, e1⟩, -⟩ := blocks t
  funext a; apply Fin.ext
  match a with
  | ⟨0, _⟩ => show win0_3.index t (0 : Fin 2) * 512 + 1 * i.val = 512 * t.val + i.val; omega
  | ⟨1, _⟩ => show win0_3.index t (1 : Fin 2) * 4096 + 1 * d.val = d.val; omega

theorem emb4 (t : Fin cfg0.N) (i : Fin 512) (d : Fin 1024) :
    (((cfg0.win 4).blk t).view.emb (ix2 i d) : (Fox.S2 8704 1024).Idx) = ix2 ⟨512 * t.val + i.val, row_lt t i⟩ d := by
  obtain ⟨-, -, -, -, ⟨e0, e1⟩⟩ := blocks t
  funext a; apply Fin.ext
  match a with
  | ⟨0, _⟩ => show win0_4.index t (0 : Fin 2) * 512 + 1 * i.val = 512 * t.val + i.val; omega
  | ⟨1, _⟩ => show win0_4.index t (1 : Fin 2) * 1024 + 1 * d.val = d.val; omega

/-- The projection after the run. -/
def proj : Fox.V 8704 4096 .f32 := fun y =>
  lin (unit (fun k => X m c (ix2 (y 0) k)) (fun k => Y m c (ix2 0 k))) (fun k j => W m c (ix2 k j)) (y 1)

/-- The scaled rows after the run. -/
def rows : Fox.V 8704 1024 .bf16 := fun y => unit (fun k => X m c (ix2 (y 0) k)) (fun k => Y m c (ix2 0 k)) (y 1)

theorem final_proj : ((dats m 0 c).arrAt 3 cfg0.N : Fox.V 8704 4096 .f32) = proj m c := by
  refine (dats m 0 c).arrAt_eq_of_cover 3 (proj m c) (fun t _ => ?_) fun y => ?_
  · refine (flushed3 m c t).trans (funext fun j => ?_)
    obtain ⟨i, d, rfl⟩ : ∃ (i : Fin 512) (d : Fin 4096), j = ix2 i d := ⟨_, _, eq_ix2 j⟩
    show out0_3 (iblk m c 0 t) (iblk m c 1 t) (iblk m c 2 t) (ix2 i d) = proj m c (((cfg0.win 3).blk t).view.emb (ix2 i d))
    rw [emb3]
    unfold out0_3
    rw [View.canon_unit_zero hz]
    simp only [View.ld_unit_zero (S := S512x1024) hz, View.ld_unit_zero (S := S1x1024) hz, View.ld_unit_zero (S := S1024x4096) hz]
    refine (proj_apply _ _ _ i d).trans ?_
    simp only [blk_x, blk_y, blk_w]
    rfl
  · obtain ⟨r, d, rfl⟩ : ∃ (r : Fin 8704) (d : Fin 4096), y = ix2 r d := ⟨_, _, eq_ix2 y⟩
    have hN : cfg0.N = 17 := N_0
    have hr := r.isLt
    refine ⟨⟨r.val / 512, by omega⟩, writes3 _, ?_⟩
    have h := ((cfg0.win 3).blk (⟨r.val / 512, by omega⟩ : Fin cfg0.N)).view.emb_mem_set
      (ix2 (⟨r.val % 512, Nat.mod_lt _ (by decide)⟩ : Fin 512) d)
    rw [emb3] at h
    have e : (⟨512 * (r.val / 512) + r.val % 512, by omega⟩ : Fin 8704) = r := Fin.ext (by show 512 * (r.val / 512) + r.val % 512 = r.val; omega)
    rwa [e] at h

theorem final_rows : ((dats m 0 c).arrAt 4 cfg0.N : Fox.V 8704 1024 .bf16) = rows m c := by
  refine (dats m 0 c).arrAt_eq_of_cover 4 (rows m c) (fun t _ => ?_) fun y => ?_
  · refine (flushed4 m c t).trans (funext fun j => ?_)
    obtain ⟨i, d, rfl⟩ : ∃ (i : Fin 512) (d : Fin 1024), j = ix2 i d := ⟨_, _, eq_ix2 j⟩
    show out0_4 (iblk m c 0 t) (iblk m c 1 t) (iblk m c 2 t) (ix2 i d) = rows m c (((cfg0.win 4).blk t).view.emb (ix2 i d))
    rw [emb4]
    unfold out0_4
    rw [View.canon_unit_zero hz]
    simp only [View.ld_unit_zero (S := S512x1024) hz, View.ld_unit_zero (S := S1x1024) hz]
    refine (rows_apply _ _ i d).trans ?_
    simp only [blk_x, blk_y]
    rfl
  · obtain ⟨r, d, rfl⟩ : ∃ (r : Fin 8704) (d : Fin 1024), y = ix2 r d := ⟨_, _, eq_ix2 y⟩
    have hN : cfg0.N = 17 := N_0
    have hr := r.isLt
    refine ⟨⟨r.val / 512, by omega⟩, writes4 _, ?_⟩
    have h := ((cfg0.win 4).blk (⟨r.val / 512, by omega⟩ : Fin cfg0.N)).view.emb_mem_set
      (ix2 (⟨r.val % 512, Nat.mod_lt _ (by decide)⟩ : Fin 512) d)
    rw [emb4] at h
    have e : (⟨512 * (r.val / 512) + r.val % 512, by omega⟩ : Fin 8704) = r := Fin.ext (by show 512 * (r.val / 512) + r.val % 512 = r.val; omega)
    rwa [e] at h

/-! ## The reference -/

section Reference
open Cert.Reference10Ideal.Read
variable (x : Fox.V 8704 1024 .f32) (g : Fox.V 1 1024 .f32)

theorem ref_scale (i : Fin 8704) (z : Fin 1) : (val_main_v7 (F := Ideal) x : Fox.V 8704 1 .f32) (ix2 i z) = scale fun k => x (ix2 i k) := by
  rw [val_main_v7_apply, val_main_v6_apply, val_main_v4_apply, val_main_v3_apply, val_main_v5_apply, val_main_cst_0_apply,
    val_main_cst_1_apply, div_thousand, val_main_v2_apply, val_main_v1_apply, val_main_cst_apply]
  show Ideal.rsqrt (((FloatOps.ofBits .f32 0x00000000#32 : Ideal .f32) + ∑ k, _ : EReal) * _ + eps) = _
  rw [Fox.zeroF, zero_add]
  unfold scale
  refine congrArg (fun s => Ideal.rsqrt (s * _ + eps)) (Finset.sum_congr rfl fun k _ => ?_)
  rw [val_main_v0_apply, show idx_main_v1 (idx_main_v2 (ix2 i z)) k = ix2 i k from ext2 rfl rfl]
  rfl

theorem ref_unit (i : Fin 8704) (k : Fin 1024) :
    (val_main_v11 (F := Ideal) x g : Fox.V 8704 1024 .f32) (ix2 i k) = unit (fun k => x (ix2 i k)) (fun k => g (ix2 0 k)) k := by
  rw [val_main_v11_apply, val_main_v9_apply, val_main_v8_apply, val_main_v10_apply,
    show idx_main_v8 (ix2 i k) = ix2 i 0 from ext2 rfl rfl, show idx_main_v10 (ix2 i k) = ix2 0 k from ext2 rfl rfl, ref_scale]
  rfl

end Reference

open Cert.Reference10Ideal.Read in
theorem plain_proj : (val_main_v13 (F := Ideal) (X m c) (Y m c) (W m c) : Fox.V 8704 4096 .f32) = proj m c := by
  funext y
  obtain ⟨r, j, rfl⟩ : ∃ r j, y = ix2 r j := ⟨_, _, eq_ix2 y⟩
  rw [val_main_v13_apply]
  unfold proj lin
  refine Finset.sum_congr rfl fun k _ => ?_
  rw [show lidx_main_v13 (ix2 r j) k = ix2 r k from ext2 rfl rfl, show ridx_main_v13 (ix2 r j) k = ix2 k j from ext2 rfl rfl,
    ref_unit, val_main_v12_apply]
  rfl

open Cert.Reference10Ideal.Read in
theorem plain_rows : (val_main_v14 (F := Ideal) (X m c) (Y m c) : Fox.V 8704 1024 .bf16) = rows m c := by
  funext y
  obtain ⟨r, k, rfl⟩ : ∃ r k, y = ix2 r k := ⟨_, _, eq_ix2 y⟩
  rw [val_main_v14_apply]
  exact ref_unit (X m c) (Y m c) r k

end Ffn.InFwd
-- ==== Proof.OutGrad.lean ====
module

public import proofs.«01_k».proof.Proof.Whole
public import proofs.«01_k».proof.Proof.Gen.Kernel11Ideal.Value
public import proofs.«01_k».proof.Proof.Gen.Reference11Ideal.Read

/-!
  The gradient of the output projection's weights: the gated sum's transpose against the gradient of the projection, summed
  over the rows in four blocks.
-/

@[expose] public section

set_option maxRecDepth 16384
set_option maxHeartbeats 400000

noncomputable section

namespace Ffn.Out

open Cert.Kernel11Ideal Cert.Kernel11Ideal.Gen Cert.Kernel11Ideal.Value Idealize.ShloMosaic Idealize.ShloMosaic.TcCoe
open Idealize.ShloMosaic.ValueIdx (ix2 eq_ix2)
open scoped BigOperators

/-- What a step adds to the accumulator. -/
def add (acc : Fox.V 1024 1024 .f32) (x : Fox.V 2176 1024 .bf16) (y : Fox.V 2176 1024 .f32) : Fox.V 1024 1024 .f32 :=
  k0_pay2 (F := Ideal) acc x y

theorem add_apply (acc : Fox.V 1024 1024 .f32) (x : Fox.V 2176 1024 .bf16) (y : Fox.V 2176 1024 .f32)
    (r : Fin 1024) (d : Fin 1024) :
    add acc x y (ix2 r d) = acc (ix2 r d) + ∑ k : Fin 2176, x (ix2 k r) * y (ix2 k d) := by
  unfold add k0_pay2
  rw [shapeCast_self]
  show acc (ix2 r d) + FloatOps.matmul (Fox.tn 2176 1024 1024) none x (truncf .bf16 y bitsLt_bf16_f32)
    (constant S1024x1024 .f32 0x00000000#32) (ix2 r d) = _
  rw [Fox.matmul_tn_apply]
  show acc (ix2 r d) + ((FloatOps.ofBits .f32 0x00000000#32 : Ideal .f32) + _) = _
  rw [Fox.zeroF]
  exact congrArg (acc (ix2 r d) + ·) (zero_add _)

section Cases
variable (c : Dev nD) (i : grid0.Coords) (a3 : Memref sig .tc .vmem S2176x1024 .bf16) (h3 : a3.IsWhole)
  (a4 : Memref sig .tc .vmem S2176x1024 .f32) (h4 : a4.IsWhole) (a5 : Memref sig .tc .vmem S1024x1024 .bf16) (h5 : a5.IsWhole)
  (a6 : Memref sig .tc .vmem S1024x1024 .f32) (h6 : a6.IsWhole)
  (x : Vec Ideal S2176x1024 .bf16) (y : Vec Ideal S2176x1024 .f32) (acc : Vec Ideal S1024x1024 .f32)

theorem left_A (hc : cond0_0 i) (hd : ¬cond0_1 i) :
    sout0_A_0 c i a3 h3 a4 h4 a5 h5 a6 h6 hc hd x y = add (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x1024) hz, View.readCov_unit_zero (S := S1024x1024) _ hz]
  unfold add
  simp only [View.readAt_eq_ld, h3.read_unread, h4.read_unread, View.ld_unit_zero (S := S2176x1024) hz,
    View.ld_unit_zero (S := S2176x1024) hz]

theorem left_B (hc : ¬cond0_0 i) (hd : ¬cond0_1 i) :
    sout0_B_0 c i a3 h3 a4 h4 a5 h5 a6 h6 hc hd x y acc = add acc x y := by
  unfold sout0_B_0
  rw [View.read_writes_eq_canon _ _ _ (scover0_B_0 c i a3 h3 a4 h4 a5 h5 a6 h6 hc hd x y acc)]
  unfold kernelRun0_B
  dsimp only
  rw [View.canon_unit_zero hz]
  unfold add
  simp only [View.readAt_eq_ld, h3.read_unread, h4.read_unread, h6.read_unread, View.ld_unit_zero (S := S2176x1024) hz,
    View.ld_unit_zero (S := S2176x1024) hz, View.ld_unit_zero (S := S1024x1024) hz]

theorem left_C (hc : ¬cond0_0 i) (hd : cond0_1 i) :
    sout0_C_0 c i a3 h3 a4 h4 a5 h5 a6 h6 hc hd x y acc = add acc x y := by
  unfold sout0_C_0
  rw [View.read_writes_eq_canon _ _ _ (scover0_C_0 c i a3 h3 a4 h4 a5 h5 a6 h6 hc hd x y acc)]
  unfold kernelRun0_C
  dsimp only
  sl_unfold_words
  rw [View.canon_unit_zero hz]
  unfold add
  simp only [View.readAt_eq_ld, h3.read_unread, h4.read_unread, h6.read_unread, View.ld_unit_zero (S := S2176x1024) hz,
    View.ld_unit_zero (S := S2176x1024) hz, View.ld_unit_zero (S := S1024x1024) hz]

theorem out_C (hc : ¬cond0_0 i) (hd : cond0_1 i) :
    out0_C_2 c i a3 h3 a4 h4 a5 h5 a6 h6 hc hd x y acc = k0_pay3 (F := Ideal) (add acc x y) := by
  unfold out0_C_2
  rw [View.read_writes_eq_canon _ _ _ (cover0_C_2 c i a3 h3 a4 h4 a5 h5 a6 h6 hc hd x y acc)]
  unfold kernelRun0_C
  dsimp only
  sl_unfold_words
  rw [View.canon_unit_zero hz, View.readCov_unit_zero (S := S1024x1024) _ hz]
  unfold add
  simp only [View.readAt_eq_ld, h3.read_unread, h4.read_unread, h6.read_unread, View.ld_unit_zero (S := S2176x1024) hz,
    View.ld_unit_zero (S := S2176x1024) hz, View.ld_unit_zero (S := S1024x1024) hz]

end Cases

theorem blocks : ∀ t : Fin cfg0.N, (win0_0.index t (0 : Fin 2) = t.val % 4 ∧ win0_0.index t (1 : Fin 2) = 0)
    ∧ (win0_1.index t (0 : Fin 2) = t.val % 4 ∧ win0_1.index t (1 : Fin 2) = 0) :=
  (by decide +kernel : ∀ t : Fin grid0.N, _)

variable (m : (ℓ : Loc nD τ sig) → Buf (Elt Ideal) ℓ) (c : Dev nD)

/-- The gated sum of the branches. -/
abbrev X : Fox.V 8704 1024 .bf16 := m ((c : Thread nD τ).loc main_arg0)
/-- The gradient of the projection. -/
abbrev Y : Fox.V 8704 1024 .f32 := m ((c : Thread nD τ).loc main_arg1)

theorem blk_x (t : Fin cfg0.N) (k : Fin 2176) (r : Fin 1024) :
    (iblk m c 0 t : Fox.V 2176 1024 .bf16) (ix2 k r) = tot (X m c) (2176 * (t.val % 4) + k) r := by
  obtain ⟨⟨e0, e1⟩, -⟩ := blocks t
  have ht : t.val < 4 := t.isLt
  rw [tot_of _ (by omega) (by omega)]
  show Gen.V m c main_arg0 (((cfg0.win 0).blk t).view.emb (ix2 k r)) = _
  rw [V_main_arg0]
  refine congrArg (m ((c : Thread nD τ).loc main_arg0)) (funext fun a => Fin.ext ?_)
  match a with
  | ⟨0, _⟩ => show win0_0.index t (0 : Fin 2) * 2176 + 1 * k.val = 2176 * (t.val % 4) + k.val; omega
  | ⟨1, _⟩ => show win0_0.index t (1 : Fin 2) * 1024 + 1 * r.val = r.val; omega

theorem blk_y (t : Fin cfg0.N) (k : Fin 2176) (d : Fin 1024) :
    (iblk m c 1 t : Fox.V 2176 1024 .f32) (ix2 k d) = tot (Y m c) (2176 * (t.val % 4) + k) d := by
  obtain ⟨-, ⟨e0, e1⟩⟩ := blocks t
  have ht : t.val < 4 := t.isLt
  rw [tot_of _ (by omega) (by omega)]
  show Gen.V m c main_arg1 (((cfg0.win 1).blk t).view.emb (ix2 k d)) = _
  rw [V_main_arg1]
  refine congrArg (m ((c : Thread nD τ).loc main_arg1)) (funext fun a => Fin.ext ?_)
  match a with
  | ⟨0, _⟩ => show win0_1.index t (0 : Fin 2) * 2176 + 1 * k.val = 2176 * (t.val % 4) + k.val; omega
  | ⟨1, _⟩ => show win0_1.index t (1 : Fin 2) * 1024 + 1 * d.val = d.val; omega

/-- The sum over the first `n` rows. -/
def part (r d n : ℕ) : EReal := ∑ k ∈ Finset.range n, tot (X m c) k r * tot (Y m c) k d

theorem step (t : Fin cfg0.N) (acc : Fox.V 1024 1024 .f32) (r : Fin 1024) (d : Fin 1024)
    (h : acc (ix2 r d) = part m c r d (2176 * (t.val % 4))) :
    add acc (iblk m c 0 t) (iblk m c 1 t) (ix2 r d) = part m c r d (2176 * (t.val % 4 + 1)) := by
  rw [add_apply, h, Nat.mul_succ]
  unfold part
  rw [← sum_more]
  exact congrArg _ (sum_range_of fun k => by rw [blk_x, blk_y])

theorem zero_apply (r : Fin 1024) (d : Fin 1024) : (k0_pay1 (F := Ideal) : Fox.V 1024 1024 .f32) (ix2 r d) = 0 := by
  unfold k0_pay1
  rw [shapeCast_self]
  exact Fox.zeroF

/-- The accumulator after step `t`: the sum over the rows of the blocks read so far. -/
theorem held (r : Fin 1024) (d : Fin 1024) : ∀ (n : ℕ) (h : n < cfg0.N),
    (outsAt0 m c n h).2 (ix2 r d) = part m c r d (2176 * (n % 4 + 1))
  | n, h => by
    by_cases h0 : n % 4 = 0
    · have h1 : ¬n % 4 = 3 := by omega
      rw [outsAt0_A m c ⟨n, h⟩ h0 h1]
      dsimp only
      rw [left_A]
      refine step m c ⟨n, h⟩ _ r d ?_
      rw [zero_apply]
      show 0 = part m c r d (2176 * (n % 4))
      rw [h0]; simp [part]
    · have hp : n - 1 < cfg0.N := by omega
      have e := held r d (n - 1) hp
      rw [show (n - 1) % 4 + 1 = n % 4 by omega] at e
      by_cases h1 : n % 4 = 3
      · rw [outsAt0_C m c ⟨n, h⟩ h0 h1]
        dsimp only
        rw [left_C]
        exact step m c ⟨n, h⟩ _ r d e
      · rw [outsAt0_B m c ⟨n, h⟩ h0 h1]
        dsimp only
        rw [left_B]
        exact step m c ⟨n, h⟩ _ r d e
  termination_by n => n
  decreasing_by omega

/-- The block written back: the whole sum. -/
theorem last (t : Fin cfg0.N) (h1 : t.val % 4 = 3) (r : Fin 1024) (d : Fin 1024) :
    (outsAt0 m c t.val t.isLt).1 (ix2 r d) = part m c r d 8704 := by
  have h0 : ¬t.val % 4 = 0 := by omega
  rw [outsAt0_C m c t h0 h1]
  dsimp only
  rw [out_C]
  unfold k0_pay3
  show add _ _ _ (ix2 r d) * (FloatOps.ofBits .f32 0x3F800000#32 : Ideal .f32) = _
  rw [Fox.oneF, mul_one]
  refine (step m c t _ r d ?_).trans (by rw [h1])
  have hp : t.val - 1 < cfg0.N := by have := t.isLt; omega
  have e := held m c r d (t.val - 1) hp
  rwa [show (t.val - 1) % 4 + 1 = t.val % 4 by omega] at e

/-- The array after the run. -/
def result : Fox.V 1024 1024 .bf16 := fun i => part m c (i 0).val (i 1).val 8704

theorem final : (G2 m c : Fox.V 1024 1024 .bf16) = result m c := by
  funext y
  obtain ⟨r, d, rfl⟩ : ∃ r d, y = ix2 r d := ⟨_, _, eq_ix2 y⟩
  have hr := r.isLt
  have hd := d.isLt
  have hp : pt2Of (ix2 r d) = 3 := by
    show 4 * (1 * (r.val / 1024 - 0) + 1 * (d.val / 1024 - 0)) + 3 = _
    omega
  have hN : cfg0.N = 4 := N_0
  have hlt : pt2Of (ix2 r d) < cfg0.N := by rw [hp]; omega
  unfold G2
  rw [dif_pos hlt, ← outsAt0_sweep m c _ hlt]
  have e := last m c ⟨_, hlt⟩ (by show pt2Of (ix2 r d) % 4 = 3; omega) ⟨r.val % 1024, Nat.mod_lt _ (by decide)⟩
    ⟨d.val % 1024, Nat.mod_lt _ (by decide)⟩
  have hl : loc2Of (ix2 r d) = ix2 (⟨r.val % 1024, Nat.mod_lt _ (by decide)⟩ : Fin 1024) (⟨d.val % 1024, Nat.mod_lt _ (by decide)⟩ : Fin 1024) := by
    funext a; apply Fin.ext
    match a with
    | ⟨0, _⟩ => rfl
    | ⟨1, _⟩ => rfl
  rw [hl]
  refine e.trans ?_
  show part m c (r.val % 1024) (d.val % 1024) 8704 = part m c r.val d.val 8704
  rw [show r.val % 1024 = r.val by omega, show d.val % 1024 = d.val by omega]

/-! ## The reference -/

open Cert.Reference11Ideal.Read in
theorem plain : val_main_v5 (F := Ideal) (X m c) (Y m c) = result m c := by
  funext y
  obtain ⟨r, d, rfl⟩ : ∃ r d, y = ix2 r d := ⟨_, _, eq_ix2 y⟩
  rw [val_main_v5_apply, val_main_v4_apply]
  show (val_main_v3 (F := Ideal) (X m c) (Y m c) _ : EReal) = _
  rw [val_main_v3_apply]
  show _ = part m c r.val d.val 8704
  unfold part
  refine sum_range_of fun k => ?_
  have e1 : ridx_main_v3 (idx_main_v4 (ix2 r d)) k = ix2 k r := by
    funext a; apply Fin.ext
    match a with
    | ⟨0, _⟩ => rfl
    | ⟨1, _⟩ => rfl
  have e2 : lidx_main_v3 (idx_main_v4 (ix2 r d)) k = ix2 k d := by
    funext a; apply Fin.ext
    match a with
    | ⟨0, _⟩ => rfl
    | ⟨1, _⟩ => rfl
  rw [e1, e2, tot_ix, tot_ix, val_main_v0_apply]
  exact mul_comm (Y m c (ix2 k d)) (X m c (ix2 k r))

end Ffn.Out
-- ==== Proof.BranchGrad.lean ====
module

public import proofs.«01_k».proof.Proof.Whole
public import proofs.«01_k».proof.Proof.Gen.Kernel12Ideal.Value
public import proofs.«01_k».proof.Proof.Gen.Reference12Ideal.Read

/-!
  The gradient of a branch's weights: the attention's output, transposed, against the gradient of the branch, summed over the
  rows in four blocks.
-/

@[expose] public section

set_option maxRecDepth 16384
set_option maxHeartbeats 400000

noncomputable section

namespace Ffn.Branch

open Cert.Kernel12Ideal Cert.Kernel12Ideal.Gen Cert.Kernel12Ideal.Value Idealize.ShloMosaic Idealize.ShloMosaic.TcCoe
open Idealize.ShloMosaic.ValueIdx (ix2 eq_ix2)
open scoped BigOperators

/-- What a step adds to the accumulator. -/
def add (acc : Fox.V 512 1024 .f32) (x : Fox.V 2176 512 .bf16) (y : Fox.V 2176 1024 .bf16) : Fox.V 512 1024 .f32 :=
  k0_pay2 (F := Ideal) acc x y

theorem add_apply (acc : Fox.V 512 1024 .f32) (x : Fox.V 2176 512 .bf16) (y : Fox.V 2176 1024 .bf16)
    (r : Fin 512) (d : Fin 1024) :
    add acc x y (ix2 r d) = acc (ix2 r d) + ∑ k : Fin 2176, x (ix2 k r) * y (ix2 k d) := by
  unfold add k0_pay2
  rw [shapeCast_self]
  show acc (ix2 r d) + FloatOps.matmul (Fox.tn 2176 512 1024) none x y
    (constant S512x1024 .f32 0x00000000#32) (ix2 r d) = _
  rw [Fox.matmul_tn_apply]
  show acc (ix2 r d) + ((FloatOps.ofBits .f32 0x00000000#32 : Ideal .f32) + _) = _
  rw [Fox.zeroF]
  exact congrArg (acc (ix2 r d) + ·) (zero_add _)

section Cases
variable (c : Dev nD) (i : grid0.Coords) (a3 : Memref sig .tc .vmem S2176x512 .bf16) (h3 : a3.IsWhole)
  (a4 : Memref sig .tc .vmem S2176x1024 .bf16) (h4 : a4.IsWhole) (a5 : Memref sig .tc .vmem S512x1024 .bf16) (h5 : a5.IsWhole)
  (a6 : Memref sig .tc .vmem S512x1024 .f32) (h6 : a6.IsWhole)
  (x : Vec Ideal S2176x512 .bf16) (y : Vec Ideal S2176x1024 .bf16) (acc : Vec Ideal S512x1024 .f32)

theorem left_A (hc : cond0_0 i) (hd : ¬cond0_1 i) :
    sout0_A_0 c i a3 h3 a4 h4 a5 h5 a6 h6 hc hd x y = add (k0_pay1 (F := Ideal)) x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S512x1024) hz, View.readCov_unit_zero (S := S512x1024) _ hz]
  unfold add
  simp only [View.readAt_eq_ld, h3.read_unread, h4.read_unread, View.ld_unit_zero (S := S2176x512) hz,
    View.ld_unit_zero (S := S2176x1024) hz]

theorem left_B (hc : ¬cond0_0 i) (hd : ¬cond0_1 i) :
    sout0_B_0 c i a3 h3 a4 h4 a5 h5 a6 h6 hc hd x y acc = add acc x y := by
  unfold sout0_B_0
  rw [View.read_writes_eq_canon _ _ _ (scover0_B_0 c i a3 h3 a4 h4 a5 h5 a6 h6 hc hd x y acc)]
  unfold kernelRun0_B
  dsimp only
  rw [View.canon_unit_zero hz]
  unfold add
  simp only [View.readAt_eq_ld, h3.read_unread, h4.read_unread, h6.read_unread, View.ld_unit_zero (S := S2176x512) hz,
    View.ld_unit_zero (S := S2176x1024) hz, View.ld_unit_zero (S := S512x1024) hz]

theorem left_C (hc : ¬cond0_0 i) (hd : cond0_1 i) :
    sout0_C_0 c i a3 h3 a4 h4 a5 h5 a6 h6 hc hd x y acc = add acc x y := by
  unfold sout0_C_0
  rw [View.read_writes_eq_canon _ _ _ (scover0_C_0 c i a3 h3 a4 h4 a5 h5 a6 h6 hc hd x y acc)]
  unfold kernelRun0_C
  dsimp only
  sl_unfold_words
  rw [View.canon_unit_zero hz]
  unfold add
  simp only [View.readAt_eq_ld, h3.read_unread, h4.read_unread, h6.read_unread, View.ld_unit_zero (S := S2176x512) hz,
    View.ld_unit_zero (S := S2176x1024) hz, View.ld_unit_zero (S := S512x1024) hz]

theorem out_C (hc : ¬cond0_0 i) (hd : cond0_1 i) :
    out0_C_2 c i a3 h3 a4 h4 a5 h5 a6 h6 hc hd x y acc = k0_pay3 (F := Ideal) (add acc x y) := by
  unfold out0_C_2
  rw [View.read_writes_eq_canon _ _ _ (cover0_C_2 c i a3 h3 a4 h4 a5 h5 a6 h6 hc hd x y acc)]
  unfold kernelRun0_C
  dsimp only
  sl_unfold_words
  rw [View.canon_unit_zero hz, View.readCov_unit_zero (S := S512x1024) _ hz]
  unfold add
  simp only [View.readAt_eq_ld, h3.read_unread, h4.read_unread, h6.read_unread, View.ld_unit_zero (S := S2176x512) hz,
    View.ld_unit_zero (S := S2176x1024) hz, View.ld_unit_zero (S := S512x1024) hz]

end Cases

theorem blocks : ∀ t : Fin cfg0.N, (win0_0.index t (0 : Fin 2) = t.val % 4 ∧ win0_0.index t (1 : Fin 2) = 0)
    ∧ (win0_1.index t (0 : Fin 2) = t.val % 4 ∧ win0_1.index t (1 : Fin 2) = 0) :=
  (by decide +kernel : ∀ t : Fin grid0.N, _)

variable (m : (ℓ : Loc nD τ sig) → Buf (Elt Ideal) ℓ) (c : Dev nD)

/-- The attention's output. -/
abbrev X : Fox.V 8704 512 .bf16 := m ((c : Thread nD τ).loc main_arg0)
/-- The gradient of the branch. -/
abbrev Y : Fox.V 8704 1024 .bf16 := m ((c : Thread nD τ).loc main_arg1)

theorem blk_x (t : Fin cfg0.N) (k : Fin 2176) (r : Fin 512) :
    (iblk m c 0 t : Fox.V 2176 512 .bf16) (ix2 k r) = tot (X m c) (2176 * (t.val % 4) + k) r := by
  obtain ⟨⟨e0, e1⟩, -⟩ := blocks t
  have ht : t.val < 4 := t.isLt
  rw [tot_of _ (by omega) (by omega)]
  show Gen.V m c main_arg0 (((cfg0.win 0).blk t).view.emb (ix2 k r)) = _
  rw [V_main_arg0]
  refine congrArg (m ((c : Thread nD τ).loc main_arg0)) (funext fun a => Fin.ext ?_)
  match a with
  | ⟨0, _⟩ => show win0_0.index t (0 : Fin 2) * 2176 + 1 * k.val = 2176 * (t.val % 4) + k.val; omega
  | ⟨1, _⟩ => show win0_0.index t (1 : Fin 2) * 512 + 1 * r.val = r.val; omega

theorem blk_y (t : Fin cfg0.N) (k : Fin 2176) (d : Fin 1024) :
    (iblk m c 1 t : Fox.V 2176 1024 .bf16) (ix2 k d) = tot (Y m c) (2176 * (t.val % 4) + k) d := by
  obtain ⟨-, ⟨e0, e1⟩⟩ := blocks t
  have ht : t.val < 4 := t.isLt
  rw [tot_of _ (by omega) (by omega)]
  show Gen.V m c main_arg1 (((cfg0.win 1).blk t).view.emb (ix2 k d)) = _
  rw [V_main_arg1]
  refine congrArg (m ((c : Thread nD τ).loc main_arg1)) (funext fun a => Fin.ext ?_)
  match a with
  | ⟨0, _⟩ => show win0_1.index t (0 : Fin 2) * 2176 + 1 * k.val = 2176 * (t.val % 4) + k.val; omega
  | ⟨1, _⟩ => show win0_1.index t (1 : Fin 2) * 1024 + 1 * d.val = d.val; omega

/-- The sum over the first `n` rows. -/
def part (r d n : ℕ) : EReal := ∑ k ∈ Finset.range n, tot (X m c) k r * tot (Y m c) k d

theorem step (t : Fin cfg0.N) (acc : Fox.V 512 1024 .f32) (r : Fin 512) (d : Fin 1024)
    (h : acc (ix2 r d) = part m c r d (2176 * (t.val % 4))) :
    add acc (iblk m c 0 t) (iblk m c 1 t) (ix2 r d) = part m c r d (2176 * (t.val % 4 + 1)) := by
  rw [add_apply, h, Nat.mul_succ]
  unfold part
  rw [← sum_more]
  exact congrArg _ (sum_range_of fun k => by rw [blk_x, blk_y])

theorem zero_apply (r : Fin 512) (d : Fin 1024) : (k0_pay1 (F := Ideal) : Fox.V 512 1024 .f32) (ix2 r d) = 0 := by
  unfold k0_pay1
  rw [shapeCast_self]
  exact Fox.zeroF

/-- The accumulator after step `t`: the sum over the rows of the blocks read so far. -/
theorem held (r : Fin 512) (d : Fin 1024) : ∀ (n : ℕ) (h : n < cfg0.N),
    (outsAt0 m c n h).2 (ix2 r d) = part m c r d (2176 * (n % 4 + 1))
  | n, h => by
    by_cases h0 : n % 4 = 0
    · have h1 : ¬n % 4 = 3 := by omega
      rw [outsAt0_A m c ⟨n, h⟩ h0 h1]
      dsimp only
      rw [left_A]
      refine step m c ⟨n, h⟩ _ r d ?_
      rw [zero_apply]
      show 0 = part m c r d (2176 * (n % 4))
      rw [h0]; simp [part]
    · have hp : n - 1 < cfg0.N := by omega
      have e := held r d (n - 1) hp
      rw [show (n - 1) % 4 + 1 = n % 4 by omega] at e
      by_cases h1 : n % 4 = 3
      · rw [outsAt0_C m c ⟨n, h⟩ h0 h1]
        dsimp only
        rw [left_C]
        exact step m c ⟨n, h⟩ _ r d e
      · rw [outsAt0_B m c ⟨n, h⟩ h0 h1]
        dsimp only
        rw [left_B]
        exact step m c ⟨n, h⟩ _ r d e
  termination_by n => n
  decreasing_by omega

/-- The block written back: the whole sum. -/
theorem last (t : Fin cfg0.N) (h1 : t.val % 4 = 3) (r : Fin 512) (d : Fin 1024) :
    (outsAt0 m c t.val t.isLt).1 (ix2 r d) = part m c r d 8704 := by
  have h0 : ¬t.val % 4 = 0 := by omega
  rw [outsAt0_C m c t h0 h1]
  dsimp only
  rw [out_C]
  unfold k0_pay3
  show add _ _ _ (ix2 r d) * (FloatOps.ofBits .f32 0x3F800000#32 : Ideal .f32) = _
  rw [Fox.oneF, mul_one]
  refine (step m c t _ r d ?_).trans (by rw [h1])
  have hp : t.val - 1 < cfg0.N := by have := t.isLt; omega
  have e := held m c r d (t.val - 1) hp
  rwa [show (t.val - 1) % 4 + 1 = t.val % 4 by omega] at e

/-- The array after the run. -/
def result : Fox.V 512 1024 .bf16 := fun i => part m c (i 0).val (i 1).val 8704

theorem final : (G2 m c : Fox.V 512 1024 .bf16) = result m c := by
  funext y
  obtain ⟨r, d, rfl⟩ : ∃ r d, y = ix2 r d := ⟨_, _, eq_ix2 y⟩
  have hr := r.isLt
  have hd := d.isLt
  have hp : pt2Of (ix2 r d) = 3 := by
    show 4 * (1 * (r.val / 512 - 0) + 1 * (d.val / 1024 - 0)) + 3 = _
    omega
  have hN : cfg0.N = 4 := N_0
  have hlt : pt2Of (ix2 r d) < cfg0.N := by rw [hp]; omega
  unfold G2
  rw [dif_pos hlt, ← outsAt0_sweep m c _ hlt]
  have e := last m c ⟨_, hlt⟩ (by show pt2Of (ix2 r d) % 4 = 3; omega) ⟨r.val % 512, Nat.mod_lt _ (by decide)⟩
    ⟨d.val % 1024, Nat.mod_lt _ (by decide)⟩
  have hl : loc2Of (ix2 r d) = ix2 (⟨r.val % 512, Nat.mod_lt _ (by decide)⟩ : Fin 512) (⟨d.val % 1024, Nat.mod_lt _ (by decide)⟩ : Fin 1024) := by
    funext a; apply Fin.ext
    match a with
    | ⟨0, _⟩ => rfl
    | ⟨1, _⟩ => rfl
  rw [hl]
  refine e.trans ?_
  show part m c (r.val % 512) (d.val % 1024) 8704 = part m c r.val d.val 8704
  rw [show r.val % 512 = r.val by omega, show d.val % 1024 = d.val by omega]

/-! ## The reference -/

open Cert.Reference12Ideal.Read in
theorem plain : val_main_v6 (F := Ideal) (X m c) (Y m c) = result m c := by
  funext y
  obtain ⟨r, d, rfl⟩ : ∃ r d, y = ix2 r d := ⟨_, _, eq_ix2 y⟩
  rw [val_main_v6_apply, val_main_v5_apply]
  show (val_main_v4 (F := Ideal) (X m c) (Y m c) _ : EReal) = _
  rw [val_main_v4_apply]
  show _ = part m c r.val d.val 8704
  unfold part
  refine sum_range_of fun k => ?_
  have e1 : ridx_main_v4 (idx_main_v5 (ix2 r d)) k = ix2 k r := by
    funext a; apply Fin.ext
    match a with
    | ⟨0, _⟩ => rfl
    | ⟨1, _⟩ => rfl
  have e2 : lidx_main_v4 (idx_main_v5 (ix2 r d)) k = ix2 k d := by
    funext a; apply Fin.ext
    match a with
    | ⟨0, _⟩ => rfl
    | ⟨1, _⟩ => rfl
  rw [e1, e2, tot_ix, tot_ix, val_main_v3_apply, val_main_v0_apply]
  exact mul_comm (Y m c (ix2 k d)) (X m c (ix2 k r))

end Ffn.Branch
-- ==== Proof.GateRow.lean ====
module

public import proofs.«01_k».proof.Proof.Forward

/-!
  The gated sum of the two attention branches and the output projection, one row at a time: the values, and the gradients of
  the gates, the branches and their inputs.
-/

@[expose] public section

set_option maxRecDepth 16384

noncomputable section

namespace Ffn.Gate

open Idealize.ShloMosaic
open Idealize.ShloMosaic.ValueIdx (ix2 eq_ix2)
open scoped BigOperators

/-- What one row of the gated sum reads: the residual or the cotangent, the two attentions' outputs, the gates' logits and
    biases, the branches' weights and the projection's weights. -/
structure Line where
  d : Fin 1024 → EReal
  x : Fin 512 → EReal
  y : Fin 512 → EReal
  l : Fin 2048 → EReal
  c : Fin 2048 → EReal
  A : Fin 512 → Fin 1024 → EReal
  B : Fin 512 → Fin 1024 → EReal
  W : Fin 1024 → Fin 1024 → EReal

namespace Line
variable (r : Line)

/-- The gates. -/
def s (j : Fin 2048) : EReal := Ideal.logistic (r.l j + r.c j)
/-- The first branch's gate. -/
def u (j : Fin 1024) : EReal := r.s ⟨j.val, by omega⟩
/-- The second branch's gate. -/
def v (j : Fin 1024) : EReal := r.s ⟨1024 + j.val, by omega⟩
/-- The first branch. -/
def p : Fin 1024 → EReal := lin r.x r.A
/-- The second branch. -/
def q : Fin 1024 → EReal := lin r.y r.B
/-- The gated sum. -/
def mix (j : Fin 1024) : EReal := r.u j * r.p j + r.v j * r.q j
/-- The projection added to the residual. -/
def out (j : Fin 1024) : EReal := r.d j + lin r.mix r.W j
/-- The gradient of the gated sum. -/
def g : Fin 1024 → EReal := lin r.d fun k j => r.W j k
/-- The gradient of the first branch. -/
def dp (j : Fin 1024) : EReal := r.g j * r.u j
/-- The gradient of the second branch. -/
def dq (j : Fin 1024) : EReal := r.g j * r.v j
/-- The gradient of the first gate's logits. -/
def du (j : Fin 1024) : EReal := r.g j * r.p j * r.u j * (1 - r.u j)
/-- The gradient of the second gate's logits. -/
def dv (j : Fin 1024) : EReal := r.g j * r.q j * r.v j * (1 - r.v j)
/-- The gradient of the first attention's output. -/
def dx : Fin 512 → EReal := lin r.dp fun j k => r.A k j
/-- The gradient of the second attention's output. -/
def dy : Fin 512 → EReal := lin r.dq fun j k => r.B k j

/-- The gradient of the gates' logits. -/
def dl (j : Fin 2048) : EReal := if h : j.val < 1024 then r.du ⟨j.val, h⟩ else r.dv ⟨j.val - 1024, by omega⟩

theorem dl_lo (k : Fin 1024) : r.dl ⟨k.val, by omega⟩ = r.du k := dif_pos k.isLt
theorem dl_hi (k : Fin 1024) : r.dl ⟨1024 + k.val, by omega⟩ = r.dv k :=
  (dif_neg (by show ¬1024 + k.val < 1024; omega)).trans (congrArg r.dv (Fin.ext (by show 1024 + k.val - 1024 = k.val; omega)))

end Line

theorem halves (j : Fin 2048) : (∃ k : Fin 1024, j = ⟨k.val, by omega⟩) ∨ ∃ k : Fin 1024, j = ⟨1024 + k.val, by omega⟩ := by
  by_cases h : j.val < 1024
  · exact .inl ⟨⟨j.val, h⟩, rfl⟩
  · exact .inr ⟨⟨j.val - 1024, by omega⟩, Fin.ext (by show j.val = 1024 + (j.val - 1024); omega)⟩

section Block
variable {R : ℕ}

/-- The gates of a block of rows. -/
def gateV {N : ℕ} (l : Fox.V R N .f32) (c : Fox.V 1 N .f32) : Fox.V R N .f32 :=
  logistic (addf l (broadcastTo (Fox.S2 R N) c (Fox.bcRow R N)))

theorem gateV_apply {N : ℕ} (l : Fox.V R N .f32) (c : Fox.V 1 N .f32) (i : Fin R) (j : Fin N) :
    gateV l c (ix2 i j) = Ideal.logistic (l (ix2 i j) + c (ix2 0 j)) := by
  show Ideal.logistic (l (ix2 i j) + broadcastTo (Fox.S2 R N) c (Fox.bcRow R N) (ix2 i j)) = _
  rw [Fox.bcRow_apply]

variable (d : Fox.V R 1024 .f32) (x y : Fox.V R 512 .bf16) (l : Fox.V R 2048 .f32) (c : Fox.V 1 2048 .f32) (a b : Fox.V 512 1024 .bf16)
  (w : Fox.V 1024 1024 .bf16)

/-- Row `i` of a block. -/
def lineOf (i : Fin R) : Line where
  d k := d (ix2 i k)
  x k := x (ix2 i k)
  y k := y (ix2 i k)
  l j := l (ix2 i j)
  c j := c (ix2 0 j)
  A k j := a (ix2 k j)
  B k j := b (ix2 k j)
  W k j := w (ix2 k j)

theorem cut_apply {N W o : ℕ} (f : Fox.V R N .f32) (h : (Fox.S2 R N).Slices ![0, o] (Fox.S2 R W)) (i : Fin R) (j : Fin W) (k : Fin N)
    (hk : k.val = o + j.val) : extractStridedSlice (Fox.S2 R W) ![0, o] f h (ix2 i j) = f (ix2 i k) :=
  extractStridedSlice_apply _ _ _ _ _ fun a => match a with
    | ⟨0, _⟩ => (Nat.zero_add _).symm
    | ⟨1, _⟩ => hk

theorem first_gate (h : (Fox.S2 R 2048).Slices ![0, 0] (Fox.S2 R 1024)) (i : Fin R) (j : Fin 1024) :
    extractStridedSlice (Fox.S2 R 1024) ![0, 0] (gateV l c) h (ix2 i j) = (lineOf d x y l c a b w i).u j := by
  rw [cut_apply _ h i j ⟨j.val, by omega⟩ (Nat.zero_add _).symm, gateV_apply]
  rfl

theorem second_gate (h : (Fox.S2 R 2048).Slices ![0, 1024] (Fox.S2 R 1024)) (i : Fin R) (j : Fin 1024) :
    extractStridedSlice (Fox.S2 R 1024) ![0, 1024] (gateV l c) h (ix2 i j) = (lineOf d x y l c a b w i).v j := by
  rw [cut_apply _ h i j ⟨1024 + j.val, by omega⟩ rfl, gateV_apply]
  rfl

end Block

/-- Row `i` of the arguments: the gates' logits are the second half of the input projection. -/
def lineR (d : Fox.V 8704 1024 .f32) (x y : Fox.V 8704 512 .bf16) (l : Fox.V 8704 4096 .f32) (c : Fox.V 1 2048 .f32)
    (a b : Fox.V 512 1024 .bf16) (w : Fox.V 1024 1024 .bf16) (i : Fin 8704) : Line where
  d k := d (ix2 i k)
  x k := x (ix2 i k)
  y k := y (ix2 i k)
  l j := l (ix2 i ⟨2048 + j.val, by omega⟩)
  c j := c (ix2 0 j)
  A k j := a (ix2 k j)
  B k j := b (ix2 k j)
  W k j := w (ix2 k j)

end Ffn.Gate
-- ==== Proof.GateFwd.lean ====
module

public import proofs.«01_k».proof.Proof.GateRow
public import proofs.«01_k».proof.Proof.Gen.Kernel13Ideal.Value
public import proofs.«01_k».proof.Proof.Gen.Reference13Ideal.Read

/-!
  The forward call that gates the two branches and projects their sum: each block of 512 rows is gated, summed and multiplied
  by the projection's weights, and the gated sum is kept for the backward pass.
-/

@[expose] public section

set_option maxRecDepth 16384
set_option maxHeartbeats 400000

noncomputable section

namespace Ffn.Gate.Fwd

open Cert.Kernel13Ideal Cert.Kernel13Ideal.Gen Cert.Kernel13Ideal.Value Idealize.ShloMosaic Idealize.ShloMosaic.TcCoe
open Idealize.ShloMosaic.ValueIdx (ix2 eq_ix2)
open Ffn.Fwd (ext2)
open scoped BigOperators

section Block
variable (d : Fox.V 512 1024 .f32) (x y : Fox.V 512 512 .bf16) (l : Fox.V 512 2048 .f32) (c : Fox.V 1 2048 .f32) (a b : Fox.V 512 1024 .bf16)
  (w : Fox.V 1024 1024 .bf16)

/-- The gated sum stored. -/
theorem mix_apply (i : Fin 512) (j : Fin 1024) :
    (k0_pay1 (F := Ideal) l c x a y b : Fox.V 512 1024 .bf16) (ix2 i j) = (lineOf d x y l c a b w i).mix j := by
  show extractStridedSlice (Fox.S2 512 1024) ![0, 0] (gateV l c) Facts₀.slices_S512x2048_o0_0_S512x1024 (ix2 i j) * linV x a (ix2 i j)
    + extractStridedSlice (Fox.S2 512 1024) ![0, 1024] (gateV l c) Facts₀.slices_S512x2048_o0_1024_S512x1024 (ix2 i j) * linV y b (ix2 i j) = _
  rw [first_gate d x y l c a b w, second_gate d x y l c a b w, linV_apply, linV_apply]
  rfl

/-- The projection stored. -/
theorem out_apply (i : Fin 512) (j : Fin 1024) :
    (k0_pay2 (F := Ideal) l c x a y b d w : Fox.V 512 1024 .f32) (ix2 i j) = (lineOf d x y l c a b w i).out j := by
  show d (ix2 i j) + linV (k0_pay1 (F := Ideal) l c x a y b : Fox.V 512 1024 .bf16) w (ix2 i j) = _
  rw [linV_apply]
  simp only [mix_apply d x y l c a b w]
  rfl

end Block

theorem blocks : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem moves8 : ∀ t : Fin cfg0.N, win0_8.index t (0 : Fin 2) = t.val ∧ win0_8.index t (1 : Fin 2) = 0 :=
  (by decide +kernel : ∀ t : Fin grid0.N, _)

theorem writes8 : ∀ t : Fin cfg0.N, (cfg0.win 8).flush t = true :=
  (by decide +kernel : ∀ t : Fin grid0.N, _)

theorem moves9 : ∀ t : Fin cfg0.N, win0_9.index t (0 : Fin 2) = t.val ∧ win0_9.index t (1 : Fin 2) = 0 :=
  (by decide +kernel : ∀ t : Fin grid0.N, _)

theorem writes9 : ∀ t : Fin cfg0.N, (cfg0.win 9).flush t = true :=
  (by decide +kernel : ∀ t : Fin grid0.N, _)

variable (m : (ℓ : Loc nD τ sig) → Buf (Elt Ideal) ℓ) (c : Dev nD)

/-- The residual. -/
abbrev D : Fox.V 8704 1024 .f32 := m ((c : Thread nD τ).loc main_arg0)
/-- The first attention's output. -/
abbrev X : Fox.V 8704 512 .bf16 := m ((c : Thread nD τ).loc main_arg1)
/-- The second attention's output. -/
abbrev Y : Fox.V 8704 512 .bf16 := m ((c : Thread nD τ).loc main_arg2)
/-- The input projection, the gates' logits its second half. -/
abbrev P : Fox.V 8704 4096 .f32 := m ((c : Thread nD τ).loc main_arg3)
/-- The gates' biases. -/
abbrev C : Fox.V 1 2048 .f32 := m ((c : Thread nD τ).loc main_arg4)
/-- The first branch's weights. -/
abbrev A : Fox.V 512 1024 .bf16 := m ((c : Thread nD τ).loc main_arg5)
/-- The second branch's weights. -/
abbrev B : Fox.V 512 1024 .bf16 := m ((c : Thread nD τ).loc main_arg6)
/-- The output projection's weights. -/
abbrev W : Fox.V 1024 1024 .bf16 := m ((c : Thread nD τ).loc main_arg7)

/-- Row `i` of the arguments. -/
def rows (i : Fin 8704) : Line := lineR (D m c) (X m c) (Y m c) (P m c) (C m c) (A m c) (B m c) (W m c) i

theorem row_lt (t : Fin cfg0.N) (i : Fin 512) : 512 * t.val + i.val < 8704 := by
  have h : t.val < 17 := t.isLt
  omega

theorem blk_d (t : Fin cfg0.N) (i : Fin 512) (j : Fin 1024) :
    (iblk m c 0 t : Fox.V 512 1024 .f32) (ix2 i j) = D m c (ix2 ⟨512 * t.val + i.val, row_lt t i⟩ j) := by
  obtain ⟨⟨e0, e1⟩, -⟩ := blocks t
  show Gen.V m c main_arg0 (((cfg0.win 0).blk t).view.emb (ix2 i j)) = _
  rw [V_main_arg0]
  refine congrArg (m ((c : Thread nD τ).loc main_arg0)) (funext fun a => Fin.ext ?_)
  match a with
  | ⟨0, _⟩ => show win0_0.index t (0 : Fin 2) * 512 + 1 * i.val = 512 * t.val + i.val; omega
  | ⟨1, _⟩ => show win0_0.index t (1 : Fin 2) * 1024 + 1 * j.val = j.val; omega

theorem blk_x (t : Fin cfg0.N) (i : Fin 512) (j : Fin 512) :
    (iblk m c 1 t : Fox.V 512 512 .bf16) (ix2 i j) = X m c (ix2 ⟨512 * t.val + i.val, row_lt t i⟩ j) := by
  obtain ⟨-, ⟨e0, e1⟩, -⟩ := blocks t
  show Gen.V m c main_arg1 (((cfg0.win 1).blk t).view.emb (ix2 i j)) = _
  rw [V_main_arg1]
  refine congrArg (m ((c : Thread nD τ).loc main_arg1)) (funext fun a => Fin.ext ?_)
  match a with
  | ⟨0, _⟩ => show win0_1.index t (0 : Fin 2) * 512 + 1 * i.val = 512 * t.val + i.val; omega
  | ⟨1, _⟩ => show win0_1.index t (1 : Fin 2) * 512 + 1 * j.val = j.val; omega

theorem blk_y (t : Fin cfg0.N) (i : Fin 512) (j : Fin 512) :
    (iblk m c 2 t : Fox.V 512 512 .bf16) (ix2 i j) = Y m c (ix2 ⟨512 * t.val + i.val, row_lt t i⟩ j) := by
  obtain ⟨-, -, ⟨e0, e1⟩, -⟩ := blocks t
  show Gen.V m c main_arg2 (((cfg0.win 2).blk t).view.emb (ix2 i j)) = _
  rw [V_main_arg2]
  refine congrArg (m ((c : Thread nD τ).loc main_arg2)) (funext fun a => Fin.ext ?_)
  match a with
  | ⟨0, _⟩ => show win0_2.index t (0 : Fin 2) * 512 + 1 * i.val = 512 * t.val + i.val; omega
  | ⟨1, _⟩ => show win0_2.index t (1 : Fin 2) * 512 + 1 * j.val = j.val; omega

theorem blk_l (t : Fin cfg0.N) (i : Fin 512) (j : Fin 2048) :
    (iblk m c 3 t : Fox.V 512 2048 .f32) (ix2 i j) = P m c (ix2 ⟨512 * t.val + i.val, row_lt t i⟩ ⟨2048 + j.val, by omega⟩) := by
  obtain ⟨-, -, -, ⟨e0, e1⟩, -⟩ := blocks t
  show Gen.V m c main_arg3 (((cfg0.win 3).blk t).view.emb (ix2 i j)) = _
  rw [V_main_arg3]
  refine congrArg (m ((c : Thread nD τ).loc main_arg3)) (funext fun a => Fin.ext ?_)
  match a with
  | ⟨0, _⟩ => show win0_3.index t (0 : Fin 2) * 512 + 1 * i.val = 512 * t.val + i.val; omega
  | ⟨1, _⟩ => show win0_3.index t (1 : Fin 2) * 2048 + 1 * j.val = 2048 + j.val; omega

theorem blk_c (t : Fin cfg0.N) (j : Fin 2048) :
    (iblk m c 4 t : Fox.V 1 2048 .f32) (ix2 0 j) = C m c (ix2 0 j) := by
  obtain ⟨-, -, -, -, ⟨e0, e1⟩, -⟩ := blocks t
  show Gen.V m c main_arg4 (((cfg0.win 4).blk t).view.emb (ix2 0 j)) = _
  rw [V_main_arg4]
  refine congrArg (m ((c : Thread nD τ).loc main_arg4)) (funext fun a => Fin.ext ?_)
  match a with
  | ⟨0, _⟩ => show win0_4.index t (0 : Fin 2) * 1 + 1 * 0 = 0; omega
  | ⟨1, _⟩ => show win0_4.index t (1 : Fin 2) * 2048 + 1 * j.val = j.val; omega

theorem blk_a (t : Fin cfg0.N) (i : Fin 512) (j : Fin 1024) :
    (iblk m c 5 t : Fox.V 512 1024 .bf16) (ix2 i j) = A m c (ix2 i j) := by
  obtain ⟨-, -, -, -, -, ⟨e0, e1⟩, -⟩ := blocks t
  show Gen.V m c main_arg5 (((cfg0.win 5).blk t).view.emb (ix2 i j)) = _
  rw [V_main_arg5]
  refine congrArg (m ((c : Thread nD τ).loc main_arg5)) (funext fun a => Fin.ext ?_)
  match a with
  | ⟨0, _⟩ => show win0_5.index t (0 : Fin 2) * 512 + 1 * i.val = i.val; omega
  | ⟨1, _⟩ => show win0_5.index t (1 : Fin 2) * 1024 + 1 * j.val = j.val; omega

theorem blk_b (t : Fin cfg0.N) (i : Fin 512) (j : Fin 1024) :
    (iblk m c 6 t : Fox.V 512 1024 .bf16) (ix2 i j) = B m c (ix2 i j) := by
  obtain ⟨-, -, -, -, -, -, ⟨e0, e1⟩, -⟩ := blocks t
  show Gen.V m c main_arg6 (((cfg0.win 6).blk t).view.emb (ix2 i j)) = _
  rw [V_main_arg6]
  refine congrArg (m ((c : Thread nD τ).loc main_arg6)) (funext fun a => Fin.ext ?_)
  match a with
  | ⟨0, _⟩ => show win0_6.index t (0 : Fin 2) * 512 + 1 * i.val = i.val; omega
  | ⟨1, _⟩ => show win0_6.index t (1 : Fin 2) * 1024 + 1 * j.val = j.val; omega

theorem blk_w (t : Fin cfg0.N) (i : Fin 1024) (j : Fin 1024) :
    (iblk m c 7 t : Fox.V 1024 1024 .bf16) (ix2 i j) = W m c (ix2 i j) := by
  obtain ⟨-, -, -, -, -, -, -, ⟨e0, e1⟩⟩ := blocks t
  show Gen.V m c main_arg7 (((cfg0.win 7).blk t).view.emb (ix2 i j)) = _
  rw [V_main_arg7]
  refine congrArg (m ((c : Thread nD τ).loc main_arg7)) (funext fun a => Fin.ext ?_)
  match a with
  | ⟨0, _⟩ => show win0_7.index t (0 : Fin 2) * 1024 + 1 * i.val = i.val; omega
  | ⟨1, _⟩ => show win0_7.index t (1 : Fin 2) * 1024 + 1 * j.val = j.val; omega

/-- The rows of a step's blocks are rows of the arguments. -/
theorem row_blk (t : Fin cfg0.N) (i : Fin 512) :
    lineOf (iblk m c 0 t) (iblk m c 1 t) (iblk m c 2 t) (iblk m c 3 t) (iblk m c 4 t) (iblk m c 5 t) (iblk m c 6 t) (iblk m c 7 t) i
      = rows m c ⟨512 * t.val + i.val, row_lt t i⟩ := by
  unfold lineOf rows lineR
  simp only [blk_d, blk_x, blk_y, blk_l, blk_c, blk_a, blk_b, blk_w]

theorem emb8 (t : Fin cfg0.N) (i : Fin 512) (j : Fin 1024) :
    (((cfg0.win 8).blk t).view.emb (ix2 i j) : (Fox.S2 8704 1024).Idx) = ix2 ⟨512 * t.val + i.val, row_lt t i⟩ j := by
  obtain ⟨e0, e1⟩ := moves8 t
  funext a; apply Fin.ext
  match a with
  | ⟨0, _⟩ => show win0_8.index t (0 : Fin 2) * 512 + 1 * i.val = 512 * t.val + i.val; omega
  | ⟨1, _⟩ => show win0_8.index t (1 : Fin 2) * 1024 + 1 * j.val = j.val; omega

theorem emb9 (t : Fin cfg0.N) (i : Fin 512) (j : Fin 1024) :
    (((cfg0.win 9).blk t).view.emb (ix2 i j) : (Fox.S2 8704 1024).Idx) = ix2 ⟨512 * t.val + i.val, row_lt t i⟩ j := by
  obtain ⟨e0, e1⟩ := moves9 t
  funext a; apply Fin.ext
  match a with
  | ⟨0, _⟩ => show win0_9.index t (0 : Fin 2) * 512 + 1 * i.val = 512 * t.val + i.val; omega
  | ⟨1, _⟩ => show win0_9.index t (1 : Fin 2) * 1024 + 1 * j.val = j.val; omega

/-- The activations after the run. -/
def outs : Fox.V 8704 1024 .f32 := fun y => (rows m c (y 0)).out (y 1)
/-- The gated sum after the run. -/
def mixes : Fox.V 8704 1024 .bf16 := fun y => (rows m c (y 0)).mix (y 1)

theorem final_outs : ((dats m 0 c).arrAt 8 cfg0.N : Fox.V 8704 1024 .f32) = outs m c := by
  refine (dats m 0 c).arrAt_eq_of_cover 8 (outs m c) (fun t _ => ?_) fun y => ?_
  · refine (flushed8 m c t).trans (funext fun z => ?_)
    obtain ⟨i, j, rfl⟩ : ∃ (i : Fin 512) (j : Fin 1024), z = ix2 i j := ⟨_, _, eq_ix2 z⟩
    show out0_8 (iblk m c 0 t) (iblk m c 1 t) (iblk m c 2 t) (iblk m c 3 t) (iblk m c 4 t) (iblk m c 5 t) (iblk m c 6 t) (iblk m c 7 t) (ix2 i j)
      = outs m c (((cfg0.win 8).blk t).view.emb (ix2 i j))
    rw [emb8]
    unfold out0_8
    rw [View.canon_unit_zero hz]
    simp only [View.ld_unit_zero (S := S512x1024) hz, View.ld_unit_zero (S := S512x512) hz, View.ld_unit_zero (S := S512x2048) hz,
      View.ld_unit_zero (S := S1x2048) hz, View.ld_unit_zero (S := S1024x1024) hz]
    refine (out_apply (iblk m c 0 t) _ _ _ _ _ _ (iblk m c 7 t) i j).trans ?_
    rw [row_blk]
    rfl
  · obtain ⟨r, j, rfl⟩ : ∃ (r : Fin 8704) (j : Fin 1024), y = ix2 r j := ⟨_, _, eq_ix2 y⟩
    have hN : cfg0.N = 17 := N_0
    have hr := r.isLt
    refine ⟨⟨r.val / 512, by omega⟩, writes8 _, ?_⟩
    have h := ((cfg0.win 8).blk (⟨r.val / 512, by omega⟩ : Fin cfg0.N)).view.emb_mem_set
      (ix2 (⟨r.val % 512, Nat.mod_lt _ (by decide)⟩ : Fin 512) j)
    rw [emb8] at h
    have e : (⟨512 * (r.val / 512) + r.val % 512, by omega⟩ : Fin 8704) = r := Fin.ext (by show 512 * (r.val / 512) + r.val % 512 = r.val; omega)
    rwa [e] at h

theorem final_mixes : ((dats m 0 c).arrAt 9 cfg0.N : Fox.V 8704 1024 .bf16) = mixes m c := by
  refine (dats m 0 c).arrAt_eq_of_cover 9 (mixes m c) (fun t _ => ?_) fun y => ?_
  · refine (flushed9 m c t).trans (funext fun z => ?_)
    obtain ⟨i, j, rfl⟩ : ∃ (i : Fin 512) (j : Fin 1024), z = ix2 i j := ⟨_, _, eq_ix2 z⟩
    show out0_9 (iblk m c 0 t) (iblk m c 1 t) (iblk m c 2 t) (iblk m c 3 t) (iblk m c 4 t) (iblk m c 5 t) (iblk m c 6 t) (iblk m c 7 t) (ix2 i j)
      = mixes m c (((cfg0.win 9).blk t).view.emb (ix2 i j))
    rw [emb9]
    unfold out0_9
    rw [View.canon_unit_zero hz]
    simp only [View.ld_unit_zero (S := S512x1024) hz, View.ld_unit_zero (S := S512x512) hz, View.ld_unit_zero (S := S512x2048) hz,
      View.ld_unit_zero (S := S1x2048) hz, View.ld_unit_zero (S := S1024x1024) hz]
    refine (mix_apply (iblk m c 0 t) _ _ _ _ _ _ (iblk m c 7 t) i j).trans ?_
    rw [row_blk]
    rfl
  · obtain ⟨r, j, rfl⟩ : ∃ (r : Fin 8704) (j : Fin 1024), y = ix2 r j := ⟨_, _, eq_ix2 y⟩
    have hN : cfg0.N = 17 := N_0
    have hr := r.isLt
    refine ⟨⟨r.val / 512, by omega⟩, writes9 _, ?_⟩
    have h := ((cfg0.win 9).blk (⟨r.val / 512, by omega⟩ : Fin cfg0.N)).view.emb_mem_set
      (ix2 (⟨r.val % 512, Nat.mod_lt _ (by decide)⟩ : Fin 512) j)
    rw [emb9] at h
    have e : (⟨512 * (r.val / 512) + r.val % 512, by omega⟩ : Fin 8704) = r := Fin.ext (by show 512 * (r.val / 512) + r.val % 512 = r.val; omega)
    rwa [e] at h

/-! ## The reference -/

section Reference
open Cert.Reference13Ideal.Read
variable (d : Fox.V 8704 1024 .f32) (x y : Fox.V 8704 512 .bf16) (l : Fox.V 8704 4096 .f32) (c : Fox.V 1 2048 .f32) (a b : Fox.V 512 1024 .bf16)
  (w : Fox.V 1024 1024 .bf16)

theorem ref_s (i : Fin 8704) (j : Fin 2048) :
    (val_main_v8 (F := Ideal) l c : Fox.V 8704 2048 .f32) (ix2 i j) = (lineR d x y l c a b w i).s j := by
  rw [val_main_v8_apply, val_main_v7_apply, val_main_cst_0_apply, val_main_v6_apply, val_main_v5_apply, val_main_cst_apply, val_main_v4_apply,
    val_main_v3_apply, logistic_spelled, val_main_v2_apply, val_main_v0_apply, val_main_v1_apply,
    show idx_main_v0 (ix2 i j) = ix2 i ⟨2048 + j.val, by omega⟩ from ext2 rfl rfl, show idx_main_v1 (ix2 i j) = ix2 0 j from ext2 rfl rfl]
  rfl

theorem ref_p (i : Fin 8704) (j : Fin 1024) :
    (val_main_v11 (F := Ideal) x a : Fox.V 8704 1024 .f32) (ix2 i j) = (lineR d x y l c a b w i).p j := by
  rw [val_main_v11_apply]
  unfold Line.p lin
  refine Finset.sum_congr rfl fun k _ => ?_
  rw [show lidx_main_v11 (ix2 i j) k = ix2 i k from ext2 rfl rfl, show ridx_main_v11 (ix2 i j) k = ix2 k j from ext2 rfl rfl,
    val_main_v9_apply, val_main_v10_apply]
  rfl

theorem ref_q (i : Fin 8704) (j : Fin 1024) :
    (val_main_v14 (F := Ideal) y b : Fox.V 8704 1024 .f32) (ix2 i j) = (lineR d x y l c a b w i).q j := by
  rw [val_main_v14_apply]
  unfold Line.q lin
  refine Finset.sum_congr rfl fun k _ => ?_
  rw [show lidx_main_v14 (ix2 i j) k = ix2 i k from ext2 rfl rfl, show ridx_main_v14 (ix2 i j) k = ix2 k j from ext2 rfl rfl,
    val_main_v12_apply, val_main_v13_apply]
  rfl

theorem ref_mix (i : Fin 8704) (j : Fin 1024) :
    (val_main_v19 (F := Ideal) x y l c a b : Fox.V 8704 1024 .f32) (ix2 i j) = (lineR d x y l c a b w i).mix j := by
  rw [val_main_v19_apply, val_main_v17_apply, val_main_v18_apply, val_main_v15_apply, val_main_v16_apply,
    show idx_main_v15 (ix2 i j) = ix2 i ⟨j.val, by omega⟩ from ext2 rfl rfl,
    show idx_main_v16 (ix2 i j) = ix2 i ⟨1024 + j.val, by omega⟩ from ext2 rfl rfl, ref_s d x y l c a b w, ref_s d x y l c a b w,
    ref_p d x y l c a b w, ref_q d x y l c a b w]
  rfl

theorem ref_out (i : Fin 8704) (j : Fin 1024) :
    (val_main_v22 (F := Ideal) d x y l c a b w : Fox.V 8704 1024 .f32) (ix2 i j) = (lineR d x y l c a b w i).out j := by
  rw [val_main_v22_apply, val_main_v21_apply]
  refine congrArg (d (ix2 i j) + ·) (Finset.sum_congr rfl fun k _ => ?_)
  rw [show lidx_main_v21 (ix2 i j) k = ix2 i k from ext2 rfl rfl, show ridx_main_v21 (ix2 i j) k = ix2 k j from ext2 rfl rfl,
    ref_mix d x y l c a b w, val_main_v20_apply]
  rfl

end Reference

open Cert.Reference13Ideal.Read in
theorem plain_outs : val_main_v22 (F := Ideal) (D m c) (X m c) (Y m c) (P m c) (C m c) (A m c) (B m c) (W m c) = outs m c := by
  funext z
  obtain ⟨i, j, rfl⟩ : ∃ i j, z = ix2 i j := ⟨_, _, eq_ix2 z⟩
  exact ref_out (D m c) (X m c) (Y m c) (P m c) (C m c) (A m c) (B m c) (W m c) i j

open Cert.Reference13Ideal.Read in
theorem plain_mixes : val_main_v23 (F := Ideal) (X m c) (Y m c) (P m c) (C m c) (A m c) (B m c) = mixes m c := by
  funext z
  obtain ⟨i, j, rfl⟩ : ∃ i j, z = ix2 i j := ⟨_, _, eq_ix2 z⟩
  rw [val_main_v23_apply]
  exact ref_mix (D m c) (X m c) (Y m c) (P m c) (C m c) (A m c) (B m c) (W m c) i j

end Ffn.Gate.Fwd
-- ==== Proof.GateCases.lean ====
module

public import proofs.«01_k».proof.Proof.GateRow
public import proofs.«01_k».proof.Proof.Gen.Kernel14Ideal.Value

/-!
  The backward call of the gated sum: what each step stores, as a function of the blocks it reads.
-/

@[expose] public section

set_option maxRecDepth 16384
set_option maxHeartbeats 400000

noncomputable section

namespace Ffn.Gate.Bwd

open Cert.Kernel14Ideal Cert.Kernel14Ideal.Gen Cert.Kernel14Ideal.Value Idealize.ShloMosaic Idealize.ShloMosaic.TcCoe
open Idealize.ShloMosaic.ValueIdx (ix1 ix2 eq_ix2)
open Ffn.Fwd (ext2)
open scoped BigOperators

section Halves
variable {R : ℕ} {e : EltTy} (h : ∀ a, (![0, 1024] : Fin 2 → ℕ) a + (Fox.S2 R 1024).size a ≤ (Fox.S2 R 2048).size a)
  (h' : ∀ a, (![0, 0] : Fin 2 → ℕ) a + (Fox.S2 R 1024).size a ≤ (Fox.S2 R 2048).size a) (w : (Fox.S2 R 1024).Idx → Elt Ideal e)
  (L : List (View.Piece (Elt Ideal) (Fox.S2 R 2048) e)) (i : Fin R) (k : Fin 1024)

/-- A store of the second half is read back there. -/
theorem canon_hi : View.canon ((⟨Rect.unit (s := Fox.S2 R 2048) ![0, 1024] (Fox.S2 R 1024).size h, w⟩ : View.Piece (Elt Ideal) (Fox.S2 R 2048) e) :: L)
    (ix2 i ⟨1024 + k.val, by omega⟩) = w (ix2 i k) := by
  have e1 : (Rect.unit (s := Fox.S2 R 2048) ![0, 1024] (Fox.S2 R 1024).size h).emb (ix2 i k) = ix2 i (⟨1024 + k.val, by omega⟩ : Fin 2048) :=
    ext2 (by show 0 + 1 * i.val = i.val; omega) (by show 1024 + 1 * k.val = 1024 + k.val; omega)
  rw [← e1]
  exact View.canon_cons_emb (Rect.unit (s := Fox.S2 R 2048) ![0, 1024] (Fox.S2 R 1024).size h) w L (ix2 i k)

/-- A store of the second half leaves the first as it was. -/
theorem canon_hi_off : View.canon ((⟨Rect.unit (s := Fox.S2 R 2048) ![0, 1024] (Fox.S2 R 1024).size h, w⟩ : View.Piece (Elt Ideal) (Fox.S2 R 2048) e) :: L)
    (ix2 i ⟨k.val, by omega⟩) = View.canon L (ix2 i ⟨k.val, by omega⟩) := by
  refine View.canon_cons_of_not_mem _ L fun hm => ?_
  have h0 : ix2 i (⟨k.val, by omega⟩ : Fin 2048) ∈ (Rect.unit (s := Fox.S2 R 2048) ![0, 1024] (Fox.S2 R 1024).size h).set := hm
  rw [Rect.mem_set_unit] at h0
  have h1 : 1024 ≤ k.val := (h0 (1 : Fin 2)).1
  omega

/-- A store of the first half is read back there. -/
theorem canon_lo : View.canon ((⟨Rect.unit (s := Fox.S2 R 2048) ![0, 0] (Fox.S2 R 1024).size h', w⟩ : View.Piece (Elt Ideal) (Fox.S2 R 2048) e) :: L)
    (ix2 i ⟨k.val, by omega⟩) = w (ix2 i k) := by
  have e1 : (Rect.unit (s := Fox.S2 R 2048) ![0, 0] (Fox.S2 R 1024).size h').emb (ix2 i k) = ix2 i (⟨k.val, by omega⟩ : Fin 2048) :=
    ext2 (by show 0 + 1 * i.val = i.val; omega) (by show 0 + 1 * k.val = k.val; omega)
  rw [← e1]
  exact View.canon_cons_emb (Rect.unit (s := Fox.S2 R 2048) ![0, 0] (Fox.S2 R 1024).size h') w L (ix2 i k)

/-- A store of the first half leaves the second as it was. -/
theorem canon_lo_off : View.canon ((⟨Rect.unit (s := Fox.S2 R 2048) ![0, 0] (Fox.S2 R 1024).size h', w⟩ : View.Piece (Elt Ideal) (Fox.S2 R 2048) e) :: L)
    (ix2 i ⟨1024 + k.val, by omega⟩) = View.canon L (ix2 i ⟨1024 + k.val, by omega⟩) := by
  refine View.canon_cons_of_not_mem _ L fun hm => ?_
  have h0 : ix2 i (⟨1024 + k.val, by omega⟩ : Fin 2048) ∈ (Rect.unit (s := Fox.S2 R 2048) ![0, 0] (Fox.S2 R 1024).size h').set := hm
  rw [Rect.mem_set_unit] at h0
  have h1 : 1024 + k.val < 0 + 1024 := (h0 (1 : Fin 2)).2
  omega

end Halves

section Reads
variable (v : View sig .tc .vmem S1x2048 .f32) (L : List (View.Piece (Elt Ideal) S1x2048 .f32)) (k : Fin 1024)

theorem read_lo (h : ∀ a, (![0, 0] : Fin 2 → ℕ) a + (![1, 1024] : Fin 2 → ℕ) a ≤ S1x2048.size a) :
    v.readCov L (Rect.unit (s := S1x2048) ![0, 0] ![1, 1024] h).toLoadRect (ix2 (0 : Fin 1) k) = View.canon L (ix2 0 ⟨k.val, by omega⟩) := by
  rw [View.readCov_eq_canon']
  exact congrArg (View.canon L) (ext2 rfl (by show 0 + 1 * k.val = k.val; omega))

theorem read_hi (h : ∀ a, (![0, 1024] : Fin 2 → ℕ) a + (![1, 1024] : Fin 2 → ℕ) a ≤ S1x2048.size a) :
    v.readCov L (Rect.unit (s := S1x2048) ![0, 1024] ![1, 1024] h).toLoadRect (ix2 (0 : Fin 1) k) = View.canon L (ix2 0 ⟨1024 + k.val, by omega⟩) := by
  rw [View.readCov_eq_canon']
  exact congrArg (View.canon L) (ext2 rfl (by show 1024 + 1 * k.val = 1024 + k.val; omega))

theorem zero_at (h : ∀ a, (![0, 0] : Fin 2 → ℕ) a + S1x2048.size a ≤ S1x2048.size a) (y : S1x2048.Idx) :
    (View.canon [(⟨Rect.unit (s := S1x2048) ![0, 0] S1x2048.size h, k0_pay1 (F := Ideal)⟩ : View.Piece (Elt Ideal) S1x2048 .f32)] y : EReal) = 0 := by
  rw [View.canon_unit_zero (S := S1x2048) hz]
  exact Fox.zeroF

end Reads

section Block
variable (d : Fox.V 512 1024 .f32) (x y : Fox.V 512 512 .bf16) (l : Fox.V 512 2048 .f32) (c : Fox.V 1 2048 .f32) (a b : Fox.V 512 1024 .bf16)
  (w : Fox.V 1024 1024 .bf16)

/-- The gradient of the first branch. -/
def dpB : Fox.V 512 1024 .bf16 := k0_pay6 (F := Ideal) l c d w
/-- The gradient of the second branch. -/
def dqB : Fox.V 512 1024 .bf16 := k0_pay7 (F := Ideal) l c d w
/-- The gradient of the first attention's output. -/
def dxB : Fox.V 512 512 .bf16 := k0_pay14 (F := Ideal) (dpB d l c w) a
/-- The gradient of the second attention's output. -/
def dyB : Fox.V 512 512 .bf16 := k0_pay15 (F := Ideal) (dqB d l c w) b

theorem dpB_apply (i : Fin 512) (j : Fin 1024) : dpB d l c w (ix2 i j) = (lineOf d x y l c a b w i).dp j := by
  show backV (truncf .bf16 d Fox.bits_lt) w (ix2 i j)
    * extractStridedSlice (Fox.S2 512 1024) ![0, 0] (gateV l c) Facts₀.slices_S512x2048_o0_0_S512x1024 (ix2 i j) = _
  rw [backV_apply, first_gate d x y l c a b w]
  rfl

theorem dqB_apply (i : Fin 512) (j : Fin 1024) : dqB d l c w (ix2 i j) = (lineOf d x y l c a b w i).dq j := by
  show backV (truncf .bf16 d Fox.bits_lt) w (ix2 i j)
    * extractStridedSlice (Fox.S2 512 1024) ![0, 1024] (gateV l c) Facts₀.slices_S512x2048_o0_1024_S512x1024 (ix2 i j) = _
  rw [backV_apply, second_gate d x y l c a b w]
  rfl

theorem dxB_apply (i : Fin 512) (k : Fin 512) : dxB d l c a w (ix2 i k) = (lineOf d x y l c a b w i).dx k := by
  show backV (dpB d l c w) a (ix2 i k) = _
  rw [backV_apply]
  simp only [dpB_apply d x y l c a b w]
  rfl

theorem dyB_apply (i : Fin 512) (k : Fin 512) : dyB d l c b w (ix2 i k) = (lineOf d x y l c a b w i).dy k := by
  show backV (dqB d l c w) b (ix2 i k) = _
  rw [backV_apply]
  simp only [dqB_apply d x y l c a b w]
  rfl

theorem du_apply (i : Fin 512) (j : Fin 1024) :
    (k0_pay8 (F := Ideal) l c d w x a : Fox.V 512 1024 .f32) (ix2 i j) = (lineOf d x y l c a b w i).du j := by
  show backV (truncf .bf16 d Fox.bits_lt) w (ix2 i j) * linV x a (ix2 i j)
    * extractStridedSlice (Fox.S2 512 1024) ![0, 0] (gateV l c) Facts₀.slices_S512x2048_o0_0_S512x1024 (ix2 i j)
    * ((FloatOps.ofBits .f32 0x3F800000#32 : Ideal .f32)
      - extractStridedSlice (Fox.S2 512 1024) ![0, 0] (gateV l c) Facts₀.slices_S512x2048_o0_0_S512x1024 (ix2 i j) : EReal) = _
  rw [backV_apply, linV_apply, first_gate d x y l c a b w, Fox.oneF]
  rfl

theorem dv_apply (i : Fin 512) (j : Fin 1024) :
    (k0_pay9 (F := Ideal) l c d w y b : Fox.V 512 1024 .f32) (ix2 i j) = (lineOf d x y l c a b w i).dv j := by
  show backV (truncf .bf16 d Fox.bits_lt) w (ix2 i j) * linV y b (ix2 i j)
    * extractStridedSlice (Fox.S2 512 1024) ![0, 1024] (gateV l c) Facts₀.slices_S512x2048_o0_1024_S512x1024 (ix2 i j)
    * ((FloatOps.ofBits .f32 0x3F800000#32 : Ideal .f32)
      - extractStridedSlice (Fox.S2 512 1024) ![0, 1024] (gateV l c) Facts₀.slices_S512x2048_o0_1024_S512x1024 (ix2 i j) : EReal) = _
  rw [backV_apply, linV_apply, second_gate d x y l c a b w, Fox.oneF]
  rfl

theorem sumU_apply (acc : Fox.V 1 1024 .f32) (k : Fin 1024) : (k0_pay12 (F := Ideal) (k0_pay8 (F := Ideal) l c d w x a) acc : Fox.V 1 1024 .f32) (ix2 0 k)
    = acc (ix2 0 k) + ∑ i, (lineOf d x y l c a b w i).du k := by
  show shapeCast (Fox.S2 1 1024) acc _ (ix2 0 k) + shapeCast (Fox.S2 1 1024) (multiReduction .add [0] (Fox.S1 1024)
    (k0_pay8 (F := Ideal) l c d w x a) 0x00000000#32 (Fox.redCol 512 1024) Fox.fmtF Fox.accAdd) (Fox.scRow 1024) (ix2 0 k) = _
  rw [shapeCast_self, Fox.row_apply, Fox.colAdd_apply]
  exact congrArg (acc (ix2 0 k) + ·) (Finset.sum_congr rfl fun i _ => du_apply d x y l c a b w i k)

theorem sumV_apply (acc : Fox.V 1 1024 .f32) (k : Fin 1024) : (k0_pay13 (F := Ideal) (k0_pay9 (F := Ideal) l c d w y b) acc : Fox.V 1 1024 .f32) (ix2 0 k)
    = acc (ix2 0 k) + ∑ i, (lineOf d x y l c a b w i).dv k := by
  show shapeCast (Fox.S2 1 1024) acc _ (ix2 0 k) + shapeCast (Fox.S2 1 1024) (multiReduction .add [0] (Fox.S1 1024)
    (k0_pay9 (F := Ideal) l c d w y b) 0x00000000#32 (Fox.redCol 512 1024) Fox.fmtF Fox.accAdd) (Fox.scRow 1024) (ix2 0 k) = _
  rw [shapeCast_self, Fox.row_apply, Fox.colAdd_apply]
  exact congrArg (acc (ix2 0 k) + ·) (Finset.sum_congr rfl fun i _ => dv_apply d x y l c a b w i k)

end Block

section Cases
variable (c : Dev nD) (i : grid0.Coords)
  (a1 : Memref sig .tc .vmem S512x1024 .f32) (h1 : a1.IsWhole) (a2 : Memref sig .tc .vmem S512x512 .bf16) (h2 : a2.IsWhole)
  (a3 : Memref sig .tc .vmem S512x512 .bf16) (h3 : a3.IsWhole) (a4 : Memref sig .tc .vmem S512x2048 .f32) (h4 : a4.IsWhole)
  (a5 : Memref sig .tc .vmem S1x2048 .f32) (h5 : a5.IsWhole) (a6 : Memref sig .tc .vmem S512x1024 .bf16) (h6 : a6.IsWhole)
  (a7 : Memref sig .tc .vmem S512x1024 .bf16) (h7 : a7.IsWhole) (a8 : Memref sig .tc .vmem S1024x1024 .bf16) (h8 : a8.IsWhole)
  (a9 : Memref sig .tc .vmem S512x2048 .bf16) (h9 : a9.IsWhole) (a10 : Memref sig .tc .vmem S512x1024 .bf16) (h10 : a10.IsWhole)
  (a11 : Memref sig .tc .vmem S512x1024 .bf16) (h11 : a11.IsWhole) (a12 : Memref sig .tc .vmem S512x512 .bf16) (h12 : a12.IsWhole)
  (a13 : Memref sig .tc .vmem S512x512 .bf16) (h13 : a13.IsWhole) (a14 : Memref sig .tc .vmem S1x2048 .f32) (h14 : a14.IsWhole)
  (x0 : Vec Ideal S512x1024 .f32) (x1 x2 : Vec Ideal S512x512 .bf16) (x3 : Vec Ideal S512x2048 .f32) (x4 : Vec Ideal S1x2048 .f32)
  (x5 x6 : Vec Ideal S512x1024 .bf16) (x7 : Vec Ideal S1024x1024 .bf16) (acc : Vec Ideal S1x2048 .f32)

theorem out_A_9 (hc : cond0_0 i) :
    out0_A_9 c i a1 h1 a2 h2 a3 h3 a4 h4 a5 h5 a6 h6 a7 h7 a8 h8 a9 h9 a10 h10 a11 h11 a12 h12 a13 h13 a14 h14 hc
      x0 x1 x2 x3 x4 x5 x6 x7 = dpB x0 x3 x4 x7 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rfl

theorem out_A_10 (hc : cond0_0 i) :
    out0_A_10 c i a1 h1 a2 h2 a3 h3 a4 h4 a5 h5 a6 h6 a7 h7 a8 h8 a9 h9 a10 h10 a11 h11 a12 h12 a13 h13 a14 h14 hc
      x0 x1 x2 x3 x4 x5 x6 x7 = dqB x0 x3 x4 x7 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rfl

theorem out_A_11 (hc : cond0_0 i) :
    out0_A_11 c i a1 h1 a2 h2 a3 h3 a4 h4 a5 h5 a6 h6 a7 h7 a8 h8 a9 h9 a10 h10 a11 h11 a12 h12 a13 h13 a14 h14 hc
      x0 x1 x2 x3 x4 x5 x6 x7 = dxB x0 x3 x4 x5 x7 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rfl

theorem out_A_12 (hc : cond0_0 i) :
    out0_A_12 c i a1 h1 a2 h2 a3 h3 a4 h4 a5 h5 a6 h6 a7 h7 a8 h8 a9 h9 a10 h10 a11 h11 a12 h12 a13 h13 a14 h14 hc
      x0 x1 x2 x3 x4 x5 x6 x7 = dyB x0 x3 x4 x6 x7 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rfl

theorem out_A_8 (hc : cond0_0 i) (r : Fin 512) (j : Fin 2048) :
    (out0_A_8 c i a1 h1 a2 h2 a3 h3 a4 h4 a5 h5 a6 h6 a7 h7 a8 h8 a9 h9 a10 h10 a11 h11 a12 h12 a13 h13 a14 h14 hc
      x0 x1 x2 x3 x4 x5 x6 x7 : Fox.V 512 2048 .bf16) (ix2 r j) = (lineOf x0 x1 x2 x3 x4 x5 x6 x7 r).dl j := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rcases halves j with ⟨k, rfl⟩ | ⟨k, rfl⟩
  · refine (canon_hi_off _ _ _ r k).trans ((canon_lo _ _ _ r k).trans ?_)
    rw [Line.dl_lo]
    exact du_apply x0 x1 x2 x3 x4 x5 x6 x7 r k
  · refine (canon_hi _ _ _ r k).trans ?_
    rw [Line.dl_hi]
    exact dv_apply x0 x1 x2 x3 x4 x5 x6 x7 r k

theorem out_A_13 (hc : cond0_0 i) (j : Fin 2048) :
    (out0_A_13 c i a1 h1 a2 h2 a3 h3 a4 h4 a5 h5 a6 h6 a7 h7 a8 h8 a9 h9 a10 h10 a11 h11 a12 h12 a13 h13 a14 h14 hc
      x0 x1 x2 x3 x4 x5 x6 x7 : Fox.V 1 2048 .f32) (ix2 0 j) = ∑ r, (lineOf x0 x1 x2 x3 x4 x5 x6 x7 r).dl j := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rcases halves j with ⟨k, rfl⟩ | ⟨k, rfl⟩
  · refine (canon_hi_off _ _ _ 0 k).trans ((canon_lo _ _ _ 0 k).trans ((sumU_apply x0 x1 x2 x3 x4 x5 x6 x7 _ k).trans ?_))
    refine (congrArg (· + ∑ r, (lineOf x0 x1 x2 x3 x4 x5 x6 x7 r).du k) ((read_lo _ _ k _).trans (zero_at _ _))).trans ((zero_add _).trans ?_)
    exact Finset.sum_congr rfl fun r _ => (Line.dl_lo _ k).symm
  · refine (canon_hi _ _ _ 0 k).trans ((sumV_apply x0 x1 x2 x3 x4 x5 x6 x7 _ k).trans ?_)
    refine (congrArg (· + ∑ r, (lineOf x0 x1 x2 x3 x4 x5 x6 x7 r).dv k) ((read_hi _ _ k _).trans ((canon_lo_off _ _ _ 0 k).trans (zero_at _ _)))).trans ((zero_add _).trans ?_)
    exact Finset.sum_congr rfl fun r _ => (Line.dl_hi _ k).symm

theorem out_B_9 (hc : ¬cond0_0 i) :
    out0_B_9 c i a1 h1 a2 h2 a3 h3 a4 h4 a5 h5 a6 h6 a7 h7 a8 h8 a9 h9 a10 h10 a11 h11 a12 h12 a13 h13 a14 h14 hc
      x0 x1 x2 x3 x4 x5 x6 x7 acc = dpB x0 x3 x4 x7 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc x0 x1 x2 x3 x4 x5 x6 x7 acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rfl

theorem out_B_10 (hc : ¬cond0_0 i) :
    out0_B_10 c i a1 h1 a2 h2 a3 h3 a4 h4 a5 h5 a6 h6 a7 h7 a8 h8 a9 h9 a10 h10 a11 h11 a12 h12 a13 h13 a14 h14 hc
      x0 x1 x2 x3 x4 x5 x6 x7 acc = dqB x0 x3 x4 x7 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc x0 x1 x2 x3 x4 x5 x6 x7 acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rfl

theorem out_B_11 (hc : ¬cond0_0 i) :
    out0_B_11 c i a1 h1 a2 h2 a3 h3 a4 h4 a5 h5 a6 h6 a7 h7 a8 h8 a9 h9 a10 h10 a11 h11 a12 h12 a13 h13 a14 h14 hc
      x0 x1 x2 x3 x4 x5 x6 x7 acc = dxB x0 x3 x4 x5 x7 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc x0 x1 x2 x3 x4 x5 x6 x7 acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rfl

theorem out_B_12 (hc : ¬cond0_0 i) :
    out0_B_12 c i a1 h1 a2 h2 a3 h3 a4 h4 a5 h5 a6 h6 a7 h7 a8 h8 a9 h9 a10 h10 a11 h11 a12 h12 a13 h13 a14 h14 hc
      x0 x1 x2 x3 x4 x5 x6 x7 acc = dyB x0 x3 x4 x6 x7 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc x0 x1 x2 x3 x4 x5 x6 x7 acc)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rfl

theorem out_B_8 (hc : ¬cond0_0 i) (r : Fin 512) (j : Fin 2048) :
    (out0_B_8 c i a1 h1 a2 h2 a3 h3 a4 h4 a5 h5 a6 h6 a7 h7 a8 h8 a9 h9 a10 h10 a11 h11 a12 h12 a13 h13 a14 h14 hc
      x0 x1 x2 x3 x4 x5 x6 x7 acc : Fox.V 512 2048 .bf16) (ix2 r j) = (lineOf x0 x1 x2 x3 x4 x5 x6 x7 r).dl j := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 hc x0 x1 x2 x3 x4 x5 x6 x7 acc)]
  unfold kernelRun0_B
  dsimp only
  sl_unfold_words
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rcases halves j with ⟨k, rfl⟩ | ⟨k, rfl⟩
  · refine (canon_hi_off _ _ _ r k).trans ((canon_lo _ _ _ r k).trans ?_)
    rw [Line.dl_lo]
    exact du_apply x0 x1 x2 x3 x4 x5 x6 x7 r k
  · refine (canon_hi _ _ _ r k).trans ?_
    rw [Line.dl_hi]
    exact dv_apply x0 x1 x2 x3 x4 x5 x6 x7 r k

theorem out_B_13 (hc : ¬cond0_0 i) (j : Fin 2048) :
    (out0_B_13 c i a1 h1 a2 h2 a3 h3 a4 h4 a5 h5 a6 h6 a7 h7 a8 h8 a9 h9 a10 h10 a11 h11 a12 h12 a13 h13 a14 h14 hc
      x0 x1 x2 x3 x4 x5 x6 x7 acc : Fox.V 1 2048 .f32) (ix2 0 j) = acc (ix2 0 j) + ∑ r, (lineOf x0 x1 x2 x3 x4 x5 x6 x7 r).dl j := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc x0 x1 x2 x3 x4 x5 x6 x7 acc)]
  unfold kernelRun0_B
  dsimp only
  sl_unfold_words
  simp only [View.readAt_eq_ld, h1.read_unread, h2.read_unread, h3.read_unread, h4.read_unread, h5.read_unread, h6.read_unread,
    h7.read_unread, h8.read_unread, h14.read_unread, View.ld_unit_zero (S := S512x1024) hz, View.ld_unit_zero (S := S512x512) hz,
    View.ld_unit_zero (S := S512x2048) hz, View.ld_unit_zero (S := S1x2048) hz, View.ld_unit_zero (S := S1024x1024) hz]
  rcases halves j with ⟨k, rfl⟩ | ⟨k, rfl⟩
  · refine (canon_hi_off _ _ _ 0 k).trans ((canon_lo _ _ _ 0 k).trans ((sumU_apply x0 x1 x2 x3 x4 x5 x6 x7 _ k).trans ?_))
    exact congrArg₂ (· + ·) (congrArg acc (ext2 rfl (by show 0 + 1 * k.val = k.val; omega)))
      (Finset.sum_congr rfl fun r _ => (Line.dl_lo _ k).symm)
  · refine (canon_hi _ _ _ 0 k).trans ((sumV_apply x0 x1 x2 x3 x4 x5 x6 x7 _ k).trans ?_)
    exact congrArg₂ (· + ·) (congrArg acc (ext2 rfl (by show 1024 + 1 * k.val = 1024 + k.val; omega)))
      (Finset.sum_congr rfl fun r _ => (Line.dl_hi _ k).symm)

end Cases

end Ffn.Gate.Bwd
-- ==== Proof.GateBwd.lean ====
module

public import proofs.«01_k».proof.Proof.GateCases
public import proofs.«01_k».proof.Proof.Whole
public import proofs.«01_k».proof.Proof.Gen.Reference14Ideal.Read

/-!
  The backward call of the gated sum: the arrays after its last step, and the derivative of the forward pass, stage by stage,
  equal to them.
-/

@[expose] public section

set_option maxRecDepth 16384
set_option maxHeartbeats 400000

noncomputable section

namespace Ffn.Gate.Bwd

open Cert.Kernel14Ideal Cert.Kernel14Ideal.Gen Cert.Kernel14Ideal.Value Idealize.ShloMosaic Idealize.ShloMosaic.TcCoe
open Idealize.ShloMosaic.ValueIdx (ix1 ix2 eq_ix2)
open Ffn.Fwd (ext2)
open scoped BigOperators

theorem blocks : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem moves8 : ∀ t : Fin cfg0.N, win0_8.index t (0 : Fin 2) = t.val ∧ win0_8.index t (1 : Fin 2) = 0 :=
  (by decide +kernel : ∀ t : Fin grid0.N, _)

theorem writes8 : ∀ t : Fin cfg0.N, (cfg0.win 8).flush t = true :=
  (by decide +kernel : ∀ t : Fin grid0.N, _)

theorem moves9 : ∀ t : Fin cfg0.N, win0_9.index t (0 : Fin 2) = t.val ∧ win0_9.index t (1 : Fin 2) = 0 :=
  (by decide +kernel : ∀ t : Fin grid0.N, _)

theorem writes9 : ∀ t : Fin cfg0.N, (cfg0.win 9).flush t = true :=
  (by decide +kernel : ∀ t : Fin grid0.N, _)

theorem moves10 : ∀ t : Fin cfg0.N, win0_10.index t (0 : Fin 2) = t.val ∧ win0_10.index t (1 : Fin 2) = 0 :=
  (by decide +kernel : ∀ t : Fin grid0.N, _)

theorem writes10 : ∀ t : Fin cfg0.N, (cfg0.win 10).flush t = true :=
  (by decide +kernel : ∀ t : Fin grid0.N, _)

theorem moves11 : ∀ t : Fin cfg0.N, win0_11.index t (0 : Fin 2) = t.val ∧ win0_11.index t (1 : Fin 2) = 0 :=
  (by decide +kernel : ∀ t : Fin grid0.N, _)

theorem writes11 : ∀ t : Fin cfg0.N, (cfg0.win 11).flush t = true :=
  (by decide +kernel : ∀ t : Fin grid0.N, _)

theorem moves12 : ∀ t : Fin cfg0.N, win0_12.index t (0 : Fin 2) = t.val ∧ win0_12.index t (1 : Fin 2) = 0 :=
  (by decide +kernel : ∀ t : Fin grid0.N, _)

theorem writes12 : ∀ t : Fin cfg0.N, (cfg0.win 12).flush t = true :=
  (by decide +kernel : ∀ t : Fin grid0.N, _)

theorem moves13 : ∀ t : Fin cfg0.N, win0_13.index t (0 : Fin 2) = 0 ∧ win0_13.index t (1 : Fin 2) = 0 :=
  (by decide +kernel : ∀ t : Fin grid0.N, _)

theorem writes13 : ∀ t : Fin cfg0.N, ((cfg0.win 13).flush t = true ↔ t.val = 16) :=
  (by decide +kernel : ∀ t : Fin grid0.N, _)

variable (m : (ℓ : Loc nD τ sig) → Buf (Elt Ideal) ℓ) (c : Dev nD)

/-- The cotangent. -/
abbrev D : Fox.V 8704 1024 .f32 := m ((c : Thread nD τ).loc main_arg0)
/-- The first attention's output. -/
abbrev X : Fox.V 8704 512 .bf16 := m ((c : Thread nD τ).loc main_arg1)
/-- The second attention's output. -/
abbrev Y : Fox.V 8704 512 .bf16 := m ((c : Thread nD τ).loc main_arg2)
/-- The input projection, the gates' logits its second half. -/
abbrev P : Fox.V 8704 4096 .f32 := m ((c : Thread nD τ).loc main_arg3)
/-- The gates' biases. -/
abbrev C : Fox.V 1 2048 .f32 := m ((c : Thread nD τ).loc main_arg4)
/-- The first branch's weights. -/
abbrev A : Fox.V 512 1024 .bf16 := m ((c : Thread nD τ).loc main_arg5)
/-- The second branch's weights. -/
abbrev B : Fox.V 512 1024 .bf16 := m ((c : Thread nD τ).loc main_arg6)
/-- The output projection's weights. -/
abbrev W : Fox.V 1024 1024 .bf16 := m ((c : Thread nD τ).loc main_arg7)

/-- Row `i` of the arguments. -/
def rows (i : Fin 8704) : Line := lineR (D m c) (X m c) (Y m c) (P m c) (C m c) (A m c) (B m c) (W m c) i

theorem row_lt (t : Fin cfg0.N) (i : Fin 512) : 512 * t.val + i.val < 8704 := by
  have h : t.val < 17 := t.isLt
  omega

theorem blk_d (t : Fin cfg0.N) (i : Fin 512) (j : Fin 1024) :
    (iblk m c 0 t : Fox.V 512 1024 .f32) (ix2 i j) = D m c (ix2 ⟨512 * t.val + i.val, row_lt t i⟩ j) := by
  obtain ⟨⟨e0, e1⟩, -⟩ := blocks t
  show Gen.V m c main_arg0 (((cfg0.win 0).blk t).view.emb (ix2 i j)) = _
  rw [V_main_arg0]
  refine congrArg (m ((c : Thread nD τ).loc main_arg0)) (funext fun a => Fin.ext ?_)
  match a with
  | ⟨0, _⟩ => show win0_0.index t (0 : Fin 2) * 512 + 1 * i.val = 512 * t.val + i.val; omega
  | ⟨1, _⟩ => show win0_0.index t (1 : Fin 2) * 1024 + 1 * j.val = j.val; omega

theorem blk_x (t : Fin cfg0.N) (i : Fin 512) (j : Fin 512) :
    (iblk m c 1 t : Fox.V 512 512 .bf16) (ix2 i j) = X m c (ix2 ⟨512 * t.val + i.val, row_lt t i⟩ j) := by
  obtain ⟨-, ⟨e0, e1⟩, -⟩ := blocks t
  show Gen.V m c main_arg1 (((cfg0.win 1).blk t).view.emb (ix2 i j)) = _
  rw [V_main_arg1]
  refine congrArg (m ((c : Thread nD τ).loc main_arg1)) (funext fun a => Fin.ext ?_)
  match a with
  | ⟨0, _⟩ => show win0_1.index t (0 : Fin 2) * 512 + 1 * i.val = 512 * t.val + i.val; omega
  | ⟨1, _⟩ => show win0_1.index t (1 : Fin 2) * 512 + 1 * j.val = j.val; omega

theorem blk_y (t : Fin cfg0.N) (i : Fin 512) (j : Fin 512) :
    (iblk m c 2 t : Fox.V 512 512 .bf16) (ix2 i j) = Y m c (ix2 ⟨512 * t.val + i.val, row_lt t i⟩ j) := by
  obtain ⟨-, -, ⟨e0, e1⟩, -⟩ := blocks t
  show Gen.V m c main_arg2 (((cfg0.win 2).blk t).view.emb (ix2 i j)) = _
  rw [V_main_arg2]
  refine congrArg (m ((c : Thread nD τ).loc main_arg2)) (funext fun a => Fin.ext ?_)
  match a with
  | ⟨0, _⟩ => show win0_2.index t (0 : Fin 2) * 512 + 1 * i.val = 512 * t.val + i.val; omega
  | ⟨1, _⟩ => show win0_2.index t (1 : Fin 2) * 512 + 1 * j.val = j.val; omega

theorem blk_l (t : Fin cfg0.N) (i : Fin 512) (j : Fin 2048) :
    (iblk m c 3 t : Fox.V 512 2048 .f32) (ix2 i j) = P m c (ix2 ⟨512 * t.val + i.val, row_lt t i⟩ ⟨2048 + j.val, by omega⟩) := by
  obtain ⟨-, -, -, ⟨e0, e1⟩, -⟩ := blocks t
  show Gen.V m c main_arg3 (((cfg0.win 3).blk t).view.emb (ix2 i j)) = _
  rw [V_main_arg3]
  refine congrArg (m ((c : Thread nD τ).loc main_arg3)) (funext fun a => Fin.ext ?_)
  match a with
  | ⟨0, _⟩ => show win0_3.index t (0 : Fin 2) * 512 + 1 * i.val = 512 * t.val + i.val; omega
  | ⟨1, _⟩ => show win0_3.index t (1 : Fin 2) * 2048 + 1 * j.val = 2048 + j.val; omega

theorem blk_c (t : Fin cfg0.N) (j : Fin 2048) :
    (iblk m c 4 t : Fox.V 1 2048 .f32) (ix2 0 j) = C m c (ix2 0 j) := by
  obtain ⟨-, -, -, -, ⟨e0, e1⟩, -⟩ := blocks t
  show Gen.V m c main_arg4 (((cfg0.win 4).blk t).view.emb (ix2 0 j)) = _
  rw [V_main_arg4]
  refine congrArg (m ((c : Thread nD τ).loc main_arg4)) (funext fun a => Fin.ext ?_)
  match a with
  | ⟨0, _⟩ => show win0_4.index t (0 : Fin 2) * 1 + 1 * 0 = 0; omega
  | ⟨1, _⟩ => show win0_4.index t (1 : Fin 2) * 2048 + 1 * j.val = j.val; omega

theorem blk_a (t : Fin cfg0.N) (i : Fin 512) (j : Fin 1024) :
    (iblk m c 5 t : Fox.V 512 1024 .bf16) (ix2 i j) = A m c (ix2 i j) := by
  obtain ⟨-, -, -, -, -, ⟨e0, e1⟩, -⟩ := blocks t
  show Gen.V m c main_arg5 (((cfg0.win 5).blk t).view.emb (ix2 i j)) = _
  rw [V_main_arg5]
  refine congrArg (m ((c : Thread nD τ).loc main_arg5)) (funext fun a => Fin.ext ?_)
  match a with
  | ⟨0, _⟩ => show win0_5.index t (0 : Fin 2) * 512 + 1 * i.val = i.val; omega
  | ⟨1, _⟩ => show win0_5.index t (1 : Fin 2) * 1024 + 1 * j.val = j.val; omega

theorem blk_b (t : Fin cfg0.N) (i : Fin 512) (j : Fin 1024) :
    (iblk m c 6 t : Fox.V 512 1024 .bf16) (ix2 i j) = B m c (ix2 i j) := by
  obtain ⟨-, -, -, -, -, -, ⟨e0, e1⟩, -⟩ := blocks t
  show Gen.V m c main_arg6 (((cfg0.win 6).blk t).view.emb (ix2 i j)) = _
  rw [V_main_arg6]
  refine congrArg (m ((c : Thread nD τ).loc main_arg6)) (funext fun a => Fin.ext ?_)
  match a with
  | ⟨0, _⟩ => show win0_6.index t (0 : Fin 2) * 512 + 1 * i.val = i.val; omega
  | ⟨1, _⟩ => show win0_6.index t (1 : Fin 2) * 1024 + 1 * j.val = j.val; omega

theorem blk_w (t : Fin cfg0.N) (i : Fin 1024) (j : Fin 1024) :
    (iblk m c 7 t : Fox.V 1024 1024 .bf16) (ix2 i j) = W m c (ix2 i j) := by
  obtain ⟨-, -, -, -, -, -, -, ⟨e0, e1⟩⟩ := blocks t
  show Gen.V m c main_arg7 (((cfg0.win 7).blk t).view.emb (ix2 i j)) = _
  rw [V_main_arg7]
  refine congrArg (m ((c : Thread nD τ).loc main_arg7)) (funext fun a => Fin.ext ?_)
  match a with
  | ⟨0, _⟩ => show win0_7.index t (0 : Fin 2) * 1024 + 1 * i.val = i.val; omega
  | ⟨1, _⟩ => show win0_7.index t (1 : Fin 2) * 1024 + 1 * j.val = j.val; omega

/-- The rows of a step's blocks are rows of the arguments. -/
theorem row_blk (t : Fin cfg0.N) (i : Fin 512) :
    lineOf (iblk m c 0 t) (iblk m c 1 t) (iblk m c 2 t) (iblk m c 3 t) (iblk m c 4 t) (iblk m c 5 t) (iblk m c 6 t) (iblk m c 7 t) i
      = rows m c ⟨512 * t.val + i.val, row_lt t i⟩ := by
  unfold lineOf rows lineR
  simp only [blk_d, blk_x, blk_y, blk_l, blk_c, blk_a, blk_b, blk_w]

theorem emb8 (t : Fin cfg0.N) (i : Fin 512) (j : Fin 2048) :
    (((cfg0.win 8).blk t).view.emb (ix2 i j) : (Fox.S2 8704 2048).Idx) = ix2 ⟨512 * t.val + i.val, row_lt t i⟩ j := by
  obtain ⟨e0, e1⟩ := moves8 t
  funext a; apply Fin.ext
  match a with
  | ⟨0, _⟩ => show win0_8.index t (0 : Fin 2) * 512 + 1 * i.val = 512 * t.val + i.val; omega
  | ⟨1, _⟩ => show win0_8.index t (1 : Fin 2) * 2048 + 1 * j.val = j.val; omega

theorem emb9 (t : Fin cfg0.N) (i : Fin 512) (j : Fin 1024) :
    (((cfg0.win 9).blk t).view.emb (ix2 i j) : (Fox.S2 8704 1024).Idx) = ix2 ⟨512 * t.val + i.val, row_lt t i⟩ j := by
  obtain ⟨e0, e1⟩ := moves9 t
  funext a; apply Fin.ext
  match a with
  | ⟨0, _⟩ => show win0_9.index t (0 : Fin 2) * 512 + 1 * i.val = 512 * t.val + i.val; omega
  | ⟨1, _⟩ => show win0_9.index t (1 : Fin 2) * 1024 + 1 * j.val = j.val; omega

theorem emb10 (t : Fin cfg0.N) (i : Fin 512) (j : Fin 1024) :
    (((cfg0.win 10).blk t).view.emb (ix2 i j) : (Fox.S2 8704 1024).Idx) = ix2 ⟨512 * t.val + i.val, row_lt t i⟩ j := by
  obtain ⟨e0, e1⟩ := moves10 t
  funext a; apply Fin.ext
  match a with
  | ⟨0, _⟩ => show win0_10.index t (0 : Fin 2) * 512 + 1 * i.val = 512 * t.val + i.val; omega
  | ⟨1, _⟩ => show win0_10.index t (1 : Fin 2) * 1024 + 1 * j.val = j.val; omega

theorem emb11 (t : Fin cfg0.N) (i : Fin 512) (j : Fin 512) :
    (((cfg0.win 11).blk t).view.emb (ix2 i j) : (Fox.S2 8704 512).Idx) = ix2 ⟨512 * t.val + i.val, row_lt t i⟩ j := by
  obtain ⟨e0, e1⟩ := moves11 t
  funext a; apply Fin.ext
  match a with
  | ⟨0, _⟩ => show win0_11.index t (0 : Fin 2) * 512 + 1 * i.val = 512 * t.val + i.val; omega
  | ⟨1, _⟩ => show win0_11.index t (1 : Fin 2) * 512 + 1 * j.val = j.val; omega

theorem emb12 (t : Fin cfg0.N) (i : Fin 512) (j : Fin 512) :
    (((cfg0.win 12).blk t).view.emb (ix2 i j) : (Fox.S2 8704 512).Idx) = ix2 ⟨512 * t.val + i.val, row_lt t i⟩ j := by
  obtain ⟨e0, e1⟩ := moves12 t
  funext a; apply Fin.ext
  match a with
  | ⟨0, _⟩ => show win0_12.index t (0 : Fin 2) * 512 + 1 * i.val = 512 * t.val + i.val; omega
  | ⟨1, _⟩ => show win0_12.index t (1 : Fin 2) * 512 + 1 * j.val = j.val; omega

theorem stores8 (t : Fin cfg0.N) (i : Fin 512) (j : Fin 2048) : ((outsAt0 m c t.val t.isLt).1 : Fox.V 512 2048 .bf16) (ix2 i j)
    = (lineOf (iblk m c 0 t) (iblk m c 1 t) (iblk m c 2 t) (iblk m c 3 t) (iblk m c 4 t) (iblk m c 5 t) (iblk m c 6 t) (iblk m c 7 t) i).dl j := by
  by_cases h0 : t.val % 17 = 0
  · rw [outsAt0_A m c t h0]
    dsimp only
    rw [out_A_8]
  · rw [outsAt0_B m c t h0]
    dsimp only
    rw [out_B_8]

/-- The gradient of the gates' logits after the run. -/
def dlogits : Fox.V 8704 2048 .bf16 := fun y => (rows m c (y 0)).dl (y 1)

theorem final_dlogits : ((dats m 0 c).arrAt 8 cfg0.N : Fox.V 8704 2048 .bf16) = dlogits m c := by
  refine (dats m 0 c).arrAt_eq_of_cover 8 (dlogits m c) (fun t _ => ?_) fun y => ?_
  · refine (flushed8 m c t).trans (funext fun z => ?_)
    obtain ⟨i, j, rfl⟩ : ∃ (i : Fin 512) (j : Fin 2048), z = ix2 i j := ⟨_, _, eq_ix2 z⟩
    show (outsAt0 m c t.val t.isLt).1 (ix2 i j) = dlogits m c (((cfg0.win 8).blk t).view.emb (ix2 i j))
    rw [emb8, stores8, row_blk]
    rfl
  · obtain ⟨r, j, rfl⟩ : ∃ (r : Fin 8704) (j : Fin 2048), y = ix2 r j := ⟨_, _, eq_ix2 y⟩
    have hN : cfg0.N = 17 := N_0
    have hr := r.isLt
    refine ⟨⟨r.val / 512, by omega⟩, writes8 _, ?_⟩
    have h := ((cfg0.win 8).blk (⟨r.val / 512, by omega⟩ : Fin cfg0.N)).view.emb_mem_set
      (ix2 (⟨r.val % 512, Nat.mod_lt _ (by decide)⟩ : Fin 512) j)
    rw [emb8] at h
    have e : (⟨512 * (r.val / 512) + r.val % 512, by omega⟩ : Fin 8704) = r := Fin.ext (by show 512 * (r.val / 512) + r.val % 512 = r.val; omega)
    rwa [e] at h

theorem stores9 (t : Fin cfg0.N) : (outsAt0 m c t.val t.isLt).2.1 = dpB (iblk m c 0 t) (iblk m c 3 t) (iblk m c 4 t) (iblk m c 7 t) := by
  by_cases h0 : t.val % 17 = 0
  · rw [outsAt0_A m c t h0]
    dsimp only
    rw [out_A_9]
  · rw [outsAt0_B m c t h0]
    dsimp only
    rw [out_B_9]

/-- The gradient of the first branch after the run. -/
def dfirst : Fox.V 8704 1024 .bf16 := fun y => (rows m c (y 0)).dp (y 1)

theorem final_dfirst : ((dats m 0 c).arrAt 9 cfg0.N : Fox.V 8704 1024 .bf16) = dfirst m c := by
  refine (dats m 0 c).arrAt_eq_of_cover 9 (dfirst m c) (fun t _ => ?_) fun y => ?_
  · refine (flushed9 m c t).trans (funext fun z => ?_)
    obtain ⟨i, j, rfl⟩ : ∃ (i : Fin 512) (j : Fin 1024), z = ix2 i j := ⟨_, _, eq_ix2 z⟩
    show (outsAt0 m c t.val t.isLt).2.1 (ix2 i j) = dfirst m c (((cfg0.win 9).blk t).view.emb (ix2 i j))
    rw [emb9, stores9]
    refine (dpB_apply (iblk m c 0 t) (iblk m c 1 t) (iblk m c 2 t) (iblk m c 3 t) (iblk m c 4 t) (iblk m c 5 t) (iblk m c 6 t) (iblk m c 7 t) i j).trans ?_
    rw [row_blk]
    rfl
  · obtain ⟨r, j, rfl⟩ : ∃ (r : Fin 8704) (j : Fin 1024), y = ix2 r j := ⟨_, _, eq_ix2 y⟩
    have hN : cfg0.N = 17 := N_0
    have hr := r.isLt
    refine ⟨⟨r.val / 512, by omega⟩, writes9 _, ?_⟩
    have h := ((cfg0.win 9).blk (⟨r.val / 512, by omega⟩ : Fin cfg0.N)).view.emb_mem_set
      (ix2 (⟨r.val % 512, Nat.mod_lt _ (by decide)⟩ : Fin 512) j)
    rw [emb9] at h
    have e : (⟨512 * (r.val / 512) + r.val % 512, by omega⟩ : Fin 8704) = r := Fin.ext (by show 512 * (r.val / 512) + r.val % 512 = r.val; omega)
    rwa [e] at h

theorem stores10 (t : Fin cfg0.N) : (outsAt0 m c t.val t.isLt).2.2.1 = dqB (iblk m c 0 t) (iblk m c 3 t) (iblk m c 4 t) (iblk m c 7 t) := by
  by_cases h0 : t.val % 17 = 0
  · rw [outsAt0_A m c t h0]
    dsimp only
    rw [out_A_10]
  · rw [outsAt0_B m c t h0]
    dsimp only
    rw [out_B_10]

/-- The gradient of the second branch after the run. -/
def dsecond : Fox.V 8704 1024 .bf16 := fun y => (rows m c (y 0)).dq (y 1)

theorem final_dsecond : ((dats m 0 c).arrAt 10 cfg0.N : Fox.V 8704 1024 .bf16) = dsecond m c := by
  refine (dats m 0 c).arrAt_eq_of_cover 10 (dsecond m c) (fun t _ => ?_) fun y => ?_
  · refine (flushed10 m c t).trans (funext fun z => ?_)
    obtain ⟨i, j, rfl⟩ : ∃ (i : Fin 512) (j : Fin 1024), z = ix2 i j := ⟨_, _, eq_ix2 z⟩
    show (outsAt0 m c t.val t.isLt).2.2.1 (ix2 i j) = dsecond m c (((cfg0.win 10).blk t).view.emb (ix2 i j))
    rw [emb10, stores10]
    refine (dqB_apply (iblk m c 0 t) (iblk m c 1 t) (iblk m c 2 t) (iblk m c 3 t) (iblk m c 4 t) (iblk m c 5 t) (iblk m c 6 t) (iblk m c 7 t) i j).trans ?_
    rw [row_blk]
    rfl
  · obtain ⟨r, j, rfl⟩ : ∃ (r : Fin 8704) (j : Fin 1024), y = ix2 r j := ⟨_, _, eq_ix2 y⟩
    have hN : cfg0.N = 17 := N_0
    have hr := r.isLt
    refine ⟨⟨r.val / 512, by omega⟩, writes10 _, ?_⟩
    have h := ((cfg0.win 10).blk (⟨r.val / 512, by omega⟩ : Fin cfg0.N)).view.emb_mem_set
      (ix2 (⟨r.val % 512, Nat.mod_lt _ (by decide)⟩ : Fin 512) j)
    rw [emb10] at h
    have e : (⟨512 * (r.val / 512) + r.val % 512, by omega⟩ : Fin 8704) = r := Fin.ext (by show 512 * (r.val / 512) + r.val % 512 = r.val; omega)
    rwa [e] at h

theorem stores11 (t : Fin cfg0.N) : (outsAt0 m c t.val t.isLt).2.2.2.1 = dxB (iblk m c 0 t) (iblk m c 3 t) (iblk m c 4 t) (iblk m c 5 t) (iblk m c 7 t) := by
  by_cases h0 : t.val % 17 = 0
  · rw [outsAt0_A m c t h0]
    dsimp only
    rw [out_A_11]
  · rw [outsAt0_B m c t h0]
    dsimp only
    rw [out_B_11]

/-- The gradient of the first attention's output after the run. -/
def dattn : Fox.V 8704 512 .bf16 := fun y => (rows m c (y 0)).dx (y 1)

theorem final_dattn : ((dats m 0 c).arrAt 11 cfg0.N : Fox.V 8704 512 .bf16) = dattn m c := by
  refine (dats m 0 c).arrAt_eq_of_cover 11 (dattn m c) (fun t _ => ?_) fun y => ?_
  · refine (flushed11 m c t).trans (funext fun z => ?_)
    obtain ⟨i, j, rfl⟩ : ∃ (i : Fin 512) (j : Fin 512), z = ix2 i j := ⟨_, _, eq_ix2 z⟩
    show (outsAt0 m c t.val t.isLt).2.2.2.1 (ix2 i j) = dattn m c (((cfg0.win 11).blk t).view.emb (ix2 i j))
    rw [emb11, stores11]
    refine (dxB_apply (iblk m c 0 t) (iblk m c 1 t) (iblk m c 2 t) (iblk m c 3 t) (iblk m c 4 t) (iblk m c 5 t) (iblk m c 6 t) (iblk m c 7 t) i j).trans ?_
    rw [row_blk]
    rfl
  · obtain ⟨r, j, rfl⟩ : ∃ (r : Fin 8704) (j : Fin 512), y = ix2 r j := ⟨_, _, eq_ix2 y⟩
    have hN : cfg0.N = 17 := N_0
    have hr := r.isLt
    refine ⟨⟨r.val / 512, by omega⟩, writes11 _, ?_⟩
    have h := ((cfg0.win 11).blk (⟨r.val / 512, by omega⟩ : Fin cfg0.N)).view.emb_mem_set
      (ix2 (⟨r.val % 512, Nat.mod_lt _ (by decide)⟩ : Fin 512) j)
    rw [emb11] at h
    have e : (⟨512 * (r.val / 512) + r.val % 512, by omega⟩ : Fin 8704) = r := Fin.ext (by show 512 * (r.val / 512) + r.val % 512 = r.val; omega)
    rwa [e] at h

theorem stores12 (t : Fin cfg0.N) : (outsAt0 m c t.val t.isLt).2.2.2.2.1 = dyB (iblk m c 0 t) (iblk m c 3 t) (iblk m c 4 t) (iblk m c 6 t) (iblk m c 7 t) := by
  by_cases h0 : t.val % 17 = 0
  · rw [outsAt0_A m c t h0]
    dsimp only
    rw [out_A_12]
  · rw [outsAt0_B m c t h0]
    dsimp only
    rw [out_B_12]

/-- The gradient of the second attention's output after the run. -/
def dattn2 : Fox.V 8704 512 .bf16 := fun y => (rows m c (y 0)).dy (y 1)

theorem final_dattn2 : ((dats m 0 c).arrAt 12 cfg0.N : Fox.V 8704 512 .bf16) = dattn2 m c := by
  refine (dats m 0 c).arrAt_eq_of_cover 12 (dattn2 m c) (fun t _ => ?_) fun y => ?_
  · refine (flushed12 m c t).trans (funext fun z => ?_)
    obtain ⟨i, j, rfl⟩ : ∃ (i : Fin 512) (j : Fin 512), z = ix2 i j := ⟨_, _, eq_ix2 z⟩
    show (outsAt0 m c t.val t.isLt).2.2.2.2.1 (ix2 i j) = dattn2 m c (((cfg0.win 12).blk t).view.emb (ix2 i j))
    rw [emb12, stores12]
    refine (dyB_apply (iblk m c 0 t) (iblk m c 1 t) (iblk m c 2 t) (iblk m c 3 t) (iblk m c 4 t) (iblk m c 5 t) (iblk m c 6 t) (iblk m c 7 t) i j).trans ?_
    rw [row_blk]
    rfl
  · obtain ⟨r, j, rfl⟩ : ∃ (r : Fin 8704) (j : Fin 512), y = ix2 r j := ⟨_, _, eq_ix2 y⟩
    have hN : cfg0.N = 17 := N_0
    have hr := r.isLt
    refine ⟨⟨r.val / 512, by omega⟩, writes12 _, ?_⟩
    have h := ((cfg0.win 12).blk (⟨r.val / 512, by omega⟩ : Fin cfg0.N)).view.emb_mem_set
      (ix2 (⟨r.val % 512, Nat.mod_lt _ (by decide)⟩ : Fin 512) j)
    rw [emb12] at h
    have e : (⟨512 * (r.val / 512) + r.val % 512, by omega⟩ : Fin 8704) = r := Fin.ext (by show 512 * (r.val / 512) + r.val % 512 = r.val; omega)
    rwa [e] at h

/-- A row's share of the biases' gradient, zero past the last row. -/
def share (j : Fin 2048) (i : ℕ) : EReal := if h : i < 8704 then (rows m c ⟨i, h⟩).dl j else 0

theorem share_of (j : Fin 2048) {i : ℕ} (h : i < 8704) : share m c j i = (rows m c ⟨i, h⟩).dl j := dif_pos h

theorem shares (t : Fin cfg0.N) (j : Fin 2048) :
    ∑ r, (lineOf (iblk m c 0 t) (iblk m c 1 t) (iblk m c 2 t) (iblk m c 3 t) (iblk m c 4 t) (iblk m c 5 t) (iblk m c 6 t) (iblk m c 7 t) r).dl j
      = ∑ i ∈ Finset.range 512, share m c j (512 * t.val + i) := by
  refine sum_range_of fun r => ?_
  rw [row_blk, share_of]

/-- The biases' gradient after a step: the sum over the rows read so far. -/
theorem held (j : Fin 2048) : ∀ (n : ℕ) (h : n < cfg0.N),
    ((outsAt0 m c n h).2.2.2.2.2 : Fox.V 1 2048 .f32) (ix2 0 j) = ∑ i ∈ Finset.range (512 * (n + 1)), share m c j i
  | n, h => by
    have hN : cfg0.N = 17 := N_0
    by_cases h0 : n % 17 = 0
    · have e : n = 0 := by omega
      rw [outsAt0_A m c ⟨n, h⟩ h0]
      dsimp only
      rw [out_A_13]
      refine (shares m c ⟨n, h⟩ j).trans ?_
      subst e
      exact Finset.sum_congr rfl fun i _ => congrArg (share m c j) (by show 512 * 0 + i = i; omega)
    · have hp : n - 1 < cfg0.N := by omega
      have e := held j (n - 1) hp
      rw [show n - 1 + 1 = n by omega] at e
      rw [outsAt0_B m c ⟨n, h⟩ h0]
      dsimp only
      rw [out_B_13, Nat.mul_succ, ← sum_more]
      exact congrArg₂ (· + ·) e (shares m c ⟨n, h⟩ j)
  termination_by n => n
  decreasing_by omega

theorem emb13 (t : Fin cfg0.N) (i : Fin 1) (j : Fin 2048) :
    (((cfg0.win 13).blk t).view.emb (ix2 i j) : (Fox.S2 1 2048).Idx) = ix2 i j := by
  obtain ⟨e0, e1⟩ := moves13 t
  funext a; apply Fin.ext
  match a with
  | ⟨0, _⟩ => show win0_13.index t (0 : Fin 2) * 1 + 1 * i.val = i.val; omega
  | ⟨1, _⟩ => show win0_13.index t (1 : Fin 2) * 2048 + 1 * j.val = j.val; omega

/-- The gradient of the gates' biases after the run. -/
def dbias : Fox.V 1 2048 .f32 := fun y => ∑ i : Fin 8704, (rows m c i).dl (y 1)

theorem final_dbias : ((dats m 0 c).arrAt 13 cfg0.N : Fox.V 1 2048 .f32) = dbias m c := by
  have hN : cfg0.N = 17 := N_0
  refine (dats m 0 c).arrAt_eq_of_cover 13 (dbias m c) (fun t hf => ?_) fun y => ?_
  · have ht : t.val = 16 := (writes13 t).mp hf
    refine (flushed13 m c t).trans (funext fun z => ?_)
    obtain ⟨i, j, rfl⟩ : ∃ (i : Fin 1) (j : Fin 2048), z = ix2 i j := ⟨_, _, eq_ix2 z⟩
    obtain rfl : i = 0 := Subsingleton.elim _ _
    show (outsAt0 m c t.val t.isLt).2.2.2.2.2 (ix2 0 j) = dbias m c (((cfg0.win 13).blk t).view.emb (ix2 0 j))
    rw [emb13, held, ht]
    exact (sum_range_of fun i => (share_of m c j i.isLt).symm).symm
  · obtain ⟨r, j, rfl⟩ : ∃ (r : Fin 1) (j : Fin 2048), y = ix2 r j := ⟨_, _, eq_ix2 y⟩
    refine ⟨⟨16, by omega⟩, (writes13 _).mpr rfl, ?_⟩
    have h := ((cfg0.win 13).blk (⟨16, by omega⟩ : Fin cfg0.N)).view.emb_mem_set (ix2 r j)
    rwa [emb13] at h

/-! ## The reference -/

section Reference
open Cert.Reference14Ideal.Read
variable (d : Fox.V 8704 1024 .f32) (x y : Fox.V 8704 512 .bf16) (l : Fox.V 8704 4096 .f32) (c : Fox.V 1 2048 .f32) (a b : Fox.V 512 1024 .bf16)
  (w : Fox.V 1024 1024 .bf16)

theorem ref_s (i : Fin 8704) (j : Fin 2048) :
    (val_main_v15 (F := Ideal) l c : Fox.V 8704 2048 .f32) (ix2 i j) = (lineR d x y l c a b w i).s j := by
  rw [val_main_v15_apply, val_main_v14_apply, val_main_cst_0_apply, val_main_v13_apply, val_main_v12_apply, val_main_cst_apply, val_main_v11_apply,
    val_main_v10_apply, logistic_spelled, val_main_v9_apply, val_main_v7_apply, val_main_v8_apply,
    show idx_main_v7 (ix2 i j) = ix2 i ⟨2048 + j.val, by omega⟩ from ext2 rfl rfl, show idx_main_v8 (ix2 i j) = ix2 0 j from ext2 rfl rfl]
  rfl

theorem ref_p (i : Fin 8704) (j : Fin 1024) :
    (val_main_v4 (F := Ideal) x a : Fox.V 8704 1024 .f32) (ix2 i j) = (lineR d x y l c a b w i).p j := by
  rw [val_main_v4_apply]
  unfold Line.p lin
  refine Finset.sum_congr rfl fun k _ => ?_
  rw [show lidx_main_v4 (ix2 i j) k = ix2 i k from ext2 rfl rfl, show ridx_main_v4 (ix2 i j) k = ix2 k j from ext2 rfl rfl,
    val_main_v3_apply, val_main_v0_apply]
  rfl

theorem ref_q (i : Fin 8704) (j : Fin 1024) :
    (val_main_v6 (F := Ideal) y b : Fox.V 8704 1024 .f32) (ix2 i j) = (lineR d x y l c a b w i).q j := by
  rw [val_main_v6_apply]
  unfold Line.q lin
  refine Finset.sum_congr rfl fun k _ => ?_
  rw [show lidx_main_v6 (ix2 i j) k = ix2 i k from ext2 rfl rfl, show ridx_main_v6 (ix2 i j) k = ix2 k j from ext2 rfl rfl,
    val_main_v5_apply, val_main_v1_apply]
  rfl

theorem ref_g (i : Fin 8704) (j : Fin 1024) :
    (val_main_v25 (F := Ideal) d w : Fox.V 8704 1024 .f32) (ix2 i j) = (lineR d x y l c a b w i).g j := by
  rw [val_main_v25_apply]
  unfold Line.g lin
  refine Finset.sum_congr rfl fun k _ => ?_
  rw [show lidx_main_v25 (ix2 i j) k = ix2 i k from ext2 rfl rfl, show ridx_main_v25 (ix2 i j) k = ix2 j k from ext2 rfl rfl,
    val_main_v2_apply]
  rfl

theorem ref_dp (i : Fin 8704) (j : Fin 1024) :
    (val_main_v28 (F := Ideal) d l c w : Fox.V 8704 1024 .f32) (ix2 i j) = (lineR d x y l c a b w i).dp j := by
  rw [val_main_v28_apply, val_main_v19_apply, show idx_main_v19 (ix2 i j) = ix2 i ⟨j.val, by omega⟩ from ext2 rfl rfl, ref_s d x y l c a b w,
    ref_g d x y l c a b w]
  exact mul_comm _ _

theorem ref_dq (i : Fin 8704) (j : Fin 1024) :
    (val_main_v26 (F := Ideal) d l c w : Fox.V 8704 1024 .f32) (ix2 i j) = (lineR d x y l c a b w i).dq j := by
  rw [val_main_v26_apply, val_main_v20_apply, show idx_main_v20 (ix2 i j) = ix2 i ⟨1024 + j.val, by omega⟩ from ext2 rfl rfl, ref_s d x y l c a b w,
    ref_g d x y l c a b w]
  exact mul_comm _ _

theorem ref_dx (i : Fin 8704) (j : Fin 512) :
    (val_main_v37 (F := Ideal) d l c a w : Fox.V 8704 512 .f32) (ix2 i j) = (lineR d x y l c a b w i).dx j := by
  rw [val_main_v37_apply]
  unfold Line.dx lin
  refine Finset.sum_congr rfl fun k _ => ?_
  rw [show lidx_main_v37 (ix2 i j) k = ix2 i k from ext2 rfl rfl, show ridx_main_v37 (ix2 i j) k = ix2 j k from ext2 rfl rfl,
    ref_dp d x y l c a b w, val_main_v0_apply]
  rfl

theorem ref_dy (i : Fin 8704) (j : Fin 512) :
    (val_main_v39 (F := Ideal) d l c b w : Fox.V 8704 512 .f32) (ix2 i j) = (lineR d x y l c a b w i).dy j := by
  rw [val_main_v39_apply]
  unfold Line.dy lin
  refine Finset.sum_congr rfl fun k _ => ?_
  rw [show lidx_main_v39 (ix2 i j) k = ix2 i k from ext2 rfl rfl, show ridx_main_v39 (ix2 i j) k = ix2 j k from ext2 rfl rfl,
    ref_dq d x y l c a b w, val_main_v1_apply]
  rfl

theorem join_left (p q : Fox.V 8704 1024 .f32)
    (h : Shape.Concatenates [Fox.S2 8704 1024, Fox.S2 8704 1024] (Fox.S2 8704 2048) (1 : Fin 2)) (i : Fin 8704) (j : Fin 1024) :
    concatenate (Fox.S2 8704 2048) (1 : Fin 2) [⟨Fox.S2 8704 1024, p⟩, ⟨Fox.S2 8704 1024, q⟩] h (ix2 i ⟨j.val, by omega⟩) = p (ix2 i j) := by
  refine concatenate_pair_apply_left (t := Fox.S2 8704 2048) (s₁ := Fox.S2 8704 1024) (s₂ := Fox.S2 8704 1024) (1 : Fin 2) p q h (ix2 i ⟨j.val, by omega⟩) rfl
    (ix2 i j) fun b => ?_
  match b with
  | ⟨0, _⟩ => rfl
  | ⟨1, _⟩ => rfl

theorem join_right (p q : Fox.V 8704 1024 .f32)
    (h : Shape.Concatenates [Fox.S2 8704 1024, Fox.S2 8704 1024] (Fox.S2 8704 2048) (1 : Fin 2)) (i : Fin 8704) (j : Fin 1024) :
    concatenate (Fox.S2 8704 2048) (1 : Fin 2) [⟨Fox.S2 8704 1024, p⟩, ⟨Fox.S2 8704 1024, q⟩] h (ix2 i ⟨1024 + j.val, by omega⟩) = q (ix2 i j) := by
  refine concatenate_pair_apply_right (t := Fox.S2 8704 2048) (s₁ := Fox.S2 8704 1024) (s₂ := Fox.S2 8704 1024) (1 : Fin 2) p q h
    (ix2 i ⟨1024 + j.val, by omega⟩) rfl rfl (ix2 i j) (fun b hb => ?_) (by show j.val + 1024 = 1024 + j.val; omega)
  match b with
  | ⟨0, _⟩ => rfl
  | ⟨1, _⟩ => exact absurd rfl hb

theorem ref_lo (i : Fin 8704) (k : Fin 1024) : (val_main_v30 (F := Ideal) d x y a b w : Fox.V 8704 2048 .f32) (ix2 i ⟨k.val, by omega⟩)
    = (lineR d x y l c a b w i).g k * (lineR d x y l c a b w i).p k := by
  refine (join_left (val_main_v29 (F := Ideal) d x a w) (val_main_v27 (F := Ideal) d y b w)
    Cert.Reference14Ideal.Facts₀.concatenates_S8704x1024_S8704x1024_S8704x2048_d1 i k).trans ?_
  rw [val_main_v29_apply, ref_g d x y l c a b w, ref_p d x y l c a b w]
  rfl

theorem ref_hi (i : Fin 8704) (k : Fin 1024) : (val_main_v30 (F := Ideal) d x y a b w : Fox.V 8704 2048 .f32) (ix2 i ⟨1024 + k.val, by omega⟩)
    = (lineR d x y l c a b w i).g k * (lineR d x y l c a b w i).q k := by
  refine (join_right (val_main_v29 (F := Ideal) d x a w) (val_main_v27 (F := Ideal) d y b w)
    Cert.Reference14Ideal.Facts₀.concatenates_S8704x1024_S8704x1024_S8704x2048_d1 i k).trans ?_
  rw [val_main_v27_apply, ref_g d x y l c a b w, ref_q d x y l c a b w]
  rfl

theorem ref_slope (i : Fin 8704) (j : Fin 2048) : (val_main_v18 (F := Ideal) l c : Fox.V 8704 2048 .f32) (ix2 i j)
    = (lineR d x y l c a b w i).s j * (1 - (lineR d x y l c a b w i).s j) := by
  rw [val_main_v18_apply, val_main_v17_apply, val_main_v16_apply, val_main_cst_1_apply, ref_s d x y l c a b w]
  show _ * ((FloatOps.ofBits .f32 0x3F800000#32 : Ideal .f32) - _ : EReal) = _
  rw [Fox.oneF]

theorem ref_dl (i : Fin 8704) (j : Fin 2048) :
    (val_main_v31 (F := Ideal) d x y l c a b w : Fox.V 8704 2048 .f32) (ix2 i j) = (lineR d x y l c a b w i).dl j := by
  rw [val_main_v31_apply, ref_slope d x y l c a b w]
  rcases halves j with ⟨k, rfl⟩ | ⟨k, rfl⟩
  · rw [ref_lo d x y l c a b w, Line.dl_lo]
    exact (mul_assoc _ _ _).symm
  · rw [ref_hi d x y l c a b w, Line.dl_hi]
    exact (mul_assoc _ _ _).symm

theorem ref_dbias (j : Fin 2048) :
    (val_main_v33 (F := Ideal) d x y l c a b w : Fox.V 1 2048 .f32) (ix2 0 j) = ∑ i, (lineR d x y l c a b w i).dl j := by
  rw [val_main_v33_apply, val_main_v32_apply, val_main_cst_2_apply]
  show ((FloatOps.ofBits .f32 0x00000000#32 : Ideal .f32) + ∑ k, _ : EReal) = _
  rw [Fox.zeroF, zero_add]
  refine Finset.sum_congr rfl fun i _ => ?_
  have hi' : idx_main_v32 (idx_main_v33 (ix2 0 j)) i = ix2 i j := ext2 rfl (by simp)
  rw [hi', ref_dl]

end Reference

section Claim
open Cert.Reference14Ideal.Read

theorem plain_dlogits : val_main_v34 (F := Ideal) (D m c) (X m c) (Y m c) (P m c) (C m c) (A m c) (B m c) (W m c) = dlogits m c := by
  funext z
  obtain ⟨i, j, rfl⟩ : ∃ i j, z = ix2 i j := ⟨_, _, eq_ix2 z⟩
  rw [val_main_v34_apply]
  exact ref_dl (D m c) (X m c) (Y m c) (P m c) (C m c) (A m c) (B m c) (W m c) i j

theorem plain_dfirst : val_main_v35 (F := Ideal) (D m c) (P m c) (C m c) (W m c) = dfirst m c := by
  funext z
  obtain ⟨i, j, rfl⟩ : ∃ i j, z = ix2 i j := ⟨_, _, eq_ix2 z⟩
  rw [val_main_v35_apply]
  exact ref_dp (D m c) (X m c) (Y m c) (P m c) (C m c) (A m c) (B m c) (W m c) i j

theorem plain_dsecond : val_main_v36 (F := Ideal) (D m c) (P m c) (C m c) (W m c) = dsecond m c := by
  funext z
  obtain ⟨i, j, rfl⟩ : ∃ i j, z = ix2 i j := ⟨_, _, eq_ix2 z⟩
  rw [val_main_v36_apply]
  exact ref_dq (D m c) (X m c) (Y m c) (P m c) (C m c) (A m c) (B m c) (W m c) i j

theorem plain_dattn : val_main_v38 (F := Ideal) (D m c) (P m c) (C m c) (A m c) (W m c) = dattn m c := by
  funext z
  obtain ⟨i, j, rfl⟩ : ∃ i j, z = ix2 i j := ⟨_, _, eq_ix2 z⟩
  rw [val_main_v38_apply]
  exact ref_dx (D m c) (X m c) (Y m c) (P m c) (C m c) (A m c) (B m c) (W m c) i j

theorem plain_dattn2 : val_main_v40 (F := Ideal) (D m c) (P m c) (C m c) (B m c) (W m c) = dattn2 m c := by
  funext z
  obtain ⟨i, j, rfl⟩ : ∃ i j, z = ix2 i j := ⟨_, _, eq_ix2 z⟩
  rw [val_main_v40_apply]
  exact ref_dy (D m c) (X m c) (Y m c) (P m c) (C m c) (A m c) (B m c) (W m c) i j

theorem plain_dbias : val_main_v33 (F := Ideal) (D m c) (X m c) (Y m c) (P m c) (C m c) (A m c) (B m c) (W m c) = dbias m c := by
  funext z
  obtain ⟨i, j, rfl⟩ : ∃ i j, z = ix2 i j := ⟨_, _, eq_ix2 z⟩
  obtain rfl : i = 0 := Subsingleton.elim _ _
  exact ref_dbias (D m c) (X m c) (Y m c) (P m c) (C m c) (A m c) (B m c) (W m c) j

end Claim

end Ffn.Gate.Bwd
-- ==== Proof.lean ====
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Reference3Ideal.Read
public import proofs.«01_k».proof.Proof.Gen.Kernel4.Frame
public import proofs.«01_k».proof.Proof.Gen.Reference4Ideal.Read
public import proofs.«01_k».proof.Proof.Gen.Kernel5.Frame
public import proofs.«01_k».proof.Proof.Gen.Reference5Ideal.Read
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Finite
public import Idealize.ShloMosaic.Lib.Claim
public import Idealize.ShloMosaic.Lib.Quiescent
public import Idealize.ShloMosaic.Adequacy
public import Idealize.ShloMosaic.Init
public import proofs.«01_k».proof.Proof.UpGrad
public import proofs.«01_k».proof.Proof.DownGrad
public import proofs.«01_k».proof.Proof.Forward
public import proofs.«01_k».proof.Proof.BackPlain
public import proofs.«01_k».proof.Proof.TopGrad
public import proofs.«01_k».proof.Proof.LowGrad
public import proofs.«01_k».proof.Proof.InGrad
public import proofs.«01_k».proof.Proof.InBack
public import proofs.«01_k».proof.Proof.InFwd
public import proofs.«01_k».proof.Proof.OutGrad
public import proofs.«01_k».proof.Proof.BranchGrad
public import proofs.«01_k».proof.Proof.GateFwd
public import proofs.«01_k».proof.Proof.GateBwd

@[expose] public section

noncomputable section

set_option maxRecDepth 16384
set_option maxHeartbeats 4000000

namespace Cert.Proof

open Idealize.ShloMosaic Idealize.SL.Sem

theorem algebraic : Cert.algebraic_KernelIdeal_ReferenceIdeal_pre_finite (hKernelIdeal := Cert.KernelIdeal.Gen.facts)
    (hReferenceIdeal := Cert.ReferenceIdeal.Gen.facts) (hPre_finite := Fox.facts) := by
  intro m g m' g' hpre hagree
  have H := Fox.fits m hpre
  refine ⟨fun c => Fox.rowsOf (Fox.argsOf m c).dq, fun c => Fox.rowsOf (Fox.argsOf m c).dk, fun c => Fox.rowsOf (Fox.argsOf m c).dv,
    fun c => Fox.gatesOf (Fox.argsOf m c).dc 0, fun c => Fox.gatesOf (Fox.argsOf m c).dc 1, ?_, ?_⟩
  · refine (θ_run _ _ _).mono (fun r h c => ?_) (Cert.KernelIdeal.Value.run_blocks m g)
    obtain ⟨h0, h1, h2, h3, h4, a⟩ := h c
    exact ⟨h0.trans (Fox.left7 (H c)), h1.trans (Fox.left8 (H c)), h2.trans (Fox.left9 (H c)), h3.trans (Fox.left10 (H c)),
      h4.trans (Fox.left11 (H c)), a⟩
  · refine (θ_run _ _ _).mono (fun r h c => ?_) (Cert.ReferenceIdeal.Value.run m' g')
    obtain ⟨h0, h1, h2, h3, h4, a⟩ := h c
    obtain ⟨e0, e1, e2, e3, e4⟩ := hagree c
    have K : Fox.Plain.Holds (Fox.argsOf m c) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) := by
      rw [e0, e1, e2, e3, e4]; exact Fox.holds (H c)
    exact ⟨h0.trans ((Cert.ReferenceIdeal.Read.val_main_v103_eq m' c).trans (Fox.Plain.r103 K)),
      h1.trans ((Cert.ReferenceIdeal.Read.val_main_v108_eq m' c).trans (Fox.Plain.r108 K)),
      h2.trans ((Cert.ReferenceIdeal.Read.val_main_v113_eq m' c).trans (Fox.Plain.r113 K)),
      h3.trans ((Cert.ReferenceIdeal.Read.val_main_v114_eq m' c).trans (Fox.Plain.r114 K)),
      h4.trans ((Cert.ReferenceIdeal.Read.val_main_v115_eq m' c).trans (Fox.Plain.r115 K)), a⟩

theorem frame_ref : Cert.quiescent_ReferenceIdeal (hReferenceIdeal := Cert.ReferenceIdeal.Gen.facts) := by
  intro m g _
  refine (θ_run _ _ _).mono (fun r h => ⟨fun c => ?_, sem_eq_zero_of_no_sems rfl r.2⟩) (Cert.ReferenceIdeal.Value.run m g)
  exact (h c).2.2.2.2.2

theorem algebraic2 : Cert.algebraic_Kernel2Ideal_Reference2Ideal_pre_finite2 (hKernel2Ideal := Cert.Kernel2Ideal.Gen.facts)
    (hReference2Ideal := Cert.Reference2Ideal.Gen.facts) (hPre_finite2 := Ffn.Bwd.facts) := by
  intro m g m' g' hpre hagree
  refine ⟨fun c => Ffn.Bwd.dh m c, fun c => Ffn.Bwd.u m c, fun c => Ffn.Bwd.a m c, fun c => Ffn.Bwd.dgu m c,
    fun c => Ffn.Bwd.dn m c, ?_, ?_⟩
  · refine (θ_run _ _ _).mono (fun r h c => ?_) (Cert.Kernel2Ideal.Value.run_blocks m g)
    obtain ⟨h0, h1, h2, h3, h4, a⟩ := h c
    exact ⟨h0.trans (Ffn.Bwd.final_dh m c), h1.trans (Ffn.Bwd.final_u m c), h2.trans (Ffn.Bwd.final_a m c),
      h3.trans (Ffn.Bwd.final_dgu m c), h4.trans (Ffn.Bwd.final_dn m c), a⟩
  · refine (θ_run _ _ _).mono (fun r h c => ?_) (Cert.Reference2Ideal.Value.run m' g')
    obtain ⟨h0, h1, h2, h3, h4, a⟩ := h c
    obtain ⟨e0, e1, e2, e3, e4⟩ := hagree c
    refine ⟨?_, ?_, ?_, ?_, ?_, a⟩
    · refine h0.trans ((Cert.Reference2Ideal.Read.val_main_v52_eq m' c).trans ?_)
      rw [e0, e1, e2, e3, e4]
      exact Ffn.Bwd.plain_dh m c hpre
    · refine h1.trans ((Cert.Reference2Ideal.Read.val_main_v53_eq
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg2))).trans ?_)
      rw [e0, e2]
      exact Ffn.Bwd.plain_u m c
    · refine h2.trans ((Cert.Reference2Ideal.Read.val_main_v54_eq
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))).trans ?_)
      rw [e0, e2, e3]
      exact Ffn.Bwd.plain_a m c
    · refine h3.trans ((Cert.Reference2Ideal.Read.val_main_v55_eq m' c).trans ?_)
      rw [e0, e1, e2, e3, e4]
      exact Ffn.Bwd.plain_dgu m c hpre
    · refine h4.trans ((Cert.Reference2Ideal.Read.val_main_v35_eq m' c).trans ?_)
      rw [e0, e1, e2, e3, e4]
      exact Ffn.Bwd.plain_dn m c hpre

theorem frame_ref2 : Cert.quiescent_Reference2Ideal (hReference2Ideal := Cert.Reference2Ideal.Gen.facts) := by
  intro m g _
  refine (θ_run _ _ _).mono (fun r h => ⟨fun c => ?_, sem_eq_zero_of_no_sems rfl r.2⟩) (Cert.Reference2Ideal.Value.run m g)
  exact (h c).2.2.2.2.2

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Ffn.Up.result m c, ?_, ?_⟩
  · refine (θ_run _ _ _).mono (fun r h c => ?_) (Cert.Kernel3Ideal.Value.run m g)
    obtain ⟨h0, a⟩ := h c
    exact ⟨h0.trans (Ffn.Up.final m c), a⟩
  · refine (θ_run _ _ _).mono (fun r h c => ?_) (Cert.Reference3Ideal.Value.run m' g')
    obtain ⟨h0, a⟩ := h c
    obtain ⟨e0, e1⟩ := hagree c
    refine ⟨h0.trans ((Cert.Reference3Ideal.Read.val_main_v8_eq
      (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))).trans ?_), a⟩
    rw [e0, e1]
    exact Ffn.Up.plain m c

theorem frame_ref3 : Cert.quiescent_Reference3Ideal (hReference3Ideal := Cert.Reference3Ideal.Gen.facts) := by
  intro m g _
  refine (θ_run _ _ _).mono (fun r h => ⟨fun c => ?_, sem_eq_zero_of_no_sems rfl r.2⟩) (Cert.Reference3Ideal.Value.run m g)
  exact (h c).2

theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => Ffn.Down.result m c, ?_, ?_⟩
  · refine (θ_run _ _ _).mono (fun r h c => ?_) (Cert.Kernel4Ideal.Value.run m g)
    obtain ⟨h0, a⟩ := h c
    exact ⟨h0.trans (Ffn.Down.final m c), a⟩
  · refine (θ_run _ _ _).mono (fun r h c => ?_) (Cert.Reference4Ideal.Value.run m' g')
    obtain ⟨h0, a⟩ := h c
    obtain ⟨e0, e1⟩ := hagree c
    refine ⟨h0.trans ((Cert.Reference4Ideal.Read.val_main_v9_eq
      (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))).trans ?_), a⟩
    rw [e0, e1]
    exact Ffn.Down.plain m c

theorem frame_ref4 : Cert.quiescent_Reference4Ideal (hReference4Ideal := Cert.Reference4Ideal.Gen.facts) := by
  intro m g _
  refine (θ_run _ _ _).mono (fun r h => ⟨fun c => ?_, sem_eq_zero_of_no_sems rfl r.2⟩) (Cert.Reference4Ideal.Value.run m g)
  exact (h c).2

theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => Ffn.Fwd.result m c, ?_, ?_⟩
  · refine (θ_run _ _ _).mono (fun r h c => ?_) (Cert.Kernel5Ideal.Value.run_blocks m g)
    obtain ⟨h0, a⟩ := h c
    exact ⟨h0.trans (Ffn.Fwd.final m c), a⟩
  · refine (θ_run _ _ _).mono (fun r h c => ?_) (Cert.Reference5Ideal.Value.run m' g')
    obtain ⟨h0, a⟩ := h c
    obtain ⟨e0, e1, e2, e3⟩ := hagree c
    refine ⟨h0.trans ((Cert.Reference5Ideal.Read.val_main_v22_eq
      (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))).trans ?_), a⟩
    rw [e0, e1, e2, e3]
    exact Ffn.Fwd.plain m c

theorem frame_ref5 : Cert.quiescent_Reference5Ideal (hReference5Ideal := Cert.Reference5Ideal.Gen.facts) := by
  intro m g _
  refine (θ_run _ _ _).mono (fun r h => ⟨fun c => ?_, sem_eq_zero_of_no_sems rfl r.2⟩) (Cert.Reference5Ideal.Value.run m g)
  exact (h c).2

theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨fun c => Ffn.Top.result m c, ?_, ?_⟩
  · refine (θ_run _ _ _).mono (fun r h c => ?_) (Cert.Kernel6Ideal.Value.run m g)
    obtain ⟨h0, a⟩ := h c
    exact ⟨h0.trans (Ffn.Top.final m c), a⟩
  · refine (θ_run _ _ _).mono (fun r h c => ?_) (Cert.Reference6Ideal.Value.run m' g')
    obtain ⟨h0, a⟩ := h c
    obtain ⟨e0, e1⟩ := hagree c
    refine ⟨h0.trans ((Cert.Reference6Ideal.Read.val_main_v9_eq
      (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))).trans ?_), a⟩
    rw [e0, e1]
    exact Ffn.Top.plain m c

theorem frame_ref6 : Cert.quiescent_Reference6Ideal (hReference6Ideal := Cert.Reference6Ideal.Gen.facts) := by
  intro m g _
  refine (θ_run _ _ _).mono (fun r h => ⟨fun c => ?_, sem_eq_zero_of_no_sems rfl r.2⟩) (Cert.Reference6Ideal.Value.run m g)
  exact (h c).2

theorem algebraic7 : Cert.algebraic_Kernel7Ideal_Reference7Ideal (hKernel7Ideal := Cert.Kernel7Ideal.Gen.facts)
    (hReference7Ideal := Cert.Reference7Ideal.Gen.facts) := by
  intro m g m' g' _ hagree
  refine ⟨fun c => Ffn.Low.result m c, ?_, ?_⟩
  · refine (θ_run _ _ _).mono (fun r h c => ?_) (Cert.Kernel7Ideal.Value.run m g)
    obtain ⟨h0, a⟩ := h c
    exact ⟨h0.trans (Ffn.Low.final m c), a⟩
  · refine (θ_run _ _ _).mono (fun r h c => ?_) (Cert.Reference7Ideal.Value.run m' g')
    obtain ⟨h0, a⟩ := h c
    obtain ⟨e0, e1⟩ := hagree c
    refine ⟨h0.trans ((Cert.Reference7Ideal.Read.val_main_v9_eq
      (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))).trans ?_), a⟩
    rw [e0, e1]
    exact Ffn.Low.plain m c

theorem frame_ref7 : Cert.quiescent_Reference7Ideal (hReference7Ideal := Cert.Reference7Ideal.Gen.facts) := by
  intro m g _
  refine (θ_run _ _ _).mono (fun r h => ⟨fun c => ?_, sem_eq_zero_of_no_sems rfl r.2⟩) (Cert.Reference7Ideal.Value.run m g)
  exact (h c).2

theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨fun c => Ffn.In.result m c, ?_, ?_⟩
  · refine (θ_run _ _ _).mono (fun r h c => ?_) (Cert.Kernel8Ideal.Value.run m g)
    obtain ⟨h0, a⟩ := h c
    exact ⟨h0.trans (Ffn.In.final m c), a⟩
  · refine (θ_run _ _ _).mono (fun r h c => ?_) (Cert.Reference8Ideal.Value.run m' g')
    obtain ⟨h0, a⟩ := h c
    obtain ⟨e0, e1⟩ := hagree c
    refine ⟨h0.trans ((Cert.Reference8Ideal.Read.val_main_v6_eq
      (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))).trans ?_), a⟩
    rw [e0, e1]
    exact Ffn.In.plain m c

theorem frame_ref8 : Cert.quiescent_Reference8Ideal (hReference8Ideal := Cert.Reference8Ideal.Gen.facts) := by
  intro m g _
  refine (θ_run _ _ _).mono (fun r h => ⟨fun c => ?_, sem_eq_zero_of_no_sems rfl r.2⟩) (Cert.Reference8Ideal.Value.run m g)
  exact (h c).2

theorem algebraic9 : Cert.algebraic_Kernel9Ideal_Reference9Ideal (hKernel9Ideal := Cert.Kernel9Ideal.Gen.facts)
    (hReference9Ideal := Cert.Reference9Ideal.Gen.facts) := by
  intro m g m' g' _ hagree
  refine ⟨fun c => Ffn.InBwd.dh m c, fun c => Ffn.InBwd.dn m c, ?_, ?_⟩
  · refine (θ_run _ _ _).mono (fun r h c => ?_) (Cert.Kernel9Ideal.Value.run_blocks m g)
    obtain ⟨h0, h1, a⟩ := h c
    exact ⟨h0.trans (Ffn.InBwd.final_dh m c), h1.trans (Ffn.InBwd.final_dn m c), a⟩
  · refine (θ_run _ _ _).mono (fun r h c => ?_) (Cert.Reference9Ideal.Value.run m' g')
    obtain ⟨h0, h1, a⟩ := h c
    obtain ⟨e0, e1, e2, e3, e4, e5⟩ := hagree c
    refine ⟨?_, ?_, a⟩
    · refine h0.trans ((Cert.Reference9Ideal.Read.val_main_v39_eq m' c).trans ?_)
      rw [e0, e1, e2, e3, e4, e5]
      exact Ffn.InBwd.plain_dh m c
    · refine h1.trans ((Cert.Reference9Ideal.Read.val_main_v22_eq
        (m' ((c.tc : Thread Cert.Reference9Ideal.nD Cert.Reference9Ideal.τ).loc Cert.Reference9Ideal.main_arg0))
        (m' ((c.tc : Thread Cert.Reference9Ideal.nD Cert.Reference9Ideal.τ).loc Cert.Reference9Ideal.main_arg2))
        (m' ((c.tc : Thread Cert.Reference9Ideal.nD Cert.Reference9Ideal.τ).loc Cert.Reference9Ideal.main_arg3))
        (m' ((c.tc : Thread Cert.Reference9Ideal.nD Cert.Reference9Ideal.τ).loc Cert.Reference9Ideal.main_arg5))).trans ?_)
      rw [e0, e2, e3, e5]
      exact Ffn.InBwd.plain_dn m c

theorem frame_ref9 : Cert.quiescent_Reference9Ideal (hReference9Ideal := Cert.Reference9Ideal.Gen.facts) := by
  intro m g _
  refine (θ_run _ _ _).mono (fun r h => ⟨fun c => ?_, sem_eq_zero_of_no_sems rfl r.2⟩) (Cert.Reference9Ideal.Value.run m g)
  exact (h c).2.2

theorem algebraic10 : Cert.algebraic_Kernel10Ideal_Reference10Ideal (hKernel10Ideal := Cert.Kernel10Ideal.Gen.facts)
    (hReference10Ideal := Cert.Reference10Ideal.Gen.facts) := by
  intro m g m' g' _ hagree
  refine ⟨fun c => Ffn.InFwd.proj m c, fun c => Ffn.InFwd.rows m c, ?_, ?_⟩
  · refine (θ_run _ _ _).mono (fun r h c => ?_) (Cert.Kernel10Ideal.Value.run_blocks m g)
    obtain ⟨h0, h1, a⟩ := h c
    exact ⟨h0.trans (Ffn.InFwd.final_proj m c), h1.trans (Ffn.InFwd.final_rows m c), a⟩
  · refine (θ_run _ _ _).mono (fun r h c => ?_) (Cert.Reference10Ideal.Value.run m' g')
    obtain ⟨h0, h1, a⟩ := h c
    obtain ⟨e0, e1, e2⟩ := hagree c
    refine ⟨?_, ?_, a⟩
    · refine h0.trans ((Cert.Reference10Ideal.Read.val_main_v13_eq
        (m' ((c.tc : Thread Cert.Reference10Ideal.nD Cert.Reference10Ideal.τ).loc Cert.Reference10Ideal.main_arg0))
        (m' ((c.tc : Thread Cert.Reference10Ideal.nD Cert.Reference10Ideal.τ).loc Cert.Reference10Ideal.main_arg1))
        (m' ((c.tc : Thread Cert.Reference10Ideal.nD Cert.Reference10Ideal.τ).loc Cert.Reference10Ideal.main_arg2))).trans ?_)
      rw [e0, e1, e2]
      exact Ffn.InFwd.plain_proj m c
    · refine h1.trans ((Cert.Reference10Ideal.Read.val_main_v14_eq
        (m' ((c.tc : Thread Cert.Reference10Ideal.nD Cert.Reference10Ideal.τ).loc Cert.Reference10Ideal.main_arg0))
        (m' ((c.tc : Thread Cert.Reference10Ideal.nD Cert.Reference10Ideal.τ).loc Cert.Reference10Ideal.main_arg1))).trans ?_)
      rw [e0, e1]
      exact Ffn.InFwd.plain_rows m c

theorem frame_ref10 : Cert.quiescent_Reference10Ideal (hReference10Ideal := Cert.Reference10Ideal.Gen.facts) := by
  intro m g _
  refine (θ_run _ _ _).mono (fun r h => ⟨fun c => ?_, sem_eq_zero_of_no_sems rfl r.2⟩) (Cert.Reference10Ideal.Value.run m g)
  exact (h c).2.2

theorem algebraic11 : Cert.algebraic_Kernel11Ideal_Reference11Ideal (hKernel11Ideal := Cert.Kernel11Ideal.Gen.facts)
    (hReference11Ideal := Cert.Reference11Ideal.Gen.facts) := by
  intro m g m' g' _ hagree
  refine ⟨fun c => Ffn.Out.result m c, ?_, ?_⟩
  · refine (θ_run _ _ _).mono (fun r h c => ?_) (Cert.Kernel11Ideal.Value.run m g)
    obtain ⟨h0, a⟩ := h c
    exact ⟨h0.trans (Ffn.Out.final m c), a⟩
  · refine (θ_run _ _ _).mono (fun r h c => ?_) (Cert.Reference11Ideal.Value.run m' g')
    obtain ⟨h0, a⟩ := h c
    obtain ⟨e0, e1⟩ := hagree c
    refine ⟨h0.trans ((Cert.Reference11Ideal.Read.val_main_v5_eq
      (m' ((c.tc : Thread Cert.Reference11Ideal.nD Cert.Reference11Ideal.τ).loc Cert.Reference11Ideal.main_arg0))
      (m' ((c.tc : Thread Cert.Reference11Ideal.nD Cert.Reference11Ideal.τ).loc Cert.Reference11Ideal.main_arg1))).trans ?_), a⟩
    rw [e0, e1]
    exact Ffn.Out.plain m c

theorem frame_ref11 : Cert.quiescent_Reference11Ideal (hReference11Ideal := Cert.Reference11Ideal.Gen.facts) := by
  intro m g _
  refine (θ_run _ _ _).mono (fun r h => ⟨fun c => ?_, sem_eq_zero_of_no_sems rfl r.2⟩) (Cert.Reference11Ideal.Value.run m g)
  exact (h c).2

theorem algebraic12 : Cert.algebraic_Kernel12Ideal_Reference12Ideal (hKernel12Ideal := Cert.Kernel12Ideal.Gen.facts)
    (hReference12Ideal := Cert.Reference12Ideal.Gen.facts) := by
  intro m g m' g' _ hagree
  refine ⟨fun c => Ffn.Branch.result m c, ?_, ?_⟩
  · refine (θ_run _ _ _).mono (fun r h c => ?_) (Cert.Kernel12Ideal.Value.run m g)
    obtain ⟨h0, a⟩ := h c
    exact ⟨h0.trans (Ffn.Branch.final m c), a⟩
  · refine (θ_run _ _ _).mono (fun r h c => ?_) (Cert.Reference12Ideal.Value.run m' g')
    obtain ⟨h0, a⟩ := h c
    obtain ⟨e0, e1⟩ := hagree c
    refine ⟨h0.trans ((Cert.Reference12Ideal.Read.val_main_v6_eq
      (m' ((c.tc : Thread Cert.Reference12Ideal.nD Cert.Reference12Ideal.τ).loc Cert.Reference12Ideal.main_arg0))
      (m' ((c.tc : Thread Cert.Reference12Ideal.nD Cert.Reference12Ideal.τ).loc Cert.Reference12Ideal.main_arg1))).trans ?_), a⟩
    rw [e0, e1]
    exact Ffn.Branch.plain m c

theorem frame_ref12 : Cert.quiescent_Reference12Ideal (hReference12Ideal := Cert.Reference12Ideal.Gen.facts) := by
  intro m g _
  refine (θ_run _ _ _).mono (fun r h => ⟨fun c => ?_, sem_eq_zero_of_no_sems rfl r.2⟩) (Cert.Reference12Ideal.Value.run m g)
  exact (h c).2

theorem algebraic13 : Cert.algebraic_Kernel13Ideal_Reference13Ideal (hKernel13Ideal := Cert.Kernel13Ideal.Gen.facts)
    (hReference13Ideal := Cert.Reference13Ideal.Gen.facts) := by
  intro m g m' g' _ hagree
  refine ⟨fun c => Ffn.Gate.Fwd.outs m c, fun c => Ffn.Gate.Fwd.mixes m c, ?_, ?_⟩
  · refine (θ_run _ _ _).mono (fun r h c => ?_) (Cert.Kernel13Ideal.Value.run_blocks m g)
    obtain ⟨h0, h1, a⟩ := h c
    exact ⟨h0.trans (Ffn.Gate.Fwd.final_outs m c), h1.trans (Ffn.Gate.Fwd.final_mixes m c), a⟩
  · refine (θ_run _ _ _).mono (fun r h c => ?_) (Cert.Reference13Ideal.Value.run m' g')
    obtain ⟨h0, h1, a⟩ := h c
    obtain ⟨e0, e1, e2, e3, e4, e5, e6, e7⟩ := hagree c
    refine ⟨?_, ?_, a⟩
    · refine h0.trans ((Cert.Reference13Ideal.Read.val_main_v22_eq
        (m' ((c.tc : Thread Cert.Reference13Ideal.nD Cert.Reference13Ideal.τ).loc Cert.Reference13Ideal.main_arg0))
        (m' ((c.tc : Thread Cert.Reference13Ideal.nD Cert.Reference13Ideal.τ).loc Cert.Reference13Ideal.main_arg1))
        (m' ((c.tc : Thread Cert.Reference13Ideal.nD Cert.Reference13Ideal.τ).loc Cert.Reference13Ideal.main_arg2))
        (m' ((c.tc : Thread Cert.Reference13Ideal.nD Cert.Reference13Ideal.τ).loc Cert.Reference13Ideal.main_arg3))
        (m' ((c.tc : Thread Cert.Reference13Ideal.nD Cert.Reference13Ideal.τ).loc Cert.Reference13Ideal.main_arg4))
        (m' ((c.tc : Thread Cert.Reference13Ideal.nD Cert.Reference13Ideal.τ).loc Cert.Reference13Ideal.main_arg5))
        (m' ((c.tc : Thread Cert.Reference13Ideal.nD Cert.Reference13Ideal.τ).loc Cert.Reference13Ideal.main_arg6))
        (m' ((c.tc : Thread Cert.Reference13Ideal.nD Cert.Reference13Ideal.τ).loc Cert.Reference13Ideal.main_arg7))).trans ?_)
      rw [e0, e1, e2, e3, e4, e5, e6, e7]
      exact Ffn.Gate.Fwd.plain_outs m c
    · refine h1.trans ((Cert.Reference13Ideal.Read.val_main_v23_eq
        (m' ((c.tc : Thread Cert.Reference13Ideal.nD Cert.Reference13Ideal.τ).loc Cert.Reference13Ideal.main_arg1))
        (m' ((c.tc : Thread Cert.Reference13Ideal.nD Cert.Reference13Ideal.τ).loc Cert.Reference13Ideal.main_arg2))
        (m' ((c.tc : Thread Cert.Reference13Ideal.nD Cert.Reference13Ideal.τ).loc Cert.Reference13Ideal.main_arg3))
        (m' ((c.tc : Thread Cert.Reference13Ideal.nD Cert.Reference13Ideal.τ).loc Cert.Reference13Ideal.main_arg4))
        (m' ((c.tc : Thread Cert.Reference13Ideal.nD Cert.Reference13Ideal.τ).loc Cert.Reference13Ideal.main_arg5))
        (m' ((c.tc : Thread Cert.Reference13Ideal.nD Cert.Reference13Ideal.τ).loc Cert.Reference13Ideal.main_arg6))).trans ?_)
      rw [e1, e2, e3, e4, e5, e6]
      exact Ffn.Gate.Fwd.plain_mixes m c

theorem frame_ref13 : Cert.quiescent_Reference13Ideal (hReference13Ideal := Cert.Reference13Ideal.Gen.facts) := by
  intro m g _
  refine (θ_run _ _ _).mono (fun r h => ⟨fun c => ?_, sem_eq_zero_of_no_sems rfl r.2⟩) (Cert.Reference13Ideal.Value.run m g)
  exact (h c).2.2

theorem algebraic14 : Cert.algebraic_Kernel14Ideal_Reference14Ideal (hKernel14Ideal := Cert.Kernel14Ideal.Gen.facts)
    (hReference14Ideal := Cert.Reference14Ideal.Gen.facts) := by
  intro m g m' g' _ hagree
  refine ⟨fun c => Ffn.Gate.Bwd.dlogits m c, fun c => Ffn.Gate.Bwd.dfirst m c, fun c => Ffn.Gate.Bwd.dsecond m c, fun c => Ffn.Gate.Bwd.dattn m c, fun c => Ffn.Gate.Bwd.dattn2 m c, fun c => Ffn.Gate.Bwd.dbias m c, ?_, ?_⟩
  · refine (θ_run _ _ _).mono (fun r h c => ?_) (Cert.Kernel14Ideal.Value.run_blocks m g)
    obtain ⟨h0, h1, h2, h3, h4, h5, a⟩ := h c
    exact ⟨h0.trans (Ffn.Gate.Bwd.final_dlogits m c), h1.trans (Ffn.Gate.Bwd.final_dfirst m c), h2.trans (Ffn.Gate.Bwd.final_dsecond m c), h3.trans (Ffn.Gate.Bwd.final_dattn m c), h4.trans (Ffn.Gate.Bwd.final_dattn2 m c), h5.trans (Ffn.Gate.Bwd.final_dbias m c), a⟩
  · refine (θ_run _ _ _).mono (fun r h c => ?_) (Cert.Reference14Ideal.Value.run m' g')
    obtain ⟨h0, h1, h2, h3, h4, h5, a⟩ := h c
    obtain ⟨e0, e1, e2, e3, e4, e5, e6, e7⟩ := hagree c
    refine ⟨?_, ?_, ?_, ?_, ?_, ?_, a⟩
    · refine h0.trans ((Cert.Reference14Ideal.Read.val_main_v34_eq
        (m' ((c.tc : Thread Cert.Reference14Ideal.nD Cert.Reference14Ideal.τ).loc Cert.Reference14Ideal.main_arg0))
        (m' ((c.tc : Thread Cert.Reference14Ideal.nD Cert.Reference14Ideal.τ).loc Cert.Reference14Ideal.main_arg1))
        (m' ((c.tc : Thread Cert.Reference14Ideal.nD Cert.Reference14Ideal.τ).loc Cert.Reference14Ideal.main_arg2))
        (m' ((c.tc : Thread Cert.Reference14Ideal.nD Cert.Reference14Ideal.τ).loc Cert.Reference14Ideal.main_arg3))
        (m' ((c.tc : Thread Cert.Reference14Ideal.nD Cert.Reference14Ideal.τ).loc Cert.Reference14Ideal.main_arg4))
        (m' ((c.tc : Thread Cert.Reference14Ideal.nD Cert.Reference14Ideal.τ).loc Cert.Reference14Ideal.main_arg5))
        (m' ((c.tc : Thread Cert.Reference14Ideal.nD Cert.Reference14Ideal.τ).loc Cert.Reference14Ideal.main_arg6))
        (m' ((c.tc : Thread Cert.Reference14Ideal.nD Cert.Reference14Ideal.τ).loc Cert.Reference14Ideal.main_arg7))).trans ?_)
      rw [e0, e1, e2, e3, e4, e5, e6, e7]
      exact Ffn.Gate.Bwd.plain_dlogits m c
    · refine h1.trans ((Cert.Reference14Ideal.Read.val_main_v35_eq
        (m' ((c.tc : Thread Cert.Reference14Ideal.nD Cert.Reference14Ideal.τ).loc Cert.Reference14Ideal.main_arg0))
        (m' ((c.tc : Thread Cert.Reference14Ideal.nD Cert.Reference14Ideal.τ).loc Cert.Reference14Ideal.main_arg3))
        (m' ((c.tc : Thread Cert.Reference14Ideal.nD Cert.Reference14Ideal.τ).loc Cert.Reference14Ideal.main_arg4))
        (m' ((c.tc : Thread Cert.Reference14Ideal.nD Cert.Reference14Ideal.τ).loc Cert.Reference14Ideal.main_arg7))).trans ?_)
      rw [e0, e3, e4, e7]
      exact Ffn.Gate.Bwd.plain_dfirst m c
    · refine h2.trans ((Cert.Reference14Ideal.Read.val_main_v36_eq
        (m' ((c.tc : Thread Cert.Reference14Ideal.nD Cert.Reference14Ideal.τ).loc Cert.Reference14Ideal.main_arg0))
        (m' ((c.tc : Thread Cert.Reference14Ideal.nD Cert.Reference14Ideal.τ).loc Cert.Reference14Ideal.main_arg3))
        (m' ((c.tc : Thread Cert.Reference14Ideal.nD Cert.Reference14Ideal.τ).loc Cert.Reference14Ideal.main_arg4))
        (m' ((c.tc : Thread Cert.Reference14Ideal.nD Cert.Reference14Ideal.τ).loc Cert.Reference14Ideal.main_arg7))).trans ?_)
      rw [e0, e3, e4, e7]
      exact Ffn.Gate.Bwd.plain_dsecond m c
    · refine h3.trans ((Cert.Reference14Ideal.Read.val_main_v38_eq
        (m' ((c.tc : Thread Cert.Reference14Ideal.nD Cert.Reference14Ideal.τ).loc Cert.Reference14Ideal.main_arg0))
        (m' ((c.tc : Thread Cert.Reference14Ideal.nD Cert.Reference14Ideal.τ).loc Cert.Reference14Ideal.main_arg3))
        (m' ((c.tc : Thread Cert.Reference14Ideal.nD Cert.Reference14Ideal.τ).loc Cert.Reference14Ideal.main_arg4))
        (m' ((c.tc : Thread Cert.Reference14Ideal.nD Cert.Reference14Ideal.τ).loc Cert.Reference14Ideal.main_arg5))
        (m' ((c.tc : Thread Cert.Reference14Ideal.nD Cert.Reference14Ideal.τ).loc Cert.Reference14Ideal.main_arg7))).trans ?_)
      rw [e0, e3, e4, e5, e7]
      exact Ffn.Gate.Bwd.plain_dattn m c
    · refine h4.trans ((Cert.Reference14Ideal.Read.val_main_v40_eq
        (m' ((c.tc : Thread Cert.Reference14Ideal.nD Cert.Reference14Ideal.τ).loc Cert.Reference14Ideal.main_arg0))
        (m' ((c.tc : Thread Cert.Reference14Ideal.nD Cert.Reference14Ideal.τ).loc Cert.Reference14Ideal.main_arg3))
        (m' ((c.tc : Thread Cert.Reference14Ideal.nD Cert.Reference14Ideal.τ).loc Cert.Reference14Ideal.main_arg4))
        (m' ((c.tc : Thread Cert.Reference14Ideal.nD Cert.Reference14Ideal.τ).loc Cert.Reference14Ideal.main_arg6))
        (m' ((c.tc : Thread Cert.Reference14Ideal.nD Cert.Reference14Ideal.τ).loc Cert.Reference14Ideal.main_arg7))).trans ?_)
      rw [e0, e3, e4, e6, e7]
      exact Ffn.Gate.Bwd.plain_dattn2 m c
    · refine h5.trans ((Cert.Reference14Ideal.Read.val_main_v33_eq
        (m' ((c.tc : Thread Cert.Reference14Ideal.nD Cert.Reference14Ideal.τ).loc Cert.Reference14Ideal.main_arg0))
        (m' ((c.tc : Thread Cert.Reference14Ideal.nD Cert.Reference14Ideal.τ).loc Cert.Reference14Ideal.main_arg1))
        (m' ((c.tc : Thread Cert.Reference14Ideal.nD Cert.Reference14Ideal.τ).loc Cert.Reference14Ideal.main_arg2))
        (m' ((c.tc : Thread Cert.Reference14Ideal.nD Cert.Reference14Ideal.τ).loc Cert.Reference14Ideal.main_arg3))
        (m' ((c.tc : Thread Cert.Reference14Ideal.nD Cert.Reference14Ideal.τ).loc Cert.Reference14Ideal.main_arg4))
        (m' ((c.tc : Thread Cert.Reference14Ideal.nD Cert.Reference14Ideal.τ).loc Cert.Reference14Ideal.main_arg5))
        (m' ((c.tc : Thread Cert.Reference14Ideal.nD Cert.Reference14Ideal.τ).loc Cert.Reference14Ideal.main_arg6))
        (m' ((c.tc : Thread Cert.Reference14Ideal.nD Cert.Reference14Ideal.τ).loc Cert.Reference14Ideal.main_arg7))).trans ?_)
      rw [e0, e1, e2, e3, e4, e5, e6, e7]
      exact Ffn.Gate.Bwd.plain_dbias m c

theorem frame_ref14 : Cert.quiescent_Reference14Ideal (hReference14Ideal := Cert.Reference14Ideal.Gen.facts) := by
  intro m g _
  refine (θ_run _ _ _).mono (fun r h => ⟨fun c => ?_, sem_eq_zero_of_no_sems rfl r.2⟩) (Cert.Reference14Ideal.Value.run m g)
  exact (h c).2.2.2.2.2.2

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Fox.facts, Ffn.Bwd.facts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    fun m ρ _ => Cert.Kernel2.Gen.frame m ρ, fun m ρ _ => Cert.Kernel2Ideal.Gen.frame m ρ,
    fun m ρ _ => Cert.Kernel2Ideal.Gen.frame m ρ, frame_ref2, fun m ρ _ => frame_ref2 m ρ trivial,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    fun m ρ _ => Cert.Kernel8.Gen.frame m ρ, fun m ρ _ => Cert.Kernel8Ideal.Gen.frame m ρ, frame_ref8,
    fun m ρ _ => Cert.Kernel9.Gen.frame m ρ, fun m ρ _ => Cert.Kernel9Ideal.Gen.frame m ρ, frame_ref9,
    fun m ρ _ => Cert.Kernel10.Gen.frame m ρ, fun m ρ _ => Cert.Kernel10Ideal.Gen.frame m ρ, frame_ref10,
    fun m ρ _ => Cert.Kernel11.Gen.frame m ρ, fun m ρ _ => Cert.Kernel11Ideal.Gen.frame m ρ, frame_ref11,
    fun m ρ _ => Cert.Kernel12.Gen.frame m ρ, fun m ρ _ => Cert.Kernel12Ideal.Gen.frame m ρ, frame_ref12,
    fun m ρ _ => Cert.Kernel13.Gen.frame m ρ, fun m ρ _ => Cert.Kernel13Ideal.Gen.frame m ρ, frame_ref13,
    fun m ρ _ => Cert.Kernel14.Gen.frame m ρ, fun m ρ _ => Cert.Kernel14Ideal.Gen.frame m ρ, frame_ref14,
    IdealRules.named_const.statement Cert.KernelIdeal.κ "mask" .f32 0xF149F2CA#32 ⊥ rfl,
    algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14⟩

end Cert.Proof

end
